-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite [hPre_finite : Cert.Pre_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_DwOdd (m : (ℓ : Loc Cert.DwOdd.nD Cert.DwOdd.τ Cert.DwOdd.sig) → Buf (Elt Bits) ℓ) : Prop :=
  True

def Pre_DwOddIdeal (m : (ℓ : Loc Cert.DwOddIdeal.nD Cert.DwOddIdeal.τ Cert.DwOddIdeal.sig) → Buf (Elt Ideal) ℓ) : Prop :=
  True

def Pre_DwOddReferenceIdeal (m : (ℓ : Loc Cert.DwOddReferenceIdeal.nD Cert.DwOddReferenceIdeal.τ Cert.DwOddReferenceIdeal.sig) → Buf (Elt Ideal) ℓ) : Prop :=
  True

def Pre_DwEven (m : (ℓ : Loc Cert.DwEven.nD Cert.DwEven.τ Cert.DwEven.sig) → Buf (Elt Bits) ℓ) : Prop :=
  True

def Pre_DwEvenIdeal (m : (ℓ : Loc Cert.DwEvenIdeal.nD Cert.DwEvenIdeal.τ Cert.DwEvenIdeal.sig) → Buf (Elt Ideal) ℓ) : Prop :=
  True

def Pre_DwEvenReferenceIdeal (m : (ℓ : Loc Cert.DwEvenReferenceIdeal.nD Cert.DwEvenReferenceIdeal.τ Cert.DwEvenReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_DxOutReferenceIdeal (m : (ℓ : Loc Cert.DxOutReferenceIdeal.nD Cert.DxOutReferenceIdeal.τ Cert.DxOutReferenceIdeal.sig) → Buf (Elt Ideal) ℓ) : Prop :=
  True

def Pre_DxEven (m : (ℓ : Loc Cert.DxEven.nD Cert.DxEven.τ Cert.DxEven.sig) → Buf (Elt Bits) ℓ) : Prop :=
  True

def Pre_DxEvenIdeal (m : (ℓ : Loc Cert.DxEvenIdeal.nD Cert.DxEvenIdeal.τ Cert.DxEvenIdeal.sig) → Buf (Elt Ideal) ℓ) : Prop :=
  True

def Pre_DxEvenReferenceIdeal (m : (ℓ : Loc Cert.DxEvenReferenceIdeal.nD Cert.DxEvenReferenceIdeal.τ Cert.DxEvenReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenReferenceIdeal (m : (ℓ : Loc Cert.InEvenReferenceIdeal.nD Cert.InEvenReferenceIdeal.τ Cert.InEvenReferenceIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddReferenceIdeal (m : (ℓ : Loc Cert.InOddReferenceIdeal.nD Cert.InOddReferenceIdeal.τ Cert.InOddReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_EvenNorm (m : (ℓ : Loc Cert.EvenNorm.nD Cert.EvenNorm.τ Cert.EvenNorm.sig) → Buf (Elt Bits) ℓ) : Prop :=
  True

def Pre_EvenNormIdeal (m : (ℓ : Loc Cert.EvenNormIdeal.nD Cert.EvenNormIdeal.τ Cert.EvenNormIdeal.sig) → Buf (Elt Ideal) ℓ) : Prop :=
  True

def Pre_EvenNormReferenceIdeal (m : (ℓ : Loc Cert.EvenNormReferenceIdeal.nD Cert.EvenNormReferenceIdeal.τ Cert.EvenNormReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite [hFfnReferenceIdeal : Cert.FfnReferenceIdeal.Facts] [hPre_finite : Cert.Pre_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_DwOdd [hDwOdd : Cert.DwOdd.Facts] : Prop :=
  ∀ (m : (ℓ : Loc Cert.DwOdd.nD Cert.DwOdd.τ Cert.DwOdd.sig) → Buf (Elt Bits) ℓ) (g : Dev Cert.DwOdd.nD → PrngReg), Pre_DwOdd m →
    θ_run (Cert.DwOdd.defs (F := Bits)) (onTc (τ := Cert.DwOdd.τ) (Cert.DwOdd.main (F := Bits))) ⟨m, fun _ => 0, g⟩ (fun r => (∀ c : Dev Cert.DwOdd.nD,
      r.2.mem ((c.tc : Thread Cert.DwOdd.nD Cert.DwOdd.τ).loc Cert.DwOdd.main_arg0) = m ((c.tc : Thread Cert.DwOdd.nD Cert.DwOdd.τ).loc Cert.DwOdd.main_arg0)
      ∧ r.2.mem ((c.tc : Thread Cert.DwOdd.nD Cert.DwOdd.τ).loc Cert.DwOdd.main_arg1) = m ((c.tc : Thread Cert.DwOdd.nD Cert.DwOdd.τ).loc Cert.DwOdd.main_arg1))
      ∧ r.2.sem = fun _ => 0)

def quiescent_DwOddIdeal [hDwOddIdeal : Cert.DwOddIdeal.Facts] : Prop :=
  ∀ (m : (ℓ : Loc Cert.DwOddIdeal.nD Cert.DwOddIdeal.τ Cert.DwOddIdeal.sig) → Buf (Elt Ideal) ℓ) (g : Dev Cert.DwOddIdeal.nD → PrngReg), Pre_DwOddIdeal m →
    θ_run (Cert.DwOddIdeal.defs (F := Ideal)) (onTc (τ := Cert.DwOddIdeal.τ) (Cert.DwOddIdeal.main (F := Ideal))) ⟨m, fun _ => 0, g⟩ (fun r => (∀ c : Dev Cert.DwOddIdeal.nD,
      r.2.mem ((c.tc : Thread Cert.DwOddIdeal.nD Cert.DwOddIdeal.τ).loc Cert.DwOddIdeal.main_arg0) = m ((c.tc : Thread Cert.DwOddIdeal.nD Cert.DwOddIdeal.τ).loc Cert.DwOddIdeal.main_arg0)
      ∧ r.2.mem ((c.tc : Thread Cert.DwOddIdeal.nD Cert.DwOddIdeal.τ).loc Cert.DwOddIdeal.main_arg1) = m ((c.tc : Thread Cert.DwOddIdeal.nD Cert.DwOddIdeal.τ).loc Cert.DwOddIdeal.main_arg1))
      ∧ r.2.sem = fun _ => 0)

def quiescent_DwOddReferenceIdeal [hDwOddReferenceIdeal : Cert.DwOddReferenceIdeal.Facts] : Prop :=
  ∀ (m : (ℓ : Loc Cert.DwOddReferenceIdeal.nD Cert.DwOddReferenceIdeal.τ Cert.DwOddReferenceIdeal.sig) → Buf (Elt Ideal) ℓ) (g : Dev Cert.DwOddReferenceIdeal.nD → PrngReg), Pre_DwOddReferenceIdeal m →
    θ_run (Cert.DwOddReferenceIdeal.defs (F := Ideal)) (onTc (τ := Cert.DwOddReferenceIdeal.τ) (Cert.DwOddReferenceIdeal.main (F := Ideal))) ⟨m, fun _ => 0, g⟩ (fun r => (∀ c : Dev Cert.DwOddReferenceIdeal.nD,
      r.2.mem ((c.tc : Thread Cert.DwOddReferenceIdeal.nD Cert.DwOddReferenceIdeal.τ).loc Cert.DwOddReferenceIdeal.main_arg0) = m ((c.tc : Thread Cert.DwOddReferenceIdeal.nD Cert.DwOddReferenceIdeal.τ).loc Cert.DwOddReferenceIdeal.main_arg0)
      ∧ r.2.mem ((c.tc : Thread Cert.DwOddReferenceIdeal.nD Cert.DwOddReferenceIdeal.τ).loc Cert.DwOddReferenceIdeal.main_arg1) = m ((c.tc : Thread Cert.DwOddReferenceIdeal.nD Cert.DwOddReferenceIdeal.τ).loc Cert.DwOddReferenceIdeal.main_arg1))
      ∧ r.2.sem = fun _ => 0)

def quiescent_DwEven [hDwEven : Cert.DwEven.Facts] : Prop :=
  ∀ (m : (ℓ : Loc Cert.DwEven.nD Cert.DwEven.τ Cert.DwEven.sig) → Buf (Elt Bits) ℓ) (g : Dev Cert.DwEven.nD → PrngReg), Pre_DwEven m →
    θ_run (Cert.DwEven.defs (F := Bits)) (onTc (τ := Cert.DwEven.τ) (Cert.DwEven.main (F := Bits))) ⟨m, fun _ => 0, g⟩ (fun r => (∀ c : Dev Cert.DwEven.nD,
      r.2.mem ((c.tc : Thread Cert.DwEven.nD Cert.DwEven.τ).loc Cert.DwEven.main_arg0) = m ((c.tc : Thread Cert.DwEven.nD Cert.DwEven.τ).loc Cert.DwEven.main_arg0)
      ∧ r.2.mem ((c.tc : Thread Cert.DwEven.nD Cert.DwEven.τ).loc Cert.DwEven.main_arg1) = m ((c.tc : Thread Cert.DwEven.nD Cert.DwEven.τ).loc Cert.DwEven.main_arg1))
      ∧ r.2.sem = fun _ => 0)

def quiescent_DwEvenIdeal [hDwEvenIdeal : Cert.DwEvenIdeal.Facts] : Prop :=
  ∀ (m : (ℓ : Loc Cert.DwEvenIdeal.nD Cert.DwEvenIdeal.τ Cert.DwEvenIdeal.sig) → Buf (Elt Ideal) ℓ) (g : Dev Cert.DwEvenIdeal.nD → PrngReg), Pre_DwEvenIdeal m →
    θ_run (Cert.DwEvenIdeal.defs (F := Ideal)) (onTc (τ := Cert.DwEvenIdeal.τ) (Cert.DwEvenIdeal.main (F := Ideal))) ⟨m, fun _ => 0, g⟩ (fun r => (∀ c : Dev Cert.DwEvenIdeal.nD,
      r.2.mem ((c.tc : Thread Cert.DwEvenIdeal.nD Cert.DwEvenIdeal.τ).loc Cert.DwEvenIdeal.main_arg0) = m ((c.tc : Thread Cert.DwEvenIdeal.nD Cert.DwEvenIdeal.τ).loc Cert.DwEvenIdeal.main_arg0)
      ∧ r.2.mem ((c.tc : Thread Cert.DwEvenIdeal.nD Cert.DwEvenIdeal.τ).loc Cert.DwEvenIdeal.main_arg1) = m ((c.tc : Thread Cert.DwEvenIdeal.nD Cert.DwEvenIdeal.τ).loc Cert.DwEvenIdeal.main_arg1))
      ∧ r.2.sem = fun _ => 0)

def quiescent_DwEvenReferenceIdeal [hDwEvenReferenceIdeal : Cert.DwEvenReferenceIdeal.Facts] : Prop :=
  ∀ (m : (ℓ : Loc Cert.DwEvenReferenceIdeal.nD Cert.DwEvenReferenceIdeal.τ Cert.DwEvenReferenceIdeal.sig) → Buf (Elt Ideal) ℓ) (g : Dev Cert.DwEvenReferenceIdeal.nD → PrngReg), Pre_DwEvenReferenceIdeal m →
    θ_run (Cert.DwEvenReferenceIdeal.defs (F := Ideal)) (onTc (τ := Cert.DwEvenReferenceIdeal.τ) (Cert.DwEvenReferenceIdeal.main (F := Ideal))) ⟨m, fun _ => 0, g⟩ (fun r => (∀ c : Dev Cert.DwEvenReferenceIdeal.nD,
      r.2.mem ((c.tc : Thread Cert.DwEvenReferenceIdeal.nD Cert.DwEvenReferenceIdeal.τ).loc Cert.DwEvenReferenceIdeal.main_arg0) = m ((c.tc : Thread Cert.DwEvenReferenceIdeal.nD Cert.DwEvenReferenceIdeal.τ).loc Cert.DwEvenReferenceIdeal.main_arg0)
      ∧ r.2.mem ((c.tc : Thread Cert.DwEvenReferenceIdeal.nD Cert.DwEvenReferenceIdeal.τ).loc Cert.DwEvenReferenceIdeal.main_arg1) = m ((c.tc : Thread Cert.DwEvenReferenceIdeal.nD Cert.DwEvenReferenceIdeal.τ).loc Cert.DwEvenReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ r.2.sem = fun _ => 0)

def quiescent_DxOutReferenceIdeal [hDxOutReferenceIdeal : Cert.DxOutReferenceIdeal.Facts] : Prop :=
  ∀ (m : (ℓ : Loc Cert.DxOutReferenceIdeal.nD Cert.DxOutReferenceIdeal.τ Cert.DxOutReferenceIdeal.sig) → Buf (Elt Ideal) ℓ) (g : Dev Cert.DxOutReferenceIdeal.nD → PrngReg), Pre_DxOutReferenceIdeal m →
    θ_run (Cert.DxOutReferenceIdeal.defs (F := Ideal)) (onTc (τ := Cert.DxOutReferenceIdeal.τ) (Cert.DxOutReferenceIdeal.main (F := Ideal))) ⟨m, fun _ => 0, g⟩ (fun r => (∀ c : Dev Cert.DxOutReferenceIdeal.nD,
      r.2.mem ((c.tc : Thread Cert.DxOutReferenceIdeal.nD Cert.DxOutReferenceIdeal.τ).loc Cert.DxOutReferenceIdeal.main_arg0) = m ((c.tc : Thread Cert.DxOutReferenceIdeal.nD Cert.DxOutReferenceIdeal.τ).loc Cert.DxOutReferenceIdeal.main_arg0)
      ∧ r.2.mem ((c.tc : Thread Cert.DxOutReferenceIdeal.nD Cert.DxOutReferenceIdeal.τ).loc Cert.DxOutReferenceIdeal.main_arg1) = m ((c.tc : Thread Cert.DxOutReferenceIdeal.nD Cert.DxOutReferenceIdeal.τ).loc Cert.DxOutReferenceIdeal.main_arg1))
      ∧ r.2.sem = fun _ => 0)

def quiescent_DxEven [hDxEven : Cert.DxEven.Facts] : Prop :=
  ∀ (m : (ℓ : Loc Cert.DxEven.nD Cert.DxEven.τ Cert.DxEven.sig) → Buf (Elt Bits) ℓ) (g : Dev Cert.DxEven.nD → PrngReg), Pre_DxEven m →
    θ_run (Cert.DxEven.defs (F := Bits)) (onTc (τ := Cert.DxEven.τ) (Cert.DxEven.main (F := Bits))) ⟨m, fun _ => 0, g⟩ (fun r => (∀ c : Dev Cert.DxEven.nD,
      r.2.mem ((c.tc : Thread Cert.DxEven.nD Cert.DxEven.τ).loc Cert.DxEven.main_arg0) = m ((c.tc : Thread Cert.DxEven.nD Cert.DxEven.τ).loc Cert.DxEven.main_arg0)
      ∧ r.2.mem ((c.tc : Thread Cert.DxEven.nD Cert.DxEven.τ).loc Cert.DxEven.main_arg1) = m ((c.tc : Thread Cert.DxEven.nD Cert.DxEven.τ).loc Cert.DxEven.main_arg1))
      ∧ r.2.sem = fun _ => 0)

def quiescent_DxEvenIdeal [hDxEvenIdeal : Cert.DxEvenIdeal.Facts] : Prop :=
  ∀ (m : (ℓ : Loc Cert.DxEvenIdeal.nD Cert.DxEvenIdeal.τ Cert.DxEvenIdeal.sig) → Buf (Elt Ideal) ℓ) (g : Dev Cert.DxEvenIdeal.nD → PrngReg), Pre_DxEvenIdeal m →
    θ_run (Cert.DxEvenIdeal.defs (F := Ideal)) (onTc (τ := Cert.DxEvenIdeal.τ) (Cert.DxEvenIdeal.main (F := Ideal))) ⟨m, fun _ => 0, g⟩ (fun r => (∀ c : Dev Cert.DxEvenIdeal.nD,
      r.2.mem ((c.tc : Thread Cert.DxEvenIdeal.nD Cert.DxEvenIdeal.τ).loc Cert.DxEvenIdeal.main_arg0) = m ((c.tc : Thread Cert.DxEvenIdeal.nD Cert.DxEvenIdeal.τ).loc Cert.DxEvenIdeal.main_arg0)
      ∧ r.2.mem ((c.tc : Thread Cert.DxEvenIdeal.nD Cert.DxEvenIdeal.τ).loc Cert.DxEvenIdeal.main_arg1) = m ((c.tc : Thread Cert.DxEvenIdeal.nD Cert.DxEvenIdeal.τ).loc Cert.DxEvenIdeal.main_arg1))
      ∧ r.2.sem = fun _ => 0)

def quiescent_DxEvenReferenceIdeal [hDxEvenReferenceIdeal : Cert.DxEvenReferenceIdeal.Facts] : Prop :=
  ∀ (m : (ℓ : Loc Cert.DxEvenReferenceIdeal.nD Cert.DxEvenReferenceIdeal.τ Cert.DxEvenReferenceIdeal.sig) → Buf (Elt Ideal) ℓ) (g : Dev Cert.DxEvenReferenceIdeal.nD → PrngReg), Pre_DxEvenReferenceIdeal m →
    θ_run (Cert.DxEvenReferenceIdeal.defs (F := Ideal)) (onTc (τ := Cert.DxEvenReferenceIdeal.τ) (Cert.DxEvenReferenceIdeal.main (F := Ideal))) ⟨m, fun _ => 0, g⟩ (fun r => (∀ c : Dev Cert.DxEvenReferenceIdeal.nD,
      r.2.mem ((c.tc : Thread Cert.DxEvenReferenceIdeal.nD Cert.DxEvenReferenceIdeal.τ).loc Cert.DxEvenReferenceIdeal.main_arg0) = m ((c.tc : Thread Cert.DxEvenReferenceIdeal.nD Cert.DxEvenReferenceIdeal.τ).loc Cert.DxEvenReferenceIdeal.main_arg0)
      ∧ r.2.mem ((c.tc : Thread Cert.DxEvenReferenceIdeal.nD Cert.DxEvenReferenceIdeal.τ).loc Cert.DxEvenReferenceIdeal.main_arg1) = m ((c.tc : Thread Cert.DxEvenReferenceIdeal.nD Cert.DxEvenReferenceIdeal.τ).loc Cert.DxEvenReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ r.2.sem = fun _ => 0)

def quiescent_InEvenReferenceIdeal [hInEvenReferenceIdeal : Cert.InEvenReferenceIdeal.Facts] : Prop :=
  ∀ (m : (ℓ : Loc Cert.InEvenReferenceIdeal.nD Cert.InEvenReferenceIdeal.τ Cert.InEvenReferenceIdeal.sig) → Buf (Elt Ideal) ℓ) (g : Dev Cert.InEvenReferenceIdeal.nD → PrngReg), Pre_InEvenReferenceIdeal m →
    θ_run (Cert.InEvenReferenceIdeal.defs (F := Ideal)) (onTc (τ := Cert.InEvenReferenceIdeal.τ) (Cert.InEvenReferenceIdeal.main (F := Ideal))) ⟨m, fun _ => 0, g⟩ (fun r => (∀ c : Dev Cert.InEvenReferenceIdeal.nD,
      r.2.mem ((c.tc : Thread Cert.InEvenReferenceIdeal.nD Cert.InEvenReferenceIdeal.τ).loc Cert.InEvenReferenceIdeal.main_arg0) = m ((c.tc : Thread Cert.InEvenReferenceIdeal.nD Cert.InEvenReferenceIdeal.τ).loc Cert.InEvenReferenceIdeal.main_arg0)
      ∧ r.2.mem ((c.tc : Thread Cert.InEvenReferenceIdeal.nD Cert.InEvenReferenceIdeal.τ).loc Cert.InEvenReferenceIdeal.main_arg1) = m ((c.tc : Thread Cert.InEvenReferenceIdeal.nD Cert.InEvenReferenceIdeal.τ).loc Cert.InEvenReferenceIdeal.main_arg1))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddReferenceIdeal [hInOddReferenceIdeal : Cert.InOddReferenceIdeal.Facts] : Prop :=
  ∀ (m : (ℓ : Loc Cert.InOddReferenceIdeal.nD Cert.InOddReferenceIdeal.τ Cert.InOddReferenceIdeal.sig) → Buf (Elt Ideal) ℓ) (g : Dev Cert.InOddReferenceIdeal.nD → PrngReg), Pre_InOddReferenceIdeal m →
    θ_run (Cert.InOddReferenceIdeal.defs (F := Ideal)) (onTc (τ := Cert.InOddReferenceIdeal.τ) (Cert.InOddReferenceIdeal.main (F := Ideal))) ⟨m, fun _ => 0, g⟩ (fun r => (∀ c : Dev Cert.InOddReferenceIdeal.nD,
      r.2.mem ((c.tc : Thread Cert.InOddReferenceIdeal.nD Cert.InOddReferenceIdeal.τ).loc Cert.InOddReferenceIdeal.main_arg0) = m ((c.tc : Thread Cert.InOddReferenceIdeal.nD Cert.InOddReferenceIdeal.τ).loc Cert.InOddReferenceIdeal.main_arg0)
      ∧ r.2.mem ((c.tc : Thread Cert.InOddReferenceIdeal.nD Cert.InOddReferenceIdeal.τ).loc Cert.InOddReferenceIdeal.main_arg1) = m ((c.tc : Thread Cert.InOddReferenceIdeal.nD Cert.InOddReferenceIdeal.τ).loc Cert.InOddReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4))
      ∧ r.2.sem = fun _ => 0)

def quiescent_EvenNorm [hEvenNorm : Cert.EvenNorm.Facts] : Prop :=
  ∀ (m : (ℓ : Loc Cert.EvenNorm.nD Cert.EvenNorm.τ Cert.EvenNorm.sig) → Buf (Elt Bits) ℓ) (g : Dev Cert.EvenNorm.nD → PrngReg), Pre_EvenNorm m →
    θ_run (Cert.EvenNorm.defs (F := Bits)) (onTc (τ := Cert.EvenNorm.τ) (Cert.EvenNorm.main (F := Bits))) ⟨m, fun _ => 0, g⟩ (fun r => (∀ c : Dev Cert.EvenNorm.nD,
      r.2.mem ((c.tc : Thread Cert.EvenNorm.nD Cert.EvenNorm.τ).loc Cert.EvenNorm.main_arg0) = m ((c.tc : Thread Cert.EvenNorm.nD Cert.EvenNorm.τ).loc Cert.EvenNorm.main_arg0)
      ∧ r.2.mem ((c.tc : Thread Cert.EvenNorm.nD Cert.EvenNorm.τ).loc Cert.EvenNorm.main_arg1) = m ((c.tc : Thread Cert.EvenNorm.nD Cert.EvenNorm.τ).loc Cert.EvenNorm.main_arg1)
      ∧ r.2.mem ((c.tc : Thread Cert.EvenNorm.nD Cert.EvenNorm.τ).loc Cert.EvenNorm.main_arg2) = m ((c.tc : Thread Cert.EvenNorm.nD Cert.EvenNorm.τ).loc Cert.EvenNorm.main_arg2)
      ∧ r.2.mem ((c.tc : Thread Cert.EvenNorm.nD Cert.EvenNorm.τ).loc Cert.EvenNorm.main_arg3) = m ((c.tc : Thread Cert.EvenNorm.nD Cert.EvenNorm.τ).loc Cert.EvenNorm.main_arg3)
      ∧ r.2.mem ((c.tc : Thread Cert.EvenNorm.nD Cert.EvenNorm.τ).loc Cert.EvenNorm.main_arg4) = m ((c.tc : Thread Cert.EvenNorm.nD Cert.EvenNorm.τ).loc Cert.EvenNorm.main_arg4)
      ∧ r.2.mem ((c.tc : Thread Cert.EvenNorm.nD Cert.EvenNorm.τ).loc Cert.EvenNorm.main_arg5) = m ((c.tc : Thread Cert.EvenNorm.nD Cert.EvenNorm.τ).loc Cert.EvenNorm.main_arg5))
      ∧ r.2.sem = fun _ => 0)

def quiescent_EvenNormIdeal [hEvenNormIdeal : Cert.EvenNormIdeal.Facts] : Prop :=
  ∀ (m : (ℓ : Loc Cert.EvenNormIdeal.nD Cert.EvenNormIdeal.τ Cert.EvenNormIdeal.sig) → Buf (Elt Ideal) ℓ) (g : Dev Cert.EvenNormIdeal.nD → PrngReg), Pre_EvenNormIdeal m →
    θ_run (Cert.EvenNormIdeal.defs (F := Ideal)) (onTc (τ := Cert.EvenNormIdeal.τ) (Cert.EvenNormIdeal.main (F := Ideal))) ⟨m, fun _ => 0, g⟩ (fun r => (∀ c : Dev Cert.EvenNormIdeal.nD,
      r.2.mem ((c.tc : Thread Cert.EvenNormIdeal.nD Cert.EvenNormIdeal.τ).loc Cert.EvenNormIdeal.main_arg0) = m ((c.tc : Thread Cert.EvenNormIdeal.nD Cert.EvenNormIdeal.τ).loc Cert.EvenNormIdeal.main_arg0)
      ∧ r.2.mem ((c.tc : Thread Cert.EvenNormIdeal.nD Cert.EvenNormIdeal.τ).loc Cert.EvenNormIdeal.main_arg1) = m ((c.tc : Thread Cert.EvenNormIdeal.nD Cert.EvenNormIdeal.τ).loc Cert.EvenNormIdeal.main_arg1)
      ∧ r.2.mem ((c.tc : Thread Cert.EvenNormIdeal.nD Cert.EvenNormIdeal.τ).loc Cert.EvenNormIdeal.main_arg2) = m ((c.tc : Thread Cert.EvenNormIdeal.nD Cert.EvenNormIdeal.τ).loc Cert.EvenNormIdeal.main_arg2)
      ∧ r.2.mem ((c.tc : Thread Cert.EvenNormIdeal.nD Cert.EvenNormIdeal.τ).loc Cert.EvenNormIdeal.main_arg3) = m ((c.tc : Thread Cert.EvenNormIdeal.nD Cert.EvenNormIdeal.τ).loc Cert.EvenNormIdeal.main_arg3)
      ∧ r.2.mem ((c.tc : Thread Cert.EvenNormIdeal.nD Cert.EvenNormIdeal.τ).loc Cert.EvenNormIdeal.main_arg4) = m ((c.tc : Thread Cert.EvenNormIdeal.nD Cert.EvenNormIdeal.τ).loc Cert.EvenNormIdeal.main_arg4)
      ∧ r.2.mem ((c.tc : Thread Cert.EvenNormIdeal.nD Cert.EvenNormIdeal.τ).loc Cert.EvenNormIdeal.main_arg5) = m ((c.tc : Thread Cert.EvenNormIdeal.nD Cert.EvenNormIdeal.τ).loc Cert.EvenNormIdeal.main_arg5))
      ∧ r.2.sem = fun _ => 0)

def quiescent_EvenNormReferenceIdeal [hEvenNormReferenceIdeal : Cert.EvenNormReferenceIdeal.Facts] : Prop :=
  ∀ (m : (ℓ : Loc Cert.EvenNormReferenceIdeal.nD Cert.EvenNormReferenceIdeal.τ Cert.EvenNormReferenceIdeal.sig) → Buf (Elt Ideal) ℓ) (g : Dev Cert.EvenNormReferenceIdeal.nD → PrngReg), Pre_EvenNormReferenceIdeal m →
    θ_run (Cert.EvenNormReferenceIdeal.defs (F := Ideal)) (onTc (τ := Cert.EvenNormReferenceIdeal.τ) (Cert.EvenNormReferenceIdeal.main (F := Ideal))) ⟨m, fun _ => 0, g⟩ (fun r => (∀ c : Dev Cert.EvenNormReferenceIdeal.nD,
      r.2.mem ((c.tc : Thread Cert.EvenNormReferenceIdeal.nD Cert.EvenNormReferenceIdeal.τ).loc Cert.EvenNormReferenceIdeal.main_arg0) = m ((c.tc : Thread Cert.EvenNormReferenceIdeal.nD Cert.EvenNormReferenceIdeal.τ).loc Cert.EvenNormReferenceIdeal.main_arg0)
      ∧ r.2.mem ((c.tc : Thread Cert.EvenNormReferenceIdeal.nD Cert.EvenNormReferenceIdeal.τ).loc Cert.EvenNormReferenceIdeal.main_arg1) = m ((c.tc : Thread Cert.EvenNormReferenceIdeal.nD Cert.EvenNormReferenceIdeal.τ).loc Cert.EvenNormReferenceIdeal.main_arg1)
      ∧ r.2.mem ((c.tc : Thread Cert.EvenNormReferenceIdeal.nD Cert.EvenNormReferenceIdeal.τ).loc Cert.EvenNormReferenceIdeal.main_arg2) = m ((c.tc : Thread Cert.EvenNormReferenceIdeal.nD Cert.EvenNormReferenceIdeal.τ).loc Cert.EvenNormReferenceIdeal.main_arg2)
      ∧ r.2.mem ((c.tc : Thread Cert.EvenNormReferenceIdeal.nD Cert.EvenNormReferenceIdeal.τ).loc Cert.EvenNormReferenceIdeal.main_arg3) = m ((c.tc : Thread Cert.EvenNormReferenceIdeal.nD Cert.EvenNormReferenceIdeal.τ).loc Cert.EvenNormReferenceIdeal.main_arg3)
      ∧ r.2.mem ((c.tc : Thread Cert.EvenNormReferenceIdeal.nD Cert.EvenNormReferenceIdeal.τ).loc Cert.EvenNormReferenceIdeal.main_arg4) = m ((c.tc : Thread Cert.EvenNormReferenceIdeal.nD Cert.EvenNormReferenceIdeal.τ).loc Cert.EvenNormReferenceIdeal.main_arg4)
      ∧ r.2.mem ((c.tc : Thread Cert.EvenNormReferenceIdeal.nD Cert.EvenNormReferenceIdeal.τ).loc Cert.EvenNormReferenceIdeal.main_arg5) = m ((c.tc : Thread Cert.EvenNormReferenceIdeal.nD Cert.EvenNormReferenceIdeal.τ).loc Cert.EvenNormReferenceIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal_pre_finite [hFfnIdeal : Cert.FfnIdeal.Facts] [hFfnReferenceIdeal : Cert.FfnReferenceIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v23_0)) (v1 : (c : Dev Cert.FfnIdeal.nD) → Buf (Elt Ideal) ((c.tc : Thread Cert.FfnIdeal.nD Cert.FfnIdeal.τ).loc Cert.FfnIdeal.main_v23_1)) (v2 : (c : Dev Cert.FfnIdeal.nD) → Buf (Elt Ideal) ((c.tc : Thread Cert.FfnIdeal.nD Cert.FfnIdeal.τ).loc Cert.FfnIdeal.main_v23_2)) (v3 : (c : Dev Cert.FfnIdeal.nD) → Buf (Elt Ideal) ((c.tc : Thread Cert.FfnIdeal.nD Cert.FfnIdeal.τ).loc Cert.FfnIdeal.main_v23_3)) (v4 : (c : Dev Cert.FfnIdeal.nD) → Buf (Elt Ideal) ((c.tc : Thread Cert.FfnIdeal.nD Cert.FfnIdeal.τ).loc Cert.FfnIdeal.main_v23_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v23_0) = v0 c
          ∧ r.2.mem ((c.tc : Thread Cert.FfnIdeal.nD Cert.FfnIdeal.τ).loc Cert.FfnIdeal.main_v23_1) = v1 c
          ∧ r.2.mem ((c.tc : Thread Cert.FfnIdeal.nD Cert.FfnIdeal.τ).loc Cert.FfnIdeal.main_v23_2) = v2 c
          ∧ r.2.mem ((c.tc : Thread Cert.FfnIdeal.nD Cert.FfnIdeal.τ).loc Cert.FfnIdeal.main_v23_3) = v3 c
          ∧ r.2.mem ((c.tc : Thread Cert.FfnIdeal.nD Cert.FfnIdeal.τ).loc Cert.FfnIdeal.main_v23_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v58) = v0 c
          ∧ r.2.mem ((c.tc : Thread Cert.FfnReferenceIdeal.nD Cert.FfnReferenceIdeal.τ).loc Cert.FfnReferenceIdeal.main_v59) = v1 c
          ∧ r.2.mem ((c.tc : Thread Cert.FfnReferenceIdeal.nD Cert.FfnReferenceIdeal.τ).loc Cert.FfnReferenceIdeal.main_v60) = v2 c
          ∧ r.2.mem ((c.tc : Thread Cert.FfnReferenceIdeal.nD Cert.FfnReferenceIdeal.τ).loc Cert.FfnReferenceIdeal.main_v57) = v3 c
          ∧ r.2.mem ((c.tc : Thread Cert.FfnReferenceIdeal.nD Cert.FfnReferenceIdeal.τ).loc Cert.FfnReferenceIdeal.main_v40) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v7) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_DwOdd_DwOddIdeal : Prop :=
  True

def algebraic_DwOddIdeal_DwOddReferenceIdeal [hDwOddIdeal : Cert.DwOddIdeal.Facts] [hDwOddReferenceIdeal : Cert.DwOddReferenceIdeal.Facts] : Prop :=
  ∀ (m : (ℓ : Loc Cert.DwOddIdeal.nD Cert.DwOddIdeal.τ Cert.DwOddIdeal.sig) → Buf (Elt Ideal) ℓ) (g : Dev Cert.DwOddIdeal.nD → PrngReg)
    (m' : (ℓ : Loc Cert.DwOddReferenceIdeal.nD Cert.DwOddReferenceIdeal.τ Cert.DwOddReferenceIdeal.sig) → Buf (Elt Ideal) ℓ) (g' : Dev Cert.DwOddReferenceIdeal.nD → PrngReg), Pre_DwOddIdeal m →
    (∀ c : Dev Cert.DwOddIdeal.nD,
      m' ((c.tc : Thread Cert.DwOddReferenceIdeal.nD Cert.DwOddReferenceIdeal.τ).loc Cert.DwOddReferenceIdeal.main_arg0) = m ((c.tc : Thread Cert.DwOddIdeal.nD Cert.DwOddIdeal.τ).loc Cert.DwOddIdeal.main_arg0)
      ∧ m' ((c.tc : Thread Cert.DwOddReferenceIdeal.nD Cert.DwOddReferenceIdeal.τ).loc Cert.DwOddReferenceIdeal.main_arg1) = m ((c.tc : Thread Cert.DwOddIdeal.nD Cert.DwOddIdeal.τ).loc Cert.DwOddIdeal.main_arg1)) →
    ∃ (v0 : (c : Dev Cert.DwOddIdeal.nD) → Buf (Elt Ideal) ((c.tc : Thread Cert.DwOddIdeal.nD Cert.DwOddIdeal.τ).loc Cert.DwOddIdeal.main_v0)),
      θ_run (Cert.DwOddIdeal.defs (F := Ideal)) (onTc (τ := Cert.DwOddIdeal.τ) (Cert.DwOddIdeal.main (F := Ideal))) ⟨m, fun _ => 0, g⟩ (fun r => ∀ c : Dev Cert.DwOddIdeal.nD,
          r.2.mem ((c.tc : Thread Cert.DwOddIdeal.nD Cert.DwOddIdeal.τ).loc Cert.DwOddIdeal.main_v0) = v0 c
          ∧ r.2.mem ((c.tc : Thread Cert.DwOddIdeal.nD Cert.DwOddIdeal.τ).loc Cert.DwOddIdeal.main_arg0) = m ((c.tc : Thread Cert.DwOddIdeal.nD Cert.DwOddIdeal.τ).loc Cert.DwOddIdeal.main_arg0)
          ∧ r.2.mem ((c.tc : Thread Cert.DwOddIdeal.nD Cert.DwOddIdeal.τ).loc Cert.DwOddIdeal.main_arg1) = m ((c.tc : Thread Cert.DwOddIdeal.nD Cert.DwOddIdeal.τ).loc Cert.DwOddIdeal.main_arg1))
      ∧ θ_run (Cert.DwOddReferenceIdeal.defs (F := Ideal)) (onTc (τ := Cert.DwOddReferenceIdeal.τ) (Cert.DwOddReferenceIdeal.main (F := Ideal))) ⟨m', fun _ => 0, g'⟩ (fun r => ∀ c : Dev Cert.DwOddReferenceIdeal.nD,
          r.2.mem ((c.tc : Thread Cert.DwOddReferenceIdeal.nD Cert.DwOddReferenceIdeal.τ).loc Cert.DwOddReferenceIdeal.main_v7) = v0 c
          ∧ r.2.mem ((c.tc : Thread Cert.DwOddReferenceIdeal.nD Cert.DwOddReferenceIdeal.τ).loc Cert.DwOddReferenceIdeal.main_arg0) = m' ((c.tc : Thread Cert.DwOddReferenceIdeal.nD Cert.DwOddReferenceIdeal.τ).loc Cert.DwOddReferenceIdeal.main_arg0)
          ∧ r.2.mem ((c.tc : Thread Cert.DwOddReferenceIdeal.nD Cert.DwOddReferenceIdeal.τ).loc Cert.DwOddReferenceIdeal.main_arg1) = m' ((c.tc : Thread Cert.DwOddReferenceIdeal.nD Cert.DwOddReferenceIdeal.τ).loc Cert.DwOddReferenceIdeal.main_arg1))

def preserves_DwEven_DwEvenIdeal : Prop :=
  True

def algebraic_DwEvenIdeal_DwEvenReferenceIdeal [hDwEvenIdeal : Cert.DwEvenIdeal.Facts] [hDwEvenReferenceIdeal : Cert.DwEvenReferenceIdeal.Facts] : Prop :=
  ∀ (m : (ℓ : Loc Cert.DwEvenIdeal.nD Cert.DwEvenIdeal.τ Cert.DwEvenIdeal.sig) → Buf (Elt Ideal) ℓ) (g : Dev Cert.DwEvenIdeal.nD → PrngReg)
    (m' : (ℓ : Loc Cert.DwEvenReferenceIdeal.nD Cert.DwEvenReferenceIdeal.τ Cert.DwEvenReferenceIdeal.sig) → Buf (Elt Ideal) ℓ) (g' : Dev Cert.DwEvenReferenceIdeal.nD → PrngReg), Pre_DwEvenIdeal m →
    (∀ c : Dev Cert.DwEvenIdeal.nD,
      m' ((c.tc : Thread Cert.DwEvenReferenceIdeal.nD Cert.DwEvenReferenceIdeal.τ).loc Cert.DwEvenReferenceIdeal.main_arg0) = m ((c.tc : Thread Cert.DwEvenIdeal.nD Cert.DwEvenIdeal.τ).loc Cert.DwEvenIdeal.main_arg0)
      ∧ m' ((c.tc : Thread Cert.DwEvenReferenceIdeal.nD Cert.DwEvenReferenceIdeal.τ).loc Cert.DwEvenReferenceIdeal.main_arg1) = m ((c.tc : Thread Cert.DwEvenIdeal.nD Cert.DwEvenIdeal.τ).loc Cert.DwEvenIdeal.main_arg1)) →
    ∃ (v0 : (c : Dev Cert.DwEvenIdeal.nD) → Buf (Elt Ideal) ((c.tc : Thread Cert.DwEvenIdeal.nD Cert.DwEvenIdeal.τ).loc Cert.DwEvenIdeal.main_v0)),
      θ_run (Cert.DwEvenIdeal.defs (F := Ideal)) (onTc (τ := Cert.DwEvenIdeal.τ) (Cert.DwEvenIdeal.main (F := Ideal))) ⟨m, fun _ => 0, g⟩ (fun r => ∀ c : Dev Cert.DwEvenIdeal.nD,
          r.2.mem ((c.tc : Thread Cert.DwEvenIdeal.nD Cert.DwEvenIdeal.τ).loc Cert.DwEvenIdeal.main_v0) = v0 c
          ∧ r.2.mem ((c.tc : Thread Cert.DwEvenIdeal.nD Cert.DwEvenIdeal.τ).loc Cert.DwEvenIdeal.main_arg0) = m ((c.tc : Thread Cert.DwEvenIdeal.nD Cert.DwEvenIdeal.τ).loc Cert.DwEvenIdeal.main_arg0)
          ∧ r.2.mem ((c.tc : Thread Cert.DwEvenIdeal.nD Cert.DwEvenIdeal.τ).loc Cert.DwEvenIdeal.main_arg1) = m ((c.tc : Thread Cert.DwEvenIdeal.nD Cert.DwEvenIdeal.τ).loc Cert.DwEvenIdeal.main_arg1))
      ∧ θ_run (Cert.DwEvenReferenceIdeal.defs (F := Ideal)) (onTc (τ := Cert.DwEvenReferenceIdeal.τ) (Cert.DwEvenReferenceIdeal.main (F := Ideal))) ⟨m', fun _ => 0, g'⟩ (fun r => ∀ c : Dev Cert.DwEvenReferenceIdeal.nD,
          r.2.mem ((c.tc : Thread Cert.DwEvenReferenceIdeal.nD Cert.DwEvenReferenceIdeal.τ).loc Cert.DwEvenReferenceIdeal.main_v7) = v0 c
          ∧ r.2.mem ((c.tc : Thread Cert.DwEvenReferenceIdeal.nD Cert.DwEvenReferenceIdeal.τ).loc Cert.DwEvenReferenceIdeal.main_arg0) = m' ((c.tc : Thread Cert.DwEvenReferenceIdeal.nD Cert.DwEvenReferenceIdeal.τ).loc Cert.DwEvenReferenceIdeal.main_arg0)
          ∧ r.2.mem ((c.tc : Thread Cert.DwEvenReferenceIdeal.nD Cert.DwEvenReferenceIdeal.τ).loc Cert.DwEvenReferenceIdeal.main_arg1) = m' ((c.tc : Thread Cert.DwEvenReferenceIdeal.nD Cert.DwEvenReferenceIdeal.τ).loc Cert.DwEvenReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v6) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DxOut_DxOutIdeal : Prop :=
  True

def algebraic_DxOutIdeal_DxOutReferenceIdeal [hDxOutIdeal : Cert.DxOutIdeal.Facts] [hDxOutReferenceIdeal : Cert.DxOutReferenceIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.DxOutReferenceIdeal.nD Cert.DxOutReferenceIdeal.τ Cert.DxOutReferenceIdeal.sig) → Buf (Elt Ideal) ℓ) (g' : Dev Cert.DxOutReferenceIdeal.nD → PrngReg), Pre_DxOutIdeal m →
    (∀ c : Dev Cert.DxOutIdeal.nD,
      m' ((c.tc : Thread Cert.DxOutReferenceIdeal.nD Cert.DxOutReferenceIdeal.τ).loc Cert.DxOutReferenceIdeal.main_arg0) = m ((c.tc : Thread Cert.DxOutIdeal.nD Cert.DxOutIdeal.τ).loc Cert.DxOutIdeal.main_arg0)
      ∧ m' ((c.tc : Thread Cert.DxOutReferenceIdeal.nD Cert.DxOutReferenceIdeal.τ).loc Cert.DxOutReferenceIdeal.main_arg1) = m ((c.tc : Thread Cert.DxOutIdeal.nD Cert.DxOutIdeal.τ).loc Cert.DxOutIdeal.main_arg1)) →
    ∃ (v0 : (c : Dev Cert.DxOutIdeal.nD) → Buf (Elt Ideal) ((c.tc : Thread Cert.DxOutIdeal.nD Cert.DxOutIdeal.τ).loc Cert.DxOutIdeal.main_v0)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v0) = v0 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ θ_run (Cert.DxOutReferenceIdeal.defs (F := Ideal)) (onTc (τ := Cert.DxOutReferenceIdeal.τ) (Cert.DxOutReferenceIdeal.main (F := Ideal))) ⟨m', fun _ => 0, g'⟩ (fun r => ∀ c : Dev Cert.DxOutReferenceIdeal.nD,
          r.2.mem ((c.tc : Thread Cert.DxOutReferenceIdeal.nD Cert.DxOutReferenceIdeal.τ).loc Cert.DxOutReferenceIdeal.main_v4) = v0 c
          ∧ r.2.mem ((c.tc : Thread Cert.DxOutReferenceIdeal.nD Cert.DxOutReferenceIdeal.τ).loc Cert.DxOutReferenceIdeal.main_arg0) = m' ((c.tc : Thread Cert.DxOutReferenceIdeal.nD Cert.DxOutReferenceIdeal.τ).loc Cert.DxOutReferenceIdeal.main_arg0)
          ∧ r.2.mem ((c.tc : Thread Cert.DxOutReferenceIdeal.nD Cert.DxOutReferenceIdeal.τ).loc Cert.DxOutReferenceIdeal.main_arg1) = m' ((c.tc : Thread Cert.DxOutReferenceIdeal.nD Cert.DxOutReferenceIdeal.τ).loc Cert.DxOutReferenceIdeal.main_arg1))

def preserves_DxEven_DxEvenIdeal : Prop :=
  True

def algebraic_DxEvenIdeal_DxEvenReferenceIdeal [hDxEvenIdeal : Cert.DxEvenIdeal.Facts] [hDxEvenReferenceIdeal : Cert.DxEvenReferenceIdeal.Facts] : Prop :=
  ∀ (m : (ℓ : Loc Cert.DxEvenIdeal.nD Cert.DxEvenIdeal.τ Cert.DxEvenIdeal.sig) → Buf (Elt Ideal) ℓ) (g : Dev Cert.DxEvenIdeal.nD → PrngReg)
    (m' : (ℓ : Loc Cert.DxEvenReferenceIdeal.nD Cert.DxEvenReferenceIdeal.τ Cert.DxEvenReferenceIdeal.sig) → Buf (Elt Ideal) ℓ) (g' : Dev Cert.DxEvenReferenceIdeal.nD → PrngReg), Pre_DxEvenIdeal m →
    (∀ c : Dev Cert.DxEvenIdeal.nD,
      m' ((c.tc : Thread Cert.DxEvenReferenceIdeal.nD Cert.DxEvenReferenceIdeal.τ).loc Cert.DxEvenReferenceIdeal.main_arg0) = m ((c.tc : Thread Cert.DxEvenIdeal.nD Cert.DxEvenIdeal.τ).loc Cert.DxEvenIdeal.main_arg0)
      ∧ m' ((c.tc : Thread Cert.DxEvenReferenceIdeal.nD Cert.DxEvenReferenceIdeal.τ).loc Cert.DxEvenReferenceIdeal.main_arg1) = m ((c.tc : Thread Cert.DxEvenIdeal.nD Cert.DxEvenIdeal.τ).loc Cert.DxEvenIdeal.main_arg1)) →
    ∃ (v0 : (c : Dev Cert.DxEvenIdeal.nD) → Buf (Elt Ideal) ((c.tc : Thread Cert.DxEvenIdeal.nD Cert.DxEvenIdeal.τ).loc Cert.DxEvenIdeal.main_v0)),
      θ_run (Cert.DxEvenIdeal.defs (F := Ideal)) (onTc (τ := Cert.DxEvenIdeal.τ) (Cert.DxEvenIdeal.main (F := Ideal))) ⟨m, fun _ => 0, g⟩ (fun r => ∀ c : Dev Cert.DxEvenIdeal.nD,
          r.2.mem ((c.tc : Thread Cert.DxEvenIdeal.nD Cert.DxEvenIdeal.τ).loc Cert.DxEvenIdeal.main_v0) = v0 c
          ∧ r.2.mem ((c.tc : Thread Cert.DxEvenIdeal.nD Cert.DxEvenIdeal.τ).loc Cert.DxEvenIdeal.main_arg0) = m ((c.tc : Thread Cert.DxEvenIdeal.nD Cert.DxEvenIdeal.τ).loc Cert.DxEvenIdeal.main_arg0)
          ∧ r.2.mem ((c.tc : Thread Cert.DxEvenIdeal.nD Cert.DxEvenIdeal.τ).loc Cert.DxEvenIdeal.main_arg1) = m ((c.tc : Thread Cert.DxEvenIdeal.nD Cert.DxEvenIdeal.τ).loc Cert.DxEvenIdeal.main_arg1))
      ∧ θ_run (Cert.DxEvenReferenceIdeal.defs (F := Ideal)) (onTc (τ := Cert.DxEvenReferenceIdeal.τ) (Cert.DxEvenReferenceIdeal.main (F := Ideal))) ⟨m', fun _ => 0, g'⟩ (fun r => ∀ c : Dev Cert.DxEvenReferenceIdeal.nD,
          r.2.mem ((c.tc : Thread Cert.DxEvenReferenceIdeal.nD Cert.DxEvenReferenceIdeal.τ).loc Cert.DxEvenReferenceIdeal.main_v5) = v0 c
          ∧ r.2.mem ((c.tc : Thread Cert.DxEvenReferenceIdeal.nD Cert.DxEvenReferenceIdeal.τ).loc Cert.DxEvenReferenceIdeal.main_arg0) = m' ((c.tc : Thread Cert.DxEvenReferenceIdeal.nD Cert.DxEvenReferenceIdeal.τ).loc Cert.DxEvenReferenceIdeal.main_arg0)
          ∧ r.2.mem ((c.tc : Thread Cert.DxEvenReferenceIdeal.nD Cert.DxEvenReferenceIdeal.τ).loc Cert.DxEvenReferenceIdeal.main_arg1) = m' ((c.tc : Thread Cert.DxEvenReferenceIdeal.nD Cert.DxEvenReferenceIdeal.τ).loc Cert.DxEvenReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v39) = v0 c
          ∧ r.2.mem ((c.tc : Thread Cert.NormReferenceIdeal.nD Cert.NormReferenceIdeal.τ).loc Cert.NormReferenceIdeal.main_v22) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_InEven_InEvenIdeal : Prop :=
  True

def algebraic_InEvenIdeal_InEvenReferenceIdeal [hInEvenIdeal : Cert.InEvenIdeal.Facts] [hInEvenReferenceIdeal : Cert.InEvenReferenceIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenReferenceIdeal.nD Cert.InEvenReferenceIdeal.τ Cert.InEvenReferenceIdeal.sig) → Buf (Elt Ideal) ℓ) (g' : Dev Cert.InEvenReferenceIdeal.nD → PrngReg), Pre_InEvenIdeal m →
    (∀ c : Dev Cert.InEvenIdeal.nD,
      m' ((c.tc : Thread Cert.InEvenReferenceIdeal.nD Cert.InEvenReferenceIdeal.τ).loc Cert.InEvenReferenceIdeal.main_arg0) = m ((c.tc : Thread Cert.InEvenIdeal.nD Cert.InEvenIdeal.τ).loc Cert.InEvenIdeal.main_arg0)
      ∧ m' ((c.tc : Thread Cert.InEvenReferenceIdeal.nD Cert.InEvenReferenceIdeal.τ).loc Cert.InEvenReferenceIdeal.main_arg1) = m ((c.tc : Thread Cert.InEvenIdeal.nD Cert.InEvenIdeal.τ).loc Cert.InEvenIdeal.main_arg1)) →
    ∃ (v0 : (c : Dev Cert.InEvenIdeal.nD) → Buf (Elt Ideal) ((c.tc : Thread Cert.InEvenIdeal.nD Cert.InEvenIdeal.τ).loc Cert.InEvenIdeal.main_v0)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v0) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ θ_run (Cert.InEvenReferenceIdeal.defs (F := Ideal)) (onTc (τ := Cert.InEvenReferenceIdeal.τ) (Cert.InEvenReferenceIdeal.main (F := Ideal))) ⟨m', fun _ => 0, g'⟩ (fun r => ∀ c : Dev Cert.InEvenReferenceIdeal.nD,
          r.2.mem ((c.tc : Thread Cert.InEvenReferenceIdeal.nD Cert.InEvenReferenceIdeal.τ).loc Cert.InEvenReferenceIdeal.main_v3) = v0 c
          ∧ r.2.mem ((c.tc : Thread Cert.InEvenReferenceIdeal.nD Cert.InEvenReferenceIdeal.τ).loc Cert.InEvenReferenceIdeal.main_arg0) = m' ((c.tc : Thread Cert.InEvenReferenceIdeal.nD Cert.InEvenReferenceIdeal.τ).loc Cert.InEvenReferenceIdeal.main_arg0)
          ∧ r.2.mem ((c.tc : Thread Cert.InEvenReferenceIdeal.nD Cert.InEvenReferenceIdeal.τ).loc Cert.InEvenReferenceIdeal.main_arg1) = m' ((c.tc : Thread Cert.InEvenReferenceIdeal.nD Cert.InEvenReferenceIdeal.τ).loc Cert.InEvenReferenceIdeal.main_arg1))

def preserves_InOdd_InOddIdeal : Prop :=
  True

def algebraic_InOddIdeal_InOddReferenceIdeal [hInOddIdeal : Cert.InOddIdeal.Facts] [hInOddReferenceIdeal : Cert.InOddReferenceIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddReferenceIdeal.nD Cert.InOddReferenceIdeal.τ Cert.InOddReferenceIdeal.sig) → Buf (Elt Ideal) ℓ) (g' : Dev Cert.InOddReferenceIdeal.nD → PrngReg), Pre_InOddIdeal m →
    (∀ c : Dev Cert.InOddIdeal.nD,
      m' ((c.tc : Thread Cert.InOddReferenceIdeal.nD Cert.InOddReferenceIdeal.τ).loc Cert.InOddReferenceIdeal.main_arg0) = m ((c.tc : Thread Cert.InOddIdeal.nD Cert.InOddIdeal.τ).loc Cert.InOddIdeal.main_arg0)
      ∧ m' ((c.tc : Thread Cert.InOddReferenceIdeal.nD Cert.InOddReferenceIdeal.τ).loc Cert.InOddReferenceIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v0)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v0) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddReferenceIdeal.defs (F := Ideal)) (onTc (τ := Cert.InOddReferenceIdeal.τ) (Cert.InOddReferenceIdeal.main (F := Ideal))) ⟨m', fun _ => 0, g'⟩ (fun r => ∀ c : Dev Cert.InOddReferenceIdeal.nD,
          r.2.mem ((c.tc : Thread Cert.InOddReferenceIdeal.nD Cert.InOddReferenceIdeal.τ).loc Cert.InOddReferenceIdeal.main_v3) = v0 c
          ∧ r.2.mem ((c.tc : Thread Cert.InOddReferenceIdeal.nD Cert.InOddReferenceIdeal.τ).loc Cert.InOddReferenceIdeal.main_arg0) = m' ((c.tc : Thread Cert.InOddReferenceIdeal.nD Cert.InOddReferenceIdeal.τ).loc Cert.InOddReferenceIdeal.main_arg0)
          ∧ r.2.mem ((c.tc : Thread Cert.InOddReferenceIdeal.nD Cert.InOddReferenceIdeal.τ).loc Cert.InOddReferenceIdeal.main_arg1) = m' ((c.tc : Thread Cert.InOddReferenceIdeal.nD Cert.InOddReferenceIdeal.τ).loc Cert.InOddReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_FfnFwd_FfnFwdIdeal : Prop :=
  True

def algebraic_FfnFwdIdeal_FfnFwdReferenceIdeal [hFfnFwdIdeal : Cert.FfnFwdIdeal.Facts] [hFfnFwdReferenceIdeal : Cert.FfnFwdReferenceIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdIdeal m →
    (∀ c : Dev Cert.FfnFwdIdeal.nD,
      m' ((c.tc : Thread Cert.FfnFwdReferenceIdeal.nD Cert.FfnFwdReferenceIdeal.τ).loc Cert.FfnFwdReferenceIdeal.main_arg0) = m ((c.tc : Thread Cert.FfnFwdIdeal.nD Cert.FfnFwdIdeal.τ).loc Cert.FfnFwdIdeal.main_arg0)
      ∧ m' ((c.tc : Thread Cert.FfnFwdReferenceIdeal.nD Cert.FfnFwdReferenceIdeal.τ).loc Cert.FfnFwdReferenceIdeal.main_arg1) = m ((c.tc : Thread Cert.FfnFwdIdeal.nD Cert.FfnFwdIdeal.τ).loc Cert.FfnFwdIdeal.main_arg1)
      ∧ m' ((c.tc : Thread Cert.FfnFwdReferenceIdeal.nD Cert.FfnFwdReferenceIdeal.τ).loc Cert.FfnFwdReferenceIdeal.main_arg2) = m ((c.tc : Thread Cert.FfnFwdIdeal.nD Cert.FfnFwdIdeal.τ).loc Cert.FfnFwdIdeal.main_arg2)
      ∧ m' ((c.tc : Thread Cert.FfnFwdReferenceIdeal.nD Cert.FfnFwdReferenceIdeal.τ).loc Cert.FfnFwdReferenceIdeal.main_arg3) = m ((c.tc : Thread Cert.FfnFwdIdeal.nD Cert.FfnFwdIdeal.τ).loc Cert.FfnFwdIdeal.main_arg3)
      ∧ m' ((c.tc : Thread Cert.FfnFwdReferenceIdeal.nD Cert.FfnFwdReferenceIdeal.τ).loc Cert.FfnFwdReferenceIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v7_0)) (v1 : (c : Dev Cert.FfnFwdIdeal.nD) → Buf (Elt Ideal) ((c.tc : Thread Cert.FfnFwdIdeal.nD Cert.FfnFwdIdeal.τ).loc Cert.FfnFwdIdeal.main_v7_1)) (v2 : (c : Dev Cert.FfnFwdIdeal.nD) → Buf (Elt Ideal) ((c.tc : Thread Cert.FfnFwdIdeal.nD Cert.FfnFwdIdeal.τ).loc Cert.FfnFwdIdeal.main_v7_2)) (v3 : (c : Dev Cert.FfnFwdIdeal.nD) → Buf (Elt Ideal) ((c.tc : Thread Cert.FfnFwdIdeal.nD Cert.FfnFwdIdeal.τ).loc Cert.FfnFwdIdeal.main_v7_3)) (v4 : (c : Dev Cert.FfnFwdIdeal.nD) → Buf (Elt Ideal) ((c.tc : Thread Cert.FfnFwdIdeal.nD Cert.FfnFwdIdeal.τ).loc Cert.FfnFwdIdeal.main_v7_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v7_0) = v0 c
          ∧ r.2.mem ((c.tc : Thread Cert.FfnFwdIdeal.nD Cert.FfnFwdIdeal.τ).loc Cert.FfnFwdIdeal.main_v7_1) = v1 c
          ∧ r.2.mem ((c.tc : Thread Cert.FfnFwdIdeal.nD Cert.FfnFwdIdeal.τ).loc Cert.FfnFwdIdeal.main_v7_2) = v2 c
          ∧ r.2.mem ((c.tc : Thread Cert.FfnFwdIdeal.nD Cert.FfnFwdIdeal.τ).loc Cert.FfnFwdIdeal.main_v7_3) = v3 c
          ∧ r.2.mem ((c.tc : Thread Cert.FfnFwdIdeal.nD Cert.FfnFwdIdeal.τ).loc Cert.FfnFwdIdeal.main_v7_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v19) = v0 c
          ∧ r.2.mem ((c.tc : Thread Cert.FfnFwdReferenceIdeal.nD Cert.FfnFwdReferenceIdeal.τ).loc Cert.FfnFwdReferenceIdeal.main_v20) = v1 c
          ∧ r.2.mem ((c.tc : Thread Cert.FfnFwdReferenceIdeal.nD Cert.FfnFwdReferenceIdeal.τ).loc Cert.FfnFwdReferenceIdeal.main_v21) = v2 c
          ∧ r.2.mem ((c.tc : Thread Cert.FfnFwdReferenceIdeal.nD Cert.FfnFwdReferenceIdeal.τ).loc Cert.FfnFwdReferenceIdeal.main_v22) = v3 c
          ∧ r.2.mem ((c.tc : Thread Cert.FfnFwdReferenceIdeal.nD Cert.FfnFwdReferenceIdeal.τ).loc Cert.FfnFwdReferenceIdeal.main_v23) = v4 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4))

def preserves_EvenNorm_EvenNormIdeal : Prop :=
  True

def algebraic_EvenNormIdeal_EvenNormReferenceIdeal [hEvenNormIdeal : Cert.EvenNormIdeal.Facts] [hEvenNormReferenceIdeal : Cert.EvenNormReferenceIdeal.Facts] : Prop :=
  ∀ (m : (ℓ : Loc Cert.EvenNormIdeal.nD Cert.EvenNormIdeal.τ Cert.EvenNormIdeal.sig) → Buf (Elt Ideal) ℓ) (g : Dev Cert.EvenNormIdeal.nD → PrngReg)
    (m' : (ℓ : Loc Cert.EvenNormReferenceIdeal.nD Cert.EvenNormReferenceIdeal.τ Cert.EvenNormReferenceIdeal.sig) → Buf (Elt Ideal) ℓ) (g' : Dev Cert.EvenNormReferenceIdeal.nD → PrngReg), Pre_EvenNormIdeal m →
    (∀ c : Dev Cert.EvenNormIdeal.nD,
      m' ((c.tc : Thread Cert.EvenNormReferenceIdeal.nD Cert.EvenNormReferenceIdeal.τ).loc Cert.EvenNormReferenceIdeal.main_arg0) = m ((c.tc : Thread Cert.EvenNormIdeal.nD Cert.EvenNormIdeal.τ).loc Cert.EvenNormIdeal.main_arg0)
      ∧ m' ((c.tc : Thread Cert.EvenNormReferenceIdeal.nD Cert.EvenNormReferenceIdeal.τ).loc Cert.EvenNormReferenceIdeal.main_arg1) = m ((c.tc : Thread Cert.EvenNormIdeal.nD Cert.EvenNormIdeal.τ).loc Cert.EvenNormIdeal.main_arg1)
      ∧ m' ((c.tc : Thread Cert.EvenNormReferenceIdeal.nD Cert.EvenNormReferenceIdeal.τ).loc Cert.EvenNormReferenceIdeal.main_arg2) = m ((c.tc : Thread Cert.EvenNormIdeal.nD Cert.EvenNormIdeal.τ).loc Cert.EvenNormIdeal.main_arg2)
      ∧ m' ((c.tc : Thread Cert.EvenNormReferenceIdeal.nD Cert.EvenNormReferenceIdeal.τ).loc Cert.EvenNormReferenceIdeal.main_arg3) = m ((c.tc : Thread Cert.EvenNormIdeal.nD Cert.EvenNormIdeal.τ).loc Cert.EvenNormIdeal.main_arg3)
      ∧ m' ((c.tc : Thread Cert.EvenNormReferenceIdeal.nD Cert.EvenNormReferenceIdeal.τ).loc Cert.EvenNormReferenceIdeal.main_arg4) = m ((c.tc : Thread Cert.EvenNormIdeal.nD Cert.EvenNormIdeal.τ).loc Cert.EvenNormIdeal.main_arg4)
      ∧ m' ((c.tc : Thread Cert.EvenNormReferenceIdeal.nD Cert.EvenNormReferenceIdeal.τ).loc Cert.EvenNormReferenceIdeal.main_arg5) = m ((c.tc : Thread Cert.EvenNormIdeal.nD Cert.EvenNormIdeal.τ).loc Cert.EvenNormIdeal.main_arg5)) →
    ∃ (v0 : (c : Dev Cert.EvenNormIdeal.nD) → Buf (Elt Ideal) ((c.tc : Thread Cert.EvenNormIdeal.nD Cert.EvenNormIdeal.τ).loc Cert.EvenNormIdeal.main_v0_0)) (v1 : (c : Dev Cert.EvenNormIdeal.nD) → Buf (Elt Ideal) ((c.tc : Thread Cert.EvenNormIdeal.nD Cert.EvenNormIdeal.τ).loc Cert.EvenNormIdeal.main_v0_1)),
      θ_run (Cert.EvenNormIdeal.defs (F := Ideal)) (onTc (τ := Cert.EvenNormIdeal.τ) (Cert.EvenNormIdeal.main (F := Ideal))) ⟨m, fun _ => 0, g⟩ (fun r => ∀ c : Dev Cert.EvenNormIdeal.nD,
          r.2.mem ((c.tc : Thread Cert.EvenNormIdeal.nD Cert.EvenNormIdeal.τ).loc Cert.EvenNormIdeal.main_v0_0) = v0 c
          ∧ r.2.mem ((c.tc : Thread Cert.EvenNormIdeal.nD Cert.EvenNormIdeal.τ).loc Cert.EvenNormIdeal.main_v0_1) = v1 c
          ∧ r.2.mem ((c.tc : Thread Cert.EvenNormIdeal.nD Cert.EvenNormIdeal.τ).loc Cert.EvenNormIdeal.main_arg0) = m ((c.tc : Thread Cert.EvenNormIdeal.nD Cert.EvenNormIdeal.τ).loc Cert.EvenNormIdeal.main_arg0)
          ∧ r.2.mem ((c.tc : Thread Cert.EvenNormIdeal.nD Cert.EvenNormIdeal.τ).loc Cert.EvenNormIdeal.main_arg1) = m ((c.tc : Thread Cert.EvenNormIdeal.nD Cert.EvenNormIdeal.τ).loc Cert.EvenNormIdeal.main_arg1)
          ∧ r.2.mem ((c.tc : Thread Cert.EvenNormIdeal.nD Cert.EvenNormIdeal.τ).loc Cert.EvenNormIdeal.main_arg2) = m ((c.tc : Thread Cert.EvenNormIdeal.nD Cert.EvenNormIdeal.τ).loc Cert.EvenNormIdeal.main_arg2)
          ∧ r.2.mem ((c.tc : Thread Cert.EvenNormIdeal.nD Cert.EvenNormIdeal.τ).loc Cert.EvenNormIdeal.main_arg3) = m ((c.tc : Thread Cert.EvenNormIdeal.nD Cert.EvenNormIdeal.τ).loc Cert.EvenNormIdeal.main_arg3)
          ∧ r.2.mem ((c.tc : Thread Cert.EvenNormIdeal.nD Cert.EvenNormIdeal.τ).loc Cert.EvenNormIdeal.main_arg4) = m ((c.tc : Thread Cert.EvenNormIdeal.nD Cert.EvenNormIdeal.τ).loc Cert.EvenNormIdeal.main_arg4)
          ∧ r.2.mem ((c.tc : Thread Cert.EvenNormIdeal.nD Cert.EvenNormIdeal.τ).loc Cert.EvenNormIdeal.main_arg5) = m ((c.tc : Thread Cert.EvenNormIdeal.nD Cert.EvenNormIdeal.τ).loc Cert.EvenNormIdeal.main_arg5))
      ∧ θ_run (Cert.EvenNormReferenceIdeal.defs (F := Ideal)) (onTc (τ := Cert.EvenNormReferenceIdeal.τ) (Cert.EvenNormReferenceIdeal.main (F := Ideal))) ⟨m', fun _ => 0, g'⟩ (fun r => ∀ c : Dev Cert.EvenNormReferenceIdeal.nD,
          r.2.mem ((c.tc : Thread Cert.EvenNormReferenceIdeal.nD Cert.EvenNormReferenceIdeal.τ).loc Cert.EvenNormReferenceIdeal.main_v40) = v0 c
          ∧ r.2.mem ((c.tc : Thread Cert.EvenNormReferenceIdeal.nD Cert.EvenNormReferenceIdeal.τ).loc Cert.EvenNormReferenceIdeal.main_v23) = v1 c
          ∧ r.2.mem ((c.tc : Thread Cert.EvenNormReferenceIdeal.nD Cert.EvenNormReferenceIdeal.τ).loc Cert.EvenNormReferenceIdeal.main_arg0) = m' ((c.tc : Thread Cert.EvenNormReferenceIdeal.nD Cert.EvenNormReferenceIdeal.τ).loc Cert.EvenNormReferenceIdeal.main_arg0)
          ∧ r.2.mem ((c.tc : Thread Cert.EvenNormReferenceIdeal.nD Cert.EvenNormReferenceIdeal.τ).loc Cert.EvenNormReferenceIdeal.main_arg1) = m' ((c.tc : Thread Cert.EvenNormReferenceIdeal.nD Cert.EvenNormReferenceIdeal.τ).loc Cert.EvenNormReferenceIdeal.main_arg1)
          ∧ r.2.mem ((c.tc : Thread Cert.EvenNormReferenceIdeal.nD Cert.EvenNormReferenceIdeal.τ).loc Cert.EvenNormReferenceIdeal.main_arg2) = m' ((c.tc : Thread Cert.EvenNormReferenceIdeal.nD Cert.EvenNormReferenceIdeal.τ).loc Cert.EvenNormReferenceIdeal.main_arg2)
          ∧ r.2.mem ((c.tc : Thread Cert.EvenNormReferenceIdeal.nD Cert.EvenNormReferenceIdeal.τ).loc Cert.EvenNormReferenceIdeal.main_arg3) = m' ((c.tc : Thread Cert.EvenNormReferenceIdeal.nD Cert.EvenNormReferenceIdeal.τ).loc Cert.EvenNormReferenceIdeal.main_arg3)
          ∧ r.2.mem ((c.tc : Thread Cert.EvenNormReferenceIdeal.nD Cert.EvenNormReferenceIdeal.τ).loc Cert.EvenNormReferenceIdeal.main_arg4) = m' ((c.tc : Thread Cert.EvenNormReferenceIdeal.nD Cert.EvenNormReferenceIdeal.τ).loc Cert.EvenNormReferenceIdeal.main_arg4)
          ∧ r.2.mem ((c.tc : Thread Cert.EvenNormReferenceIdeal.nD Cert.EvenNormReferenceIdeal.τ).loc Cert.EvenNormReferenceIdeal.main_arg5) = m' ((c.tc : Thread Cert.EvenNormReferenceIdeal.nD Cert.EvenNormReferenceIdeal.τ).loc Cert.EvenNormReferenceIdeal.main_arg5))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v12) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1))

def preserves_ConvFwd_ConvFwdIdeal : Prop :=
  True

def algebraic_ConvFwdIdeal_ConvFwdReferenceIdeal [hConvFwdIdeal : Cert.ConvFwdIdeal.Facts] [hConvFwdReferenceIdeal : Cert.ConvFwdReferenceIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdIdeal m →
    (∀ c : Dev Cert.ConvFwdIdeal.nD,
      m' ((c.tc : Thread Cert.ConvFwdReferenceIdeal.nD Cert.ConvFwdReferenceIdeal.τ).loc Cert.ConvFwdReferenceIdeal.main_arg0) = m ((c.tc : Thread Cert.ConvFwdIdeal.nD Cert.ConvFwdIdeal.τ).loc Cert.ConvFwdIdeal.main_arg0)
      ∧ m' ((c.tc : Thread Cert.ConvFwdReferenceIdeal.nD Cert.ConvFwdReferenceIdeal.τ).loc Cert.ConvFwdReferenceIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v29) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hDw : Cert.Dw.Facts) (hDwIdeal : Cert.DwIdeal.Facts) (hDwReferenceIdeal : Cert.DwReferenceIdeal.Facts) (hDwOdd : Cert.DwOdd.Facts) (hDwOddIdeal : Cert.DwOddIdeal.Facts) (hDwOddReferenceIdeal : Cert.DwOddReferenceIdeal.Facts) (hDwEven : Cert.DwEven.Facts) (hDwEvenIdeal : Cert.DwEvenIdeal.Facts) (hDwEvenReferenceIdeal : Cert.DwEvenReferenceIdeal.Facts) (hDwOut : Cert.DwOut.Facts) (hDwOutIdeal : Cert.DwOutIdeal.Facts) (hDwOutReferenceIdeal : Cert.DwOutReferenceIdeal.Facts) (hDxOut : Cert.DxOut.Facts) (hDxOutIdeal : Cert.DxOutIdeal.Facts) (hDxOutReferenceIdeal : Cert.DxOutReferenceIdeal.Facts) (hDxEven : Cert.DxEven.Facts) (hDxEvenIdeal : Cert.DxEvenIdeal.Facts) (hDxEvenReferenceIdeal : Cert.DxEvenReferenceIdeal.Facts) (hNorm : Cert.Norm.Facts) (hNormIdeal : Cert.NormIdeal.Facts) (hNormReferenceIdeal : Cert.NormReferenceIdeal.Facts) (hInEven : Cert.InEven.Facts) (hInEvenIdeal : Cert.InEvenIdeal.Facts) (hInEvenReferenceIdeal : Cert.InEvenReferenceIdeal.Facts) (hInOdd : Cert.InOdd.Facts) (hInOddIdeal : Cert.InOddIdeal.Facts) (hInOddReferenceIdeal : Cert.InOddReferenceIdeal.Facts) (hOut : Cert.Out.Facts) (hOutIdeal : Cert.OutIdeal.Facts) (hOutReferenceIdeal : Cert.OutReferenceIdeal.Facts) (hFfnFwd : Cert.FfnFwd.Facts) (hFfnFwdIdeal : Cert.FfnFwdIdeal.Facts) (hFfnFwdReferenceIdeal : Cert.FfnFwdReferenceIdeal.Facts) (hEvenNorm : Cert.EvenNorm.Facts) (hEvenNormIdeal : Cert.EvenNormIdeal.Facts) (hEvenNormReferenceIdeal : Cert.EvenNormReferenceIdeal.Facts) (hLoss : Cert.Loss.Facts) (hLossIdeal : Cert.LossIdeal.Facts) (hLossReferenceIdeal : Cert.LossReferenceIdeal.Facts) (hAdam : Cert.Adam.Facts) (hAdamIdeal : Cert.AdamIdeal.Facts) (hAdamReferenceIdeal : Cert.AdamReferenceIdeal.Facts) (hNormFwd : Cert.NormFwd.Facts) (hNormFwdIdeal : Cert.NormFwdIdeal.Facts) (hNormFwdReferenceIdeal : Cert.NormFwdReferenceIdeal.Facts) (hConvFwd : Cert.ConvFwd.Facts) (hConvFwdIdeal : Cert.ConvFwdIdeal.Facts) (hConvFwdReferenceIdeal : Cert.ConvFwdReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnReferenceIdeal (hFfnReferenceIdeal := hFfnReferenceIdeal)
    ∧ quiescent_FfnReferenceIdeal_pre_finite (hFfnReferenceIdeal := hFfnReferenceIdeal) (hPre_finite := hPre_finite)
    ∧ quiescent_Dw (hDw := hDw)
    ∧ quiescent_DwIdeal (hDwIdeal := hDwIdeal)
    ∧ quiescent_DwReferenceIdeal (hDwReferenceIdeal := hDwReferenceIdeal)
    ∧ quiescent_DwOdd (hDwOdd := hDwOdd)
    ∧ quiescent_DwOddIdeal (hDwOddIdeal := hDwOddIdeal)
    ∧ quiescent_DwOddReferenceIdeal (hDwOddReferenceIdeal := hDwOddReferenceIdeal)
    ∧ quiescent_DwEven (hDwEven := hDwEven)
    ∧ quiescent_DwEvenIdeal (hDwEvenIdeal := hDwEvenIdeal)
    ∧ quiescent_DwEvenReferenceIdeal (hDwEvenReferenceIdeal := hDwEvenReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DxOut (hDxOut := hDxOut)
    ∧ quiescent_DxOutIdeal (hDxOutIdeal := hDxOutIdeal)
    ∧ quiescent_DxOutReferenceIdeal (hDxOutReferenceIdeal := hDxOutReferenceIdeal)
    ∧ quiescent_DxEven (hDxEven := hDxEven)
    ∧ quiescent_DxEvenIdeal (hDxEvenIdeal := hDxEvenIdeal)
    ∧ quiescent_DxEvenReferenceIdeal (hDxEvenReferenceIdeal := hDxEvenReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_InEven (hInEven := hInEven)
    ∧ quiescent_InEvenIdeal (hInEvenIdeal := hInEvenIdeal)
    ∧ quiescent_InEvenReferenceIdeal (hInEvenReferenceIdeal := hInEvenReferenceIdeal)
    ∧ quiescent_InOdd (hInOdd := hInOdd)
    ∧ quiescent_InOddIdeal (hInOddIdeal := hInOddIdeal)
    ∧ quiescent_InOddReferenceIdeal (hInOddReferenceIdeal := hInOddReferenceIdeal)
    ∧ quiescent_Out (hOut := hOut)
    ∧ quiescent_OutIdeal (hOutIdeal := hOutIdeal)
    ∧ quiescent_OutReferenceIdeal (hOutReferenceIdeal := hOutReferenceIdeal)
    ∧ quiescent_FfnFwd (hFfnFwd := hFfnFwd)
    ∧ quiescent_FfnFwdIdeal (hFfnFwdIdeal := hFfnFwdIdeal)
    ∧ quiescent_FfnFwdReferenceIdeal (hFfnFwdReferenceIdeal := hFfnFwdReferenceIdeal)
    ∧ quiescent_EvenNorm (hEvenNorm := hEvenNorm)
    ∧ quiescent_EvenNormIdeal (hEvenNormIdeal := hEvenNormIdeal)
    ∧ quiescent_EvenNormReferenceIdeal (hEvenNormReferenceIdeal := hEvenNormReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_ConvFwd (hConvFwd := hConvFwd)
    ∧ quiescent_ConvFwdIdeal (hConvFwdIdeal := hConvFwdIdeal)
    ∧ quiescent_ConvFwdReferenceIdeal (hConvFwdReferenceIdeal := hConvFwdReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal_pre_finite (hFfnIdeal := hFfnIdeal) (hFfnReferenceIdeal := hFfnReferenceIdeal) (hPre_finite := hPre_finite)
    ∧ preserves_Dw_DwIdeal
    ∧ algebraic_DwIdeal_DwReferenceIdeal (hDwIdeal := hDwIdeal) (hDwReferenceIdeal := hDwReferenceIdeal)
    ∧ preserves_DwOdd_DwOddIdeal
    ∧ algebraic_DwOddIdeal_DwOddReferenceIdeal (hDwOddIdeal := hDwOddIdeal) (hDwOddReferenceIdeal := hDwOddReferenceIdeal)
    ∧ preserves_DwEven_DwEvenIdeal
    ∧ algebraic_DwEvenIdeal_DwEvenReferenceIdeal (hDwEvenIdeal := hDwEvenIdeal) (hDwEvenReferenceIdeal := hDwEvenReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DxOut_DxOutIdeal
    ∧ algebraic_DxOutIdeal_DxOutReferenceIdeal (hDxOutIdeal := hDxOutIdeal) (hDxOutReferenceIdeal := hDxOutReferenceIdeal)
    ∧ preserves_DxEven_DxEvenIdeal
    ∧ algebraic_DxEvenIdeal_DxEvenReferenceIdeal (hDxEvenIdeal := hDxEvenIdeal) (hDxEvenReferenceIdeal := hDxEvenReferenceIdeal)
    ∧ preserves_Norm_NormIdeal
    ∧ algebraic_NormIdeal_NormReferenceIdeal (hNormIdeal := hNormIdeal) (hNormReferenceIdeal := hNormReferenceIdeal)
    ∧ preserves_InEven_InEvenIdeal
    ∧ algebraic_InEvenIdeal_InEvenReferenceIdeal (hInEvenIdeal := hInEvenIdeal) (hInEvenReferenceIdeal := hInEvenReferenceIdeal)
    ∧ preserves_InOdd_InOddIdeal
    ∧ algebraic_InOddIdeal_InOddReferenceIdeal (hInOddIdeal := hInOddIdeal) (hInOddReferenceIdeal := hInOddReferenceIdeal)
    ∧ preserves_Out_OutIdeal
    ∧ algebraic_OutIdeal_OutReferenceIdeal (hOutIdeal := hOutIdeal) (hOutReferenceIdeal := hOutReferenceIdeal)
    ∧ preserves_FfnFwd_FfnFwdIdeal
    ∧ algebraic_FfnFwdIdeal_FfnFwdReferenceIdeal (hFfnFwdIdeal := hFfnFwdIdeal) (hFfnFwdReferenceIdeal := hFfnFwdReferenceIdeal)
    ∧ preserves_EvenNorm_EvenNormIdeal
    ∧ algebraic_EvenNormIdeal_EvenNormReferenceIdeal (hEvenNormIdeal := hEvenNormIdeal) (hEvenNormReferenceIdeal := hEvenNormReferenceIdeal)
    ∧ preserves_Loss_LossIdeal
    ∧ algebraic_LossIdeal_LossReferenceIdeal (hLossIdeal := hLossIdeal) (hLossReferenceIdeal := hLossReferenceIdeal)
    ∧ preserves_Adam_AdamIdeal
    ∧ algebraic_AdamIdeal_AdamReferenceIdeal (hAdamIdeal := hAdamIdeal) (hAdamReferenceIdeal := hAdamReferenceIdeal)
    ∧ preserves_NormFwd_NormFwdIdeal
    ∧ algebraic_NormFwdIdeal_NormFwdReferenceIdeal (hNormFwdIdeal := hNormFwdIdeal) (hNormFwdReferenceIdeal := hNormFwdReferenceIdeal)
    ∧ preserves_ConvFwd_ConvFwdIdeal
    ∧ algebraic_ConvFwdIdeal_ConvFwdReferenceIdeal (hConvFwdIdeal := hConvFwdIdeal) (hConvFwdReferenceIdeal := hConvFwdReferenceIdeal)
-- ==== Pre_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Kernel.lean ====
abbrev S4096x1024 : Shape := ⟨2, ![4096, 1024]⟩
abbrev S4096x3072 : Shape := ⟨2, ![4096, 3072]⟩
abbrev S8x1024 : Shape := ⟨2, ![8, 1024]⟩
abbrev S512x1024 : Shape := ⟨2, ![512, 1024]⟩
abbrev S512x3072 : Shape := ⟨2, ![512, 3072]⟩
abbrev S520x1024 : Shape := ⟨2, ![520, 1024]⟩
abbrev S1x1024 : Shape := ⟨2, ![1, 1024]⟩
abbrev S1024 : Shape := ⟨1, ![1024]⟩

abbrev nBuf : Space → Nat
  | .hbm => 5
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S8x1024, .f32⟩
  | .hbm, ⟨3, _⟩ => ⟨S4096x3072, .bf16⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | .local _ .vmem, ⟨17, _⟩ => ⟨S512x3072, .bf16⟩
  | .local _ .vmem, ⟨18, _⟩ => ⟨S512x3072, .bf16⟩
  | .local _ .vmem, ⟨19, _⟩ => ⟨S8x1024, .f32⟩
  | .local _ .vmem, ⟨20, _⟩ => ⟨S520x1024, .f32⟩
  | .local _ .vmem, ⟨21, _⟩ => ⟨S520x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x1024 : Shape := ⟨2, ![4096, 1024]⟩
abbrev S4096x3072 : Shape := ⟨2, ![4096, 3072]⟩
abbrev S8x1024 : Shape := ⟨2, ![8, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S8x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S2x1024, .f32⟩
  | .hbm, ⟨8, _⟩ => ⟨S4096x1024, .f32⟩
  | .hbm, ⟨9, _⟩ => ⟨S4098x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S4098x1024, .f32⟩
  | .hbm, ⟨48, _⟩ => ⟨S1x1024, .f32⟩
  | .hbm, ⟨49, _⟩ => ⟨S_, .f32⟩
  | .hbm, ⟨50, _⟩ => ⟨S8x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S4098x1024, .f32⟩
  | .hbm, ⟨61, _⟩ => ⟨S4098x1024, .f32⟩
  | .hbm, ⟨62, _⟩ => ⟨S1x1024, .f32⟩
  | .hbm, ⟨63, _⟩ => ⟨S_, .f32⟩
  | .hbm, ⟨64, _⟩ => ⟨S8x1024, .f32⟩
  | .hbm, ⟨65, _⟩ => ⟨S8x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S4098x1024, .f32⟩
  | .hbm, ⟨76, _⟩ => ⟨S4098x1024, .f32⟩
  | .hbm, ⟨77, _⟩ => ⟨S1x1024, .f32⟩
  | .hbm, ⟨78, _⟩ => ⟨S_, .f32⟩
  | .hbm, ⟨79, _⟩ => ⟨S8x1024, .f32⟩
  | .hbm, ⟨80, _⟩ => ⟨S8x1024, .f32⟩
  | .hbm, ⟨81, _⟩ => ⟨S2x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x3072, .f32⟩
  | .hbm, ⟨86, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S8x352x1024 : Shape := ⟨3, ![8, 352, 1024]⟩
abbrev S8x1056x1024 : Shape := ⟨3, ![8, 1056, 1024]⟩
abbrev S4096x2816 : Shape := ⟨2, ![4096, 2816]⟩
abbrev S256x1024 : Shape := ⟨2, ![256, 1024]⟩
abbrev S256x2816 : Shape := ⟨2, ![256, 2816]⟩
abbrev S24 : Shape := ⟨1, ![24]⟩
abbrev S1 : Shape := ⟨1, ![1]⟩
abbrev S352x1024 : Shape := ⟨2, ![352, 1024]⟩
abbrev S1x352x1024 : Shape := ⟨3, ![1, 352, 1024]⟩
abbrev S256x256 : Shape := ⟨2, ![256, 256]⟩
abbrev S256 : Shape := ⟨1, ![256]⟩
abbrev S256x1 : Shape := ⟨2, ![256, 1]⟩
abbrev S1024 : Shape := ⟨1, ![1024]⟩

abbrev nBuf : Space → Nat
  | .hbm => 37
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S2816x1024, .f32⟩
  | .hbm, ⟨22, _⟩ => ⟨S8x352x1024, .f32⟩
  | .hbm, ⟨23, _⟩ => ⟨S2816x1024, .f32⟩
  | .hbm, ⟨24, _⟩ => ⟨S8x352x1024, .f32⟩
  | .hbm, ⟨25, _⟩ => ⟨S8x352x1024, .f32⟩
  | .hbm, ⟨26, _⟩ => ⟨S8x1056x1024, .f32⟩
  | .hbm, ⟨27, _⟩ => ⟨S8x1056x1024, .bf16⟩
  | .hbm, ⟨28, _⟩ => ⟨S4096x2816, .f32⟩
  | .hbm, ⟨29, _⟩ => ⟨S4096x2816, .bf16⟩
  | .hbm, ⟨30, _⟩ => ⟨S4096x2816, .f32⟩
  | .hbm, ⟨31, _⟩ => ⟨S4096x2816, .bf16⟩
  | .hbm, ⟨32, _⟩ => ⟨S4096x2816, .bf16⟩
  | .hbm, ⟨33, _⟩ => ⟨S4096x2816, .bf16⟩
  | .hbm, ⟨34, _⟩ => ⟨S4096x1024, .bf16⟩
  | .hbm, ⟨35, _⟩ => ⟨S4096x1024, .f32⟩
  | .hbm, ⟨36, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S2816x1024, .bf16⟩
  | .local _ .vmem, ⟨19, _⟩ => ⟨S2816x1024, .bf16⟩
  | .local _ .vmem, ⟨20, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S4096x2816, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x1024, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x2816, .bf16⟩
  | .hbm, ⟨92, _⟩ => ⟨S4096x2816, .bf16⟩
  | .hbm, ⟨93, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v19_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v19_1 : Ref sig .tc := ⟨.hbm, 42, rfl⟩
abbrev main_v19_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩

abbrev nD : Nat := 1
abbrev τ : Topo := Topo.v7x

variable {F : FTy → Type} [FloatOps F]
-- ==== Dw.lean ====
abbrev S4096x1024 : Shape := ⟨2, ![4096, 1024]⟩
abbrev S4096x2816 : Shape := ⟨2, ![4096, 2816]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwReferenceIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwOdd.lean ====
abbrev S4096x1024 : Shape := ⟨2, ![4096, 1024]⟩
abbrev S4096x3072 : Shape := ⟨2, ![4096, 3072]⟩
abbrev S3072x1024 : Shape := ⟨2, ![3072, 1024]⟩
abbrev S4096x768 : Shape := ⟨2, ![4096, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3072x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwOddReferenceIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwEven.lean ====
abbrev S4096x1024 : Shape := ⟨2, ![4096, 1024]⟩
abbrev S4096x2560 : Shape := ⟨2, ![4096, 2560]⟩
abbrev S2560x1024 : Shape := ⟨2, ![2560, 1024]⟩
abbrev S4096x640 : Shape := ⟨2, ![4096, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S2560x1024, .bf16⟩
  | .local _ .vmem, ⟨0, _⟩ => ⟨S4096x640, .bf16⟩
  | .local _ .vmem, ⟨1, _⟩ => ⟨S4096x640, .bf16⟩
  | .local _ .vmem, ⟨2, _⟩ => ⟨S4096x1024, .bf16⟩
  | .local _ .vmem, ⟨3, _⟩ => ⟨S640x1024, .bf16⟩
  | .local _ .vmem, ⟨4, _⟩ => ⟨S640x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwEvenReferenceIdeal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S_, .f32⟩
  | .hbm, ⟨3, _⟩ => ⟨S1024x2560, .f32⟩
  | .hbm, ⟨4, _⟩ => ⟨S4096x1024, .f32⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S2560x1024, .f32⟩
  | .hbm, ⟨10, _⟩ => ⟨S2560x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwOut.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwOutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DxOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DxOutReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxEven.lean ====
abbrev S4096x2560 : Shape := ⟨2, ![4096, 2560]⟩
abbrev S2560x1024 : Shape := ⟨2, ![2560, 1024]⟩
abbrev S4096x1024 : Shape := ⟨2, ![4096, 1024]⟩
abbrev S512x2560 : Shape := ⟨2, ![512, 2560]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2560, .bf16⟩
  | .hbm, ⟨1, _⟩ => ⟨S2560x1024, .bf16⟩
  | .hbm, ⟨2, _⟩ => ⟨S4096x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DxEvenReferenceIdeal.lean ====
abbrev S4096x2560 : Shape := ⟨2, ![4096, 2560]⟩
abbrev S2560x1024 : Shape := ⟨2, ![2560, 1024]⟩
abbrev S_ : Shape := ⟨0, ![]⟩
abbrev S4096x1024 : Shape := ⟨2, ![4096, 1024]⟩
abbrev S1024x2560 : Shape := ⟨2, ![1024, 2560]⟩

abbrev nBuf : Space → Nat
  | .hbm => 9
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S2560x1024, .bf16⟩
  | .hbm, ⟨2, _⟩ => ⟨S_, .f32⟩
  | .hbm, ⟨3, _⟩ => ⟨S4096x1024, .f32⟩
  | .hbm, ⟨4, _⟩ => ⟨S1024x2560, .bf16⟩
  | .hbm, ⟨5, _⟩ => ⟨S1024x2560, .f32⟩
  | .hbm, ⟨6, _⟩ => ⟨S4096x2560, .f32⟩
  | .hbm, ⟨7, _⟩ => ⟨S4096x2560, .f32⟩
  | .hbm, ⟨8, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Norm.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x3072 : Shape := ⟨2, ![1024, 3072]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x3072, .bf16⟩
  | .hbm, ⟨25, _⟩ => ⟨S1024x3072, .f32⟩
  | .hbm, ⟨26, _⟩ => ⟨S4096x3072, .f32⟩
  | .hbm, ⟨27, _⟩ => ⟨S4096x3072, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== InEven.lean ====
abbrev S4096x1024 : Shape := ⟨2, ![4096, 1024]⟩
abbrev S2560x1024 : Shape := ⟨2, ![2560, 1024]⟩
abbrev S4096x2560 : Shape := ⟨2, ![4096, 2560]⟩
abbrev S512x1024 : Shape := ⟨2, ![512, 1024]⟩
abbrev S1280x1024 : Shape := ⟨2, ![1280, 1024]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2560x1024, .bf16⟩
  | .hbm, ⟨2, _⟩ => ⟨S4096x2560, .f32⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S1280x1024, .bf16⟩
  | .local _ .vmem, ⟨4, _⟩ => ⟨S512x1280, .f32⟩
  | .local _ .vmem, ⟨5, _⟩ => ⟨S512x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenReferenceIdeal.lean ====
abbrev S4096x1024 : Shape := ⟨2, ![4096, 1024]⟩
abbrev S2560x1024 : Shape := ⟨2, ![2560, 1024]⟩
abbrev S1024x2560 : Shape := ⟨2, ![1024, 2560]⟩
abbrev S4096x2560 : Shape := ⟨2, ![4096, 2560]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2560x1024, .bf16⟩
  | .hbm, ⟨2, _⟩ => ⟨S4096x1024, .f32⟩
  | .hbm, ⟨3, _⟩ => ⟨S1024x2560, .bf16⟩
  | .hbm, ⟨4, _⟩ => ⟨S1024x2560, .f32⟩
  | .hbm, ⟨5, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InOdd.lean ====
abbrev S4096x1024 : Shape := ⟨2, ![4096, 1024]⟩
abbrev S3072x1024 : Shape := ⟨2, ![3072, 1024]⟩
abbrev S4096x3072 : Shape := ⟨2, ![4096, 3072]⟩
abbrev S512x1024 : Shape := ⟨2, ![512, 1024]⟩
abbrev S1536x1024 : Shape := ⟨2, ![1536, 1024]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x3072, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S1536x1024, .bf16⟩
  | .local _ .vmem, ⟨4, _⟩ => ⟨S512x1536, .f32⟩
  | .local _ .vmem, ⟨5, _⟩ => ⟨S512x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddReferenceIdeal.lean ====
abbrev S4096x1024 : Shape := ⟨2, ![4096, 1024]⟩
abbrev S3072x1024 : Shape := ⟨2, ![3072, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x1024, .f32⟩
  | .hbm, ⟨3, _⟩ => ⟨S1024x3072, .bf16⟩
  | .hbm, ⟨4, _⟩ => ⟨S1024x3072, .f32⟩
  | .hbm, ⟨5, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnFwd.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S4096x2816 : Shape := ⟨2, ![4096, 2816]⟩
abbrev S512x1024 : Shape := ⟨2, ![512, 1024]⟩
abbrev S512x2816 : Shape := ⟨2, ![512, 2816]⟩
abbrev S24 : Shape := ⟨1, ![24]⟩
abbrev S1 : Shape := ⟨1, ![1]⟩
abbrev S_ : Shape := ⟨0, ![]⟩
abbrev S352x1024 : Shape := ⟨2, ![352, 1024]⟩
abbrev S1x352x1024 : Shape := ⟨3, ![1, 352, 1024]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 17
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S8x352x1024, .f32⟩
  | .hbm, ⟨7, _⟩ => ⟨S2816x1024, .f32⟩
  | .hbm, ⟨8, _⟩ => ⟨S8x352x1024, .f32⟩
  | .hbm, ⟨9, _⟩ => ⟨S8x352x1024, .f32⟩
  | .hbm, ⟨10, _⟩ => ⟨S8x1056x1024, .f32⟩
  | .hbm, ⟨11, _⟩ => ⟨S8x1056x1024, .bf16⟩
  | .hbm, ⟨12, _⟩ => ⟨S4096x1024, .f32⟩
  | .hbm, ⟨13, _⟩ => ⟨S4096x1024, .bf16⟩
  | .hbm, ⟨14, _⟩ => ⟨S4096x2816, .bf16⟩
  | .hbm, ⟨15, _⟩ => ⟨S4096x2816, .bf16⟩
  | .hbm, ⟨16, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S2816x1024, .bf16⟩
  | .local _ .vmem, ⟨14, _⟩ => ⟨S2816x1024, .bf16⟩
  | .local _ .vmem, ⟨15, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFwdReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | .hbm, ⟨38, _⟩ => ⟨S4096x2816, .bf16⟩
  | .hbm, ⟨39, _⟩ => ⟨S4096x2816, .bf16⟩
  | .hbm, ⟨40, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== EvenNorm.lean ====
abbrev S4096x128 : Shape := ⟨2, ![4096, 128]⟩
abbrev S128x1024 : Shape := ⟨2, ![128, 1024]⟩
abbrev S4096x1024 : Shape := ⟨2, ![4096, 1024]⟩
abbrev S1x1024 : Shape := ⟨2, ![1, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x128, .bf16⟩
  | .local _ .vmem, ⟨1, _⟩ => ⟨S512x128, .bf16⟩
  | .local _ .vmem, ⟨2, _⟩ => ⟨S128x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== EvenNormReferenceIdeal.lean ====
abbrev S4096x128 : Shape := ⟨2, ![4096, 128]⟩
abbrev S128x1024 : Shape := ⟨2, ![128, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x128 : Shape := ⟨2, ![1024, 128]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x128, .bf16⟩
  | .hbm, ⟨26, _⟩ => ⟨S1024x128, .f32⟩
  | .hbm, ⟨27, _⟩ => ⟨S4096x128, .f32⟩
  | .hbm, ⟨28, _⟩ => ⟨S4096x128, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Loss.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Adam.lean ====
abbrev S2048x352 : Shape := ⟨2, ![2048, 352]⟩
abbrev S512x352 : Shape := ⟨2, ![512, 352]⟩

abbrev nBuf : Space → Nat
  | .hbm => 7
  | .vmem => 14
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S2048x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamReferenceIdeal.lean ====
abbrev S2048x352 : Shape := ⟨2, ![2048, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S_, .f32⟩
  | .hbm, ⟨5, _⟩ => ⟨S2048x352, .f32⟩
  | .hbm, ⟨6, _⟩ => ⟨S2048x352, .f32⟩
  | .hbm, ⟨7, _⟩ => ⟨S_, .f32⟩
  | .hbm, ⟨8, _⟩ => ⟨S2048x352, .f32⟩
  | .hbm, ⟨9, _⟩ => ⟨S2048x352, .f32⟩
  | .hbm, ⟨10, _⟩ => ⟨S2048x352, .f32⟩
  | .hbm, ⟨11, _⟩ => ⟨S_, .f32⟩
  | .hbm, ⟨12, _⟩ => ⟨S2048x352, .f32⟩
  | .hbm, ⟨13, _⟩ => ⟨S2048x352, .f32⟩
  | .hbm, ⟨14, _⟩ => ⟨S2048x352, .f32⟩
  | .hbm, ⟨15, _⟩ => ⟨S_, .f32⟩
  | .hbm, ⟨16, _⟩ => ⟨S2048x352, .f32⟩
  | .hbm, ⟨17, _⟩ => ⟨S2048x352, .f32⟩
  | .hbm, ⟨18, _⟩ => ⟨S2048x352, .f32⟩
  | .hbm, ⟨19, _⟩ => ⟨S_, .f32⟩
  | .hbm, ⟨20, _⟩ => ⟨S2048x352, .f32⟩
  | .hbm, ⟨21, _⟩ => ⟨S2048x352, .f32⟩
  | .hbm, ⟨22, _⟩ => ⟨S_, .f32⟩
  | .hbm, ⟨23, _⟩ => ⟨S2048x352, .f32⟩
  | .hbm, ⟨24, _⟩ => ⟨S2048x352, .f32⟩
  | .hbm, ⟨25, _⟩ => ⟨S2048x352, .f32⟩
  | .hbm, ⟨26, _⟩ => ⟨S_, .f32⟩
  | .hbm, ⟨27, _⟩ => ⟨S2048x352, .f32⟩
  | .hbm, ⟨28, _⟩ => ⟨S2048x352, .f32⟩
  | .hbm, ⟨29, _⟩ => ⟨S2048x352, .f32⟩
  | .hbm, ⟨30, _⟩ => ⟨S_, .f32⟩
  | .hbm, ⟨31, _⟩ => ⟨S2048x352, .f32⟩
  | .hbm, ⟨32, _⟩ => ⟨S2048x352, .f32⟩
  | .hbm, ⟨33, _⟩ => ⟨S2048x352, .f32⟩
  | .hbm, ⟨34, _⟩ => ⟨S_, .f32⟩
  | .hbm, ⟨35, _⟩ => ⟨S2048x352, .f32⟩
  | .hbm, ⟨36, _⟩ => ⟨S2048x352, .f32⟩
  | _, _ => ⟨S2048x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ConvFwd.lean ====
abbrev S4096x3072 : Shape := ⟨2, ![4096, 3072]⟩
abbrev S8x1024 : Shape := ⟨2, ![8, 1024]⟩
abbrev S4096x1024 : Shape := ⟨2, ![4096, 1024]⟩
abbrev S512x1024 : Shape := ⟨2, ![512, 1024]⟩
abbrev S520x1024 : Shape := ⟨2, ![520, 1024]⟩
abbrev S1x1024 : Shape := ⟨2, ![1, 1024]⟩

abbrev nBuf : Space → Nat
  | .hbm => 3
  | .vmem => 14
  | .smem => 0
  | _ => 0

abbrev bufTy : (tb : Table) → Fin (tcTables nBuf tb) → BufTy
  | .hbm, ⟨0, _⟩ => ⟨S4096x3072, .f32⟩
  | .hbm, ⟨1, _⟩ => ⟨S8x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S512x1024, .bf16⟩
  | .local _ .vmem, ⟨12, _⟩ => ⟨S512x1024, .bf16⟩
  | .local _ .vmem, ⟨13, _⟩ => ⟨S520x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdReferenceIdeal.lean ====
abbrev S4096x3072 : Shape := ⟨2, ![4096, 3072]⟩
abbrev S8x1024 : Shape := ⟨2, ![8, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S8x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S2x1024, .f32⟩
  | .hbm, ⟨7, _⟩ => ⟨S4096x1024, .f32⟩
  | .hbm, ⟨8, _⟩ => ⟨S4098x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Proof.ShortConv.Math.lean ====
/- The gradient of the short gated convolution  y = b * (w ∗ (g * h)),  in plain words.

   `z` holds, side by side, the gate `b` (columns 0…1023), the gate `g` (1024…2047) and the signal `h` (2048…3071).
   The convolution is causal and three rows wide: row `r` of `w ∗ u` is  w₀ u(r-2) + w₁ u(r-1) + w₂ u(r).
   `U` is `g * h` moved down by two rows, with zeros above; `D` is the gradient that reaches the convolution,  dy * b,
   with zeros below the last row. -/
module

public import Idealize.ShloMosaic.Lib.Pipeline.ValueKit

@[expose] public section

noncomputable section

namespace ShortConv

open Idealize.ShloMosaic

/-- An array of `a` rows and `b` columns of extended reals. -/
abbrev Mat (a b : ℕ) := (⟨2, ![a, b]⟩ : Shape).Idx → EReal

/-- Row `r` of the convolution's input, moved down by two rows: zero above the first row and below the last. -/
def U (z : Mat 4096 3072) (r : ℕ) (q : Fin 1024) : EReal :=
  if h : 2 ≤ r ∧ r - 2 < 4096 then
    z (ix2 ⟨r - 2, h.2⟩ ⟨1024 + q.val, by omega⟩) * z (ix2 ⟨r - 2, h.2⟩ ⟨2048 + q.val, by omega⟩)
  else 0

/-- Row `r` of the gradient at the convolution's result: zero below the last row. -/
def D (dy : Mat 4096 1024) (z : Mat 4096 3072) (r : ℕ) (q : Fin 1024) : EReal :=
  if h : r < 4096 then dy (ix2 ⟨r, h⟩ q) * z (ix2 ⟨r, h⟩ ⟨q.val, by omega⟩) else 0

/-- Row `r` of the convolution of the forward pass. -/
def conv (z : Mat 4096 3072) (w : Mat 8 1024) (r : ℕ) (q : Fin 1024) : EReal :=
  w (ix2 0 q) * U z r q + w (ix2 1 q) * U z (r + 1) q + w (ix2 2 q) * U z (r + 2) q

/-- Row `r` of the gradient at the convolution's input: the convolution run backwards. -/
def back (dy : Mat 4096 1024) (z : Mat 4096 3072) (w : Mat 8 1024) (r : ℕ) (q : Fin 1024) : EReal :=
  w (ix2 0 q) * D dy z (r + 2) q + w (ix2 1 q) * D dy z (r + 1) q + w (ix2 2 q) * D dy z r q

/-- `U` above its last row, as the two zero rows and then the products. -/
theorem U_eq (z : Mat 4096 3072) (r : ℕ) (hr : r < 4098) (q : Fin 1024) : U z r q =
    if h : r < 2 then 0 else z (ix2 ⟨r - 2, by omega⟩ ⟨1024 + q.val, by omega⟩) * z (ix2 ⟨r - 2, by omega⟩ ⟨2048 + q.val, by omega⟩) := by
  unfold U
  by_cases h : r < 2
  · rw [dif_neg (by omega), dif_pos h]
  · rw [dif_pos (by omega), dif_neg h]

/-- A weight times a row of `D`: zero below the last row. -/
theorem mul_D (w : EReal) (dy : Mat 4096 1024) (z : Mat 4096 3072) (r : ℕ) (q : Fin 1024) : w * D dy z r q =
    if h : r < 4096 then w * (z (ix2 ⟨r, h⟩ ⟨q.val, by omega⟩) * dy (ix2 ⟨r, h⟩ q)) else 0 := by
  unfold D
  by_cases h : r < 4096
  · rw [dif_pos h, dif_pos h, mul_comm (dy _)]
  · rw [dif_neg h, dif_neg h, mul_zero]

/-- `back` with its terms in the other order. -/
theorem back_eq (dy : Mat 4096 1024) (z : Mat 4096 3072) (w : Mat 8 1024) (r : ℕ) (q : Fin 1024) :
    back dy z w r q = w (ix2 2 q) * D dy z r q + w (ix2 1 q) * D dy z (r + 1) q + w (ix2 0 q) * D dy z (r + 2) q := by
  unfold back
  rw [add_comm, add_comm (w (ix2 0 q) * _), ← add_assoc]

/-- The gradient of `z` at row `r`, column `p`: the three gradients side by side. -/
def dz (dy : Mat 4096 1024) (z : Mat 4096 3072) (w : Mat 8 1024) (r : Fin 4096) (p : Fin 3072) : EReal :=
  if h0 : p.val < 1024 then dy (ix2 r ⟨p.val, h0⟩) * conv z w r.val ⟨p.val, h0⟩
  else if h1 : p.val - 1024 < 1024 then
    back dy z w r.val ⟨p.val - 1024, h1⟩ * z (ix2 r ⟨2048 + (p.val - 1024), by omega⟩)
  else back dy z w r.val ⟨p.val - 2048, by omega⟩ * z (ix2 r ⟨1024 + (p.val - 2048), by omega⟩)

theorem dz_left (dy : Mat 4096 1024) (z : Mat 4096 3072) (w : Mat 8 1024) (r : Fin 4096) (p : Fin 3072) (q : Fin 1024)
    (hp : p.val = q.val) : dz dy z w r p = dy (ix2 r q) * conv z w r.val q := by
  unfold dz
  rw [dif_pos (by omega)]
  congr <;> exact hp

theorem dz_mid (dy : Mat 4096 1024) (z : Mat 4096 3072) (w : Mat 8 1024) (r : Fin 4096) (p : Fin 3072) (q : Fin 1024)
    (hp : p.val = 1024 + q.val) : dz dy z w r p = back dy z w r.val q * z (ix2 r ⟨2048 + q.val, by omega⟩) := by
  obtain rfl : p = ⟨1024 + q.val, by clear hp; omega⟩ := Fin.ext hp
  unfold dz
  rw [dif_neg (by simp), dif_pos (by simp)]
  congr 4 <;> simp

theorem dz_right (dy : Mat 4096 1024) (z : Mat 4096 3072) (w : Mat 8 1024) (r : Fin 4096) (p : Fin 3072) (q : Fin 1024)
    (hp : p.val = 2048 + q.val) : dz dy z w r p = back dy z w r.val q * z (ix2 r ⟨1024 + q.val, by omega⟩) := by
  obtain rfl : p = ⟨2048 + q.val, by clear hp; omega⟩ := Fin.ext hp
  unfold dz
  rw [dif_neg (by show ¬2048 + q.val < 1024; omega), dif_neg (by show ¬2048 + q.val - 1024 < 1024; omega)]
  have e : (⟨2048 + q.val - 2048, by omega⟩ : Fin 1024) = q := Fin.ext (Nat.add_sub_cancel_left ..)
  simp only [e, Nat.add_sub_cancel_left]

/-- The gradient of the convolution's weights: rows 0, 1, 2 collect over all rows; the padding rows have none. -/
def dw (dy : Mat 4096 1024) (z : Mat 4096 3072) (k : Fin 8) (q : Fin 1024) : EReal :=
  if k.val < 3 then ∑ r : Fin 4096, D dy z r.val q * U z (r.val + k.val) q else 0

end ShortConv

end
-- ==== Proof.ShortConv.Block.lean ====
/- What one grid point of the kernel computes, as rows of the arrays `U` and `D` of Math.lean. -/
module

public import proofs.«01_k».proof.Proof.Gen.KernelIdeal.Value
public import proofs.«01_k».proof.Proof.ShortConv.Math
public import Idealize.ShloMosaic.Lib.WritesUnit

@[expose] public section

set_option maxRecDepth 16384

noncomputable section

namespace Cert.KernelIdeal.ShortConv

open Cert.KernelIdeal Cert.KernelIdeal.Gen Idealize.ShloMosaic Idealize.ShloMosaic.TcCoe Idealize.SL.Sem
open Idealize.ShloMosaic.Pipeline (Dat)
open _root_.ShortConv (Mat U D)

variable (m : (ℓ : Loc nD τ sig) → Buf (Elt Ideal) ℓ)

/-- The argument arrays. -/
abbrev DY (c : Dev nD) : Mat 4096 1024 := m ((c : Thread nD τ).loc main_arg0)
abbrev Z (c : Dev nD) : Mat 4096 3072 := m ((c : Thread nD τ).loc main_arg1)
abbrev W (c : Dev nD) : Mat 8 1024 := m ((c : Thread nD τ).loc main_arg2)

/-- The windows' block numbers at every grid point. -/
theorem idx : ∀ t : Fin cfg0.N, win0_0.index t = ![t.val, 0] ∧ win0_1.index t = ![min ((t.val + 1) * 64) 511, 0]
    ∧ win0_2.index t = ![t.val, 0] ∧ win0_3.index t = ![min ((t.val + 1) * 64) 511, 0] ∧ win0_4.index t = ![t.val, 1]
    ∧ win0_5.index t = ![t.val, 2] ∧ win0_6.index t = ![t.val * 64 - 1, 1] ∧ win0_7.index t = ![t.val * 64 - 1, 2]
    ∧ win0_8.index t = ![0, 0] ∧ win0_9.index t = ![t.val, 0] ∧ win0_10.index t = ![0, 0]
    ∧ (grid0.coords t 0).val = t.val ∧ t.val < 8 :=
  (by decide +kernel : ∀ t : Fin grid0.N, _)

/-- Row `r` of two blocks of rows, one on top of the other. -/
def stack {H T : ℕ} (top : Mat H 1024) (bot : Mat T 1024) (r : ℕ) (q : Fin 1024) : EReal :=
  if hr : r < H then top (ix2 ⟨r, hr⟩ q) else if hb : r - H < T then bot (ix2 ⟨r - H, hb⟩ q) else 0

/-- The first scratch, stored as eight rows of halo and then the tile, read through any rectangle. -/
theorem buf_read (bot : Mat 512 1024) (top : Mat 8 1024) (r : Rect S520x1024) (j : r.toLoadRect.shape.Idx) :
    (View.whole cc0_scratch0 : View sig .tc _ S520x1024 _).readCov (Val := Elt Ideal)
        [⟨Rect.unit ![8, 0] ![512, 1024] inb_S520x1024_S512x1024_8_0, bot⟩,
          ⟨Rect.unit ![0, 0] ![8, 1024] inb_S520x1024_S8x1024_0_0, top⟩] r.toLoadRect j
      = stack top bot (r.toLoadRect.idx j 0) (r.toLoadRect.idx j 1) := by
  rw [View.readCov_eq_canon']
  dsimp only
  generalize r.toLoadRect.idx j = y
  have hc : ∃ p ∈ ([⟨Rect.unit ![8, 0] ![512, 1024] inb_S520x1024_S512x1024_8_0, bot⟩,
          ⟨Rect.unit ![0, 0] ![8, 1024] inb_S520x1024_S8x1024_0_0, top⟩] : List (View.Piece (Elt Ideal) S520x1024 .f32)), y ∈ p.fst.set := by
    have h0 : (y 0).val < 520 := (y 0).isLt
    have h1 : (y 1).val < 1024 := (y 1).isLt
    by_cases h : (y 0).val < 8
    · refine ⟨_, List.mem_cons_of_mem _ List.mem_cons_self, ?_⟩
      rw [Rect.mem_set_unit]
      intro a; fin_cases a
      · exact ⟨Nat.zero_le _, by simpa using h⟩
      · exact ⟨Nat.zero_le _, by simpa using h1⟩
    · refine ⟨_, List.mem_cons_self, ?_⟩
      rw [Rect.mem_set_unit]
      intro a; fin_cases a
      · exact ⟨by simpa using h, by simpa using h0⟩
      · exact ⟨Nat.zero_le _, by simpa using h1⟩
  canon_tiles x h using hc
  · unfold stack
    rw [dif_neg (by omega), dif_pos (by omega)]
    blk_ext
  · unfold stack
    rw [dif_pos (by omega)]
    blk_ext

/-- The second scratch, stored as the tile and then eight rows of halo, read through any rectangle. -/
theorem bd_read (bot : Mat 8 1024) (top : Mat 512 1024) (r : Rect S520x1024) (j : r.toLoadRect.shape.Idx) :
    (View.whole cc0_scratch1 : View sig .tc _ S520x1024 _).readCov (Val := Elt Ideal)
        [⟨Rect.unit ![512, 0] ![8, 1024] inb_S520x1024_S8x1024_512_0, bot⟩,
          ⟨Rect.unit ![0, 0] ![512, 1024] inb_S520x1024_S512x1024_0_0, top⟩] r.toLoadRect j
      = stack top bot (r.toLoadRect.idx j 0) (r.toLoadRect.idx j 1) := by
  rw [View.readCov_eq_canon']
  dsimp only
  generalize r.toLoadRect.idx j = y
  have hc : ∃ p ∈ ([⟨Rect.unit ![512, 0] ![8, 1024] inb_S520x1024_S8x1024_512_0, bot⟩,
          ⟨Rect.unit ![0, 0] ![512, 1024] inb_S520x1024_S512x1024_0_0, top⟩] : List (View.Piece (Elt Ideal) S520x1024 .f32)), y ∈ p.fst.set := by
    have h0 : (y 0).val < 520 := (y 0).isLt
    have h1 : (y 1).val < 1024 := (y 1).isLt
    by_cases h : (y 0).val < 512
    · refine ⟨_, List.mem_cons_of_mem _ List.mem_cons_self, ?_⟩
      rw [Rect.mem_set_unit]
      intro a; fin_cases a
      · exact ⟨Nat.zero_le _, by simpa using h⟩
      · exact ⟨Nat.zero_le _, by simpa using h1⟩
    · refine ⟨_, List.mem_cons_self, ?_⟩
      rw [Rect.mem_set_unit]
      intro a; fin_cases a
      · exact ⟨by simpa using h, by simpa using h0⟩
      · exact ⟨Nat.zero_le _, by simpa using h1⟩
  canon_tiles x h using hc
  · unfold stack
    rw [dif_neg (by omega), dif_pos (by omega)]
    blk_ext
  · unfold stack
    rw [dif_pos (by omega)]
    blk_ext

/-- The two conditions of the body: not the first point, not the last point. -/
theorem conds : ∀ t : Fin cfg0.N,
    Scalar.cmpi .sgt (BitVec.ofNat 32 (grid0.coords t 0).val) 0#32 = BitVec.ofBool (decide (0 < t.val))
    ∧ Scalar.cmpi .slt (BitVec.ofNat 32 (grid0.coords t 0).val) 7#32 = BitVec.ofBool (decide (t.val < 7)) :=
  (by decide +kernel : ∀ t : Fin grid0.N, _)

/-- Rows 6…519 of the first scratch at point `t` are rows of `U`. -/
theorem buf_row (c : Dev nD) (t : Fin cfg0.N) (r : ℕ) (h6 : 6 ≤ r) (hr : r < 520) (q : Fin 1024) :
    stack (k0_pay3 (F := Ideal) (grid0.coords t) (iblk m c 6 t) (iblk m c 7 t)) (k0_pay4 (F := Ideal) (iblk m c 4 t) (iblk m c 5 t)) r q
      = U (Z m c) (t.val * 512 + (r - 6)) q := by
  have e := idx t
  unfold stack U
  by_cases h8 : r < 8
  · rw [dif_pos h8]
    pointwise [k0_pay3]
    rw [(conds t).1]
    by_cases ht : 0 < t.val
    · rw [dif_pos (by omega), decide_eq_true ht]
      refine Eq.trans (b := (show Mat 8 1024 from iblk m c 6 t) (ix2 ⟨r, h8⟩ q) * (show Mat 8 1024 from iblk m c 7 t) (ix2 ⟨r, h8⟩ q)) rfl ?_
      blk_point [iblk, V, idx t, Z]
    · rw [dif_neg (by omega), decide_eq_false ht]
      rfl
  · rw [dif_neg h8, dif_pos (by omega), dif_pos (by omega)]
    pointwise [k0_pay4]
    blk_point [iblk, V, idx t, Z]

/-- All rows of the second scratch at point `t` are rows of `D`. -/
theorem bd_row (c : Dev nD) (t : Fin cfg0.N) (r : ℕ) (hr : r < 520) (q : Fin 1024) :
    stack (k0_pay6 (F := Ideal) (iblk m c 0 t) (iblk m c 2 t))
      (k0_pay8 (F := Ideal) (k0_pay7 (grid0.coords t) (iblk m c 1 t) (iblk m c 3 t))) r q
      = D (DY m c) (Z m c) (t.val * 512 + r) q := by
  have e := idx t
  unfold stack D
  by_cases h8 : r < 512
  · rw [dif_pos h8, dif_pos (by omega)]
    pointwise [k0_pay6, k0_pay5]
    blk_point [iblk, V, idx t, Z, DY]
  · rw [dif_neg h8, dif_pos (by omega)]
    pointwise [k0_pay8, k0_pay7]
    rw [(conds t).2]
    by_cases ht : t.val < 7
    · rw [dif_pos (by omega), decide_eq_true ht]
      refine Eq.trans (b := (show Mat 8 1024 from iblk m c 1 t) (ix2 ⟨r - 512, by omega⟩ q) * (show Mat 8 1024 from iblk m c 3 t) (ix2 ⟨r - 512, by omega⟩ q)) rfl ?_
      blk_point [iblk, V, idx t, Z, DY]
    · rw [dif_neg (by omega), decide_eq_false ht]
      rfl

/-- The window of the weights is the whole array. -/
theorem w_block (c : Dev nD) (t : Fin cfg0.N) : (show Mat 8 1024 from iblk m c 8 t) = W m c := by
  blk_ext! [iblk, V, idx t, W]

/-- What the body stores in the last third of its columns is `dz` there, if the rows of the scratch are rows of `D`. -/
theorem piece_right (c : Dev nD) (t : Fin cfg0.N) (a : Fin 512) (q : Fin 1024) (r : Fin 4096) (p : Fin 3072)
    (hr : r.val = t.val * 512 + a.val) (hp : p.val = 2048 + q.val) (S : ℕ → Fin 1024 → EReal)
    (hS : ∀ (n : ℕ) (q : Fin 1024), n < 520 → S n q = D (DY m c) (Z m c) (t.val * 512 + n) q) :
    (W m c (ix2 0 q) * S (2 + a.val) q + W m c (ix2 1 q) * S (1 + a.val) q + W m c (ix2 2 q) * S a.val q)
        * (show Mat 512 1024 from iblk m c 4 t) (ix2 a q)
      = _root_.ShortConv.dz (DY m c) (Z m c) (W m c) r p := by
  rw [_root_.ShortConv.dz_right _ _ _ r p q hp, hS _ _ (by omega), hS _ _ (by omega), hS _ _ (by omega)]
  unfold _root_.ShortConv.back
  rw [show t.val * 512 + (2 + a.val) = r.val + 2 by omega, show t.val * 512 + (1 + a.val) = r.val + 1 by omega, ← hr]
  congr 1
  blk_ext [iblk, V, idx t, Z]

/-- The same of the middle third. -/
theorem piece_mid (c : Dev nD) (t : Fin cfg0.N) (a : Fin 512) (q : Fin 1024) (r : Fin 4096) (p : Fin 3072)
    (hr : r.val = t.val * 512 + a.val) (hp : p.val = 1024 + q.val) (S : ℕ → Fin 1024 → EReal)
    (hS : ∀ (n : ℕ) (q : Fin 1024), n < 520 → S n q = D (DY m c) (Z m c) (t.val * 512 + n) q) :
    (W m c (ix2 0 q) * S (2 + a.val) q + W m c (ix2 1 q) * S (1 + a.val) q + W m c (ix2 2 q) * S a.val q)
        * (show Mat 512 1024 from iblk m c 5 t) (ix2 a q)
      = _root_.ShortConv.dz (DY m c) (Z m c) (W m c) r p := by
  rw [_root_.ShortConv.dz_mid _ _ _ r p q hp, hS _ _ (by omega), hS _ _ (by omega), hS _ _ (by omega)]
  unfold _root_.ShortConv.back
  rw [show t.val * 512 + (2 + a.val) = r.val + 2 by omega, show t.val * 512 + (1 + a.val) = r.val + 1 by omega, ← hr]
  congr 1
  blk_ext [iblk, V, idx t, Z]

/-- The same of the first third, where the rows of the scratch are rows of `U`. -/
theorem piece_left (c : Dev nD) (t : Fin cfg0.N) (a : Fin 512) (q : Fin 1024) (r : Fin 4096) (p : Fin 3072)
    (hr : r.val = t.val * 512 + a.val) (hp : p.val = q.val) (S : ℕ → Fin 1024 → EReal)
    (hS : ∀ (n : ℕ) (q : Fin 1024), 6 ≤ n → n < 520 → S n q = U (Z m c) (t.val * 512 + (n - 6)) q) :
    (show Mat 512 1024 from iblk m c 0 t) (ix2 a q)
      * (W m c (ix2 0 q) * S (6 + a.val) q + W m c (ix2 1 q) * S (7 + a.val) q + W m c (ix2 2 q) * S (8 + a.val) q)
      = _root_.ShortConv.dz (DY m c) (Z m c) (W m c) r p := by
  rw [_root_.ShortConv.dz_left _ _ _ r p q hp, hS _ _ (by omega) (by omega), hS _ _ (by omega) (by omega), hS _ _ (by omega) (by omega)]
  unfold _root_.ShortConv.conv
  rw [show t.val * 512 + (6 + a.val - 6) = r.val by omega, show t.val * 512 + (7 + a.val - 6) = r.val + 1 by omega,
    show t.val * 512 + (8 + a.val - 6) = r.val + 2 by omega]
  congr 1
  blk_ext [iblk, V, idx t, DY]

/-- The body's three stores into the block of `dz`, at block row `y 0`, column `y 1`. -/
theorem dz_block (c : Dev nD) (t : Fin cfg0.N) (y : S512x3072.Idx) (r : Fin 4096) (p : Fin 3072)
    (hr : r.val = t.val * 512 + (y 0).val) (hp : p.val = (y 1).val) :
    (outsAt0 m c t.val t.isLt).1 y = _root_.ShortConv.dz (DY m c) (Z m c) (W m c) r p := by
  have hw : iblk m c 8 t = W m c := w_block m c t
  by_cases ht : t.val % 8 = 0
  · rw [outsAt0_A m c t ht]
    frame_out
    simp only [funext (buf_read _ _ _), funext (bd_read _ _ _)]
    rw [hw]
    canon_tiles x h
    · idx_vars x
      pointwise [k0_pay2, k0_pay15, k0_pay10, k0_pay13]
      exact piece_right m c t _ _ r p (hr.trans (by rw [h0])) (hp.trans h1) _ (fun n q hn => bd_row m c t n hn q)
    · idx_vars x
      pointwise [k0_pay1, k0_pay18, k0_pay15, k0_pay10, k0_pay13]
      exact piece_mid m c t _ _ r p (hr.trans (by rw [h0])) (hp.trans h1) _ (fun n q hn => bd_row m c t n hn q)
    · idx_vars x
      pointwise [k0_pay17, k0_pay12]
      exact piece_left m c t _ _ r p (hr.trans (by rw [h0])) (hp.trans h1) _ (fun n q h6 hn => buf_row m c t n h6 hn q)
  · rw [outsAt0_B m c t ht]
    frame_out
    simp only [funext (buf_read _ _ _), funext (bd_read _ _ _)]
    rw [hw]
    canon_tiles x h
    · idx_vars x
      pointwise [k0_pay2, k0_pay15, k0_pay10, k0_pay13]
      exact piece_right m c t _ _ r p (hr.trans (by rw [h0])) (hp.trans h1) _ (fun n q hn => bd_row m c t n hn q)
    · idx_vars x
      pointwise [k0_pay1, k0_pay18, k0_pay15, k0_pay10, k0_pay13]
      exact piece_mid m c t _ _ r p (hr.trans (by rw [h0])) (hp.trans h1) _ (fun n q hn => bd_row m c t n hn q)
    · idx_vars x
      pointwise [k0_pay17, k0_pay12]
      exact piece_left m c t _ _ r p (hr.trans (by rw [h0])) (hp.trans h1) _ (fun n q h6 hn => buf_row m c t n h6 hn q)

end Cert.KernelIdeal.ShortConv

end
-- ==== Proof.ShortConv.Weights.lean ====
/- The block of the weights' gradient: what each grid point adds, and the sum over the points. -/
module

public import proofs.«01_k».proof.Proof.ShortConv.Block
public import Idealize.ShloMosaic.Lib.Pipeline.ReadBack

@[expose] public section

set_option maxRecDepth 16384

noncomputable section

namespace Cert.KernelIdeal.ShortConv

open Cert.KernelIdeal Cert.KernelIdeal.Gen Idealize.ShloMosaic Idealize.ShloMosaic.TcCoe Idealize.SL.Sem
open Idealize.ShloMosaic.Pipeline (Dat)
open _root_.ShortConv (Mat U D)

variable (m : (ℓ : Loc nD τ sig) → Buf (Elt Ideal) ℓ)

/-- What point `t` adds to entry `(k, q)` of the weights' gradient. -/
def part (c : Dev nD) (t : ℕ) (y : S8x1024.Idx) : EReal :=
  if (y 0).val < 3 then
    ∑ a : Fin 512, D (DY m c) (Z m c) (t * 512 + a.val) (y 1) * U (Z m c) (t * 512 + a.val + (y 0).val) (y 1)
  else 0

/-- A row stored by the body: the old row plus the sum over the tile, from the scratch at offset `6 + k`. -/
theorem row_sum (c : Dev nD) (t : Fin cfg0.N) (k : ℕ) (hk : k < 3) (q : Fin 1024) (S : ℕ → Fin 1024 → EReal)
    (hS : ∀ (n : ℕ) (q : Fin 1024), 6 ≤ n → n < 520 → S n q = U (Z m c) (t.val * 512 + (n - 6)) q) :
    ∑ a : Fin 512, (show Mat 512 1024 from iblk m c 0 t) (ix2 a q) * (show Mat 512 1024 from iblk m c 2 t) (ix2 a q) * S (6 + k + a.val) q
      = ∑ a : Fin 512, D (DY m c) (Z m c) (t.val * 512 + a.val) q * U (Z m c) (t.val * 512 + a.val + k) q := by
  refine Finset.sum_congr rfl fun a _ => ?_
  have e := idx t
  rw [hS _ _ (by omega) (by omega), show t.val * 512 + (6 + k + a.val - 6) = t.val * 512 + a.val + k by omega]
  congr 1
  unfold D
  rw [dif_pos (by omega)]
  blk_point [iblk, V, idx t, Z, DY]

/-- Three stores of one row each, over anything: rows 0, 1 and 2 are the stored ones, the others what was there. -/
theorem three_rows (v : View sig .tc .vmem S8x1024 .f32) (f) (w0 w1 w2 : Mat 1 1024) (L : List (View.Piece (Elt Ideal) S8x1024 .f32))
    (k : Fin 8) (q : Fin 1024) :
    v.read (Elt Ideal) (v.writes (Elt Ideal) f (⟨Rect.unit ![2, 0] ![1, 1024] inb_S8x1024_S1x1024_2_0, w2⟩
        :: ⟨Rect.unit ![1, 0] ![1, 1024] inb_S8x1024_S1x1024_1_0, w1⟩ :: ⟨Rect.unit ![0, 0] ![1, 1024] inb_S8x1024_S1x1024_0_0, w0⟩ :: L)) (ix2 k q)
      = if k.val = 2 then w2 (ix2 0 q) else if k.val = 1 then w1 (ix2 0 q) else if k.val = 0 then w0 (ix2 0 q)
        else v.read (Elt Ideal) (v.writes (Elt Ideal) f L) (ix2 k q) := by
  have hk := k.isLt
  by_cases h2 : k.val = 2
  · rw [if_pos h2]
    exact View.read_writes_cons_rows_of_mem v f _ w2 _ (ix2 k q) (ix2 0 q) rfl (by simpa using h2) rfl
  rw [if_neg h2]
  refine (View.read_writes_cons_rows_of_not_mem v f _ w2 _ (ix2 k q) (o := 2) (W := 1) rfl rfl (by show k.val < 2 ∨ 2 + 1 ≤ k.val; omega)).trans ?_
  by_cases h1 : k.val = 1
  · rw [if_pos h1]
    exact View.read_writes_cons_rows_of_mem v f _ w1 _ (ix2 k q) (ix2 0 q) rfl (by simpa using h1) rfl
  rw [if_neg h1]
  refine (View.read_writes_cons_rows_of_not_mem v f _ w1 _ (ix2 k q) (o := 1) (W := 1) rfl rfl (by show k.val < 1 ∨ 1 + 1 ≤ k.val; omega)).trans ?_
  by_cases h0 : k.val = 0
  · rw [if_pos h0]
    exact View.read_writes_cons_rows_of_mem v f _ w0 _ (ix2 k q) (ix2 0 q) rfl (by simpa using h0) rfl
  rw [if_neg h0]
  exact View.read_writes_cons_rows_of_not_mem v f _ w0 _ (ix2 k q) (o := 0) (W := 1) rfl rfl (by show k.val < 0 ∨ 0 + 1 ≤ k.val; omega)

/-- `part` at a row that the body stores. -/
theorem part_row (c : Dev nD) (t : ℕ) (k : Fin 8) (q : Fin 1024) (n : ℕ) (hk : k.val = n) (hn : n < 3) :
    part m c t (ix2 k q) = ∑ a : Fin 512, D (DY m c) (Z m c) (t * 512 + a.val) q * U (Z m c) (t * 512 + a.val + n) q := by
  subst hk
  exact if_pos hn

/-- The three stored rows, each the old row plus its part, and the other rows as they were: the old block plus `part`. -/
theorem three_parts (c : Dev nD) (t : Fin cfg0.N) (X : Mat 8 1024) (k : Fin 8) (q : Fin 1024) (S : ℕ → Fin 1024 → EReal)
    (hS : ∀ (n : ℕ) (q : Fin 1024), 6 ≤ n → n < 520 → S n q = U (Z m c) (t.val * 512 + (n - 6)) q) :
    (if k.val = 2 then X (ix2 2 q) + ∑ a : Fin 512, (show Mat 512 1024 from iblk m c 0 t) (ix2 a q) * (show Mat 512 1024 from iblk m c 2 t) (ix2 a q) * S (8 + a.val) q
      else if k.val = 1 then X (ix2 1 q) + ∑ a : Fin 512, (show Mat 512 1024 from iblk m c 0 t) (ix2 a q) * (show Mat 512 1024 from iblk m c 2 t) (ix2 a q) * S (7 + a.val) q
      else if k.val = 0 then X (ix2 0 q) + ∑ a : Fin 512, (show Mat 512 1024 from iblk m c 0 t) (ix2 a q) * (show Mat 512 1024 from iblk m c 2 t) (ix2 a q) * S (6 + a.val) q
      else X (ix2 k q)) = X (ix2 k q) + part m c t.val (ix2 k q) := by
  split_ifs with h2 h1 h0
  · obtain rfl : k = 2 := Fin.ext h2
    rw [part_row m c t.val 2 q 2 rfl (by omega), ← row_sum m c t 2 (by omega) q S hS]
  · obtain rfl : k = 1 := Fin.ext h1
    rw [part_row m c t.val 1 q 1 rfl (by omega), ← row_sum m c t 1 (by omega) q S hS]
  · obtain rfl : k = 0 := Fin.ext h0
    rw [part_row m c t.val 0 q 0 rfl (by omega), ← row_sum m c t 0 (by omega) q S hS]
  · unfold part
    rw [if_neg (by show ¬ k.val < 3; omega), add_zero]

/-- At every point but the first: what the point before left, plus this point's part. -/
theorem step_B (c : Dev nD) (t : Fin cfg0.N) (ht : ¬ t.val % 8 = 0) (y : S8x1024.Idx) :
    (outsAt0 m c t.val t.isLt).2 y
      = (outsAt0 m c (t.val - 1) (Nat.lt_of_le_of_lt (Nat.sub_le _ _) t.isLt)).2 y + part m c t.val y := by
  rw [outsAt0_B m c t ht]
  frame_out
  simp only [funext (buf_read _ _ _)]
  generalize (outsAt0 m c (t.val - 1) (Nat.lt_of_le_of_lt (Nat.sub_le _ _) t.isLt)).2 = X
  idx_vars y
  refine (three_rows _ _ _ _ _ [] y0 y1).trans (Eq.trans ?_ (three_parts m c t X y0 y1 _ (fun n q h6 hn => buf_row m c t n h6 hn q)))
  simp only [View.writes_nil, (hs0_10 t).read_unread]
  pointwise [k0_pay16, k0_pay14, k0_pay11, k0_pay5]

/-- At the first point: zero, plus this point's part. -/
theorem step_A (c : Dev nD) (t : Fin cfg0.N) (ht : t.val % 8 = 0) (y : S8x1024.Idx) :
    (outsAt0 m c t.val t.isLt).2 y = 0 + part m c t.val y := by
  rw [outsAt0_A m c t ht]
  frame_out
  simp only [funext (buf_read _ _ _)]
  idx_vars y
  rw [← View.read_writes_junk_apply_eq_canon (ms0_10 t).view]
  refine (three_rows _ _ _ _ _ [_] y0 y1).trans (Eq.trans ?_ (three_parts m c t (fun _ => 0) y0 y1 _ (fun n q h6 hn => buf_row m c t n h6 hn q)))
  rw [View.read_writes_junk_apply_eq_canon, View.canon_cons_unit_lit _ _ _ (by decide)]
  simp (disch := decide) only [↓ View.readCov_skip, ↓ View.readCov_fill]
  pointwise [k0_pay16, k0_pay14, k0_pay11, k0_pay5, k0_pay9]

/-- The block of the weights' gradient after the last point. -/
theorem dw_last (c : Dev nD) (k : Fin 8) (q : Fin 1024) :
    (outsAt0 m c t0_7.val t0_7.isLt).2 (ix2 k q) = _root_.ShortConv.dw (DY m c) (Z m c) k q := by
  rw [Pipeline.eq_sum_fin_of_reset_step_apply_last (fun n h => (outsAt0 m c n h).2) 8 (fun _ => (0 : EReal)) (fun t y => part m c t.val y)
    (fun t h y => step_A m c t h y) (fun t h y => step_B m c t h y) (le_of_eq N_0) t0_7 rfl (ix2 k q)]
  unfold part _root_.ShortConv.dw
  show (0 : EReal) + _ = _
  rw [zero_add]
  by_cases hk : k.val < 3
  · simp only [show ((ix2 k q : S8x1024.Idx) 0).val < 3 from hk, if_true, hk]
    exact Fin.sum_mul_add_congr (fun s a hl => rfl)
  · simp only [show ¬((ix2 k q : S8x1024.Idx) 0).val < 3 from hk, if_false, hk]
    exact Finset.sum_const_zero

/-- The array of `dz` after the run. -/
theorem dz_final (c : Dev nD) (r : Fin 4096) (p : Fin 3072) :
    (dats m 0 c).arrAt 9 (cfgs 0).N (ix2 r p) = _root_.ShortConv.dz (DY m c) (Z m c) (W m c) r p := by
  have key : (dats m 0 c).arrAt 9 (cfgs 0).N = fun i : S4096x3072.Idx => _root_.ShortConv.dz (DY m c) (Z m c) (W m c) (i 0) (i 1) := by
    refine (dats m 0 c).arrAt_eq_of_covers 9 _ (by decide +kernel) fun t _ y => ?_
    blk_simp
    rw [after0_9]
    exact dz_block m c t y _ _ (by blk_simp [idx t]) (by blk_simp [idx t])
  exact congrFun key _

/-- The array of the weights' gradient after the run. -/
theorem dw_final (c : Dev nD) (k : Fin 8) (q : Fin 1024) :
    (dats m 0 c).arrAt 10 (cfgs 0).N (ix2 k q) = _root_.ShortConv.dw (DY m c) (Z m c) k q := by
  have key : (dats m 0 c).arrAt 10 (cfgs 0).N = fun i : S8x1024.Idx => _root_.ShortConv.dw (DY m c) (Z m c) (i 0) (i 1) := by
    refine (dats m 0 c).arrAt_eq_of_after_last 10 t0_7 (by decide +kernel) _ fun j => ?_
    blk_simp
    rw [after0_10]
    idx_vars j
    exact dw_last m c _ _
  exact congrFun key _

end Cert.KernelIdeal.ShortConv

end
-- ==== Proof.ShortConv.Ref.lean ====
/- The reference's two results, read at an index: `dz` and `dw` of Math.lean. -/
module

public import proofs.«01_k».proof.Proof.Gen.ReferenceIdeal.Run
public import proofs.«01_k».proof.Proof.ShortConv.Math

@[expose] public section

set_option maxRecDepth 16384

noncomputable section

namespace Cert.ReferenceIdeal.ShortConv

open Cert.ReferenceIdeal Cert.ReferenceIdeal.Gen Cert.ReferenceIdeal.Value Idealize.ShloMosaic Idealize.ShloMosaic.TcCoe Idealize.SL.Sem
open _root_.ShortConv (Mat U D)

/-- The convolution's input with two zero rows above. -/
def padded (z : FVec Ideal S4096x3072 .f32) : FVec Ideal S4098x1024 .f32 :=
  concatenate S4098x1024 0 [⟨S2x1024, (broadcastInDim S2x1024 ![] bcast_S_S2x1024 (constant S_ .f32 0x00000000#32))⟩, ⟨S4096x1024, (mulf (extractStridedSlice S4096x1024 ![0, 1024] z slices_S4096x3072_S4096x1024_0_1024) (extractStridedSlice S4096x1024 ![0, 2048] z slices_S4096x3072_S4096x1024_0_2048))⟩] concatenates_S2x1024_S4096x1024_S4098x1024_d0

/-- It is `U`. -/
theorem padded_row (z : FVec Ideal S4096x3072 .f32) (r : Fin 4098) (q : Fin 1024) : padded z (ix2 r q) = U z r.val q := by
  rw [_root_.ShortConv.U_eq z r.val r.isLt]
  pointwise [padded]

/-- The gradient at the convolution's result. -/
def conv_ct (dy : FVec Ideal S4096x1024 .f32) (z : FVec Ideal S4096x3072 .f32) : FVec Ideal S4096x1024 .f32 :=
  mulf (extractStridedSlice S4096x1024 ![0, 0] z slices_S4096x3072_S4096x1024_0_0) dy

/-- It is `D`. -/
theorem conv_ct_row (dy : FVec Ideal S4096x1024 .f32) (z : FVec Ideal S4096x3072 .f32) (r : Fin 4096) (q : Fin 1024) :
    conv_ct dy z (ix2 r q) = D dy z r.val q := by
  unfold D
  rw [dif_pos r.isLt, mul_comm]
  pointwise [conv_ct]

/-- The convolution's transpose: each weight times the gradient, moved to where it came from. -/
def transposed (ct : FVec Ideal S4096x1024 .f32) (w : FVec Ideal S8x1024 .f32) : FVec Ideal S4098x1024 .f32 :=
  addf (addf (pad S4098x1024 ![2, 0] ![0, 0] ![0, 0] (mulf (broadcastInDim S4096x1024 ![0, 1] bcast_S1x1024_S4096x1024_0_1 (broadcastInDim S1x1024 ![1] bcast_S1024_S1x1024_1 (shapeCast _ (extractStridedSlice S1x1024 ![2, 0] w slices_S8x1024_S1x1024_2_0) shapeCasts_S1x1024_S1024))) ct) (constant S_ .f32 0x00000000#32) pads_S4096x1024_S4098x1024_200_000 h_S_)
    (pad S4098x1024 ![1, 0] ![1, 0] ![0, 0] (mulf (broadcastInDim S4096x1024 ![0, 1] bcast_S1x1024_S4096x1024_0_1 (broadcastInDim S1x1024 ![1] bcast_S1024_S1x1024_1 (shapeCast _ (extractStridedSlice S1x1024 ![1, 0] w slices_S8x1024_S1x1024_1_0) shapeCasts_S1x1024_S1024))) ct) (constant S_ .f32 0x00000000#32) pads_S4096x1024_S4098x1024_110_000 h_S_))
    (pad S4098x1024 ![0, 0] ![2, 0] ![0, 0] (mulf (broadcastInDim S4096x1024 ![0, 1] bcast_S1x1024_S4096x1024_0_1 (broadcastInDim S1x1024 ![1] bcast_S1024_S1x1024_1 (shapeCast _ (extractStridedSlice S1x1024 ![0, 0] w slices_S8x1024_S1x1024_0_0) shapeCasts_S1x1024_S1024))) ct) (constant S_ .f32 0x00000000#32) pads_S4096x1024_S4098x1024_020_000 h_S_)

/-- Without its two upper rows it is `back`. -/
theorem transposed_row (dy : FVec Ideal S4096x1024 .f32) (z : FVec Ideal S4096x3072 .f32) (w : FVec Ideal S8x1024 .f32) (r : Fin 4096) (q : Fin 1024) (s : Fin 4098)
    (hs : s.val = 2 + r.val) :
    transposed (conv_ct dy z) w (ix2 s q) = _root_.ShortConv.back dy z w r.val q := by
  obtain rfl : s = ⟨2 + r.val, by clear hs; omega⟩ := Fin.ext hs
  have hr := r.isLt
  rw [_root_.ShortConv.back_eq]
  pointwise [transposed]
  simp only [conv_ct_row]
  have e1 : 2 + r.val - 1 = r.val + 1 := by omega
  simp only [e1, Nat.add_comm 2 r.val]
  congr 1
  · congr 1
    split_ifs with h
    · rfl
    · unfold D
      rw [dif_neg (by omega), mul_zero]
  · split_ifs with h
    · rfl
    · unfold D
      rw [dif_neg (by omega), mul_zero]

/-- The forward pass's convolution. -/
def conv_fwd (p : FVec Ideal S4098x1024 .f32) (w : FVec Ideal S8x1024 .f32) : FVec Ideal S4096x1024 .f32 :=
  addf (addf (addf (broadcastInDim S4096x1024 ![] bcast_S_S4096x1024 (constant S_ .f32 0x00000000#32)) (mulf (broadcastInDim S4096x1024 ![0, 1] bcast_S1x1024_S4096x1024_0_1 (broadcastInDim S1x1024 ![1] bcast_S1024_S1x1024_1 (shapeCast _ (extractStridedSlice S1x1024 ![0, 0] w slices_S8x1024_S1x1024_0_0) shapeCasts_S1x1024_S1024))) (extractStridedSlice S4096x1024 ![0, 0] p slices_S4098x1024_S4096x1024_0_0)))
    (mulf (broadcastInDim S4096x1024 ![0, 1] bcast_S1x1024_S4096x1024_0_1 (broadcastInDim S1x1024 ![1] bcast_S1024_S1x1024_1 (shapeCast _ (extractStridedSlice S1x1024 ![1, 0] w slices_S8x1024_S1x1024_1_0) shapeCasts_S1x1024_S1024))) (extractStridedSlice S4096x1024 ![1, 0] p slices_S4098x1024_S4096x1024_1_0)))
    (mulf (broadcastInDim S4096x1024 ![0, 1] bcast_S1x1024_S4096x1024_0_1 (broadcastInDim S1x1024 ![1] bcast_S1024_S1x1024_1 (shapeCast _ (extractStridedSlice S1x1024 ![2, 0] w slices_S8x1024_S1x1024_2_0) shapeCasts_S1x1024_S1024))) (extractStridedSlice S4096x1024 ![2, 0] p slices_S4098x1024_S4096x1024_2_0))

/-- It is `conv`. -/
theorem conv_fwd_row (z : FVec Ideal S4096x3072 .f32) (w : FVec Ideal S8x1024 .f32) (r : Fin 4096) (q : Fin 1024) :
    conv_fwd (padded z) w (ix2 r q) = _root_.ShortConv.conv z w r.val q := by
  unfold _root_.ShortConv.conv
  pointwise [conv_fwd]
  simp only [padded_row, Nat.add_comm 2 r.val, Nat.add_comm 1 r.val]

/-- The three gradients side by side. -/
def joined (dy a : FVec Ideal S4096x1024 .f32) (z : FVec Ideal S4096x3072 .f32) (b : FVec Ideal S4098x1024 .f32) : FVec Ideal S4096x3072 .f32 :=
  concatenate S4096x3072 1 [⟨S4096x1024, mulf dy a⟩, ⟨S4096x1024, mulf (extractStridedSlice S4096x1024 ![2, 0] b slices_S4098x1024_S4096x1024_2_0) (extractStridedSlice S4096x1024 ![0, 2048] z slices_S4096x3072_S4096x1024_0_2048)⟩,
    ⟨S4096x1024, mulf (extractStridedSlice S4096x1024 ![0, 1024] z slices_S4096x3072_S4096x1024_0_1024) (extractStridedSlice S4096x1024 ![2, 0] b slices_S4098x1024_S4096x1024_2_0)⟩] concatenates_S4096x1024_S4096x1024_S4096x1024_S4096x3072_d1

/-- They are `dz`. -/
theorem joined_row (dy : FVec Ideal S4096x1024 .f32) (z : FVec Ideal S4096x3072 .f32) (w : FVec Ideal S8x1024 .f32) (r : Fin 4096) (p : Fin 3072) :
    joined dy (conv_fwd (padded z) w) z (transposed (conv_ct dy z) w) (ix2 r p) = _root_.ShortConv.dz dy z w r p := by
  pointwise [joined]
  by_cases h0 : p.val < 1024
  · rw [dif_pos h0, _root_.ShortConv.dz_left _ _ _ r p ⟨p.val, h0⟩ rfl, conv_fwd_row]
  rw [dif_neg h0]
  by_cases h1 : p.val - 1024 < 1024
  · rw [dif_pos h1, _root_.ShortConv.dz_mid _ _ _ r p ⟨p.val - 1024, h1⟩ (by show p.val = 1024 + (p.val - 1024); omega), transposed_row dy z w r _ _ rfl]
  · rw [dif_neg h1, _root_.ShortConv.dz_right _ _ _ r p ⟨p.val - 1024 - 1024, by omega⟩ (by show p.val = 2048 + (p.val - 1024 - 1024); omega), transposed_row dy z w r _ _ rfl, mul_comm]

variable (m : (ℓ : Loc nD τ sig) → Buf (Elt Ideal) ℓ)

/-- The argument arrays. -/
abbrev DY (c : Dev nD) : Mat 4096 1024 := m ((c : Thread nD τ).loc main_arg0)
abbrev Z (c : Dev nD) : Mat 4096 3072 := m ((c : Thread nD τ).loc main_arg1)
abbrev W (c : Dev nD) : Mat 8 1024 := m ((c : Thread nD τ).loc main_arg2)

/-- The first result. -/
theorem dz_ref (c : Dev nD) (r : Fin 4096) (p : Fin 3072) :
    res_out0 m c (ix2 r p) = _root_.ShortConv.dz (DY m c) (Z m c) (W m c) r p :=
  joined_row (DY m c) (Z m c) (W m c) r p

/-- The second result, as the reference's run leaves it: one row per weight, each a sum over all rows. -/
def weights (p : FVec Ideal S4098x1024 .f32) (ct : FVec Ideal S4096x1024 .f32) : FVec Ideal S8x1024 .f32 :=
  addf (addf (pad S8x1024 ![2, 0] ![5, 0] ![0, 0] (broadcastInDim S1x1024 ![1] bcast_S1024_S1x1024_1 (Host.reduceAdd (shapeCast _ (Host.reduceAdd (mulf ct (extractStridedSlice S4096x1024 ![2, 0] p slices_S4098x1024_S4096x1024_2_0)) (constant S_ .f32 0x00000000#32) reducesTo_S4096x1024_S1024_d0 h_S_) shapeCasts_S1024_S1x1024) (constant S_ .f32 0x00000000#32) reducesTo_S1x1024_S1024_d0 h_S_)) (constant S_ .f32 0x00000000#32) pads_S1x1024_S8x1024_250_000 h_S_)
    (pad S8x1024 ![1, 0] ![6, 0] ![0, 0] (broadcastInDim S1x1024 ![1] bcast_S1024_S1x1024_1 (Host.reduceAdd (shapeCast _ (Host.reduceAdd (mulf ct (extractStridedSlice S4096x1024 ![1, 0] p slices_S4098x1024_S4096x1024_1_0)) (constant S_ .f32 0x00000000#32) reducesTo_S4096x1024_S1024_d0 h_S_) shapeCasts_S1024_S1x1024) (constant S_ .f32 0x00000000#32) reducesTo_S1x1024_S1024_d0 h_S_)) (constant S_ .f32 0x00000000#32) pads_S1x1024_S8x1024_160_000 h_S_))
    (pad S8x1024 ![0, 0] ![7, 0] ![0, 0] (broadcastInDim S1x1024 ![1] bcast_S1024_S1x1024_1 (Host.reduceAdd (shapeCast _ (Host.reduceAdd (mulf ct (extractStridedSlice S4096x1024 ![0, 0] p slices_S4098x1024_S4096x1024_0_0)) (constant S_ .f32 0x00000000#32) reducesTo_S4096x1024_S1024_d0 h_S_) shapeCasts_S1024_S1x1024) (constant S_ .f32 0x00000000#32) reducesTo_S1x1024_S1024_d0 h_S_)) (constant S_ .f32 0x00000000#32) pads_S1x1024_S8x1024_070_000 h_S_)

/-- It is `dw`. -/
theorem weights_row (dy : FVec Ideal S4096x1024 .f32) (z : FVec Ideal S4096x3072 .f32) (k : Fin 8) (q : Fin 1024) :
    weights (padded z) (conv_ct dy z) (ix2 k q) = _root_.ShortConv.dw dy z k q := by
  unfold _root_.ShortConv.dw
  pointwise [weights]
  simp only [padded_row, conv_ct_row, Finset.univ_unique, Finset.sum_singleton, Nat.add_comm 2 _, Nat.add_comm 1 _]
  rcases (by omega : k.val = 2 ∨ k.val = 1 ∨ k.val = 0 ∨ 3 ≤ k.val) with h | h | h | h
  · simp [h]
  · simp [h]
  · simp [h]
  · rw [dif_neg (by omega), dif_neg (by omega), dif_neg (by omega), if_neg (by omega), add_zero, add_zero]

end Cert.ReferenceIdeal.ShortConv

end
-- ==== Proof.ShortConv.Equal.lean ====
/- The short convolution's claim: the kernel's two result arrays are the reference's. -/
module

public import proofs.«01_k».proof.Defs
public import proofs.«01_k».proof.Proof.ShortConv.Weights
public import proofs.«01_k».proof.Proof.ShortConv.Ref
public import Idealize.ShloMosaic.Lib.Claim

@[expose] public section

set_option maxRecDepth 16384

noncomputable section

namespace Cert.Proof.ShortConv

open Idealize.ShloMosaic Idealize.ShloMosaic.TcCoe Idealize.SL.Sem

/-- Both programs end with `dz` and `dw` of the same arrays. -/
theorem algebraic : Cert.algebraic_KernelIdeal_ReferenceIdeal := by
  intro m g m' g' _ hagree
  refine ⟨fun c i => _root_.ShortConv.dz (KernelIdeal.ShortConv.DY m c) (KernelIdeal.ShortConv.Z m c) (KernelIdeal.ShortConv.W m c) (i 0) (i 1),
    fun c i => _root_.ShortConv.dw (KernelIdeal.ShortConv.DY m c) (KernelIdeal.ShortConv.Z m c) (i 0) (i 1), ?_, ?_⟩
  · run_from Cert.KernelIdeal.Gen.run_main m g
    · exact funext fun i => (congrArg _ (eq_ix2 i)).trans (KernelIdeal.ShortConv.dz_final m c (i 0) (i 1))
    · exact funext fun i => (congrArg _ (eq_ix2 i)).trans (KernelIdeal.ShortConv.dw_final m c (i 0) (i 1))
  · refine (θ_run _ _ _).mono (fun r h c => ?_) (Cert.ReferenceIdeal.Value.run m' g')
    obtain ⟨h0, h1, ha⟩ := h c
    obtain ⟨e0, e1, e2⟩ := hagree c
    refine ⟨h0.trans (funext fun i => ?_), h1.trans (funext fun i => ?_), ha⟩
    · refine (congrArg _ (eq_ix2 i)).trans ((ReferenceIdeal.ShortConv.dz_ref m' c (i 0) (i 1)).trans ?_)
      unfold ReferenceIdeal.ShortConv.DY ReferenceIdeal.ShortConv.Z ReferenceIdeal.ShortConv.W
      rw [e0, e1, e2]
    · refine (congrArg _ (eq_ix2 i)).trans ((ReferenceIdeal.ShortConv.weights_row (ReferenceIdeal.ShortConv.DY m' c) (ReferenceIdeal.ShortConv.Z m' c) (i 0) (i 1)).trans ?_)
      unfold ReferenceIdeal.ShortConv.DY ReferenceIdeal.ShortConv.Z
      rw [e0, e1]

end Cert.Proof.ShortConv

end
-- ==== Proof.Ffn.Runs.lean ====
/- What the two runs of the feed-forward backward call share: the staging of its windows, the branch condition
   over the points, the memrefs, and the frame kit. Follows the generated module of the same name. -/
module

public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FfnIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 3).trans (((dats 0 c).arrAt_in 3 rfl _).trans ((hA c 3).trans (V_main_arg1 m c))),
      ((h c).1 4).trans (((dats 0 c).arrAt_in 4 rfl _).trans ((hA c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 5, through which its contents are stated (`View.read_writes_of_cover`: the
    choice does not matter). -/
abbrev VO0_5 : View sig .tc .vmem S256x2816 .bf16 := (Memref.whole cc0_stg5_0 : Memref sig .tc .vmem S256x2816 .bf16).view
/-- One staging buffer of output window 6, through which its contents are stated (`View.read_writes_of_cover`: the
    choice does not matter). -/
abbrev VO0_6 : View sig .tc .vmem S256x2816 .bf16 := (Memref.whole cc0_stg6_0 : Memref sig .tc .vmem S256x2816 .bf16).view
/-- One staging buffer of output window 7, through which its contents are stated (`View.read_writes_of_cover`: the
    choice does not matter). -/
abbrev VO0_7 : View sig .tc .vmem S256x1024 .bf16 := (Memref.whole cc0_stg7_0 : Memref sig .tc .vmem S256x1024 .bf16).view
/-- One staging buffer of output window 8, through which its contents are stated (`View.read_writes_of_cover`: the
    choice does not matter). -/
abbrev VO0_8 : View sig .tc .vmem S256x1024 .f32 := (Memref.whole cc0_stg8_0 : Memref sig .tc .vmem S256x1024 .f32).view
/-- One staging buffer of output window 9, through which its contents are stated (`View.read_writes_of_cover`: the
    choice does not matter). -/
abbrev VO0_9 : View sig .tc .vmem S1x1024 .f32 := (Memref.whole cc0_stg9_0 : Memref sig .tc .vmem S1x1024 .f32).view
/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2816 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2816 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2816 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2816 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2816x1024 .bf16 := Memref.whole cc0_scratch0
abbrev scM0_1 : Memref sig .tc .vmem S2816x1024 .bf16 := Memref.whole cc0_scratch1
abbrev scM0_2 : Memref sig .tc .vmem S2816x1024 .bf16 := Memref.whole cc0_scratch2
/-- The scratch `arg12` the kernel carries between points, as a view: what it holds is stated through it. -/
abbrev VS0_0 : View sig .tc .vmem S2816x1024 .bf16 := scM0_0.view
/-- The scratch `arg13` the kernel carries between points, as a view: what it holds is stated through it. -/
abbrev VS0_1 : View sig .tc .vmem S2816x1024 .bf16 := scM0_1.view
/-- The scratch `arg14` the kernel carries between points, as a view: what it holds is stated through it. -/
abbrev VS0_2 : View sig .tc .vmem S2816x1024 .bf16 := scM0_2.view
/-- The operands left in HBM that the body copies into scratch itself, whole. -/
abbrev hbM0_0 : Memref sig .tc .hbm S8x1056x1024 .bf16 := Memref.whole main_v18
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 24 → SemLoc sig := fun j => (![SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41] : Fin 24 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) := by
  rw [Pipeline.ownSems0_eq_of_list c osem0 [0, 1, 2, 3, 4, 5, 6, 7, 8, 9, 10, 11, 12, 13, 14, 15, 16, 17, 18, 19, 20, 21, 22, 23] (by decide) (by decide)]; rfl
/-- The HBM operands the body moves, as references: unscoped, no window's array (`Pipeline.restRefs`). -/
def H0 : Finset (Ref sig .tc) := {main_v18}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v18)) := by
  rw [BI.bigSep_eq_bigSepL_of_eq [main_v18] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) ∗ iprop(hbPt0 c hbM0_0 (V m c main_v18))) := by
  rw [Pipeline.ΦD_eq, scopedRest0_eq, ownSems00_eq, hbmPts0_eq]; simp only [scM0_0, scM0_1, scM0_2, owns_whole]; try rfl

end Cert.FfnIdeal.Gen

end
-- ==== Proof.Ffn.RunA.lean ====
/- The run of the body at the first grid point, where the 24 weight blocks are copied in. Eight copies are in flight
   into each scratch at once, so each copy lends only its own rows of the scratch (`sl_exec.dmaWindow`,
   `sl_exec.dmaWindowSet`). Otherwise as generated. -/
module

public import proofs.«01_k».proof.Proof.Ffn.Runs

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option sl_exec.dmaWindow true in
set_option sl_exec.dmaWindowSet true in
set_option maxHeartbeats 3840000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) :
    Σ' (L5 : List (View.Piece (Elt F) S256x2816 .bf16)), Σ' (L6 : List (View.Piece (Elt F) S256x2816 .bf16)), Σ' (L7 : List (View.Piece (Elt F) S256x1024 .bf16)), Σ' (L8 : List (View.Piece (Elt F) S256x1024 .f32)), Σ' (L9 : List (View.Piece (Elt F) S1x1024 .f32)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ (∃ W', owes (c : Thread nD τ) 0 W')) -∗ K ⟨⟩))
          ⊢ wp frame (wpE (defs₀ (F := F)) Variants.none c none) Set.univ (cc0_l1_ffn2_bwd_act i arg1 harg1 arg2 harg2 arg3 harg3 arg4 harg4 arg5 harg5 (Memref.whole main_v18) (Memref.isWhole_whole _) arg7 harg7 arg8 harg8 arg9 harg9 arg10 harg10 arg11 harg11 arg12 harg12 arg13 harg13 arg14 harg14 cc0_scratch3) K } := by
  refine ⟨?_, ?_, ?_, ?_, ?_, ?_, ?_, ?_, fun W K => ?run⟩
  case run =>
    simp only [cc0_l1_ffn2_bwd_act_eq_skeleton]; unfold cc0_l1_ffn2_bwd_act_skel
    simp only [k0_part22_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.FfnIdeal.Gen

end
-- ==== Proof.Ffn.RunB.lean ====
/- The run of the body at every later grid point: the three weight scratches are read as the first point left them. -/
module

public import proofs.«01_k».proof.Proof.Ffn.RunA

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken: points 1, 2, … 15: 15 of 16), WITH the
    proof that on whole staging memrefs — the inputs' at their contents, the outputs it reads before covering (9) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) :
    Σ' (L5 : List (View.Piece (Elt F) S256x2816 .bf16)), Σ' (L6 : List (View.Piece (Elt F) S256x2816 .bf16)), Σ' (L7 : List (View.Piece (Elt F) S256x1024 .bf16)), Σ' (L8 : List (View.Piece (Elt F) S256x1024 .f32)), Σ' (L9 : List (View.Piece (Elt F) S1x1024 .f32)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo9 ∗ owns (c : Thread nD τ) arg12 fullShare xs0 ∗ owns (c : Thread nD τ) arg13 fullShare xs1 ∗ owns (c : Thread nD τ) arg14 fullShare xs2 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xs0 ∗ owns (c : Thread nD τ) arg13 fullShare xs1 ∗ owns (c : Thread nD τ) arg14 fullShare xs2 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ (∃ W', owes (c : Thread nD τ) 0 W')) -∗ K ⟨⟩))
          ⊢ wp frame (wpE (defs₀ (F := F)) Variants.none c none) Set.univ (cc0_l1_ffn2_bwd_act i arg1 harg1 arg2 harg2 arg3 harg3 arg4 harg4 arg5 harg5 (Memref.whole main_v18) (Memref.isWhole_whole _) arg7 harg7 arg8 harg8 arg9 harg9 arg10 harg10 arg11 harg11 arg12 harg12 arg13 harg13 arg14 harg14 cc0_scratch3) K } := by
  refine ⟨?_, ?_, ?_, ?_, ?_, [], [], [], fun W K => ?run⟩
  case run =>
    simp only [cc0_l1_ffn2_bwd_act_eq_skeleton]; unfold cc0_l1_ffn2_bwd_act_skel
    simp only [k0_part22_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%fs0, %hfs0, HS0⟩, ⟨%fs1, %hfs1, HS1⟩, ⟨%fs2, %hfs2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hf9; obtain rfl := harg12.eq_unread hfs0; obtain rfl := harg13.eq_unread hfs1; obtain rfl := harg14.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.FfnIdeal.Gen

end
-- ==== Proof.Ffn.Frame.lean ====
/- What the outputs and the scratches hold after each grid point, the body obligation, the run and the frame of
   the feed-forward backward call, from the two runs. -/
module

public import proofs.«01_k».proof.Proof.Ffn.RunB
public import Idealize.ShloMosaic.Lib.Claim

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 5 tile its block (11 stores of `S256x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) (y : S256x2816.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).1 S256x256.size (by sl_kernel_rfl) y

/-- What case A leaves in output 5's staging buffer: its pieces read back over junk. -/
def out0_A_5 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) : Vec F S256x2816 .bf16 :=
  VO0_5.read (Elt F) (VO0_5.writes (Elt F) VO0_5.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).1)

/-- Case A's pieces for output 6 tile its block (11 stores of `S256x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) (y : S256x2816.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.1 S256x256.size (by sl_kernel_rfl) y

/-- What case A leaves in output 6's staging buffer: its pieces read back over junk. -/
def out0_A_6 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) : Vec F S256x2816 .bf16 :=
  VO0_6.read (Elt F) (VO0_6.writes (Elt F) VO0_6.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.1)

/-- Case A's pieces for output 7 tile its block (1 store of `S256x1024`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) (y : S256x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.1 S256x1024.size (by sl_kernel_rfl) y

/-- What case A leaves in output 7's staging buffer: its pieces read back over junk. -/
def out0_A_7 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) : Vec F S256x1024 .bf16 :=
  VO0_7.read (Elt F) (VO0_7.writes (Elt F) VO0_7.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.1)

/-- Case A's pieces for output 8 tile its block (1 store of `S256x1024`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) (y : S256x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.1 S256x1024.size (by sl_kernel_rfl) y

/-- What case A leaves in output 8's staging buffer: its pieces read back over junk. -/
def out0_A_8 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) : Vec F S256x1024 .f32 :=
  VO0_8.read (Elt F) (VO0_8.writes (Elt F) VO0_8.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.1)

/-- Case A's pieces for output 9 tile its block (2 stores of `S1x1024`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) (y : S1x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.1 S1x1024.size (by sl_kernel_rfl) y

/-- What case A leaves in output 9's staging buffer: its pieces read back over junk. -/
def out0_A_9 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) : Vec F S1x1024 .f32 :=
  VO0_9.read (Elt F) (VO0_9.writes (Elt F) VO0_9.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.1)

/-- Case A's pieces for scratch `arg12`, which the kernel carries between points, cover it: 8 pieces of `S352x1024` tiling it (Lib/Ring.lean `Piece.tiledL`). -/
theorem scover0_A_0 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) (y : S2816x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.1 S352x1024.size (by sl_kernel_rfl) y

/-- What case A leaves in scratch `arg12`: its pieces read back over junk. -/
def sout0_A_0 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) : Vec F S2816x1024 .bf16 :=
  VS0_0.read (Elt F) (VS0_0.writes (Elt F) VS0_0.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.1)

/-- Case A's pieces for scratch `arg13`, which the kernel carries between points, cover it: 8 pieces of `S352x1024` tiling it (Lib/Ring.lean `Piece.tiledL`). -/
theorem scover0_A_1 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) (y : S2816x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.1 S352x1024.size (by sl_kernel_rfl) y

/-- What case A leaves in scratch `arg13`: its pieces read back over junk. -/
def sout0_A_1 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) : Vec F S2816x1024 .bf16 :=
  VS0_1.read (Elt F) (VS0_1.writes (Elt F) VS0_1.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.1)

/-- Case A's pieces for scratch `arg14`, which the kernel carries between points, cover it: 8 pieces of `S352x1024` tiling it (Lib/Ring.lean `Piece.tiledL`). -/
theorem scover0_A_2 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) (y : S2816x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.2.1 S352x1024.size (by sl_kernel_rfl) y

/-- What case A leaves in scratch `arg14`: its pieces read back over junk. -/
def sout0_A_2 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : cond0_0 i)
    (x0 : Vec F S256x1024 .f32) (x1 : Vec F S256x2816 .bf16) (x2 : Vec F S256x2816 .bf16) (x3 : Vec F S256x1024 .f32) (x4 : Vec F S1x1024 .f32) (fh0 : HbBuf0 (F := F) c hbM0_0) : Vec F S2816x1024 .bf16 :=
  VS0_2.read (Elt F) (VS0_2.writes (Elt F) VS0_2.junk (kernelRun0_A c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 fh0).2.2.2.2.2.2.2.1)

/-- Case B's pieces for output 5 tile its block (11 stores of `S256x256`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) (y : S256x2816.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).1 S256x256.size (by sl_kernel_rfl) y

/-- What case B leaves in output 5's staging buffer: its pieces read back over junk. -/
def out0_B_5 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) : Vec F S256x2816 .bf16 :=
  VO0_5.read (Elt F) (VO0_5.writes (Elt F) VO0_5.junk (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).1)

/-- Case B's pieces for output 6 tile its block (11 stores of `S256x256`, checked by the kernel's evaluation: Lib/Ring.lean `Piece.tiledL`, linear in the pieces, through a loop's `@[irreducible]` trip theorem too), so they cover it. -/
theorem cover0_B_6 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) (y : S256x2816.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.1 S256x256.size (by sl_kernel_rfl) y

/-- What case B leaves in output 6's staging buffer: its pieces read back over junk. -/
def out0_B_6 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) : Vec F S256x2816 .bf16 :=
  VO0_6.read (Elt F) (VO0_6.writes (Elt F) VO0_6.junk (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.1)

/-- Case B's pieces for output 7 tile its block (1 store of `S256x1024`, checked by the kernel's evaluation: Lib/Ring.lean `Piece.tiledL`, linear in the pieces, through a loop's `@[irreducible]` trip theorem too), so they cover it. -/
theorem cover0_B_7 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) (y : S256x1024.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.2.1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.2.1 S256x1024.size (by sl_kernel_rfl) y

/-- What case B leaves in output 7's staging buffer: its pieces read back over junk. -/
def out0_B_7 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) : Vec F S256x1024 .bf16 :=
  VO0_7.read (Elt F) (VO0_7.writes (Elt F) VO0_7.junk (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.2.1)

/-- Case B's pieces for output 8 tile its block (1 store of `S256x1024`, checked by the kernel's evaluation: Lib/Ring.lean `Piece.tiledL`, linear in the pieces, through a loop's `@[irreducible]` trip theorem too), so they cover it. -/
theorem cover0_B_8 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) (y : S256x1024.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.2.2.1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.2.2.1 S256x1024.size (by sl_kernel_rfl) y

/-- What case B leaves in output 8's staging buffer: its pieces read back over junk. -/
def out0_B_8 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) : Vec F S256x1024 .f32 :=
  VO0_8.read (Elt F) (VO0_8.writes (Elt F) VO0_8.junk (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.2.2.1)

/-- Case B's pieces for output 9 tile its block (1 store of `S1x1024`, checked by the kernel's evaluation: Lib/Ring.lean `Piece.tiledL`, linear in the pieces, through a loop's `@[irreducible]` trip theorem too), so they cover it. -/
theorem cover0_B_9 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) (y : S1x1024.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.2.2.2.1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.2.2.2.1 S1x1024.size (by sl_kernel_rfl) y

/-- What case B leaves in output 9's staging buffer: its pieces read back over junk. -/
def out0_B_9 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) : Vec F S1x1024 .f32 :=
  VO0_9.read (Elt F) (VO0_9.writes (Elt F) VO0_9.junk (kernelRun0_B c i arg1 harg1 arg2 harg2 arg3 harg3 arg4 harg4 arg5 harg5 arg7 harg7 arg8 harg8 arg9 harg9 arg10 harg10 arg11 harg11 arg12 harg12 arg13 harg13 arg14 harg14 hc0 x0 x1 x2 x3 x4 xo9 xs0 xs1 xs2 fh0).2.2.2.2.1)

/-- Case B stores nothing into scratch `arg12`: it holds what the point before left. -/
def sout0_B_0 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) : Vec F S2816x1024 .bf16 := xs0

/-- Case B stores nothing into scratch `arg13`: it holds what the point before left. -/
def sout0_B_1 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) : Vec F S2816x1024 .bf16 := xs1

/-- Case B stores nothing into scratch `arg14`: it holds what the point before left. -/
def sout0_B_2 (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg7 : Memref sig .tc .vmem S256x2816 .bf16) (harg7 : arg7.IsWhole) (arg8 : Memref sig .tc .vmem S256x2816 .bf16) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (hc0 : ¬cond0_0 i)
    (x0 : Vec F S256x1024 .f32) (x1 : Vec F S256x2816 .bf16) (x2 : Vec F S256x2816 .bf16) (x3 : Vec F S256x1024 .f32) (x4 : Vec F S1x1024 .f32) (xo9 : Vec F S1x1024 .f32) (xs0 : Vec F S2816x1024 .bf16) (xs1 : Vec F S2816x1024 .bf16) (xs2 : Vec F S2816x1024 .bf16) (fh0 : HbBuf0 (F := F) c hbM0_0) : Vec F S2816x1024 .bf16 := xs2

/-! ## What the outputs hold after each point -/

/-- What the outputs' staging buffers and the scratch hold after the body at a point of case A. -/
def caseA (c : Dev nD) (t : Fin cfg0.N) (h0 : t.val % 16 = 0) : Vec F S256x2816 .bf16 × Vec F S256x2816 .bf16 × Vec F S256x1024 .bf16 × Vec F S256x1024 .f32 × Vec F S1x1024 .f32 × Vec F S2816x1024 .bf16 × Vec F S2816x1024 .bf16 × Vec F S2816x1024 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (V m c main_v18), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (V m c main_v18), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (V m c main_v18), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (V m c main_v18), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (V m c main_v18), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (V m c main_v18), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (V m c main_v18), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (V m c main_v18))

/-- The same at a point of case B, over what the point before left, `p`. -/
def caseB (c : Dev nD) (t : Fin cfg0.N) (h0 : ¬t.val % 16 = 0) (p : Vec F S256x2816 .bf16 × Vec F S256x2816 .bf16 × Vec F S256x1024 .bf16 × Vec F S256x1024 .f32 × Vec F S1x1024 .f32 × Vec F S2816x1024 .bf16 × Vec F S2816x1024 .bf16 × Vec F S2816x1024 .bf16) : Vec F S256x2816 .bf16 × Vec F S256x2816 .bf16 × Vec F S256x1024 .bf16 × Vec F S256x1024 .f32 × Vec F S1x1024 .f32 × Vec F S2816x1024 .bf16 × Vec F S2816x1024 .bf16 × Vec F S2816x1024 .bf16 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) p.2.2.2.2.1 p.2.2.2.2.2.1 p.2.2.2.2.2.2.1 p.2.2.2.2.2.2.2 (V m c main_v18), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) p.2.2.2.2.1 p.2.2.2.2.2.1 p.2.2.2.2.2.2.1 p.2.2.2.2.2.2.2 (V m c main_v18), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) p.2.2.2.2.1 p.2.2.2.2.2.1 p.2.2.2.2.2.2.1 p.2.2.2.2.2.2.2 (V m c main_v18), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) p.2.2.2.2.1 p.2.2.2.2.2.1 p.2.2.2.2.2.2.1 p.2.2.2.2.2.2.2 (V m c main_v18), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) p.2.2.2.2.1 p.2.2.2.2.2.1 p.2.2.2.2.2.2.1 p.2.2.2.2.2.2.2 (V m c main_v18), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) p.2.2.2.2.1 p.2.2.2.2.2.1 p.2.2.2.2.2.2.1 p.2.2.2.2.2.2.2 (V m c main_v18), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) p.2.2.2.2.1 p.2.2.2.2.2.1 p.2.2.2.2.2.2.1 p.2.2.2.2.2.2.2 (V m c main_v18), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) p.2.2.2.2.1 p.2.2.2.2.2.1 p.2.2.2.2.2.2.1 p.2.2.2.2.2.2.2 (V m c main_v18))

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2816 .bf16 × Vec F S256x2816 .bf16 × Vec F S256x1024 .bf16 × Vec F S256x1024 .f32 × Vec F S1x1024 .f32 × Vec F S2816x1024 .bf16 × Vec F S2816x1024 .bf16 × Vec F S2816x1024 .bf16
  | 0, hn => caseA m c ⟨0, hn⟩ (Nat.zero_mod _)
  | n + 1, hn =>
    if h0 : (n + 1) % 16 = 0 then caseA m c ⟨n + 1, hn⟩ h0
    else caseB m c ⟨n + 1, hn⟩ h0 (outsAt0 c n (Nat.lt_of_succ_lt hn))

/-- `outsAt0` at a point of case A: that case's contents. -/
theorem outsAt0_A (c : Dev nD) (t : Fin cfg0.N) (h0 : t.val % 16 = 0) : outsAt0 m c t.val t.isLt = caseA m c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = caseB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.1) ∗ owns (c : Thread nD τ) scM0_1 fullShare ((outsAt0 m c n hn).2.2.2.2.2.2.1) ∗ owns (c : Thread nD τ) scM0_2 fullShare ((outsAt0 m c n hn).2.2.2.2.2.2.2)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) ∗ iprop(hbPt0 c hbM0_0 (V m c main_v18)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2.1) ∗ owns (c : Thread nD τ) scM0_2 fullShare ((outsAt0 m c n hn).2.2.2.2.2.2.2)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) ∗ iprop(hbPt0 c hbM0_0 (V m c main_v18))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2.1) ∗ owns (c : Thread nD τ) scM0_2 fullShare ((outsAt0 m c (n - 1) (by omega)).2.2.2.2.2.2.2)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) ∗ iprop(hbPt0 c hbM0_0 (V m c main_v18))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 16 = 0) (d) :
    (dats m 0 c).before 9 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0, caseA]
      unfold out0_A_5 out0_A_6 out0_A_7 out0_A_8 out0_A_9 sout0_A_0 sout0_A_1 sout0_A_2; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (V m c main_v18)).2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hh0]; · iexact Hh0
      isplitl [HW]; · iexact HW
      iintro ⟨H0, H1, H2, H3, H4, ⟨%e5, H5⟩, ⟨%e6, H6⟩, ⟨%e7, H7⟩, ⟨%e8, H8⟩, ⟨%e9, H9⟩, ⟨%es0, HS0⟩, ⟨%es1, HS1⟩, ⟨%es2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
      isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _)
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          iexact Hq23
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0, caseB]
      simp only [before0_9_B m c t h0]
      unfold out0_B_5 out0_B_6 out0_B_7 out0_B_8 out0_B_9 sout0_B_0 sout0_B_1 sout0_B_2; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ _ (V m c main_v18)).2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexact H9
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hh0]; · iexact Hh0
      isplitl [HW]; · iexact HW
      iintro ⟨H0, H1, H2, H3, H4, ⟨%e5, H5⟩, ⟨%e6, H6⟩, ⟨%e7, H7⟩, ⟨%e8, H8⟩, ⟨%e9, H9⟩, HS0, HS1, HS2, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
      isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
      · isplitl [HS0 HS1 HS2]
        · isplitl [HS0]; · iexact HS0
          isplitl [HS1]; · iexact HS1
          iexact HS2
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          iexact Hq23
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    iexact Hq23
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame at any `F`: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnIdeal.Gen

end
-- ==== Proof.Ffn.Bits.lean ====
/- The program on machine floats runs as the idealized one: both are the same text, so one run serves both. -/
module

public import proofs.«01_k».proof.Proof.Ffn.Frame
public import proofs.«01_k».proof.Proof.Gen.Ffn
public import proofs.«01_k».proof.Defs

@[expose] public section

set_option maxRecDepth 16384

noncomputable section

namespace Cert.Proof.Ffn

open Idealize.ShloMosaic Idealize.ShloMosaic.TcCoe Idealize.SL.Sem

local instance : Cert.Ffn.Facts := Cert.Ffn.Gen.facts

/-- The two body tables are one. -/
theorem defs₀_eq : (Cert.Ffn.defs₀ (F := Bits) : Defs Cert.FfnIdeal.nD Cert.FfnIdeal.τ Cert.FfnIdeal.sig (Elt Bits) Cert.FfnIdeal.Λ₀) = Cert.FfnIdeal.defs₀ (F := Bits) := by
  unfold Cert.Ffn.defs₀ Cert.FfnIdeal.defs₀
  refine congrArg Defs.onTc (funext fun l => funext fun a => ?_)
  match l, a with
  | ⟨0, _⟩, (t, s) => rfl

/-- The two tables of bodies and regions are one. -/
theorem defs_eq : (Cert.Ffn.defs (F := Bits) : Defs Cert.FfnIdeal.nD Cert.FfnIdeal.τ Cert.FfnIdeal.sig (Elt Bits) (Pipeline.Sig Cert.FfnIdeal.Λ₀ (Fin 1) fun p => (Cert.FfnIdeal.pcfgs (F := Bits) p).Adm)) = Cert.FfnIdeal.defs (F := Bits) := by
  unfold Cert.Ffn.defs Cert.FfnIdeal.defs
  exact congrArg (Pipeline.defs (Cert.FfnIdeal.pcfgs (F := Bits))) defs₀_eq

/-- The frame of the program on machine floats. -/
theorem frame_bits: (@Cert.quiescent_Ffn Cert.Ffn.Gen.facts) := by
  unfold Cert.quiescent_Ffn
  intro m ρ _
  have h := Cert.FfnIdeal.Gen.frame (F := Bits) m ρ
  rw [← defs_eq] at h
  exact h

end Cert.Proof.Ffn

end
-- ==== Proof.Ffn.Math.lean ====
/- The gradient of the half-step feed-forward block  x + ½ (silu(n wg) * (n wu)) wd,  n = x / rms(x) * gain,
   in plain words, and why two ways of writing it agree on finite numbers.

   `dout` is the gradient at the block's result. `dh` is the gradient at the product of the two halves, `dg` and `du` those at
   `n wg` and `n wu`, `dn` that at the normalised rows `n`; `dx` and `dgain` are the gradients of `x` and of the gain. -/
module

public import Idealize.ShloMosaic.Lib.Pipeline.ValueKit

@[expose] public section

noncomputable section

namespace Ffn

open Idealize.ShloMosaic

/-- An array of `a` rows and `b` columns of extended reals. -/
abbrev Mat (a b : ℕ) := (⟨2, ![a, b]⟩ : Shape).Idx → EReal

/-- The constants of both programs: one half, one, the width 1024 and the norm's small summand. -/
abbrev half : EReal := Ideal.ofBits .f32 0x3F000000#32
abbrev one : EReal := Ideal.ofBits .f32 0x3F800000#32
abbrev width : EReal := Ideal.ofBits .f32 0x44800000#32
abbrev eps : EReal := Ideal.ofBits .f32 0x358637BD#32
abbrev mhalf : EReal := Ideal.ofBits .f32 0xBF000000#32

section Defs

variable (dout x : Mat 4096 1024) (gain : Mat 1 1024) (wg wu : Mat 1024 2816) (wd : Mat 2816 1024)

/-- The mean square of a row and the small summand. -/
def var (r : Fin 4096) : EReal := Ideal.div (∑ k : Fin 1024, x (ix2 r k) * x (ix2 r k)) width + eps

/-- One over the root mean square of a row. -/
def rr (r : Fin 4096) : EReal := Ideal.rsqrt (var x r)

/-- A row before the gate's or the other half's function. -/
def pre (w : Mat 1024 2816) (r : Fin 4096) (f : Fin 2816) : EReal :=
  ∑ k : Fin 1024, x (ix2 r k) * rr x r * gain (ix2 0 k) * w (ix2 k f)

/-- The logistic function. -/
def sg (a : EReal) : EReal := Ideal.div one (one + Ideal.exp (-a))

/-- The gradient at the product of the two halves. -/
def dh (r : Fin 4096) (f : Fin 2816) : EReal := ∑ k : Fin 1024, half * dout (ix2 r k) * wd (ix2 f k)

/-- The gradient at the gate's row, from `dh`, the gate's row and the other half's row. -/
def gate (h g u : EReal) : EReal := h * u * sg g * (one + g * (one - sg g))

/-- The same as the chain rule writes it. -/
def gate' (h g u : EReal) : EReal := h * u * sg g + g * (h * u) * (sg g * (one - sg g))

/-- The gradient at the other half's row. -/
def up (h g : EReal) : EReal := h * g * sg g

/-- The gradient at the normalised rows. -/
def dn (dg du : Fin 4096 → Fin 2816 → EReal) (r : Fin 4096) (k : Fin 1024) : EReal :=
  ∑ f : Fin 2816, dg r f * wg (ix2 k f) + ∑ f : Fin 2816, du r f * wu (ix2 k f)

/-- The gradient of the gain. -/
def dgain (d : Fin 4096 → Fin 1024 → EReal) (k : Fin 1024) : EReal := ∑ r : Fin 4096, d r k * (x (ix2 r k) * rr x r)

/-- The gradient of `x`: the row, less its part along the normalised row. -/
def dx (d : Fin 4096 → Fin 1024 → EReal) (r : Fin 4096) (k : Fin 1024) : EReal :=
  dout (ix2 r k) + rr x r * (d r k * gain (ix2 0 k)
    - x (ix2 r k) * rr x r * Ideal.div (∑ j : Fin 1024, d r j * gain (ix2 0 j) * (x (ix2 r j) * rr x r)) width)

/-- What the chain rule gives for each of the two factors of a square, from the inverse root's derivative. -/
def corr (d : Fin 4096 → Fin 1024 → EReal) (r : Fin 4096) : EReal :=
  Ideal.div ((∑ j : Fin 1024, x (ix2 r j) * (d r j * gain (ix2 0 j))) * (mhalf * Ideal.div (rr x r) (var x r))) width

/-- The gradient of `x` as the chain rule writes it. -/
def dx' (d : Fin 4096 → Fin 1024 → EReal) (r : Fin 4096) (k : Fin 1024) : EReal :=
  dout (ix2 r k) + d r k * gain (ix2 0 k) * rr x r + corr x gain d r * x (ix2 r k) + x (ix2 r k) * corr x gain d r

end Defs

/-! ### Finite numbers -/

/-- A finite number. -/
def IsReal (a : EReal) : Prop := ∃ r : ℝ, a = (r : EReal)

theorem IsReal.add {a b : EReal} (ha : IsReal a) (hb : IsReal b) : IsReal (a + b) := by
  obtain ⟨x, rfl⟩ := ha; obtain ⟨y, rfl⟩ := hb; exact ⟨x + y, rfl⟩

theorem IsReal.mul {a b : EReal} (ha : IsReal a) (hb : IsReal b) : IsReal (a * b) := by
  obtain ⟨x, rfl⟩ := ha; obtain ⟨y, rfl⟩ := hb; exact ⟨x * y, rfl⟩

theorem IsReal.sub {a b : EReal} (ha : IsReal a) (hb : IsReal b) : IsReal (a - b) := by
  obtain ⟨x, rfl⟩ := ha; obtain ⟨y, rfl⟩ := hb; exact ⟨x - y, rfl⟩

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

theorem IsReal.sum {n : ℕ} {f : Fin n → EReal} (h : ∀ k, IsReal (f k)) : IsReal (∑ k, f k) := by
  choose g hg using h
  exact ⟨∑ k, g k, by rw [coe_sum]; exact Finset.sum_congr rfl fun k _ => hg k⟩

/-- A quotient by a real that is not zero. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem half_eq : half = ((1 / 2 : ℝ) : EReal) := by
  simp [Ideal.ofBits, Ideal.ieee]
  rw [← EReal.coe_mul]
  norm_num

theorem mhalf_eq : mhalf = ((-(1 / 2) : ℝ) : EReal) := by
  simp [Ideal.ofBits, Ideal.ieee]
  rw [← EReal.coe_mul]
  norm_num

theorem one_eq : one = ((1 : ℝ) : EReal) := by
  simp [Ideal.ofBits, Ideal.ieee]

theorem width_eq : width = ((1024 : ℝ) : EReal) := by
  simp [Ideal.ofBits, Ideal.ieee]
  rw [← EReal.coe_mul]
  norm_num

theorem eps_pos : ∃ e : ℝ, 0 < e ∧ eps = (e : EReal) := by
  refine ⟨8796093 * (2 : ℝ) ^ (-43 : ℤ), by positivity, ?_⟩
  simp [Ideal.ofBits, Ideal.ieee]

/-- The logistic function of a real. -/
theorem sg_coe (a : ℝ) : sg (a : EReal) = ((1 / (1 + Real.exp (-a)) : ℝ) : EReal) := by
  unfold sg
  rw [one_eq, ← EReal.coe_neg]
  show Ideal.div _ (_ + ((Real.exp (-a) : ℝ) : EReal)) = _
  rw [← EReal.coe_add, div_coe]
  positivity

theorem IsReal.sg {a : EReal} (h : IsReal a) : IsReal (sg a) := by
  obtain ⟨r, rfl⟩ := h; exact ⟨_, sg_coe r⟩

/-- The two ways of writing the gate's gradient agree on finite numbers. -/
theorem gate_eq {h g u : EReal} (hh : IsReal h) (hg : IsReal g) (hu : IsReal u) : gate' h g u = gate h g u := by
  unfold gate gate'
  obtain ⟨s, hs⟩ := hg.sg
  obtain ⟨h, rfl⟩ := hh; obtain ⟨g, rfl⟩ := hg; obtain ⟨u, rfl⟩ := hu
  rw [hs, one_eq]
  simp only [← EReal.coe_mul, ← EReal.coe_add, ← EReal.coe_sub]
  congr 1
  ring

section Rows

variable {dout x : Mat 4096 1024} {gain : Mat 1 1024}

/-- The mean square and the small summand are a positive number; one over its root. -/
theorem var_pos (hx : ∀ i, IsReal (x i)) (r : Fin 4096) :
    ∃ v : ℝ, 0 < v ∧ var x r = (v : EReal) ∧ rr x r = (((Real.sqrt v)⁻¹ : ℝ) : EReal) := by
  choose f hf using hx
  obtain ⟨e, he, hee⟩ := eps_pos
  have h0 : 0 ≤ (∑ k : Fin 1024, f (ix2 r k) * f (ix2 r k)) / 1024 :=
    div_nonneg (Finset.sum_nonneg fun k _ => mul_self_nonneg _) (by norm_num)
  have hv : var x r = (((∑ k : Fin 1024, f (ix2 r k) * f (ix2 r k)) / 1024 + e : ℝ) : EReal) := by
    unfold var
    rw [hee, width_eq, EReal.coe_add, ← div_coe _ _ (by norm_num), coe_sum]
    simp only [hf, EReal.coe_mul]
  have hp : 0 < (∑ k : Fin 1024, f (ix2 r k) * f (ix2 r k)) / 1024 + e := by linarith
  refine ⟨_, hp, hv, ?_⟩
  unfold rr
  rw [hv]
  show (if _ then _ else _ : EReal) = _
  rw [if_neg (by linarith), if_neg (by linarith)]

theorem rr_real (hx : ∀ i, IsReal (x i)) (r : Fin 4096) : IsReal (rr x r) := by
  obtain ⟨v, -, -, h⟩ := var_pos hx r; exact ⟨_, h⟩

theorem pre_real {w : Mat 1024 2816} (hx : ∀ i, IsReal (x i)) (hgain : ∀ i, IsReal (gain i)) (hw : ∀ i, IsReal (w i))
    (r : Fin 4096) (f : Fin 2816) : IsReal (pre x gain w r f) :=
  IsReal.sum fun _ => (((hx _).mul (rr_real hx r)).mul (hgain _)).mul (hw _)

theorem dh_real {wd : Mat 2816 1024} (hd : ∀ i, IsReal (dout i)) (hw : ∀ i, IsReal (wd i)) (r : Fin 4096) (f : Fin 2816) :
    IsReal (dh dout wd r f) :=
  IsReal.sum fun _ => (IsReal.mul ⟨_, half_eq⟩ (hd _)).mul (hw _)

theorem up_real {h g : EReal} (hh : IsReal h) (hg : IsReal g) : IsReal (up h g) := (hh.mul hg).mul hg.sg

theorem gate_real {h g u : EReal} (hh : IsReal h) (hg : IsReal g) (hu : IsReal u) : IsReal (gate h g u) :=
  ((hh.mul hu).mul hg.sg).mul (IsReal.add ⟨_, one_eq⟩ (hg.mul (IsReal.sub ⟨_, one_eq⟩ hg.sg)))

theorem dn_real {wg wu : Mat 1024 2816} {dg du : Fin 4096 → Fin 2816 → EReal} (hg : ∀ i, IsReal (wg i))
    (hu : ∀ i, IsReal (wu i)) (hdg : ∀ r f, IsReal (dg r f)) (hdu : ∀ r f, IsReal (du r f)) (r : Fin 4096) (k : Fin 1024) :
    IsReal (dn wg wu dg du r k) :=
  (IsReal.sum fun _ => (hdg _ _).mul (hg _)).add (IsReal.sum fun _ => (hdu _ _).mul (hu _))

/-- The two ways of writing the gradient of `x` agree on finite numbers. -/
theorem dx_eq {d : Fin 4096 → Fin 1024 → EReal} (hx : ∀ i, IsReal (x i)) (hdout : ∀ i, IsReal (dout i))
    (hgain : ∀ i, IsReal (gain i)) (hd : ∀ r k, IsReal (d r k)) (r : Fin 4096) (k : Fin 1024) :
    dx' dout x gain d r k = dx dout x gain d r k := by
  obtain ⟨v, hv, hvar, hrr⟩ := var_pos hx r
  choose fx hfx using hx
  choose fo hfo using hdout
  choose fg hfg using hgain
  choose fd hfd using hd
  unfold dx dx' corr
  rw [hrr, hvar, div_coe _ _ hv.ne', mhalf_eq, width_eq]
  simp only [hfx, hfo, hfg, hfd, ← EReal.coe_mul, ← coe_sum]
  rw [div_coe _ _ (by norm_num), div_coe _ _ (by norm_num)]
  simp only [← EReal.coe_mul, ← EReal.coe_add, ← EReal.coe_sub]
  congr 1
  have hs : (∑ j : Fin 1024, fd r j * fg (ix2 0 j) * (fx (ix2 r j) * (Real.sqrt v)⁻¹))
      = (∑ j : Fin 1024, fx (ix2 r j) * (fd r j * fg (ix2 0 j))) * (Real.sqrt v)⁻¹ := by
    rw [Finset.sum_mul]
    exact Finset.sum_congr rfl fun j _ => by ring
  rw [hs]
  generalize (∑ j : Fin 1024, fx (ix2 r j) * (fd r j * fg (ix2 0 j))) = T
  have hq : Real.sqrt v * Real.sqrt v = v := Real.mul_self_sqrt hv.le
  have hq0 : Real.sqrt v ≠ 0 := (Real.sqrt_pos.2 hv).ne'
  generalize Real.sqrt v = q at hq hq0
  subst hq
  field_simp
  ring

end Rows

end Ffn

end
-- ==== Proof.Ffn.Slab.lean ====
/- The weights as the kernel's three scratch arrays hold them: brought in from one array, in which the three weights lie
   side by side, in eight slabs of 352 rows. -/
module

public import proofs.«01_k».proof.Proof.Ffn.Frame
public import proofs.«01_k».proof.Proof.Ffn.Math
public import Idealize.ShloMosaic.Lib.WritesUnit

@[expose] public section

set_option maxRecDepth 16384

noncomputable section

namespace Cert.FfnIdeal.Ffn

open Cert.FfnIdeal Cert.FfnIdeal.Gen Idealize.ShloMosaic Idealize.ShloMosaic.TcCoe Idealize.SL.Sem
open Idealize.ShloMosaic.Pipeline (Dat)
open _root_.Ffn (Mat)

variable (m : (ℓ : Loc nD τ sig) → Buf (Elt Ideal) ℓ)

/-- The argument arrays. -/
abbrev dout (c : Dev nD) : Mat 4096 1024 := m ((c : Thread nD τ).loc main_arg0)
abbrev x (c : Dev nD) : Mat 4096 1024 := m ((c : Thread nD τ).loc main_arg1)
abbrev gain (c : Dev nD) : Mat 1 1024 := m ((c : Thread nD τ).loc main_arg2)
abbrev wg (c : Dev nD) : Mat 1024 2816 := m ((c : Thread nD τ).loc main_arg3)
abbrev wu (c : Dev nD) : Mat 1024 2816 := m ((c : Thread nD τ).loc main_arg4)
abbrev wd (c : Dev nD) : Mat 2816 1024 := m ((c : Thread nD τ).loc main_arg5)

/-- The windows' block numbers at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, 0] ∧ t.val < 16 :=
  (by decide +kernel : ∀ t : Fin grid0.N, _)

/-- A slab of one weight, read through the slice that is copied. -/
theorem slab_read (W : S8x1056x1024.Idx → EReal) (k off : ℕ) (hk : k < 8) (ho : off + 352 ≤ 1056)
    (hb : ∀ a, (![k, off, 0] : Fin 3 → ℕ) a + (![1, 352, 1024] : Fin 3 → ℕ) a ≤ S8x1056x1024.size a)
    (hr : S352x1024.numel = (⟨3, ![1, 352, 1024]⟩ : Shape).numel) (a : Fin 352) (b : Fin 1024) :
    View.read (Elt Ideal) (((View.whole main_v18 : View sig .tc _ S8x1056x1024 _).slice (Rect.unit ![k, off, 0] ![1, 352, 1024] hb)).reshape S352x1024 hr) W (ix2 a b)
      = W (ix3 ⟨k, hk⟩ ⟨off + a.val, by omega⟩ b) := by
  have e : Shape.reshapeEquiv hr (ix2 a b) = (ix3 0 a b : (⟨3, ![1, 352, 1024]⟩ : Shape).Idx) :=
    Shape.reshapeEquiv_eq_of_vals hr _ _ (a.val * 1024 + b.val) (a.val * 1024 + b.val)
      ((rowMajor_val3 _ 360448 1024 rfl rfl).trans (by simp)) ((rowMajor_val2 _ 1024 rfl).trans (by simp)) rfl
  show W _ = W _
  congr 1
  rw [View.emb_reshape]
  refine (congrArg ((View.whole main_v18 : View sig .tc _ S8x1056x1024 _).slice (Rect.unit ![k, off, 0] ![1, 352, 1024] hb)).emb e).trans ?_
  funext z
  fin_cases z <;> apply Fin.ext <;> simp

/-- Three arrays of eight slabs, side by side. -/
def beside (a b d : FVec Ideal S8x352x1024 .f32) : FVec Ideal S8x1056x1024 .bf16 :=
  truncf .bf16 (concatenate S8x1056x1024 1 [⟨S8x352x1024, a⟩, ⟨S8x352x1024, b⟩, ⟨S8x352x1024, d⟩] concatenates_S8x352x1024_S8x352x1024_S8x352x1024_S8x1056x1024_d1 : FVec Ideal S8x1056x1024 .f32) bitsLt_bf16_f32

/-- Three weights, cut in slabs and side by side. -/
def side (a b d : FVec Ideal S2816x1024 .f32) : FVec Ideal S8x1056x1024 .bf16 :=
  beside (shapeCast _ a shapeCasts_S2816x1024_S8x352x1024) (shapeCast _ b shapeCasts_S2816x1024_S8x352x1024) (shapeCast _ d shapeCasts_S2816x1024_S8x352x1024)

theorem side_row (a b d : FVec Ideal S2816x1024 .f32) (s : Fin 8) (r : Fin 1056) (q : Fin 1024) :
    side a b d (ix3 s r q) = if h : r.val < 352 then a (ix2 ⟨s.val * 352 + r.val, by omega⟩ q)
      else if h' : r.val - 352 < 352 then b (ix2 ⟨s.val * 352 + (r.val - 352), by omega⟩ q)
      else d (ix2 ⟨s.val * 352 + (r.val - 352 - 352), by omega⟩ q) := by
  pointwise [side, beside]

set_option maxHeartbeats 2000000 in
theorem wall_eq (c : Dev nD) : Gen.V m c main_v18 = side (transpose S2816x1024 [1, 0] (wg m c : FVec Ideal S1024x2816 .f32) transposes_S1024x2816_S2816x1024_1_0)
    (transpose S2816x1024 [1, 0] (wu m c : FVec Ideal S1024x2816 .f32) transposes_S1024x2816_S2816x1024_1_0) (wd m c : FVec Ideal S2816x1024 .f32) := by
  refine Eq.trans (b := beside (Gen.V m c main_v13) (Gen.V m c main_v15) (Gen.V m c main_v16)) rfl ?_
  entry_read
  rfl

/-- The slabs of the weight of the gate. -/
theorem slab_wg (c : Dev nD) (k : ℕ) (hk : k < 8)
    (hb : ∀ a, (![k, 0, 0] : Fin 3 → ℕ) a + (![1, 352, 1024] : Fin 3 → ℕ) a ≤ S8x1056x1024.size a)
    (hr : S352x1024.numel = (⟨3, ![1, 352, 1024]⟩ : Shape).numel) (a : Fin 352) (b : Fin 1024) :
    View.read (Elt Ideal) (((View.whole main_v18 : View sig .tc _ S8x1056x1024 _).slice (Rect.unit ![k, 0, 0] ![1, 352, 1024] hb)).reshape S352x1024 hr) (Gen.V m c main_v18) (ix2 a b)
      = wg m c (ix2 b ⟨k * 352 + a.val, by omega⟩) := by
  rw [slab_read _ k 0 hk (by decide) hb hr a b, wall_eq, side_row]
  dsimp only
  rw [dif_pos (by omega)]
  simp only [Nat.zero_add, Nat.add_sub_cancel_left, Nat.add_sub_add_left, show 704 + a.val - 352 - 352 = a.val by omega]
  pointwise

/-- The slabs of the weight of the other half. -/
theorem slab_wu (c : Dev nD) (k : ℕ) (hk : k < 8)
    (hb : ∀ a, (![k, 352, 0] : Fin 3 → ℕ) a + (![1, 352, 1024] : Fin 3 → ℕ) a ≤ S8x1056x1024.size a)
    (hr : S352x1024.numel = (⟨3, ![1, 352, 1024]⟩ : Shape).numel) (a : Fin 352) (b : Fin 1024) :
    View.read (Elt Ideal) (((View.whole main_v18 : View sig .tc _ S8x1056x1024 _).slice (Rect.unit ![k, 352, 0] ![1, 352, 1024] hb)).reshape S352x1024 hr) (Gen.V m c main_v18) (ix2 a b)
      = wu m c (ix2 b ⟨k * 352 + a.val, by omega⟩) := by
  rw [slab_read _ k 352 hk (by decide) hb hr a b, wall_eq, side_row]
  dsimp only
  rw [dif_neg (by omega), dif_pos (by omega)]
  simp only [Nat.zero_add, Nat.add_sub_cancel_left, Nat.add_sub_add_left, show 704 + a.val - 352 - 352 = a.val by omega]
  pointwise

/-- The slabs of the weight of the way down. -/
theorem slab_wd (c : Dev nD) (k : ℕ) (hk : k < 8)
    (hb : ∀ a, (![k, 704, 0] : Fin 3 → ℕ) a + (![1, 352, 1024] : Fin 3 → ℕ) a ≤ S8x1056x1024.size a)
    (hr : S352x1024.numel = (⟨3, ![1, 352, 1024]⟩ : Shape).numel) (a : Fin 352) (b : Fin 1024) :
    View.read (Elt Ideal) (((View.whole main_v18 : View sig .tc _ S8x1056x1024 _).slice (Rect.unit ![k, 704, 0] ![1, 352, 1024] hb)).reshape S352x1024 hr) (Gen.V m c main_v18) (ix2 a b)
      = wd m c (ix2 ⟨k * 352 + a.val, by omega⟩ b) := by
  rw [slab_read _ k 704 hk (by decide) hb hr a b, wall_eq, side_row]
  dsimp only
  rw [dif_neg (by omega), dif_neg (by omega)]
  simp only [Nat.zero_add, Nat.add_sub_cancel_left, Nat.add_sub_add_left, show 704 + a.val - 352 - 352 = a.val by omega]

/-- Scratch 0, filled slab by slab, read through any rectangle. -/
theorem scr0_read (p0 p1 p2 p3 p4 p5 p6 p7 : Mat 352 1024) (T : Mat 2816 1024)
    (hp : ∀ (a : Fin 352) (b : Fin 1024), p0 (ix2 a b) = T (ix2 ⟨0 * 352 + a.val, by omega⟩ b) ∧ p1 (ix2 a b) = T (ix2 ⟨1 * 352 + a.val, by omega⟩ b)
      ∧ p2 (ix2 a b) = T (ix2 ⟨2 * 352 + a.val, by omega⟩ b) ∧ p3 (ix2 a b) = T (ix2 ⟨3 * 352 + a.val, by omega⟩ b)
      ∧ p4 (ix2 a b) = T (ix2 ⟨4 * 352 + a.val, by omega⟩ b) ∧ p5 (ix2 a b) = T (ix2 ⟨5 * 352 + a.val, by omega⟩ b)
      ∧ p6 (ix2 a b) = T (ix2 ⟨6 * 352 + a.val, by omega⟩ b) ∧ p7 (ix2 a b) = T (ix2 ⟨7 * 352 + a.val, by omega⟩ b))
    (r : Rect S2816x1024) (j : r.toLoadRect.shape.Idx) :
    (View.whole cc0_scratch0 : View sig .tc _ S2816x1024 _).readCov (Val := Elt Ideal)
        [⟨Rect.unit ![2464, 0] ![352, 1024] inb_S2816x1024_S352x1024_2464_0, p7⟩, ⟨Rect.unit ![2112, 0] ![352, 1024] inb_S2816x1024_S352x1024_2112_0, p6⟩, ⟨Rect.unit ![1760, 0] ![352, 1024] inb_S2816x1024_S352x1024_1760_0, p5⟩, ⟨Rect.unit ![1408, 0] ![352, 1024] inb_S2816x1024_S352x1024_1408_0, p4⟩, ⟨Rect.unit ![1056, 0] ![352, 1024] inb_S2816x1024_S352x1024_1056_0, p3⟩, ⟨Rect.unit ![704, 0] ![352, 1024] inb_S2816x1024_S352x1024_704_0, p2⟩, ⟨Rect.unit ![352, 0] ![352, 1024] inb_S2816x1024_S352x1024_352_0, p1⟩, ⟨Rect.unit ![0, 0] ![352, 1024] inb_S2816x1024_S352x1024_0_0, p0⟩] r.toLoadRect j = T (r.toLoadRect.idx j) := by
  rw [View.readCov_eq_canon']
  dsimp only
  generalize r.toLoadRect.idx j = y
  canon_tiles x h
  · idx_vars x
    refine (hp x0 x1).2.2.2.2.2.2.2.trans (congrArg T ?_)
    blk_ext
  · idx_vars x
    refine (hp x0 x1).2.2.2.2.2.2.1.trans (congrArg T ?_)
    blk_ext
  · idx_vars x
    refine (hp x0 x1).2.2.2.2.2.1.trans (congrArg T ?_)
    blk_ext
  · idx_vars x
    refine (hp x0 x1).2.2.2.2.1.trans (congrArg T ?_)
    blk_ext
  · idx_vars x
    refine (hp x0 x1).2.2.2.1.trans (congrArg T ?_)
    blk_ext
  · idx_vars x
    refine (hp x0 x1).2.2.1.trans (congrArg T ?_)
    blk_ext
  · idx_vars x
    refine (hp x0 x1).2.1.trans (congrArg T ?_)
    blk_ext
  · idx_vars x
    refine (hp x0 x1).1.trans (congrArg T ?_)
    blk_ext

/-- Scratch 1, filled slab by slab, read through any rectangle. -/
theorem scr1_read (p0 p1 p2 p3 p4 p5 p6 p7 : Mat 352 1024) (T : Mat 2816 1024)
    (hp : ∀ (a : Fin 352) (b : Fin 1024), p0 (ix2 a b) = T (ix2 ⟨0 * 352 + a.val, by omega⟩ b) ∧ p1 (ix2 a b) = T (ix2 ⟨1 * 352 + a.val, by omega⟩ b)
      ∧ p2 (ix2 a b) = T (ix2 ⟨2 * 352 + a.val, by omega⟩ b) ∧ p3 (ix2 a b) = T (ix2 ⟨3 * 352 + a.val, by omega⟩ b)
      ∧ p4 (ix2 a b) = T (ix2 ⟨4 * 352 + a.val, by omega⟩ b) ∧ p5 (ix2 a b) = T (ix2 ⟨5 * 352 + a.val, by omega⟩ b)
      ∧ p6 (ix2 a b) = T (ix2 ⟨6 * 352 + a.val, by omega⟩ b) ∧ p7 (ix2 a b) = T (ix2 ⟨7 * 352 + a.val, by omega⟩ b))
    (r : Rect S2816x1024) (j : r.toLoadRect.shape.Idx) :
    (View.whole cc0_scratch1 : View sig .tc _ S2816x1024 _).readCov (Val := Elt Ideal)
        [⟨Rect.unit ![2464, 0] ![352, 1024] inb_S2816x1024_S352x1024_2464_0, p7⟩, ⟨Rect.unit ![2112, 0] ![352, 1024] inb_S2816x1024_S352x1024_2112_0, p6⟩, ⟨Rect.unit ![1760, 0] ![352, 1024] inb_S2816x1024_S352x1024_1760_0, p5⟩, ⟨Rect.unit ![1408, 0] ![352, 1024] inb_S2816x1024_S352x1024_1408_0, p4⟩, ⟨Rect.unit ![1056, 0] ![352, 1024] inb_S2816x1024_S352x1024_1056_0, p3⟩, ⟨Rect.unit ![704, 0] ![352, 1024] inb_S2816x1024_S352x1024_704_0, p2⟩, ⟨Rect.unit ![352, 0] ![352, 1024] inb_S2816x1024_S352x1024_352_0, p1⟩, ⟨Rect.unit ![0, 0] ![352, 1024] inb_S2816x1024_S352x1024_0_0, p0⟩] r.toLoadRect j = T (r.toLoadRect.idx j) := by
  rw [View.readCov_eq_canon']
  dsimp only
  generalize r.toLoadRect.idx j = y
  canon_tiles x h
  · idx_vars x
    refine (hp x0 x1).2.2.2.2.2.2.2.trans (congrArg T ?_)
    blk_ext
  · idx_vars x
    refine (hp x0 x1).2.2.2.2.2.2.1.trans (congrArg T ?_)
    blk_ext
  · idx_vars x
    refine (hp x0 x1).2.2.2.2.2.1.trans (congrArg T ?_)
    blk_ext
  · idx_vars x
    refine (hp x0 x1).2.2.2.2.1.trans (congrArg T ?_)
    blk_ext
  · idx_vars x
    refine (hp x0 x1).2.2.2.1.trans (congrArg T ?_)
    blk_ext
  · idx_vars x
    refine (hp x0 x1).2.2.1.trans (congrArg T ?_)
    blk_ext
  · idx_vars x
    refine (hp x0 x1).2.1.trans (congrArg T ?_)
    blk_ext
  · idx_vars x
    refine (hp x0 x1).1.trans (congrArg T ?_)
    blk_ext

/-- Scratch 2, filled slab by slab, read through any rectangle. -/
theorem scr2_read (p0 p1 p2 p3 p4 p5 p6 p7 : Mat 352 1024) (T : Mat 2816 1024)
    (hp : ∀ (a : Fin 352) (b : Fin 1024), p0 (ix2 a b) = T (ix2 ⟨0 * 352 + a.val, by omega⟩ b) ∧ p1 (ix2 a b) = T (ix2 ⟨1 * 352 + a.val, by omega⟩ b)
      ∧ p2 (ix2 a b) = T (ix2 ⟨2 * 352 + a.val, by omega⟩ b) ∧ p3 (ix2 a b) = T (ix2 ⟨3 * 352 + a.val, by omega⟩ b)
      ∧ p4 (ix2 a b) = T (ix2 ⟨4 * 352 + a.val, by omega⟩ b) ∧ p5 (ix2 a b) = T (ix2 ⟨5 * 352 + a.val, by omega⟩ b)
      ∧ p6 (ix2 a b) = T (ix2 ⟨6 * 352 + a.val, by omega⟩ b) ∧ p7 (ix2 a b) = T (ix2 ⟨7 * 352 + a.val, by omega⟩ b))
    (r : Rect S2816x1024) (j : r.toLoadRect.shape.Idx) :
    (View.whole cc0_scratch2 : View sig .tc _ S2816x1024 _).readCov (Val := Elt Ideal)
        [⟨Rect.unit ![2464, 0] ![352, 1024] inb_S2816x1024_S352x1024_2464_0, p7⟩, ⟨Rect.unit ![2112, 0] ![352, 1024] inb_S2816x1024_S352x1024_2112_0, p6⟩, ⟨Rect.unit ![1760, 0] ![352, 1024] inb_S2816x1024_S352x1024_1760_0, p5⟩, ⟨Rect.unit ![1408, 0] ![352, 1024] inb_S2816x1024_S352x1024_1408_0, p4⟩, ⟨Rect.unit ![1056, 0] ![352, 1024] inb_S2816x1024_S352x1024_1056_0, p3⟩, ⟨Rect.unit ![704, 0] ![352, 1024] inb_S2816x1024_S352x1024_704_0, p2⟩, ⟨Rect.unit ![352, 0] ![352, 1024] inb_S2816x1024_S352x1024_352_0, p1⟩, ⟨Rect.unit ![0, 0] ![352, 1024] inb_S2816x1024_S352x1024_0_0, p0⟩] r.toLoadRect j = T (r.toLoadRect.idx j) := by
  rw [View.readCov_eq_canon']
  dsimp only
  generalize r.toLoadRect.idx j = y
  canon_tiles x h
  · idx_vars x
    refine (hp x0 x1).2.2.2.2.2.2.2.trans (congrArg T ?_)
    blk_ext
  · idx_vars x
    refine (hp x0 x1).2.2.2.2.2.2.1.trans (congrArg T ?_)
    blk_ext
  · idx_vars x
    refine (hp x0 x1).2.2.2.2.2.1.trans (congrArg T ?_)
    blk_ext
  · idx_vars x
    refine (hp x0 x1).2.2.2.2.1.trans (congrArg T ?_)
    blk_ext
  · idx_vars x
    refine (hp x0 x1).2.2.2.1.trans (congrArg T ?_)
    blk_ext
  · idx_vars x
    refine (hp x0 x1).2.2.1.trans (congrArg T ?_)
    blk_ext
  · idx_vars x
    refine (hp x0 x1).2.1.trans (congrArg T ?_)
    blk_ext
  · idx_vars x
    refine (hp x0 x1).1.trans (congrArg T ?_)
    blk_ext

end Cert.FfnIdeal.Ffn

end
-- ==== Proof.Ffn.Chunk.lean ====
/- The kernel's arithmetic on one chunk of 256 columns, in plain arrays: the eleven chunks are the same functions of their
   own loads, and the gradient at the normalised rows is summed chunk by chunk. -/
module

public import proofs.«01_k».proof.Proof.Ffn.Slab

@[expose] public section

set_option maxRecDepth 16384

noncomputable section

namespace Ffn

open Idealize.ShloMosaic

/-- The sum of two rows of 2816 over their first `n` chunks of 256. -/
def part (f g : Fin 2816 → EReal) : (n : ℕ) → n ≤ 11 → EReal
  | 0, _ => 0
  | n + 1, h => part f g n (by omega) + ∑ b : Fin 256, f ⟨n * 256 + b.val, by omega⟩ + ∑ b : Fin 256, g ⟨n * 256 + b.val, by omega⟩

theorem part_eq (f g : Fin 2816 → EReal) (n : ℕ) (h : n ≤ 11) : part f g n h
    = ∑ j : Fin n, ∑ b : Fin 256, f ⟨j.val * 256 + b.val, by omega⟩ + ∑ j : Fin n, ∑ b : Fin 256, g ⟨j.val * 256 + b.val, by omega⟩ := by
  induction n with
  | zero => simp [part]
  | succ n ih =>
    have e (q : Fin 2816 → EReal) : ∑ j : Fin (n + 1), ∑ b : Fin 256, q ⟨j.val * 256 + b.val, by omega⟩
        = ∑ j : Fin n, ∑ b : Fin 256, q ⟨j.val * 256 + b.val, by omega⟩ + ∑ b : Fin 256, q ⟨n * 256 + b.val, by omega⟩ :=
      Fin.sum_univ_castSucc (fun j : Fin (n + 1) => ∑ b : Fin 256, q ⟨j.val * 256 + b.val, by omega⟩)
    rw [part, ih, e, e, add_assoc, add_add_add_comm]

/-- All eleven chunks are the whole rows. -/
theorem part_all (f g : Fin 2816 → EReal) : part f g 11 le_rfl = ∑ k, f k + ∑ k, g k := by
  rw [part_eq]
  exact (congrArg₂ (· + ·) (Fin.sum_univ_tiles 11 256 rfl f) (Fin.sum_univ_tiles 11 256 rfl g)).symm

end Ffn

namespace Cert.FfnIdeal.Ffn

open Cert.FfnIdeal Cert.FfnIdeal.Gen Idealize.ShloMosaic Idealize.ShloMosaic.TcCoe Idealize.SL.Sem
open _root_.Ffn (Mat)

/-! ### The functions of one chunk -/

def CH (P D : FVec Ideal S256x1024 .bf16) : FVec Ideal S256x256 .f32 :=
  matmul dot_S256x1024_S256x1024_S256x256_1_1_0_0_n_n none P D (constant S256x256 .f32 0x00000000#32)

def EX (G : FVec Ideal S256x256 .bf16) : FVec Ideal S256x256 .f32 := extf .f32 (shapeCast S256x256 G shapeCasts_S256x256_S256x256) bitsLt_bf16_f32

def SK (G : FVec Ideal S256x256 .bf16) : FVec Ideal S256x256 .f32 :=
  divf (broadcast S256x256 (Scalar.ofBits .f32 0x3F800000#32)) (addf (broadcast S256x256 (Scalar.ofBits .f32 0x3F800000#32))
    (exp (subf (broadcast S256x256 (Scalar.ofBits .f32 0x00000000#32)) (EX G))))

def CG (P D : FVec Ideal S256x1024 .bf16) (G U : FVec Ideal S256x256 .bf16) : FVec Ideal S256x256 .bf16 :=
  truncf .bf16 (mulf (mulf (mulf (CH P D) (EX U)) (SK G)) (addf (broadcast S256x256 (Scalar.ofBits .f32 0x3F800000#32))
    (mulf (EX G) (subf (broadcast S256x256 (Scalar.ofBits .f32 0x3F800000#32)) (SK G))))) bitsLt_bf16_f32

def CU (P D : FVec Ideal S256x1024 .bf16) (G : FVec Ideal S256x256 .bf16) : FVec Ideal S256x256 .bf16 :=
  truncf .bf16 (mulf (mulf (CH P D) (EX G)) (SK G)) bitsLt_bf16_f32

def STO (v : FVec Ideal S256x256 .bf16) : FVec Ideal S256x256 .bf16 := shapeCast S256x256 v shapeCasts_S256x256_S256x256

def ACC (A : FVec Ideal S256x1024 .f32) (g u : FVec Ideal S256x256 .bf16) (Wg Wu : FVec Ideal S256x1024 .bf16) : FVec Ideal S256x1024 .f32 :=
  addf (addf A (matmul dot_S256x256_S256x1024_S256x1024_1_0_0_1_n_n none g Wg (constant S256x1024 .f32 0x00000000#32)))
    (matmul dot_S256x256_S256x1024_S256x1024_1_0_0_1_n_n none u Wu (constant S256x1024 .f32 0x00000000#32))

/-! ### Their entries -/

theorem CH_row (P D : FVec Ideal S256x1024 .bf16) (a b : Fin 256) : CH P D (ix2 a b) = ∑ k : Fin 1024, P (ix2 a k) * D (ix2 b k) := by
  pointwise [CH]

theorem SK_row (G : FVec Ideal S256x256 .bf16) (a b : Fin 256) : SK G (ix2 a b) = _root_.Ffn.sg (G (ix2 a b)) := by
  unfold _root_.Ffn.sg
  pointwise [SK, EX]
  simp only [zero_sub]

theorem CG_row (P D : FVec Ideal S256x1024 .bf16) (G U : FVec Ideal S256x256 .bf16) (a b : Fin 256) :
    CG P D G U (ix2 a b) = _root_.Ffn.gate (∑ k : Fin 1024, P (ix2 a k) * D (ix2 b k)) (G (ix2 a b)) (U (ix2 a b)) := by
  unfold _root_.Ffn.gate
  pointwise [CG, EX]
  rw [CH_row, SK_row]

theorem CU_row (P D : FVec Ideal S256x1024 .bf16) (G : FVec Ideal S256x256 .bf16) (a b : Fin 256) :
    CU P D G (ix2 a b) = _root_.Ffn.up (∑ k : Fin 1024, P (ix2 a k) * D (ix2 b k)) (G (ix2 a b)) := by
  unfold _root_.Ffn.up
  pointwise [CU, EX]
  rw [CH_row, SK_row]

theorem STO_row (v : FVec Ideal S256x256 .bf16) (a b : Fin 256) : STO v (ix2 a b) = v (ix2 a b) := by
  pointwise [STO]

theorem ACC_row (A : FVec Ideal S256x1024 .f32) (g u : FVec Ideal S256x256 .bf16) (Wg Wu : FVec Ideal S256x1024 .bf16) (a : Fin 256) (k : Fin 1024) :
    ACC A g u Wg Wu (ix2 a k) = A (ix2 a k) + ∑ b : Fin 256, g (ix2 a b) * Wg (ix2 b k) + ∑ b : Fin 256, u (ix2 a b) * Wu (ix2 b k) := by
  pointwise [ACC]

/-! ### One chunk at a grid point -/

variable (m : (ℓ : Loc nD τ sig) → Buf (Elt Ideal) ℓ)

/-- Row `a` of grid point `t`'s tile. -/
def row (t : Fin cfg0.N) (a : Fin 256) : Fin 4096 := ⟨t.val * 256 + a.val, by have := (idx t).2.2.2.2.2.2.2.2.2.2; omega⟩

/-- Column `b` of chunk `n`. -/
abbrev col (n : ℕ) (hn : n < 11) (b : Fin 256) : Fin 2816 := ⟨n * 256 + b.val, by omega⟩

/-- The gradients at the gate's rows and at the other half's rows. -/
def dgv (c : Dev nD) (r : Fin 4096) (f : Fin 2816) : EReal :=
  _root_.Ffn.gate (_root_.Ffn.dh (dout m c) (wd m c) r f) (_root_.Ffn.pre (x m c) (gain m c) (wg m c) r f) (_root_.Ffn.pre (x m c) (gain m c) (wu m c) r f)
def duv (c : Dev nD) (r : Fin 4096) (f : Fin 2816) : EReal :=
  _root_.Ffn.up (_root_.Ffn.dh (dout m c) (wd m c) r f) (_root_.Ffn.pre (x m c) (gain m c) (wg m c) r f)

/-- The block of `dout` at a point. -/
theorem blk_dout (c : Dev nD) (t : Fin cfg0.N) (a : Fin 256) (k : Fin 1024) :
    (iblk m c 0 t : Mat 256 1024) (ix2 a k) = dout m c (ix2 (row t a) k) := by
  unfold row
  blk_point [iblk, V, idx t]

theorem blk_x (c : Dev nD) (t : Fin cfg0.N) (a : Fin 256) (k : Fin 1024) :
    (iblk m c 3 t : Mat 256 1024) (ix2 a k) = x m c (ix2 (row t a) k) := by
  unfold row
  blk_point [iblk, V, idx t]

theorem blk_gain (c : Dev nD) (t : Fin cfg0.N) (k : Fin 1024) :
    (iblk m c 4 t : Mat 1 1024) (ix2 0 k) = gain m c (ix2 0 k) := by
  blk_point [iblk, V, idx t]

/-- The two halves' arrays, as the host makes them. -/
theorem g_row (c : Dev nD) (r : Fin 4096) (f : Fin 2816) :
    (Gen.V m c main_v20 : Mat 4096 2816) (ix2 r f) = _root_.Ffn.pre (x m c) (gain m c) (wg m c) r f := by
  unfold _root_.Ffn.pre _root_.Ffn.rr _root_.Ffn.var
  entry_read
  pointwise

theorem u_row (c : Dev nD) (r : Fin 4096) (f : Fin 2816) :
    (Gen.V m c main_v22 : Mat 4096 2816) (ix2 r f) = _root_.Ffn.pre (x m c) (gain m c) (wu m c) r f := by
  unfold _root_.Ffn.pre _root_.Ffn.rr _root_.Ffn.var
  entry_read
  pointwise

theorem blk_g (c : Dev nD) (t : Fin cfg0.N) (a : Fin 256) (f : Fin 2816) :
    (iblk m c 1 t : Mat 256 2816) (ix2 a f) = _root_.Ffn.pre (x m c) (gain m c) (wg m c) (row t a) f := by
  rw [← g_row]
  refine (show (iblk m c 1 t : Mat 256 2816) (ix2 a f) = (Gen.V m c main_v20 : Mat 4096 2816) _ from rfl).trans (congrArg _ ?_)
  unfold row
  blk_ext [idx t]

theorem blk_u (c : Dev nD) (t : Fin cfg0.N) (a : Fin 256) (f : Fin 2816) :
    (iblk m c 2 t : Mat 256 2816) (ix2 a f) = _root_.Ffn.pre (x m c) (gain m c) (wu m c) (row t a) f := by
  rw [← u_row]
  refine (show (iblk m c 2 t : Mat 256 2816) (ix2 a f) = (Gen.V m c main_v22 : Mat 4096 2816) _ from rfl).trans (congrArg _ ?_)
  unfold row
  blk_ext [idx t]

/-- A chunk of the gradient at the gate's rows. -/
theorem dg_chunk (c : Dev nD) (t : Fin cfg0.N) (n : ℕ) (hn : n < 11) (D : FVec Ideal S256x1024 .bf16) (G U : FVec Ideal S256x256 .bf16)
    (hD : ∀ (a : Fin 256) (k : Fin 1024), D (ix2 a k) = wd m c (ix2 (col n hn a) k))
    (hG : ∀ a b : Fin 256, G (ix2 a b) = _root_.Ffn.pre (x m c) (gain m c) (wg m c) (row t a) (col n hn b))
    (hU : ∀ a b : Fin 256, U (ix2 a b) = _root_.Ffn.pre (x m c) (gain m c) (wu m c) (row t a) (col n hn b)) (a b : Fin 256) :
    CG (k0_pay2 (F := Ideal) (iblk m c 0 t)) D G U (ix2 a b) = dgv m c (row t a) (col n hn b) := by
  rw [CG_row]
  unfold dgv _root_.Ffn.dh
  rw [hG, hU]
  refine congrArg (fun h => _root_.Ffn.gate h _ _) (Finset.sum_congr rfl fun k _ => ?_)
  rw [hD, ← blk_dout]
  pointwise [k0_pay2]

/-- A chunk of the gradient at the other half's rows. -/
theorem du_chunk (c : Dev nD) (t : Fin cfg0.N) (n : ℕ) (hn : n < 11) (D : FVec Ideal S256x1024 .bf16) (G : FVec Ideal S256x256 .bf16)
    (hD : ∀ (a : Fin 256) (k : Fin 1024), D (ix2 a k) = wd m c (ix2 (col n hn a) k))
    (hG : ∀ a b : Fin 256, G (ix2 a b) = _root_.Ffn.pre (x m c) (gain m c) (wg m c) (row t a) (col n hn b)) (a b : Fin 256) :
    CU (k0_pay2 (F := Ideal) (iblk m c 0 t)) D G (ix2 a b) = duv m c (row t a) (col n hn b) := by
  rw [CU_row]
  unfold duv _root_.Ffn.dh
  rw [hG]
  refine congrArg (fun h => _root_.Ffn.up h _) (Finset.sum_congr rfl fun k _ => ?_)
  rw [hD, ← blk_dout]
  pointwise [k0_pay2]

/-- The gradient at the normalised rows after `n` chunks. -/
def dnp (c : Dev nD) (n : ℕ) (hn : n ≤ 11) (r : Fin 4096) (k : Fin 1024) : EReal :=
  _root_.Ffn.part (fun f => dgv m c r f * wg m c (ix2 k f)) (fun f => duv m c r f * wu m c (ix2 k f)) n hn

theorem acc_chunk (c : Dev nD) (t : Fin cfg0.N) (n : ℕ) (hn : n < 11) (A : FVec Ideal S256x1024 .f32) (D Wg Wu : FVec Ideal S256x1024 .bf16) (G U : FVec Ideal S256x256 .bf16)
    (hD : ∀ (a : Fin 256) (k : Fin 1024), D (ix2 a k) = wd m c (ix2 (col n hn a) k))
    (hG : ∀ a b : Fin 256, G (ix2 a b) = _root_.Ffn.pre (x m c) (gain m c) (wg m c) (row t a) (col n hn b))
    (hU : ∀ a b : Fin 256, U (ix2 a b) = _root_.Ffn.pre (x m c) (gain m c) (wu m c) (row t a) (col n hn b))
    (hWg : ∀ (a : Fin 256) (k : Fin 1024), Wg (ix2 a k) = wg m c (ix2 k (col n hn a)))
    (hWu : ∀ (a : Fin 256) (k : Fin 1024), Wu (ix2 a k) = wu m c (ix2 k (col n hn a)))
    (hA : ∀ (a : Fin 256) (k : Fin 1024), A (ix2 a k) = dnp m c n (by omega) (row t a) k) (a : Fin 256) (k : Fin 1024) :
    ACC A (CG (k0_pay2 (F := Ideal) (iblk m c 0 t)) D G U) (CU (k0_pay2 (F := Ideal) (iblk m c 0 t)) D G) Wg Wu (ix2 a k)
      = dnp m c (n + 1) hn (row t a) k := by
  rw [ACC_row, hA]
  unfold dnp
  rw [_root_.Ffn.part]
  simp only [dg_chunk m c t n hn D G U hD hG hU, du_chunk m c t n hn D G hD hG, hWg, hWu]

end Cert.FfnIdeal.Ffn

end
-- ==== Proof.Ffn.Scratch.lean ====
/- What one grid point of the kernel leaves in its windows and scratch arrays. -/
module

public import proofs.«01_k».proof.Proof.Ffn.Chunk
public import Idealize.ShloMosaic.Lib.Pipeline.ReadBack

@[expose] public section

set_option maxRecDepth 16384

noncomputable section

namespace Cert.FfnIdeal.Ffn

open Cert.FfnIdeal Cert.FfnIdeal.Gen Idealize.ShloMosaic Idealize.ShloMosaic.TcCoe Idealize.SL.Sem
open _root_.Ffn (Mat)

variable (m : (ℓ : Loc nD τ sig) → Buf (Elt Ideal) ℓ)

/-- A weight transposed. -/
def WT (w : Mat 1024 2816) : Mat 2816 1024 := fun i => w (ix2 (i 1) (i 0))

/-! ### Loads -/

theorem row_idx (T : Mat 2816 1024) (n : ℕ) (hn : n < 11) (inb) (a : Fin 256) (k : Fin 1024) :
    T ((Rect.unit (s := S2816x1024) ![n * 256, 0] ![256, 1024] inb).toLoadRect.idx (ix2 a k)) = T (ix2 (col n hn a) k) := by
  refine congrArg T (funext fun z => Fin.ext ?_)
  fin_cases z
  · exact congrArg (n * 256 + ·) (Nat.one_mul _)
  · exact (Nat.zero_add _).trans (Nat.one_mul _)

theorem ld_g (c : Dev nD) (t : Fin cfg0.N) (n : ℕ) (hn : n < 11) (inb) (a b : Fin 256) :
    View.ld (iblk m c 1 t : Mat 256 2816) (Rect.unit (s := S256x2816) ![0, n * 256] ![256, 256] inb) (ix2 a b)
      = _root_.Ffn.pre (x m c) (gain m c) (wg m c) (row t a) (col n hn b) := by
  rw [← blk_g]
  refine congrArg (iblk m c 1 t : Mat 256 2816) (funext fun z => Fin.ext ?_)
  fin_cases z
  · exact (Nat.zero_add _).trans (Nat.one_mul _)
  · exact congrArg (n * 256 + ·) (Nat.one_mul _)

theorem ld_u (c : Dev nD) (t : Fin cfg0.N) (n : ℕ) (hn : n < 11) (inb) (a b : Fin 256) :
    View.ld (iblk m c 2 t : Mat 256 2816) (Rect.unit (s := S256x2816) ![0, n * 256] ![256, 256] inb) (ix2 a b)
      = _root_.Ffn.pre (x m c) (gain m c) (wu m c) (row t a) (col n hn b) := by
  rw [← blk_u]
  refine congrArg (iblk m c 2 t : Mat 256 2816) (funext fun z => Fin.ext ?_)
  fin_cases z
  · exact (Nat.zero_add _).trans (Nat.one_mul _)
  · exact congrArg (n * 256 + ·) (Nat.one_mul _)

/-- Scratch 0 just filled. -/
theorem fill0 (c : Dev nD) (h0 : ∀ a, (![0, 0, 0] : Fin 3 → ℕ) a + (![1, 352, 1024] : Fin 3 → ℕ) a ≤ S8x1056x1024.size a) (h1 : ∀ a, (![1, 0, 0] : Fin 3 → ℕ) a + (![1, 352, 1024] : Fin 3 → ℕ) a ≤ S8x1056x1024.size a) (h2 : ∀ a, (![2, 0, 0] : Fin 3 → ℕ) a + (![1, 352, 1024] : Fin 3 → ℕ) a ≤ S8x1056x1024.size a) (h3 : ∀ a, (![3, 0, 0] : Fin 3 → ℕ) a + (![1, 352, 1024] : Fin 3 → ℕ) a ≤ S8x1056x1024.size a) (h4 : ∀ a, (![4, 0, 0] : Fin 3 → ℕ) a + (![1, 352, 1024] : Fin 3 → ℕ) a ≤ S8x1056x1024.size a) (h5 : ∀ a, (![5, 0, 0] : Fin 3 → ℕ) a + (![1, 352, 1024] : Fin 3 → ℕ) a ≤ S8x1056x1024.size a) (h6 : ∀ a, (![6, 0, 0] : Fin 3 → ℕ) a + (![1, 352, 1024] : Fin 3 → ℕ) a ≤ S8x1056x1024.size a) (h7 : ∀ a, (![7, 0, 0] : Fin 3 → ℕ) a + (![1, 352, 1024] : Fin 3 → ℕ) a ≤ S8x1056x1024.size a)
    (hr : S352x1024.numel = (⟨3, ![1, 352, 1024]⟩ : Shape).numel) (n : ℕ) (hn : n < 11) (inb) (a : Fin 256) (k : Fin 1024) :
    (View.whole cc0_scratch0 : View sig .tc _ S2816x1024 _).readCov (Val := Elt Ideal)
        [⟨Rect.unit ![2464, 0] ![352, 1024] inb_S2816x1024_S352x1024_2464_0,
          ReadAs.same.apply (View.read (Elt Ideal) (((View.whole main_v18 : View sig .tc _ S8x1056x1024 _).slice (Rect.unit ![7, 0, 0] ![1, 352, 1024] h7)).reshape S352x1024 hr) (Gen.V m c main_v18))⟩, ⟨Rect.unit ![2112, 0] ![352, 1024] inb_S2816x1024_S352x1024_2112_0,
          ReadAs.same.apply (View.read (Elt Ideal) (((View.whole main_v18 : View sig .tc _ S8x1056x1024 _).slice (Rect.unit ![6, 0, 0] ![1, 352, 1024] h6)).reshape S352x1024 hr) (Gen.V m c main_v18))⟩, ⟨Rect.unit ![1760, 0] ![352, 1024] inb_S2816x1024_S352x1024_1760_0,
          ReadAs.same.apply (View.read (Elt Ideal) (((View.whole main_v18 : View sig .tc _ S8x1056x1024 _).slice (Rect.unit ![5, 0, 0] ![1, 352, 1024] h5)).reshape S352x1024 hr) (Gen.V m c main_v18))⟩, ⟨Rect.unit ![1408, 0] ![352, 1024] inb_S2816x1024_S352x1024_1408_0,
          ReadAs.same.apply (View.read (Elt Ideal) (((View.whole main_v18 : View sig .tc _ S8x1056x1024 _).slice (Rect.unit ![4, 0, 0] ![1, 352, 1024] h4)).reshape S352x1024 hr) (Gen.V m c main_v18))⟩, ⟨Rect.unit ![1056, 0] ![352, 1024] inb_S2816x1024_S352x1024_1056_0,
          ReadAs.same.apply (View.read (Elt Ideal) (((View.whole main_v18 : View sig .tc _ S8x1056x1024 _).slice (Rect.unit ![3, 0, 0] ![1, 352, 1024] h3)).reshape S352x1024 hr) (Gen.V m c main_v18))⟩, ⟨Rect.unit ![704, 0] ![352, 1024] inb_S2816x1024_S352x1024_704_0,
          ReadAs.same.apply (View.read (Elt Ideal) (((View.whole main_v18 : View sig .tc _ S8x1056x1024 _).slice (Rect.unit ![2, 0, 0] ![1, 352, 1024] h2)).reshape S352x1024 hr) (Gen.V m c main_v18))⟩, ⟨Rect.unit ![352, 0] ![352, 1024] inb_S2816x1024_S352x1024_352_0,
          ReadAs.same.apply (View.read (Elt Ideal) (((View.whole main_v18 : View sig .tc _ S8x1056x1024 _).slice (Rect.unit ![1, 0, 0] ![1, 352, 1024] h1)).reshape S352x1024 hr) (Gen.V m c main_v18))⟩, ⟨Rect.unit ![0, 0] ![352, 1024] inb_S2816x1024_S352x1024_0_0,
          ReadAs.same.apply (View.read (Elt Ideal) (((View.whole main_v18 : View sig .tc _ S8x1056x1024 _).slice (Rect.unit ![0, 0, 0] ![1, 352, 1024] h0)).reshape S352x1024 hr) (Gen.V m c main_v18))⟩] (Rect.unit (s := S2816x1024) ![n * 256, 0] ![256, 1024] inb).toLoadRect (ix2 a k)
      = (WT (wg m c)) (ix2 (col n hn a) k) :=
  (scr0_read _ _ _ _ _ _ _ _ (WT (wg m c)) (fun a b => ⟨slab_wg m c 0 (by decide) h0 hr a b, slab_wg m c 1 (by decide) h1 hr a b, slab_wg m c 2 (by decide) h2 hr a b, slab_wg m c 3 (by decide) h3 hr a b, slab_wg m c 4 (by decide) h4 hr a b, slab_wg m c 5 (by decide) h5 hr a b, slab_wg m c 6 (by decide) h6 hr a b, slab_wg m c 7 (by decide) h7 hr a b⟩) _ _).trans (row_idx _ n hn inb a k)

/-- Scratch 0 carried from the point before. -/
theorem carry0 (P T : Mat 2816 1024) (hP : P = T) (hw : (Memref.whole cc0_scratch0).IsWhole) (n : ℕ) (hn : n < 11) (inb) (a : Fin 256) (k : Fin 1024) :
    View.ld (View.read (Elt Ideal) (View.whole cc0_scratch0) (hw.unread P)) (Rect.unit (s := S2816x1024) ![n * 256, 0] ![256, 1024] inb) (ix2 a k)
      = T (ix2 (col n hn a) k) := by
  rw [read_unread_whole, hP]
  exact row_idx T n hn inb a k

/-- Scratch 1 just filled. -/
theorem fill1 (c : Dev nD) (h0 : ∀ a, (![0, 352, 0] : Fin 3 → ℕ) a + (![1, 352, 1024] : Fin 3 → ℕ) a ≤ S8x1056x1024.size a) (h1 : ∀ a, (![1, 352, 0] : Fin 3 → ℕ) a + (![1, 352, 1024] : Fin 3 → ℕ) a ≤ S8x1056x1024.size a) (h2 : ∀ a, (![2, 352, 0] : Fin 3 → ℕ) a + (![1, 352, 1024] : Fin 3 → ℕ) a ≤ S8x1056x1024.size a) (h3 : ∀ a, (![3, 352, 0] : Fin 3 → ℕ) a + (![1, 352, 1024] : Fin 3 → ℕ) a ≤ S8x1056x1024.size a) (h4 : ∀ a, (![4, 352, 0] : Fin 3 → ℕ) a + (![1, 352, 1024] : Fin 3 → ℕ) a ≤ S8x1056x1024.size a) (h5 : ∀ a, (![5, 352, 0] : Fin 3 → ℕ) a + (![1, 352, 1024] : Fin 3 → ℕ) a ≤ S8x1056x1024.size a) (h6 : ∀ a, (![6, 352, 0] : Fin 3 → ℕ) a + (![1, 352, 1024] : Fin 3 → ℕ) a ≤ S8x1056x1024.size a) (h7 : ∀ a, (![7, 352, 0] : Fin 3 → ℕ) a + (![1, 352, 1024] : Fin 3 → ℕ) a ≤ S8x1056x1024.size a)
    (hr : S352x1024.numel = (⟨3, ![1, 352, 1024]⟩ : Shape).numel) (n : ℕ) (hn : n < 11) (inb) (a : Fin 256) (k : Fin 1024) :
    (View.whole cc0_scratch1 : View sig .tc _ S2816x1024 _).readCov (Val := Elt Ideal)
        [⟨Rect.unit ![2464, 0] ![352, 1024] inb_S2816x1024_S352x1024_2464_0,
          ReadAs.same.apply (View.read (Elt Ideal) (((View.whole main_v18 : View sig .tc _ S8x1056x1024 _).slice (Rect.unit ![7, 352, 0] ![1, 352, 1024] h7)).reshape S352x1024 hr) (Gen.V m c main_v18))⟩, ⟨Rect.unit ![2112, 0] ![352, 1024] inb_S2816x1024_S352x1024_2112_0,
          ReadAs.same.apply (View.read (Elt Ideal) (((View.whole main_v18 : View sig .tc _ S8x1056x1024 _).slice (Rect.unit ![6, 352, 0] ![1, 352, 1024] h6)).reshape S352x1024 hr) (Gen.V m c main_v18))⟩, ⟨Rect.unit ![1760, 0] ![352, 1024] inb_S2816x1024_S352x1024_1760_0,
          ReadAs.same.apply (View.read (Elt Ideal) (((View.whole main_v18 : View sig .tc _ S8x1056x1024 _).slice (Rect.unit ![5, 352, 0] ![1, 352, 1024] h5)).reshape S352x1024 hr) (Gen.V m c main_v18))⟩, ⟨Rect.unit ![1408, 0] ![352, 1024] inb_S2816x1024_S352x1024_1408_0,
          ReadAs.same.apply (View.read (Elt Ideal) (((View.whole main_v18 : View sig .tc _ S8x1056x1024 _).slice (Rect.unit ![4, 352, 0] ![1, 352, 1024] h4)).reshape S352x1024 hr) (Gen.V m c main_v18))⟩, ⟨Rect.unit ![1056, 0] ![352, 1024] inb_S2816x1024_S352x1024_1056_0,
          ReadAs.same.apply (View.read (Elt Ideal) (((View.whole main_v18 : View sig .tc _ S8x1056x1024 _).slice (Rect.unit ![3, 352, 0] ![1, 352, 1024] h3)).reshape S352x1024 hr) (Gen.V m c main_v18))⟩, ⟨Rect.unit ![704, 0] ![352, 1024] inb_S2816x1024_S352x1024_704_0,
          ReadAs.same.apply (View.read (Elt Ideal) (((View.whole main_v18 : View sig .tc _ S8x1056x1024 _).slice (Rect.unit ![2, 352, 0] ![1, 352, 1024] h2)).reshape S352x1024 hr) (Gen.V m c main_v18))⟩, ⟨Rect.unit ![352, 0] ![352, 1024] inb_S2816x1024_S352x1024_352_0,
          ReadAs.same.apply (View.read (Elt Ideal) (((View.whole main_v18 : View sig .tc _ S8x1056x1024 _).slice (Rect.unit ![1, 352, 0] ![1, 352, 1024] h1)).reshape S352x1024 hr) (Gen.V m c main_v18))⟩, ⟨Rect.unit ![0, 0] ![352, 1024] inb_S2816x1024_S352x1024_0_0,
          ReadAs.same.apply (View.read (Elt Ideal) (((View.whole main_v18 : View sig .tc _ S8x1056x1024 _).slice (Rect.unit ![0, 352, 0] ![1, 352, 1024] h0)).reshape S352x1024 hr) (Gen.V m c main_v18))⟩] (Rect.unit (s := S2816x1024) ![n * 256, 0] ![256, 1024] inb).toLoadRect (ix2 a k)
      = (WT (wu m c)) (ix2 (col n hn a) k) :=
  (scr1_read _ _ _ _ _ _ _ _ (WT (wu m c)) (fun a b => ⟨slab_wu m c 0 (by decide) h0 hr a b, slab_wu m c 1 (by decide) h1 hr a b, slab_wu m c 2 (by decide) h2 hr a b, slab_wu m c 3 (by decide) h3 hr a b, slab_wu m c 4 (by decide) h4 hr a b, slab_wu m c 5 (by decide) h5 hr a b, slab_wu m c 6 (by decide) h6 hr a b, slab_wu m c 7 (by decide) h7 hr a b⟩) _ _).trans (row_idx _ n hn inb a k)

/-- Scratch 1 carried from the point before. -/
theorem carry1 (P T : Mat 2816 1024) (hP : P = T) (hw : (Memref.whole cc0_scratch1).IsWhole) (n : ℕ) (hn : n < 11) (inb) (a : Fin 256) (k : Fin 1024) :
    View.ld (View.read (Elt Ideal) (View.whole cc0_scratch1) (hw.unread P)) (Rect.unit (s := S2816x1024) ![n * 256, 0] ![256, 1024] inb) (ix2 a k)
      = T (ix2 (col n hn a) k) := by
  rw [read_unread_whole, hP]
  exact row_idx T n hn inb a k

/-- Scratch 2 just filled. -/
theorem fill2 (c : Dev nD) (h0 : ∀ a, (![0, 704, 0] : Fin 3 → ℕ) a + (![1, 352, 1024] : Fin 3 → ℕ) a ≤ S8x1056x1024.size a) (h1 : ∀ a, (![1, 704, 0] : Fin 3 → ℕ) a + (![1, 352, 1024] : Fin 3 → ℕ) a ≤ S8x1056x1024.size a) (h2 : ∀ a, (![2, 704, 0] : Fin 3 → ℕ) a + (![1, 352, 1024] : Fin 3 → ℕ) a ≤ S8x1056x1024.size a) (h3 : ∀ a, (![3, 704, 0] : Fin 3 → ℕ) a + (![1, 352, 1024] : Fin 3 → ℕ) a ≤ S8x1056x1024.size a) (h4 : ∀ a, (![4, 704, 0] : Fin 3 → ℕ) a + (![1, 352, 1024] : Fin 3 → ℕ) a ≤ S8x1056x1024.size a) (h5 : ∀ a, (![5, 704, 0] : Fin 3 → ℕ) a + (![1, 352, 1024] : Fin 3 → ℕ) a ≤ S8x1056x1024.size a) (h6 : ∀ a, (![6, 704, 0] : Fin 3 → ℕ) a + (![1, 352, 1024] : Fin 3 → ℕ) a ≤ S8x1056x1024.size a) (h7 : ∀ a, (![7, 704, 0] : Fin 3 → ℕ) a + (![1, 352, 1024] : Fin 3 → ℕ) a ≤ S8x1056x1024.size a)
    (hr : S352x1024.numel = (⟨3, ![1, 352, 1024]⟩ : Shape).numel) (n : ℕ) (hn : n < 11) (inb) (a : Fin 256) (k : Fin 1024) :
    (View.whole cc0_scratch2 : View sig .tc _ S2816x1024 _).readCov (Val := Elt Ideal)
        [⟨Rect.unit ![2464, 0] ![352, 1024] inb_S2816x1024_S352x1024_2464_0,
          ReadAs.same.apply (View.read (Elt Ideal) (((View.whole main_v18 : View sig .tc _ S8x1056x1024 _).slice (Rect.unit ![7, 704, 0] ![1, 352, 1024] h7)).reshape S352x1024 hr) (Gen.V m c main_v18))⟩, ⟨Rect.unit ![2112, 0] ![352, 1024] inb_S2816x1024_S352x1024_2112_0,
          ReadAs.same.apply (View.read (Elt Ideal) (((View.whole main_v18 : View sig .tc _ S8x1056x1024 _).slice (Rect.unit ![6, 704, 0] ![1, 352, 1024] h6)).reshape S352x1024 hr) (Gen.V m c main_v18))⟩, ⟨Rect.unit ![1760, 0] ![352, 1024] inb_S2816x1024_S352x1024_1760_0,
          ReadAs.same.apply (View.read (Elt Ideal) (((View.whole main_v18 : View sig .tc _ S8x1056x1024 _).slice (Rect.unit ![5, 704, 0] ![1, 352, 1024] h5)).reshape S352x1024 hr) (Gen.V m c main_v18))⟩, ⟨Rect.unit ![1408, 0] ![352, 1024] inb_S2816x1024_S352x1024_1408_0,
          ReadAs.same.apply (View.read (Elt Ideal) (((View.whole main_v18 : View sig .tc _ S8x1056x1024 _).slice (Rect.unit ![4, 704, 0] ![1, 352, 1024] h4)).reshape S352x1024 hr) (Gen.V m c main_v18))⟩, ⟨Rect.unit ![1056, 0] ![352, 1024] inb_S2816x1024_S352x1024_1056_0,
          ReadAs.same.apply (View.read (Elt Ideal) (((View.whole main_v18 : View sig .tc _ S8x1056x1024 _).slice (Rect.unit ![3, 704, 0] ![1, 352, 1024] h3)).reshape S352x1024 hr) (Gen.V m c main_v18))⟩, ⟨Rect.unit ![704, 0] ![352, 1024] inb_S2816x1024_S352x1024_704_0,
          ReadAs.same.apply (View.read (Elt Ideal) (((View.whole main_v18 : View sig .tc _ S8x1056x1024 _).slice (Rect.unit ![2, 704, 0] ![1, 352, 1024] h2)).reshape S352x1024 hr) (Gen.V m c main_v18))⟩, ⟨Rect.unit ![352, 0] ![352, 1024] inb_S2816x1024_S352x1024_352_0,
          ReadAs.same.apply (View.read (Elt Ideal) (((View.whole main_v18 : View sig .tc _ S8x1056x1024 _).slice (Rect.unit ![1, 704, 0] ![1, 352, 1024] h1)).reshape S352x1024 hr) (Gen.V m c main_v18))⟩, ⟨Rect.unit ![0, 0] ![352, 1024] inb_S2816x1024_S352x1024_0_0,
          ReadAs.same.apply (View.read (Elt Ideal) (((View.whole main_v18 : View sig .tc _ S8x1056x1024 _).slice (Rect.unit ![0, 704, 0] ![1, 352, 1024] h0)).reshape S352x1024 hr) (Gen.V m c main_v18))⟩] (Rect.unit (s := S2816x1024) ![n * 256, 0] ![256, 1024] inb).toLoadRect (ix2 a k)
      = (wd m c) (ix2 (col n hn a) k) :=
  (scr2_read _ _ _ _ _ _ _ _ (wd m c) (fun a b => ⟨slab_wd m c 0 (by decide) h0 hr a b, slab_wd m c 1 (by decide) h1 hr a b, slab_wd m c 2 (by decide) h2 hr a b, slab_wd m c 3 (by decide) h3 hr a b, slab_wd m c 4 (by decide) h4 hr a b, slab_wd m c 5 (by decide) h5 hr a b, slab_wd m c 6 (by decide) h6 hr a b, slab_wd m c 7 (by decide) h7 hr a b⟩) _ _).trans (row_idx _ n hn inb a k)

/-- Scratch 2 carried from the point before. -/
theorem carry2 (P T : Mat 2816 1024) (hP : P = T) (hw : (Memref.whole cc0_scratch2).IsWhole) (n : ℕ) (hn : n < 11) (inb) (a : Fin 256) (k : Fin 1024) :
    View.ld (View.read (Elt Ideal) (View.whole cc0_scratch2) (hw.unread P)) (Rect.unit (s := S2816x1024) ![n * 256, 0] ![256, 1024] inb) (ix2 a k)
      = T (ix2 (col n hn a) k) := by
  rw [read_unread_whole, hP]
  exact row_idx T n hn inb a k

/-! ### The scratch arrays at every point -/

theorem scr0_A (c : Dev nD) (t : Fin cfg0.N) (ht : t.val % 16 = 0) : (outsAt0 m c t.val t.isLt).2.2.2.2.2.1 = WT (wg m c) := by
  funext y
  rw [outsAt0_A m c t ht, caseA]
  frame_out
  canon_tiles x h
  · idx_vars x
    refine (slab_wg m c 7 (by decide) _ _ x0 x1).trans ?_
    unfold WT
    blk_ext
  · idx_vars x
    refine (slab_wg m c 6 (by decide) _ _ x0 x1).trans ?_
    unfold WT
    blk_ext
  · idx_vars x
    refine (slab_wg m c 5 (by decide) _ _ x0 x1).trans ?_
    unfold WT
    blk_ext
  · idx_vars x
    refine (slab_wg m c 4 (by decide) _ _ x0 x1).trans ?_
    unfold WT
    blk_ext
  · idx_vars x
    refine (slab_wg m c 3 (by decide) _ _ x0 x1).trans ?_
    unfold WT
    blk_ext
  · idx_vars x
    refine (slab_wg m c 2 (by decide) _ _ x0 x1).trans ?_
    unfold WT
    blk_ext
  · idx_vars x
    refine (slab_wg m c 1 (by decide) _ _ x0 x1).trans ?_
    unfold WT
    blk_ext
  · idx_vars x
    refine (slab_wg m c 0 (by decide) _ _ x0 x1).trans ?_
    unfold WT
    blk_ext

theorem scr0_all (c : Dev nD) (n : ℕ) (hn : n < cfg0.N) : (outsAt0 m c n hn).2.2.2.2.2.1 = WT (wg m c) := by
  induction n with
  | zero => exact scr0_A m c ⟨0, hn⟩ rfl
  | succ n ih =>
    by_cases ht : (n + 1) % 16 = 0
    · exact scr0_A m c ⟨n + 1, hn⟩ ht
    · refine Eq.trans ?_ (ih (by omega))
      rw [outsAt0_B m c ⟨n + 1, hn⟩ ht, caseB]
      unfold sout0_B_0
      simp only []
      rfl

theorem scr1_A (c : Dev nD) (t : Fin cfg0.N) (ht : t.val % 16 = 0) : (outsAt0 m c t.val t.isLt).2.2.2.2.2.2.1 = WT (wu m c) := by
  funext y
  rw [outsAt0_A m c t ht, caseA]
  frame_out
  canon_tiles x h
  · idx_vars x
    refine (slab_wu m c 7 (by decide) _ _ x0 x1).trans ?_
    unfold WT
    blk_ext
  · idx_vars x
    refine (slab_wu m c 6 (by decide) _ _ x0 x1).trans ?_
    unfold WT
    blk_ext
  · idx_vars x
    refine (slab_wu m c 5 (by decide) _ _ x0 x1).trans ?_
    unfold WT
    blk_ext
  · idx_vars x
    refine (slab_wu m c 4 (by decide) _ _ x0 x1).trans ?_
    unfold WT
    blk_ext
  · idx_vars x
    refine (slab_wu m c 3 (by decide) _ _ x0 x1).trans ?_
    unfold WT
    blk_ext
  · idx_vars x
    refine (slab_wu m c 2 (by decide) _ _ x0 x1).trans ?_
    unfold WT
    blk_ext
  · idx_vars x
    refine (slab_wu m c 1 (by decide) _ _ x0 x1).trans ?_
    unfold WT
    blk_ext
  · idx_vars x
    refine (slab_wu m c 0 (by decide) _ _ x0 x1).trans ?_
    unfold WT
    blk_ext

theorem scr1_all (c : Dev nD) (n : ℕ) (hn : n < cfg0.N) : (outsAt0 m c n hn).2.2.2.2.2.2.1 = WT (wu m c) := by
  induction n with
  | zero => exact scr1_A m c ⟨0, hn⟩ rfl
  | succ n ih =>
    by_cases ht : (n + 1) % 16 = 0
    · exact scr1_A m c ⟨n + 1, hn⟩ ht
    · refine Eq.trans ?_ (ih (by omega))
      rw [outsAt0_B m c ⟨n + 1, hn⟩ ht, caseB]
      unfold sout0_B_1
      simp only []
      rfl

theorem scr2_A (c : Dev nD) (t : Fin cfg0.N) (ht : t.val % 16 = 0) : (outsAt0 m c t.val t.isLt).2.2.2.2.2.2.2 = wd m c := by
  funext y
  rw [outsAt0_A m c t ht, caseA]
  frame_out
  canon_tiles x h
  · idx_vars x
    refine (slab_wd m c 7 (by decide) _ _ x0 x1).trans ?_
    blk_ext
  · idx_vars x
    refine (slab_wd m c 6 (by decide) _ _ x0 x1).trans ?_
    blk_ext
  · idx_vars x
    refine (slab_wd m c 5 (by decide) _ _ x0 x1).trans ?_
    blk_ext
  · idx_vars x
    refine (slab_wd m c 4 (by decide) _ _ x0 x1).trans ?_
    blk_ext
  · idx_vars x
    refine (slab_wd m c 3 (by decide) _ _ x0 x1).trans ?_
    blk_ext
  · idx_vars x
    refine (slab_wd m c 2 (by decide) _ _ x0 x1).trans ?_
    blk_ext
  · idx_vars x
    refine (slab_wd m c 1 (by decide) _ _ x0 x1).trans ?_
    blk_ext
  · idx_vars x
    refine (slab_wd m c 0 (by decide) _ _ x0 x1).trans ?_
    blk_ext

theorem scr2_all (c : Dev nD) (n : ℕ) (hn : n < cfg0.N) : (outsAt0 m c n hn).2.2.2.2.2.2.2 = wd m c := by
  induction n with
  | zero => exact scr2_A m c ⟨0, hn⟩ rfl
  | succ n ih =>
    by_cases ht : (n + 1) % 16 = 0
    · exact scr2_A m c ⟨n + 1, hn⟩ ht
    · refine Eq.trans ?_ (ih (by omega))
      rw [outsAt0_B m c ⟨n + 1, hn⟩ ht, caseB]
      unfold sout0_B_2
      simp only []
      rfl

end Cert.FfnIdeal.Ffn

end
-- ==== Proof.Ffn.Gate.lean ====
/- What one grid point of the kernel leaves in the windows of `dg` and `du`. -/
module

public import proofs.«01_k».proof.Proof.Ffn.Scratch
public import Idealize.ShloMosaic.Lib.Pipeline.ReadBack

@[expose] public section

set_option maxRecDepth 16384

noncomputable section

namespace Cert.FfnIdeal.Ffn

open Cert.FfnIdeal Cert.FfnIdeal.Gen Idealize.ShloMosaic Idealize.ShloMosaic.TcCoe Idealize.SL.Sem
open _root_.Ffn (Mat)

variable (m : (ℓ : Loc nD τ sig) → Buf (Elt Ideal) ℓ)

theorem dg_A (c : Dev nD) (t : Fin cfg0.N) (ht : t.val % 16 = 0) (y : S256x2816.Idx) (r : Fin 4096) (f : Fin 2816)
    (hr : r.val = t.val * 256 + (y 0).val) (hf : f.val = (y 1).val) : (outsAt0 m c t.val t.isLt).1 y = dgv m c r f := by
  rw [outsAt0_A m c t ht, caseA]
  frame_out
  canon_tiles x h
  · idx_vars x
    refine ((STO_row _ x0 x1).trans (dg_chunk m c t 10 (by decide) _ _ _ (fill2 m c _ _ _ _ _ _ _ _ _ 10 (by decide) _) (ld_g m c t 10 (by decide) _) (ld_u m c t 10 (by decide) _) x0 x1)).trans
      (congrArg₂ (dgv m c) (Fin.ext (by simp only [row]; omega)) (Fin.ext (by simp only [col]; omega)))
  · idx_vars x
    refine ((STO_row _ x0 x1).trans (dg_chunk m c t 9 (by decide) _ _ _ (fill2 m c _ _ _ _ _ _ _ _ _ 9 (by decide) _) (ld_g m c t 9 (by decide) _) (ld_u m c t 9 (by decide) _) x0 x1)).trans
      (congrArg₂ (dgv m c) (Fin.ext (by simp only [row]; omega)) (Fin.ext (by simp only [col]; omega)))
  · idx_vars x
    refine ((STO_row _ x0 x1).trans (dg_chunk m c t 8 (by decide) _ _ _ (fill2 m c _ _ _ _ _ _ _ _ _ 8 (by decide) _) (ld_g m c t 8 (by decide) _) (ld_u m c t 8 (by decide) _) x0 x1)).trans
      (congrArg₂ (dgv m c) (Fin.ext (by simp only [row]; omega)) (Fin.ext (by simp only [col]; omega)))
  · idx_vars x
    refine ((STO_row _ x0 x1).trans (dg_chunk m c t 7 (by decide) _ _ _ (fill2 m c _ _ _ _ _ _ _ _ _ 7 (by decide) _) (ld_g m c t 7 (by decide) _) (ld_u m c t 7 (by decide) _) x0 x1)).trans
      (congrArg₂ (dgv m c) (Fin.ext (by simp only [row]; omega)) (Fin.ext (by simp only [col]; omega)))
  · idx_vars x
    refine ((STO_row _ x0 x1).trans (dg_chunk m c t 6 (by decide) _ _ _ (fill2 m c _ _ _ _ _ _ _ _ _ 6 (by decide) _) (ld_g m c t 6 (by decide) _) (ld_u m c t 6 (by decide) _) x0 x1)).trans
      (congrArg₂ (dgv m c) (Fin.ext (by simp only [row]; omega)) (Fin.ext (by simp only [col]; omega)))
  · idx_vars x
    refine ((STO_row _ x0 x1).trans (dg_chunk m c t 5 (by decide) _ _ _ (fill2 m c _ _ _ _ _ _ _ _ _ 5 (by decide) _) (ld_g m c t 5 (by decide) _) (ld_u m c t 5 (by decide) _) x0 x1)).trans
      (congrArg₂ (dgv m c) (Fin.ext (by simp only [row]; omega)) (Fin.ext (by simp only [col]; omega)))
  · idx_vars x
    refine ((STO_row _ x0 x1).trans (dg_chunk m c t 4 (by decide) _ _ _ (fill2 m c _ _ _ _ _ _ _ _ _ 4 (by decide) _) (ld_g m c t 4 (by decide) _) (ld_u m c t 4 (by decide) _) x0 x1)).trans
      (congrArg₂ (dgv m c) (Fin.ext (by simp only [row]; omega)) (Fin.ext (by simp only [col]; omega)))
  · idx_vars x
    refine ((STO_row _ x0 x1).trans (dg_chunk m c t 3 (by decide) _ _ _ (fill2 m c _ _ _ _ _ _ _ _ _ 3 (by decide) _) (ld_g m c t 3 (by decide) _) (ld_u m c t 3 (by decide) _) x0 x1)).trans
      (congrArg₂ (dgv m c) (Fin.ext (by simp only [row]; omega)) (Fin.ext (by simp only [col]; omega)))
  · idx_vars x
    refine ((STO_row _ x0 x1).trans (dg_chunk m c t 2 (by decide) _ _ _ (fill2 m c _ _ _ _ _ _ _ _ _ 2 (by decide) _) (ld_g m c t 2 (by decide) _) (ld_u m c t 2 (by decide) _) x0 x1)).trans
      (congrArg₂ (dgv m c) (Fin.ext (by simp only [row]; omega)) (Fin.ext (by simp only [col]; omega)))
  · idx_vars x
    refine ((STO_row _ x0 x1).trans (dg_chunk m c t 1 (by decide) _ _ _ (fill2 m c _ _ _ _ _ _ _ _ _ 1 (by decide) _) (ld_g m c t 1 (by decide) _) (ld_u m c t 1 (by decide) _) x0 x1)).trans
      (congrArg₂ (dgv m c) (Fin.ext (by simp only [row]; omega)) (Fin.ext (by simp only [col]; omega)))
  · idx_vars x
    refine ((STO_row _ x0 x1).trans (dg_chunk m c t 0 (by decide) _ _ _ (fill2 m c _ _ _ _ _ _ _ _ _ 0 (by decide) _) (ld_g m c t 0 (by decide) _) (ld_u m c t 0 (by decide) _) x0 x1)).trans
      (congrArg₂ (dgv m c) (Fin.ext (by simp only [row]; omega)) (Fin.ext (by simp only [col]; omega)))

theorem du_A (c : Dev nD) (t : Fin cfg0.N) (ht : t.val % 16 = 0) (y : S256x2816.Idx) (r : Fin 4096) (f : Fin 2816)
    (hr : r.val = t.val * 256 + (y 0).val) (hf : f.val = (y 1).val) : (outsAt0 m c t.val t.isLt).2.1 y = duv m c r f := by
  rw [outsAt0_A m c t ht, caseA]
  frame_out
  canon_tiles x h
  · idx_vars x
    refine ((STO_row _ x0 x1).trans (du_chunk m c t 10 (by decide) _ _ (fill2 m c _ _ _ _ _ _ _ _ _ 10 (by decide) _) (ld_g m c t 10 (by decide) _) x0 x1)).trans
      (congrArg₂ (duv m c) (Fin.ext (by simp only [row]; omega)) (Fin.ext (by simp only [col]; omega)))
  · idx_vars x
    refine ((STO_row _ x0 x1).trans (du_chunk m c t 9 (by decide) _ _ (fill2 m c _ _ _ _ _ _ _ _ _ 9 (by decide) _) (ld_g m c t 9 (by decide) _) x0 x1)).trans
      (congrArg₂ (duv m c) (Fin.ext (by simp only [row]; omega)) (Fin.ext (by simp only [col]; omega)))
  · idx_vars x
    refine ((STO_row _ x0 x1).trans (du_chunk m c t 8 (by decide) _ _ (fill2 m c _ _ _ _ _ _ _ _ _ 8 (by decide) _) (ld_g m c t 8 (by decide) _) x0 x1)).trans
      (congrArg₂ (duv m c) (Fin.ext (by simp only [row]; omega)) (Fin.ext (by simp only [col]; omega)))
  · idx_vars x
    refine ((STO_row _ x0 x1).trans (du_chunk m c t 7 (by decide) _ _ (fill2 m c _ _ _ _ _ _ _ _ _ 7 (by decide) _) (ld_g m c t 7 (by decide) _) x0 x1)).trans
      (congrArg₂ (duv m c) (Fin.ext (by simp only [row]; omega)) (Fin.ext (by simp only [col]; omega)))
  · idx_vars x
    refine ((STO_row _ x0 x1).trans (du_chunk m c t 6 (by decide) _ _ (fill2 m c _ _ _ _ _ _ _ _ _ 6 (by decide) _) (ld_g m c t 6 (by decide) _) x0 x1)).trans
      (congrArg₂ (duv m c) (Fin.ext (by simp only [row]; omega)) (Fin.ext (by simp only [col]; omega)))
  · idx_vars x
    refine ((STO_row _ x0 x1).trans (du_chunk m c t 5 (by decide) _ _ (fill2 m c _ _ _ _ _ _ _ _ _ 5 (by decide) _) (ld_g m c t 5 (by decide) _) x0 x1)).trans
      (congrArg₂ (duv m c) (Fin.ext (by simp only [row]; omega)) (Fin.ext (by simp only [col]; omega)))
  · idx_vars x
    refine ((STO_row _ x0 x1).trans (du_chunk m c t 4 (by decide) _ _ (fill2 m c _ _ _ _ _ _ _ _ _ 4 (by decide) _) (ld_g m c t 4 (by decide) _) x0 x1)).trans
      (congrArg₂ (duv m c) (Fin.ext (by simp only [row]; omega)) (Fin.ext (by simp only [col]; omega)))
  · idx_vars x
    refine ((STO_row _ x0 x1).trans (du_chunk m c t 3 (by decide) _ _ (fill2 m c _ _ _ _ _ _ _ _ _ 3 (by decide) _) (ld_g m c t 3 (by decide) _) x0 x1)).trans
      (congrArg₂ (duv m c) (Fin.ext (by simp only [row]; omega)) (Fin.ext (by simp only [col]; omega)))
  · idx_vars x
    refine ((STO_row _ x0 x1).trans (du_chunk m c t 2 (by decide) _ _ (fill2 m c _ _ _ _ _ _ _ _ _ 2 (by decide) _) (ld_g m c t 2 (by decide) _) x0 x1)).trans
      (congrArg₂ (duv m c) (Fin.ext (by simp only [row]; omega)) (Fin.ext (by simp only [col]; omega)))
  · idx_vars x
    refine ((STO_row _ x0 x1).trans (du_chunk m c t 1 (by decide) _ _ (fill2 m c _ _ _ _ _ _ _ _ _ 1 (by decide) _) (ld_g m c t 1 (by decide) _) x0 x1)).trans
      (congrArg₂ (duv m c) (Fin.ext (by simp only [row]; omega)) (Fin.ext (by simp only [col]; omega)))
  · idx_vars x
    refine ((STO_row _ x0 x1).trans (du_chunk m c t 0 (by decide) _ _ (fill2 m c _ _ _ _ _ _ _ _ _ 0 (by decide) _) (ld_g m c t 0 (by decide) _) x0 x1)).trans
      (congrArg₂ (duv m c) (Fin.ext (by simp only [row]; omega)) (Fin.ext (by simp only [col]; omega)))

theorem dg_B (c : Dev nD) (t : Fin cfg0.N) (ht : ¬ t.val % 16 = 0) (y : S256x2816.Idx) (r : Fin 4096) (f : Fin 2816)
    (hr : r.val = t.val * 256 + (y 0).val) (hf : f.val = (y 1).val) : (outsAt0 m c t.val t.isLt).1 y = dgv m c r f := by
  rw [outsAt0_B m c t ht, caseB]
  frame_out
  canon_tiles x h
  · idx_vars x
    refine ((STO_row _ x0 x1).trans (dg_chunk m c t 10 (by decide) _ _ _ (carry2 _ _ (scr2_all m c _ _) _ 10 (by decide) _) (ld_g m c t 10 (by decide) _) (ld_u m c t 10 (by decide) _) x0 x1)).trans
      (congrArg₂ (dgv m c) (Fin.ext (by simp only [row]; omega)) (Fin.ext (by simp only [col]; omega)))
  · idx_vars x
    refine ((STO_row _ x0 x1).trans (dg_chunk m c t 9 (by decide) _ _ _ (carry2 _ _ (scr2_all m c _ _) _ 9 (by decide) _) (ld_g m c t 9 (by decide) _) (ld_u m c t 9 (by decide) _) x0 x1)).trans
      (congrArg₂ (dgv m c) (Fin.ext (by simp only [row]; omega)) (Fin.ext (by simp only [col]; omega)))
  · idx_vars x
    refine ((STO_row _ x0 x1).trans (dg_chunk m c t 8 (by decide) _ _ _ (carry2 _ _ (scr2_all m c _ _) _ 8 (by decide) _) (ld_g m c t 8 (by decide) _) (ld_u m c t 8 (by decide) _) x0 x1)).trans
      (congrArg₂ (dgv m c) (Fin.ext (by simp only [row]; omega)) (Fin.ext (by simp only [col]; omega)))
  · idx_vars x
    refine ((STO_row _ x0 x1).trans (dg_chunk m c t 7 (by decide) _ _ _ (carry2 _ _ (scr2_all m c _ _) _ 7 (by decide) _) (ld_g m c t 7 (by decide) _) (ld_u m c t 7 (by decide) _) x0 x1)).trans
      (congrArg₂ (dgv m c) (Fin.ext (by simp only [row]; omega)) (Fin.ext (by simp only [col]; omega)))
  · idx_vars x
    refine ((STO_row _ x0 x1).trans (dg_chunk m c t 6 (by decide) _ _ _ (carry2 _ _ (scr2_all m c _ _) _ 6 (by decide) _) (ld_g m c t 6 (by decide) _) (ld_u m c t 6 (by decide) _) x0 x1)).trans
      (congrArg₂ (dgv m c) (Fin.ext (by simp only [row]; omega)) (Fin.ext (by simp only [col]; omega)))
  · idx_vars x
    refine ((STO_row _ x0 x1).trans (dg_chunk m c t 5 (by decide) _ _ _ (carry2 _ _ (scr2_all m c _ _) _ 5 (by decide) _) (ld_g m c t 5 (by decide) _) (ld_u m c t 5 (by decide) _) x0 x1)).trans
      (congrArg₂ (dgv m c) (Fin.ext (by simp only [row]; omega)) (Fin.ext (by simp only [col]; omega)))
  · idx_vars x
    refine ((STO_row _ x0 x1).trans (dg_chunk m c t 4 (by decide) _ _ _ (carry2 _ _ (scr2_all m c _ _) _ 4 (by decide) _) (ld_g m c t 4 (by decide) _) (ld_u m c t 4 (by decide) _) x0 x1)).trans
      (congrArg₂ (dgv m c) (Fin.ext (by simp only [row]; omega)) (Fin.ext (by simp only [col]; omega)))
  · idx_vars x
    refine ((STO_row _ x0 x1).trans (dg_chunk m c t 3 (by decide) _ _ _ (carry2 _ _ (scr2_all m c _ _) _ 3 (by decide) _) (ld_g m c t 3 (by decide) _) (ld_u m c t 3 (by decide) _) x0 x1)).trans
      (congrArg₂ (dgv m c) (Fin.ext (by simp only [row]; omega)) (Fin.ext (by simp only [col]; omega)))
  · idx_vars x
    refine ((STO_row _ x0 x1).trans (dg_chunk m c t 2 (by decide) _ _ _ (carry2 _ _ (scr2_all m c _ _) _ 2 (by decide) _) (ld_g m c t 2 (by decide) _) (ld_u m c t 2 (by decide) _) x0 x1)).trans
      (congrArg₂ (dgv m c) (Fin.ext (by simp only [row]; omega)) (Fin.ext (by simp only [col]; omega)))
  · idx_vars x
    refine ((STO_row _ x0 x1).trans (dg_chunk m c t 1 (by decide) _ _ _ (carry2 _ _ (scr2_all m c _ _) _ 1 (by decide) _) (ld_g m c t 1 (by decide) _) (ld_u m c t 1 (by decide) _) x0 x1)).trans
      (congrArg₂ (dgv m c) (Fin.ext (by simp only [row]; omega)) (Fin.ext (by simp only [col]; omega)))
  · idx_vars x
    refine ((STO_row _ x0 x1).trans (dg_chunk m c t 0 (by decide) _ _ _ (carry2 _ _ (scr2_all m c _ _) _ 0 (by decide) _) (ld_g m c t 0 (by decide) _) (ld_u m c t 0 (by decide) _) x0 x1)).trans
      (congrArg₂ (dgv m c) (Fin.ext (by simp only [row]; omega)) (Fin.ext (by simp only [col]; omega)))

theorem du_B (c : Dev nD) (t : Fin cfg0.N) (ht : ¬ t.val % 16 = 0) (y : S256x2816.Idx) (r : Fin 4096) (f : Fin 2816)
    (hr : r.val = t.val * 256 + (y 0).val) (hf : f.val = (y 1).val) : (outsAt0 m c t.val t.isLt).2.1 y = duv m c r f := by
  rw [outsAt0_B m c t ht, caseB]
  frame_out
  canon_tiles x h
  · idx_vars x
    refine ((STO_row _ x0 x1).trans (du_chunk m c t 10 (by decide) _ _ (carry2 _ _ (scr2_all m c _ _) _ 10 (by decide) _) (ld_g m c t 10 (by decide) _) x0 x1)).trans
      (congrArg₂ (duv m c) (Fin.ext (by simp only [row]; omega)) (Fin.ext (by simp only [col]; omega)))
  · idx_vars x
    refine ((STO_row _ x0 x1).trans (du_chunk m c t 9 (by decide) _ _ (carry2 _ _ (scr2_all m c _ _) _ 9 (by decide) _) (ld_g m c t 9 (by decide) _) x0 x1)).trans
      (congrArg₂ (duv m c) (Fin.ext (by simp only [row]; omega)) (Fin.ext (by simp only [col]; omega)))
  · idx_vars x
    refine ((STO_row _ x0 x1).trans (du_chunk m c t 8 (by decide) _ _ (carry2 _ _ (scr2_all m c _ _) _ 8 (by decide) _) (ld_g m c t 8 (by decide) _) x0 x1)).trans
      (congrArg₂ (duv m c) (Fin.ext (by simp only [row]; omega)) (Fin.ext (by simp only [col]; omega)))
  · idx_vars x
    refine ((STO_row _ x0 x1).trans (du_chunk m c t 7 (by decide) _ _ (carry2 _ _ (scr2_all m c _ _) _ 7 (by decide) _) (ld_g m c t 7 (by decide) _) x0 x1)).trans
      (congrArg₂ (duv m c) (Fin.ext (by simp only [row]; omega)) (Fin.ext (by simp only [col]; omega)))
  · idx_vars x
    refine ((STO_row _ x0 x1).trans (du_chunk m c t 6 (by decide) _ _ (carry2 _ _ (scr2_all m c _ _) _ 6 (by decide) _) (ld_g m c t 6 (by decide) _) x0 x1)).trans
      (congrArg₂ (duv m c) (Fin.ext (by simp only [row]; omega)) (Fin.ext (by simp only [col]; omega)))
  · idx_vars x
    refine ((STO_row _ x0 x1).trans (du_chunk m c t 5 (by decide) _ _ (carry2 _ _ (scr2_all m c _ _) _ 5 (by decide) _) (ld_g m c t 5 (by decide) _) x0 x1)).trans
      (congrArg₂ (duv m c) (Fin.ext (by simp only [row]; omega)) (Fin.ext (by simp only [col]; omega)))
  · idx_vars x
    refine ((STO_row _ x0 x1).trans (du_chunk m c t 4 (by decide) _ _ (carry2 _ _ (scr2_all m c _ _) _ 4 (by decide) _) (ld_g m c t 4 (by decide) _) x0 x1)).trans
      (congrArg₂ (duv m c) (Fin.ext (by simp only [row]; omega)) (Fin.ext (by simp only [col]; omega)))
  · idx_vars x
    refine ((STO_row _ x0 x1).trans (du_chunk m c t 3 (by decide) _ _ (carry2 _ _ (scr2_all m c _ _) _ 3 (by decide) _) (ld_g m c t 3 (by decide) _) x0 x1)).trans
      (congrArg₂ (duv m c) (Fin.ext (by simp only [row]; omega)) (Fin.ext (by simp only [col]; omega)))
  · idx_vars x
    refine ((STO_row _ x0 x1).trans (du_chunk m c t 2 (by decide) _ _ (carry2 _ _ (scr2_all m c _ _) _ 2 (by decide) _) (ld_g m c t 2 (by decide) _) x0 x1)).trans
      (congrArg₂ (duv m c) (Fin.ext (by simp only [row]; omega)) (Fin.ext (by simp only [col]; omega)))
  · idx_vars x
    refine ((STO_row _ x0 x1).trans (du_chunk m c t 1 (by decide) _ _ (carry2 _ _ (scr2_all m c _ _) _ 1 (by decide) _) (ld_g m c t 1 (by decide) _) x0 x1)).trans
      (congrArg₂ (duv m c) (Fin.ext (by simp only [row]; omega)) (Fin.ext (by simp only [col]; omega)))
  · idx_vars x
    refine ((STO_row _ x0 x1).trans (du_chunk m c t 0 (by decide) _ _ (carry2 _ _ (scr2_all m c _ _) _ 0 (by decide) _) (ld_g m c t 0 (by decide) _) x0 x1)).trans
      (congrArg₂ (duv m c) (Fin.ext (by simp only [row]; omega)) (Fin.ext (by simp only [col]; omega)))

end Cert.FfnIdeal.Ffn

end
-- ==== Proof.Ffn.Tile.lean ====
/- What one grid point of the kernel leaves in the windows of `dx`, the gain's gradient and `dy`. -/
module

public import proofs.«01_k».proof.Proof.Ffn.Scratch
public import Idealize.ShloMosaic.Lib.Pipeline.ReadBack

@[expose] public section

set_option maxRecDepth 16384

noncomputable section

namespace Cert.FfnIdeal.Ffn

open Cert.FfnIdeal Cert.FfnIdeal.Gen Idealize.ShloMosaic Idealize.ShloMosaic.TcCoe Idealize.SL.Sem
open _root_.Ffn (Mat)

variable (m : (ℓ : Loc nD τ sig) → Buf (Elt Ideal) ℓ)

/-- The gradient of `x` at a point, from the gradient at the normalised rows. -/
theorem dx_row (c : Dev nD) (t : Fin cfg0.N) (d : Fin 4096 → Fin 1024 → EReal) (A : FVec Ideal S256x1024 .f32)
    (hA : ∀ (a : Fin 256) (k : Fin 1024), A (ix2 a k) = d (row t a) k) (a : Fin 256) (k : Fin 1024) :
    k0_pay111 (F := Ideal) (iblk m c 0 t) A (iblk m c 3 t) (k0_pay107 (iblk m c 3 t)) (iblk m c 4 t) (ix2 a k)
      = _root_.Ffn.dx (dout m c) (x m c) (gain m c) d (row t a) k := by
  unfold _root_.Ffn.dx _root_.Ffn.rr _root_.Ffn.var
  simp only [← blk_dout m c t, ← blk_x m c t, ← blk_gain m c t, ← hA]
  pointwise [k0_pay111, k0_pay109, k0_pay108, k0_pay107]

/-- One more tile of the gain's gradient. -/
theorem dgain_row (c : Dev nD) (t : Fin cfg0.N) (d : Fin 4096 → Fin 1024 → EReal) (A : FVec Ideal S256x1024 .f32)
    (hA : ∀ (a : Fin 256) (k : Fin 1024), A (ix2 a k) = d (row t a) k) (P : FVec Ideal S1x1024 .f32) (k : Fin 1024) :
    k0_pay110 (F := Ideal) A (iblk m c 3 t) (k0_pay107 (iblk m c 3 t)) P (ix2 0 k)
      = P (ix2 0 k) + ∑ a : Fin 256, d (row t a) k * (x m c (ix2 (row t a) k) * _root_.Ffn.rr (x m c) (row t a)) := by
  unfold _root_.Ffn.rr _root_.Ffn.var
  simp only [← blk_x m c t, ← hA]
  pointwise [k0_pay110, k0_pay109, k0_pay108, k0_pay107]

theorem dx_A (c : Dev nD) (t : Fin cfg0.N) (ht : t.val % 16 = 0) (a : Fin 256) (k : Fin 1024) :
    (outsAt0 m c t.val t.isLt).2.2.2.1 (ix2 a k) = _root_.Ffn.dx (dout m c) (x m c) (gain m c) (dnp m c 11 le_rfl) (row t a) k := by
  rw [outsAt0_A m c t ht, caseA]
  frame_out
  exact dx_row m c t _ _
      (acc_chunk m c t 10 (by decide) _ _ _ _ _ _ (fill2 m c _ _ _ _ _ _ _ _ _ 10 (by decide) _) (ld_g m c t 10 (by decide) _) (ld_u m c t 10 (by decide) _) (fill0 m c _ _ _ _ _ _ _ _ _ 10 (by decide) _) (fill1 m c _ _ _ _ _ _ _ _ _ 10 (by decide) _)
      (acc_chunk m c t 9 (by decide) _ _ _ _ _ _ (fill2 m c _ _ _ _ _ _ _ _ _ 9 (by decide) _) (ld_g m c t 9 (by decide) _) (ld_u m c t 9 (by decide) _) (fill0 m c _ _ _ _ _ _ _ _ _ 9 (by decide) _) (fill1 m c _ _ _ _ _ _ _ _ _ 9 (by decide) _)
      (acc_chunk m c t 8 (by decide) _ _ _ _ _ _ (fill2 m c _ _ _ _ _ _ _ _ _ 8 (by decide) _) (ld_g m c t 8 (by decide) _) (ld_u m c t 8 (by decide) _) (fill0 m c _ _ _ _ _ _ _ _ _ 8 (by decide) _) (fill1 m c _ _ _ _ _ _ _ _ _ 8 (by decide) _)
      (acc_chunk m c t 7 (by decide) _ _ _ _ _ _ (fill2 m c _ _ _ _ _ _ _ _ _ 7 (by decide) _) (ld_g m c t 7 (by decide) _) (ld_u m c t 7 (by decide) _) (fill0 m c _ _ _ _ _ _ _ _ _ 7 (by decide) _) (fill1 m c _ _ _ _ _ _ _ _ _ 7 (by decide) _)
      (acc_chunk m c t 6 (by decide) _ _ _ _ _ _ (fill2 m c _ _ _ _ _ _ _ _ _ 6 (by decide) _) (ld_g m c t 6 (by decide) _) (ld_u m c t 6 (by decide) _) (fill0 m c _ _ _ _ _ _ _ _ _ 6 (by decide) _) (fill1 m c _ _ _ _ _ _ _ _ _ 6 (by decide) _)
      (acc_chunk m c t 5 (by decide) _ _ _ _ _ _ (fill2 m c _ _ _ _ _ _ _ _ _ 5 (by decide) _) (ld_g m c t 5 (by decide) _) (ld_u m c t 5 (by decide) _) (fill0 m c _ _ _ _ _ _ _ _ _ 5 (by decide) _) (fill1 m c _ _ _ _ _ _ _ _ _ 5 (by decide) _)
      (acc_chunk m c t 4 (by decide) _ _ _ _ _ _ (fill2 m c _ _ _ _ _ _ _ _ _ 4 (by decide) _) (ld_g m c t 4 (by decide) _) (ld_u m c t 4 (by decide) _) (fill0 m c _ _ _ _ _ _ _ _ _ 4 (by decide) _) (fill1 m c _ _ _ _ _ _ _ _ _ 4 (by decide) _)
      (acc_chunk m c t 3 (by decide) _ _ _ _ _ _ (fill2 m c _ _ _ _ _ _ _ _ _ 3 (by decide) _) (ld_g m c t 3 (by decide) _) (ld_u m c t 3 (by decide) _) (fill0 m c _ _ _ _ _ _ _ _ _ 3 (by decide) _) (fill1 m c _ _ _ _ _ _ _ _ _ 3 (by decide) _)
      (acc_chunk m c t 2 (by decide) _ _ _ _ _ _ (fill2 m c _ _ _ _ _ _ _ _ _ 2 (by decide) _) (ld_g m c t 2 (by decide) _) (ld_u m c t 2 (by decide) _) (fill0 m c _ _ _ _ _ _ _ _ _ 2 (by decide) _) (fill1 m c _ _ _ _ _ _ _ _ _ 2 (by decide) _)
      (acc_chunk m c t 1 (by decide) _ _ _ _ _ _ (fill2 m c _ _ _ _ _ _ _ _ _ 1 (by decide) _) (ld_g m c t 1 (by decide) _) (ld_u m c t 1 (by decide) _) (fill0 m c _ _ _ _ _ _ _ _ _ 1 (by decide) _) (fill1 m c _ _ _ _ _ _ _ _ _ 1 (by decide) _)
      (acc_chunk m c t 0 (by decide) _ _ _ _ _ _ (fill2 m c _ _ _ _ _ _ _ _ _ 0 (by decide) _) (ld_g m c t 0 (by decide) _) (ld_u m c t 0 (by decide) _) (fill0 m c _ _ _ _ _ _ _ _ _ 0 (by decide) _) (fill1 m c _ _ _ _ _ _ _ _ _ 0 (by decide) _)
      (fun a k => by pointwise [k0_pay4]; rfl)))))))))))) a k

theorem dgain_A (c : Dev nD) (t : Fin cfg0.N) (ht : t.val % 16 = 0) (k : Fin 1024) :
    (outsAt0 m c t.val t.isLt).2.2.2.2.1 (ix2 0 k)
      = 0 + ∑ a : Fin 256, dnp m c 11 le_rfl (row t a) k * (x m c (ix2 (row t a) k) * _root_.Ffn.rr (x m c) (row t a)) := by
  rw [outsAt0_A m c t ht, caseA]
  frame_out
  refine (dgain_row m c t _ _
      (acc_chunk m c t 10 (by decide) _ _ _ _ _ _ (fill2 m c _ _ _ _ _ _ _ _ _ 10 (by decide) _) (ld_g m c t 10 (by decide) _) (ld_u m c t 10 (by decide) _) (fill0 m c _ _ _ _ _ _ _ _ _ 10 (by decide) _) (fill1 m c _ _ _ _ _ _ _ _ _ 10 (by decide) _)
      (acc_chunk m c t 9 (by decide) _ _ _ _ _ _ (fill2 m c _ _ _ _ _ _ _ _ _ 9 (by decide) _) (ld_g m c t 9 (by decide) _) (ld_u m c t 9 (by decide) _) (fill0 m c _ _ _ _ _ _ _ _ _ 9 (by decide) _) (fill1 m c _ _ _ _ _ _ _ _ _ 9 (by decide) _)
      (acc_chunk m c t 8 (by decide) _ _ _ _ _ _ (fill2 m c _ _ _ _ _ _ _ _ _ 8 (by decide) _) (ld_g m c t 8 (by decide) _) (ld_u m c t 8 (by decide) _) (fill0 m c _ _ _ _ _ _ _ _ _ 8 (by decide) _) (fill1 m c _ _ _ _ _ _ _ _ _ 8 (by decide) _)
      (acc_chunk m c t 7 (by decide) _ _ _ _ _ _ (fill2 m c _ _ _ _ _ _ _ _ _ 7 (by decide) _) (ld_g m c t 7 (by decide) _) (ld_u m c t 7 (by decide) _) (fill0 m c _ _ _ _ _ _ _ _ _ 7 (by decide) _) (fill1 m c _ _ _ _ _ _ _ _ _ 7 (by decide) _)
      (acc_chunk m c t 6 (by decide) _ _ _ _ _ _ (fill2 m c _ _ _ _ _ _ _ _ _ 6 (by decide) _) (ld_g m c t 6 (by decide) _) (ld_u m c t 6 (by decide) _) (fill0 m c _ _ _ _ _ _ _ _ _ 6 (by decide) _) (fill1 m c _ _ _ _ _ _ _ _ _ 6 (by decide) _)
      (acc_chunk m c t 5 (by decide) _ _ _ _ _ _ (fill2 m c _ _ _ _ _ _ _ _ _ 5 (by decide) _) (ld_g m c t 5 (by decide) _) (ld_u m c t 5 (by decide) _) (fill0 m c _ _ _ _ _ _ _ _ _ 5 (by decide) _) (fill1 m c _ _ _ _ _ _ _ _ _ 5 (by decide) _)
      (acc_chunk m c t 4 (by decide) _ _ _ _ _ _ (fill2 m c _ _ _ _ _ _ _ _ _ 4 (by decide) _) (ld_g m c t 4 (by decide) _) (ld_u m c t 4 (by decide) _) (fill0 m c _ _ _ _ _ _ _ _ _ 4 (by decide) _) (fill1 m c _ _ _ _ _ _ _ _ _ 4 (by decide) _)
      (acc_chunk m c t 3 (by decide) _ _ _ _ _ _ (fill2 m c _ _ _ _ _ _ _ _ _ 3 (by decide) _) (ld_g m c t 3 (by decide) _) (ld_u m c t 3 (by decide) _) (fill0 m c _ _ _ _ _ _ _ _ _ 3 (by decide) _) (fill1 m c _ _ _ _ _ _ _ _ _ 3 (by decide) _)
      (acc_chunk m c t 2 (by decide) _ _ _ _ _ _ (fill2 m c _ _ _ _ _ _ _ _ _ 2 (by decide) _) (ld_g m c t 2 (by decide) _) (ld_u m c t 2 (by decide) _) (fill0 m c _ _ _ _ _ _ _ _ _ 2 (by decide) _) (fill1 m c _ _ _ _ _ _ _ _ _ 2 (by decide) _)
      (acc_chunk m c t 1 (by decide) _ _ _ _ _ _ (fill2 m c _ _ _ _ _ _ _ _ _ 1 (by decide) _) (ld_g m c t 1 (by decide) _) (ld_u m c t 1 (by decide) _) (fill0 m c _ _ _ _ _ _ _ _ _ 1 (by decide) _) (fill1 m c _ _ _ _ _ _ _ _ _ 1 (by decide) _)
      (acc_chunk m c t 0 (by decide) _ _ _ _ _ _ (fill2 m c _ _ _ _ _ _ _ _ _ 0 (by decide) _) (ld_g m c t 0 (by decide) _) (ld_u m c t 0 (by decide) _) (fill0 m c _ _ _ _ _ _ _ _ _ 0 (by decide) _) (fill1 m c _ _ _ _ _ _ _ _ _ 0 (by decide) _)
      (fun a k => by pointwise [k0_pay4]; rfl)))))))))))) _ k).trans (congrArg (· + _) ?_)
  pointwise [k0_pay1]

theorem dy_A (c : Dev nD) (t : Fin cfg0.N) (ht : t.val % 16 = 0) (a : Fin 256) (k : Fin 1024) :
    (outsAt0 m c t.val t.isLt).2.2.1 (ix2 a k) = _root_.Ffn.half * dout m c (ix2 (row t a) k) := by
  rw [outsAt0_A m c t ht, caseA, ← blk_dout]
  frame_out
  pointwise [k0_pay3, k0_pay2]

theorem dx_B (c : Dev nD) (t : Fin cfg0.N) (ht : ¬ t.val % 16 = 0) (a : Fin 256) (k : Fin 1024) :
    (outsAt0 m c t.val t.isLt).2.2.2.1 (ix2 a k) = _root_.Ffn.dx (dout m c) (x m c) (gain m c) (dnp m c 11 le_rfl) (row t a) k := by
  rw [outsAt0_B m c t ht, caseB]
  frame_out
  exact dx_row m c t _ _
      (acc_chunk m c t 10 (by decide) _ _ _ _ _ _ (carry2 _ _ (scr2_all m c _ _) _ 10 (by decide) _) (ld_g m c t 10 (by decide) _) (ld_u m c t 10 (by decide) _) (carry0 _ _ (scr0_all m c _ _) _ 10 (by decide) _) (carry1 _ _ (scr1_all m c _ _) _ 10 (by decide) _)
      (acc_chunk m c t 9 (by decide) _ _ _ _ _ _ (carry2 _ _ (scr2_all m c _ _) _ 9 (by decide) _) (ld_g m c t 9 (by decide) _) (ld_u m c t 9 (by decide) _) (carry0 _ _ (scr0_all m c _ _) _ 9 (by decide) _) (carry1 _ _ (scr1_all m c _ _) _ 9 (by decide) _)
      (acc_chunk m c t 8 (by decide) _ _ _ _ _ _ (carry2 _ _ (scr2_all m c _ _) _ 8 (by decide) _) (ld_g m c t 8 (by decide) _) (ld_u m c t 8 (by decide) _) (carry0 _ _ (scr0_all m c _ _) _ 8 (by decide) _) (carry1 _ _ (scr1_all m c _ _) _ 8 (by decide) _)
      (acc_chunk m c t 7 (by decide) _ _ _ _ _ _ (carry2 _ _ (scr2_all m c _ _) _ 7 (by decide) _) (ld_g m c t 7 (by decide) _) (ld_u m c t 7 (by decide) _) (carry0 _ _ (scr0_all m c _ _) _ 7 (by decide) _) (carry1 _ _ (scr1_all m c _ _) _ 7 (by decide) _)
      (acc_chunk m c t 6 (by decide) _ _ _ _ _ _ (carry2 _ _ (scr2_all m c _ _) _ 6 (by decide) _) (ld_g m c t 6 (by decide) _) (ld_u m c t 6 (by decide) _) (carry0 _ _ (scr0_all m c _ _) _ 6 (by decide) _) (carry1 _ _ (scr1_all m c _ _) _ 6 (by decide) _)
      (acc_chunk m c t 5 (by decide) _ _ _ _ _ _ (carry2 _ _ (scr2_all m c _ _) _ 5 (by decide) _) (ld_g m c t 5 (by decide) _) (ld_u m c t 5 (by decide) _) (carry0 _ _ (scr0_all m c _ _) _ 5 (by decide) _) (carry1 _ _ (scr1_all m c _ _) _ 5 (by decide) _)
      (acc_chunk m c t 4 (by decide) _ _ _ _ _ _ (carry2 _ _ (scr2_all m c _ _) _ 4 (by decide) _) (ld_g m c t 4 (by decide) _) (ld_u m c t 4 (by decide) _) (carry0 _ _ (scr0_all m c _ _) _ 4 (by decide) _) (carry1 _ _ (scr1_all m c _ _) _ 4 (by decide) _)
      (acc_chunk m c t 3 (by decide) _ _ _ _ _ _ (carry2 _ _ (scr2_all m c _ _) _ 3 (by decide) _) (ld_g m c t 3 (by decide) _) (ld_u m c t 3 (by decide) _) (carry0 _ _ (scr0_all m c _ _) _ 3 (by decide) _) (carry1 _ _ (scr1_all m c _ _) _ 3 (by decide) _)
      (acc_chunk m c t 2 (by decide) _ _ _ _ _ _ (carry2 _ _ (scr2_all m c _ _) _ 2 (by decide) _) (ld_g m c t 2 (by decide) _) (ld_u m c t 2 (by decide) _) (carry0 _ _ (scr0_all m c _ _) _ 2 (by decide) _) (carry1 _ _ (scr1_all m c _ _) _ 2 (by decide) _)
      (acc_chunk m c t 1 (by decide) _ _ _ _ _ _ (carry2 _ _ (scr2_all m c _ _) _ 1 (by decide) _) (ld_g m c t 1 (by decide) _) (ld_u m c t 1 (by decide) _) (carry0 _ _ (scr0_all m c _ _) _ 1 (by decide) _) (carry1 _ _ (scr1_all m c _ _) _ 1 (by decide) _)
      (acc_chunk m c t 0 (by decide) _ _ _ _ _ _ (carry2 _ _ (scr2_all m c _ _) _ 0 (by decide) _) (ld_g m c t 0 (by decide) _) (ld_u m c t 0 (by decide) _) (carry0 _ _ (scr0_all m c _ _) _ 0 (by decide) _) (carry1 _ _ (scr1_all m c _ _) _ 0 (by decide) _)
      (fun a k => by pointwise [k0_pay4]; rfl)))))))))))) a k

theorem dgain_B (c : Dev nD) (t : Fin cfg0.N) (ht : ¬ t.val % 16 = 0) (k : Fin 1024) :
    (outsAt0 m c t.val t.isLt).2.2.2.2.1 (ix2 0 k)
      = (outsAt0 m c (t.val - 1) (by have := t.isLt; omega)).2.2.2.2.1 (ix2 0 k)
        + ∑ a : Fin 256, dnp m c 11 le_rfl (row t a) k * (x m c (ix2 (row t a) k) * _root_.Ffn.rr (x m c) (row t a)) := by
  rw [outsAt0_B m c t ht, caseB]
  frame_out
  exact dgain_row m c t _ _
      (acc_chunk m c t 10 (by decide) _ _ _ _ _ _ (carry2 _ _ (scr2_all m c _ _) _ 10 (by decide) _) (ld_g m c t 10 (by decide) _) (ld_u m c t 10 (by decide) _) (carry0 _ _ (scr0_all m c _ _) _ 10 (by decide) _) (carry1 _ _ (scr1_all m c _ _) _ 10 (by decide) _)
      (acc_chunk m c t 9 (by decide) _ _ _ _ _ _ (carry2 _ _ (scr2_all m c _ _) _ 9 (by decide) _) (ld_g m c t 9 (by decide) _) (ld_u m c t 9 (by decide) _) (carry0 _ _ (scr0_all m c _ _) _ 9 (by decide) _) (carry1 _ _ (scr1_all m c _ _) _ 9 (by decide) _)
      (acc_chunk m c t 8 (by decide) _ _ _ _ _ _ (carry2 _ _ (scr2_all m c _ _) _ 8 (by decide) _) (ld_g m c t 8 (by decide) _) (ld_u m c t 8 (by decide) _) (carry0 _ _ (scr0_all m c _ _) _ 8 (by decide) _) (carry1 _ _ (scr1_all m c _ _) _ 8 (by decide) _)
      (acc_chunk m c t 7 (by decide) _ _ _ _ _ _ (carry2 _ _ (scr2_all m c _ _) _ 7 (by decide) _) (ld_g m c t 7 (by decide) _) (ld_u m c t 7 (by decide) _) (carry0 _ _ (scr0_all m c _ _) _ 7 (by decide) _) (carry1 _ _ (scr1_all m c _ _) _ 7 (by decide) _)
      (acc_chunk m c t 6 (by decide) _ _ _ _ _ _ (carry2 _ _ (scr2_all m c _ _) _ 6 (by decide) _) (ld_g m c t 6 (by decide) _) (ld_u m c t 6 (by decide) _) (carry0 _ _ (scr0_all m c _ _) _ 6 (by decide) _) (carry1 _ _ (scr1_all m c _ _) _ 6 (by decide) _)
      (acc_chunk m c t 5 (by decide) _ _ _ _ _ _ (carry2 _ _ (scr2_all m c _ _) _ 5 (by decide) _) (ld_g m c t 5 (by decide) _) (ld_u m c t 5 (by decide) _) (carry0 _ _ (scr0_all m c _ _) _ 5 (by decide) _) (carry1 _ _ (scr1_all m c _ _) _ 5 (by decide) _)
      (acc_chunk m c t 4 (by decide) _ _ _ _ _ _ (carry2 _ _ (scr2_all m c _ _) _ 4 (by decide) _) (ld_g m c t 4 (by decide) _) (ld_u m c t 4 (by decide) _) (carry0 _ _ (scr0_all m c _ _) _ 4 (by decide) _) (carry1 _ _ (scr1_all m c _ _) _ 4 (by decide) _)
      (acc_chunk m c t 3 (by decide) _ _ _ _ _ _ (carry2 _ _ (scr2_all m c _ _) _ 3 (by decide) _) (ld_g m c t 3 (by decide) _) (ld_u m c t 3 (by decide) _) (carry0 _ _ (scr0_all m c _ _) _ 3 (by decide) _) (carry1 _ _ (scr1_all m c _ _) _ 3 (by decide) _)
      (acc_chunk m c t 2 (by decide) _ _ _ _ _ _ (carry2 _ _ (scr2_all m c _ _) _ 2 (by decide) _) (ld_g m c t 2 (by decide) _) (ld_u m c t 2 (by decide) _) (carry0 _ _ (scr0_all m c _ _) _ 2 (by decide) _) (carry1 _ _ (scr1_all m c _ _) _ 2 (by decide) _)
      (acc_chunk m c t 1 (by decide) _ _ _ _ _ _ (carry2 _ _ (scr2_all m c _ _) _ 1 (by decide) _) (ld_g m c t 1 (by decide) _) (ld_u m c t 1 (by decide) _) (carry0 _ _ (scr0_all m c _ _) _ 1 (by decide) _) (carry1 _ _ (scr1_all m c _ _) _ 1 (by decide) _)
      (acc_chunk m c t 0 (by decide) _ _ _ _ _ _ (carry2 _ _ (scr2_all m c _ _) _ 0 (by decide) _) (ld_g m c t 0 (by decide) _) (ld_u m c t 0 (by decide) _) (carry0 _ _ (scr0_all m c _ _) _ 0 (by decide) _) (carry1 _ _ (scr1_all m c _ _) _ 0 (by decide) _)
      (fun a k => by pointwise [k0_pay4]; rfl)))))))))))) _ k

theorem dy_B (c : Dev nD) (t : Fin cfg0.N) (ht : ¬ t.val % 16 = 0) (a : Fin 256) (k : Fin 1024) :
    (outsAt0 m c t.val t.isLt).2.2.1 (ix2 a k) = _root_.Ffn.half * dout m c (ix2 (row t a) k) := by
  rw [outsAt0_B m c t ht, caseB, ← blk_dout]
  frame_out
  pointwise [k0_pay3, k0_pay2]

end Cert.FfnIdeal.Ffn

end
-- ==== Proof.Ffn.Total.lean ====
/- The kernel's five result arrays after the run. -/
module

public import proofs.«01_k».proof.Proof.Ffn.Gate
public import proofs.«01_k».proof.Proof.Ffn.Tile

@[expose] public section

set_option maxRecDepth 16384

noncomputable section

namespace Cert.FfnIdeal.Ffn

open Cert.FfnIdeal Cert.FfnIdeal.Gen Idealize.ShloMosaic Idealize.ShloMosaic.TcCoe Idealize.SL.Sem
open Idealize.ShloMosaic.Pipeline (Dat)
open _root_.Ffn (Mat)

variable (m : (ℓ : Loc nD τ sig) → Buf (Elt Ideal) ℓ)

/-- The gradient at the normalised rows. -/
abbrev dnv (c : Dev nD) : Fin 4096 → Fin 1024 → EReal := _root_.Ffn.dn (wg m c) (wu m c) (dgv m c) (duv m c)

theorem dnp_all (c : Dev nD) : dnp m c 11 le_rfl = dnv m c := by
  funext r k
  exact _root_.Ffn.part_all _ _

theorem row_eq (t : Fin cfg0.N) (a : Fin 256) (r : Fin 4096) (hr : r.val = t.val * 256 + a.val) : row t a = r := Fin.ext hr.symm

theorem dg_point (c : Dev nD) (t : Fin cfg0.N) (y : S256x2816.Idx) (r : Fin 4096) (f : Fin 2816)
    (hr : r.val = t.val * 256 + (y 0).val) (hf : f.val = (y 1).val) : (outsAt0 m c t.val t.isLt).1 y = dgv m c r f := by
  by_cases ht : t.val % 16 = 0
  · exact dg_A m c t ht y r f hr hf
  · exact dg_B m c t ht y r f hr hf

theorem du_point (c : Dev nD) (t : Fin cfg0.N) (y : S256x2816.Idx) (r : Fin 4096) (f : Fin 2816)
    (hr : r.val = t.val * 256 + (y 0).val) (hf : f.val = (y 1).val) : (outsAt0 m c t.val t.isLt).2.1 y = duv m c r f := by
  by_cases ht : t.val % 16 = 0
  · exact du_A m c t ht y r f hr hf
  · exact du_B m c t ht y r f hr hf

theorem dy_point (c : Dev nD) (t : Fin cfg0.N) (y : S256x1024.Idx) (r : Fin 4096) (k : Fin 1024)
    (hr : r.val = t.val * 256 + (y 0).val) (hk : k.val = (y 1).val) :
    (outsAt0 m c t.val t.isLt).2.2.1 y = _root_.Ffn.half * dout m c (ix2 r k) := by
  idx_vars y
  obtain rfl := Fin.ext hk
  rw [← row_eq t y0 r hr]
  by_cases ht : t.val % 16 = 0
  · exact dy_A m c t ht _ _
  · exact dy_B m c t ht _ _

theorem dx_point (c : Dev nD) (t : Fin cfg0.N) (y : S256x1024.Idx) (r : Fin 4096) (k : Fin 1024)
    (hr : r.val = t.val * 256 + (y 0).val) (hk : k.val = (y 1).val) :
    (outsAt0 m c t.val t.isLt).2.2.2.1 y = _root_.Ffn.dx (dout m c) (x m c) (gain m c) (dnv m c) r k := by
  idx_vars y
  obtain rfl := Fin.ext hk
  rw [← row_eq t y0 r hr, ← dnp_all]
  by_cases ht : t.val % 16 = 0
  · exact dx_A m c t ht _ _
  · exact dx_B m c t ht _ _

/-- What point `t` adds to an entry of the gain's gradient. -/
def gpart (c : Dev nD) (t : Fin cfg0.N) (k : Fin 1024) : EReal :=
  ∑ a : Fin 256, dnv m c (row t a) k * (x m c (ix2 (row t a) k) * _root_.Ffn.rr (x m c) (row t a))

/-- The gain's gradient after the last point. -/
theorem dgain_last (c : Dev nD) (k : Fin 1024) :
    (outsAt0 m c t0_15.val t0_15.isLt).2.2.2.2.1 (ix2 0 k) = _root_.Ffn.dgain (x m c) (dnv m c) k := by
  rw [Pipeline.eq_sum_fin_of_reset_step_apply_last (fun n h => (outsAt0 m c n h).2.2.2.2.1) 16 (fun _ => (0 : EReal)) (fun t y => gpart m c t (y 1))
    (fun t h y => by
      idx_vars y
      obtain rfl : y0 = 0 := Subsingleton.elim _ _
      refine (dgain_A m c t h y1).trans ?_
      unfold gpart
      rw [dnp_all])
    (fun t h y => by
      idx_vars y
      obtain rfl : y0 = 0 := Subsingleton.elim _ _
      refine (dgain_B m c t h y1).trans ?_
      unfold gpart
      rw [dnp_all])
    (le_of_eq N_0) t0_15 rfl (ix2 0 k)]
  refine (zero_add _).trans ?_
  unfold _root_.Ffn.dgain gpart
  rw [Fin.sum_univ_tiles 16 256 rfl]
  rfl

theorem dg_final (c : Dev nD) : (dats m 0 c).arrAt 5 cfg0.N = fun i : S4096x2816.Idx => dgv m c (i 0) (i 1) := by
  refine (dats m 0 c).arrAt_eq_of_covers 5 _ (by decide +kernel) fun t _ y => ?_
  blk_simp
  rw [after0_5]
  exact dg_point m c t y _ _ (by blk_simp [idx t]) (by blk_simp [idx t])

theorem du_final (c : Dev nD) : (dats m 0 c).arrAt 6 cfg0.N = fun i : S4096x2816.Idx => duv m c (i 0) (i 1) := by
  refine (dats m 0 c).arrAt_eq_of_covers 6 _ (by decide +kernel) fun t _ y => ?_
  blk_simp
  rw [after0_6]
  exact du_point m c t y _ _ (by blk_simp [idx t]) (by blk_simp [idx t])

theorem dy_final (c : Dev nD) : (dats m 0 c).arrAt 7 cfg0.N = fun i : S4096x1024.Idx => _root_.Ffn.half * dout m c (ix2 (i 0) (i 1)) := by
  refine (dats m 0 c).arrAt_eq_of_covers 7 _ (by decide +kernel) fun t _ y => ?_
  blk_simp
  rw [after0_7]
  exact dy_point m c t y _ _ (by blk_simp [idx t]) (by blk_simp [idx t])

theorem dx_final (c : Dev nD) : (dats m 0 c).arrAt 8 cfg0.N = fun i : S4096x1024.Idx => _root_.Ffn.dx (dout m c) (x m c) (gain m c) (dnv m c) (i 0) (i 1) := by
  refine (dats m 0 c).arrAt_eq_of_covers 8 _ (by decide +kernel) fun t _ y => ?_
  blk_simp
  rw [after0_8]
  exact dx_point m c t y _ _ (by blk_simp [idx t]) (by blk_simp [idx t])

theorem dgain_final (c : Dev nD) : (dats m 0 c).arrAt 9 cfg0.N = fun i : S1x1024.Idx => _root_.Ffn.dgain (x m c) (dnv m c) (i 1) := by
  refine (dats m 0 c).arrAt_eq_of_after_last 9 t0_15 (by decide +kernel) _ fun j => ?_
  blk_simp
  rw [after0_9]
  idx_vars j
  obtain rfl : j0 = 0 := Subsingleton.elim _ _
  exact dgain_last m c _

end Cert.FfnIdeal.Ffn

end
-- ==== Proof.Ffn.Ref.lean ====
/- The reference's five results, read at an index: the gradients of Math.lean as the chain rule writes them. -/
module

public import proofs.«01_k».proof.Proof.Gen.FfnReferenceIdeal.Run
public import proofs.«01_k».proof.Proof.Ffn.Math

@[expose] public section

set_option maxRecDepth 16384

noncomputable section

namespace Cert.FfnReferenceIdeal.Ffn

open Cert.FfnReferenceIdeal Cert.FfnReferenceIdeal.Gen Cert.FfnReferenceIdeal.Value Idealize.ShloMosaic Idealize.ShloMosaic.TcCoe Idealize.SL.Sem
open _root_.Ffn (Mat)

/-- The mean square of each row and the small summand. -/
def VAR (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

theorem VAR_row (x : FVec Ideal S4096x1024 .f32) (r : Fin 4096) (z : Fin 1) : VAR x (ix2 r z) = _root_.Ffn.var x r := by
  unfold _root_.Ffn.var
  pointwise [VAR]

/-- One over its root. -/
def RR (v : FVec Ideal S4096x1 .f32) : FVec Ideal S4096x1 .f32 := Host.rsqrt v

theorem RR_row (x : FVec Ideal S4096x1024 .f32) (r : Fin 4096) (z : Fin 1) : RR (VAR x) (ix2 r z) = _root_.Ffn.rr x r := by
  unfold _root_.Ffn.rr
  pointwise [RR]
  rw [VAR_row]

/-- The rows over their root mean square. -/
def XH (x : FVec Ideal S4096x1024 .f32) (rr : FVec Ideal S4096x1 .f32) : FVec Ideal S4096x1024 .f32 :=
  mulf x (broadcastInDim S4096x1024 ![0, 1] bcast_S4096x1_S4096x1024_0_1 rr)

theorem XH_row (x : FVec Ideal S4096x1024 .f32) (r : Fin 4096) (k : Fin 1024) :
    XH x (RR (VAR x)) (ix2 r k) = x (ix2 r k) * _root_.Ffn.rr x r := by
  pointwise [XH]
  rw [RR_row]

/-- The rows before the gate's or the other half's function. -/
def PRE (xh : FVec Ideal S4096x1024 .f32) (gain : FVec Ideal S1x1024 .f32) (w : FVec Ideal S1024x2816 .f32) : FVec Ideal S4096x2816 .f32 :=
  addf (Host.dotGeneral dot_S4096x1024_S1024x2816_S4096x2816_1_0_0_1_n_n none (mulf xh (broadcastInDim S4096x1024 ![0, 1] bcast_S1x1024_S4096x1024_0_1 gain)) w) (broadcastInDim S4096x2816 ![] bcast_S_S4096x2816 (constant S_ .f32 0x00000000#32))

theorem PRE_row (x : FVec Ideal S4096x1024 .f32) (gain : FVec Ideal S1x1024 .f32) (w : FVec Ideal S1024x2816 .f32) (r : Fin 4096) (f : Fin 2816) :
    PRE (XH x (RR (VAR x))) gain w (ix2 r f) = _root_.Ffn.pre x gain w r f := by
  unfold _root_.Ffn.pre
  pointwise [PRE]
  simp only [XH_row]

/-- The logistic function of an array. -/
def SG (g : FVec Ideal S4096x2816 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf g)))

theorem SG_row (g : FVec Ideal S4096x2816 .f32) (r : Fin 4096) (f : Fin 2816) : SG g (ix2 r f) = _root_.Ffn.sg (g (ix2 r f)) := by
  unfold _root_.Ffn.sg
  pointwise [SG]

/-- Half the gradient at the block's result. -/
def DY (dout : FVec Ideal S4096x1024 .f32) : FVec Ideal S4096x1024 .f32 :=
  mulf (broadcastInDim S4096x1024 ![] bcast_S_S4096x1024 (constant S_ .f32 0x3F000000#32)) (shapeCast _ dout shapeCasts_S4096x1024_S4096x1024)

theorem DY_row (dout : FVec Ideal S4096x1024 .f32) (r : Fin 4096) (k : Fin 1024) : DY dout (ix2 r k) = _root_.Ffn.half * dout (ix2 r k) := by
  pointwise [DY]

/-- The gradient at the product of the two halves. -/
def DH (dy : FVec Ideal S4096x1024 .f32) (wd : FVec Ideal S2816x1024 .f32) : FVec Ideal S4096x2816 .f32 :=
  Host.dotGeneral dot_S4096x1024_S2816x1024_S4096x2816_1_1_0_0_n_n none dy wd

theorem DH_row (dout : FVec Ideal S4096x1024 .f32) (wd : FVec Ideal S2816x1024 .f32) (r : Fin 4096) (f : Fin 2816) :
    DH (DY dout) wd (ix2 r f) = _root_.Ffn.dh dout wd r f := by
  unfold _root_.Ffn.dh
  pointwise [DH]
  simp only [DY_row]

/-- The gradient at the gate's rows. -/
def DG (h g u : FVec Ideal S4096x2816 .f32) : FVec Ideal S4096x2816 .f32 :=
  addf (mulf (mulf h u) (SG g)) (mulf (mulf g (mulf h u)) (mulf (SG g) (subf (broadcastInDim S4096x2816 ![] bcast_S_S4096x2816 (constant S_ .f32 0x3F800000#32)) (SG g))))

theorem DG_row (h g u : FVec Ideal S4096x2816 .f32) (r : Fin 4096) (f : Fin 2816) :
    DG h g u (ix2 r f) = _root_.Ffn.gate' (h (ix2 r f)) (g (ix2 r f)) (u (ix2 r f)) := by
  unfold _root_.Ffn.gate'
  pointwise [DG]
  rw [SG_row]

/-- The gradient at the other half's rows. -/
def DU (h g : FVec Ideal S4096x2816 .f32) : FVec Ideal S4096x2816 .f32 := mulf (mulf g (SG g)) h

theorem DU_row (h g : FVec Ideal S4096x2816 .f32) (r : Fin 4096) (f : Fin 2816) :
    DU h g (ix2 r f) = _root_.Ffn.up (h (ix2 r f)) (g (ix2 r f)) := by
  unfold _root_.Ffn.up
  pointwise [DU]
  rw [SG_row, mul_comm, mul_assoc]

/-- The gradient at the normalised rows. -/
def DN (dg du : FVec Ideal S4096x2816 .f32) (wg wu : FVec Ideal S1024x2816 .f32) : FVec Ideal S4096x1024 .f32 :=
  addf (Host.dotGeneral dot_S4096x2816_S1024x2816_S4096x1024_1_1_0_0_n_n none du wu) (Host.dotGeneral dot_S4096x2816_S1024x2816_S4096x1024_1_1_0_0_n_n none dg wg)

theorem DN_row (dg du : FVec Ideal S4096x2816 .f32) (wg wu : FVec Ideal S1024x2816 .f32) (r : Fin 4096) (k : Fin 1024) :
    DN dg du wg wu (ix2 r k) = _root_.Ffn.dn wg wu (fun r f => dg (ix2 r f)) (fun r f => du (ix2 r f)) r k := by
  unfold _root_.Ffn.dn
  rw [add_comm]
  pointwise [DN]

/-- The gradient of the gain. -/
def DGAIN (xh d : FVec Ideal S4096x1024 .f32) : FVec Ideal S1x1024 .f32 :=
  shapeCast _ (Host.reduceAdd (mulf xh d) (constant S_ .f32 0x00000000#32) reducesTo_S4096x1024_S1024_d0 h_S_) shapeCasts_S1024_S1x1024

theorem DGAIN_row (x d : FVec Ideal S4096x1024 .f32) (z : Fin 1) (k : Fin 1024) :
    DGAIN (XH x (RR (VAR x))) d (ix2 z k) = _root_.Ffn.dgain x (fun r k => d (ix2 r k)) k := by
  unfold _root_.Ffn.dgain
  pointwise [DGAIN]
  simp only [XH_row]
  exact Finset.sum_congr rfl fun r _ => mul_comm _ _

/-- The part of the gradient of `x` that comes through the root mean square. -/
def CORR (x d : FVec Ideal S4096x1024 .f32) (gain : FVec Ideal S1x1024 .f32) (rr v : FVec Ideal S4096x1 .f32) : FVec Ideal S4096x1024 .f32 :=
  broadcastInDim S4096x1024 ![0] bcast_S4096_S4096x1024_0 (Host.reduceAdd (Host.divf (mulf (shapeCast _ (Host.reduceAdd (mulf x (mulf d (broadcastInDim S4096x1024 ![0, 1] bcast_S1x1024_S4096x1024_0_1 gain))) (constant S_ .f32 0x00000000#32) reducesTo_S4096x1024_S4096_d1 h_S_) shapeCasts_S4096_S4096x1) (mulf (broadcastInDim S4096x1 ![] bcast_S_S4096x1 (constant S_ .f32 0xBF000000#32)) (Host.divf rr v))) (broadcastInDim S4096x1 ![] bcast_S_S4096x1 (constant S_ .f32 0x44800000#32))) (constant S_ .f32 0x00000000#32) reducesTo_S4096x1_S4096_d1 h_S_)

theorem CORR_row (x d : FVec Ideal S4096x1024 .f32) (gain : FVec Ideal S1x1024 .f32) (r : Fin 4096) (k : Fin 1024) :
    CORR x d gain (RR (VAR x)) (VAR x) (ix2 r k) = _root_.Ffn.corr x gain (fun r k => d (ix2 r k)) r := by
  unfold _root_.Ffn.corr
  pointwise [CORR]
  simp only [Finset.univ_unique, Finset.sum_singleton, RR_row, VAR_row]

/-- The gradient of `x`. -/
def DX (dout x d : FVec Ideal S4096x1024 .f32) (gain : FVec Ideal S1x1024 .f32) (rr : FVec Ideal S4096x1 .f32) (corr : FVec Ideal S4096x1024 .f32) : FVec Ideal S4096x1024 .f32 :=
  addf (addf (addf dout (mulf (mulf d (broadcastInDim S4096x1024 ![0, 1] bcast_S1x1024_S4096x1024_0_1 gain)) (broadcastInDim S4096x1024 ![0, 1] bcast_S4096x1_S4096x1024_0_1 rr))) (mulf x corr)) (mulf corr x)

theorem DX_row (dout x d : FVec Ideal S4096x1024 .f32) (gain : FVec Ideal S1x1024 .f32) (r : Fin 4096) (k : Fin 1024) :
    DX dout x d gain (RR (VAR x)) (CORR x d gain (RR (VAR x)) (VAR x)) (ix2 r k)
      = _root_.Ffn.dx' dout x gain (fun r k => d (ix2 r k)) r k := by
  unfold _root_.Ffn.dx'
  pointwise [DX]
  rw [CORR_row, RR_row, mul_comm (x (ix2 r k)) (_root_.Ffn.corr _ _ _ _)]

variable (m : (ℓ : Loc nD τ sig) → Buf (Elt Ideal) ℓ)

/-- The argument arrays. -/
abbrev dout (c : Dev nD) : Mat 4096 1024 := m ((c : Thread nD τ).loc main_arg0)
abbrev x (c : Dev nD) : Mat 4096 1024 := m ((c : Thread nD τ).loc main_arg1)
abbrev gain (c : Dev nD) : Mat 1 1024 := m ((c : Thread nD τ).loc main_arg2)
abbrev wg (c : Dev nD) : Mat 1024 2816 := m ((c : Thread nD τ).loc main_arg3)
abbrev wu (c : Dev nD) : Mat 1024 2816 := m ((c : Thread nD τ).loc main_arg4)
abbrev wd (c : Dev nD) : Mat 2816 1024 := m ((c : Thread nD τ).loc main_arg5)

/-- The gradients at the product of the two halves and the rows of both halves. -/
def H (c : Dev nD) : FVec Ideal S4096x2816 .f32 := DH (DY (dout m c)) (wd m c)
def G (c : Dev nD) : FVec Ideal S4096x2816 .f32 := PRE (XH (x m c) (RR (VAR (x m c)))) (gain m c) (wg m c)
def U (c : Dev nD) : FVec Ideal S4096x2816 .f32 := PRE (XH (x m c) (RR (VAR (x m c)))) (gain m c) (wu m c)

/-- The gradients at both halves' rows. -/
def gt (c : Dev nD) (r : Fin 4096) (f : Fin 2816) : EReal :=
  _root_.Ffn.gate' (_root_.Ffn.dh (dout m c) (wd m c) r f) (_root_.Ffn.pre (x m c) (gain m c) (wg m c) r f) (_root_.Ffn.pre (x m c) (gain m c) (wu m c) r f)
def ut (c : Dev nD) (r : Fin 4096) (f : Fin 2816) : EReal :=
  _root_.Ffn.up (_root_.Ffn.dh (dout m c) (wd m c) r f) (_root_.Ffn.pre (x m c) (gain m c) (wg m c) r f)

theorem gt_row (c : Dev nD) (r : Fin 4096) (f : Fin 2816) : DG (H m c) (G m c) (U m c) (ix2 r f) = gt m c r f := by
  rw [DG_row]
  unfold H G U gt
  rw [DH_row, PRE_row, PRE_row]

theorem ut_row (c : Dev nD) (r : Fin 4096) (f : Fin 2816) : DU (H m c) (G m c) (ix2 r f) = ut m c r f := by
  rw [DU_row]
  unfold H G ut
  rw [DH_row, PRE_row]

/-- The gradient at the normalised rows. -/
def N (c : Dev nD) : FVec Ideal S4096x1024 .f32 := DN (DG (H m c) (G m c) (U m c)) (DU (H m c) (G m c)) (wg m c) (wu m c)

theorem N_row (c : Dev nD) (r : Fin 4096) (k : Fin 1024) :
    N m c (ix2 r k) = _root_.Ffn.dn (wg m c) (wu m c) (gt m c) (ut m c) r k := by
  unfold N
  rw [DN_row]
  simp only [gt_row, ut_row]

theorem dg_out (c : Dev nD) (r : Fin 4096) (f : Fin 2816) : res_out0 m c (ix2 r f) = gt m c r f :=
  Eq.trans (b := DG (H m c) (G m c) (U m c) (ix2 r f)) rfl (gt_row m c r f)

theorem dx_out (c : Dev nD) (r : Fin 4096) (k : Fin 1024) :
    res_out3 m c (ix2 r k) = _root_.Ffn.dx' (dout m c) (x m c) (gain m c) (_root_.Ffn.dn (wg m c) (wu m c) (gt m c) (ut m c)) r k := by
  refine Eq.trans (b := DX (dout m c) (x m c) (N m c) (gain m c) (RR (VAR (x m c))) (CORR (x m c) (N m c) (gain m c) (RR (VAR (x m c))) (VAR (x m c))) (ix2 r k)) rfl ?_
  rw [DX_row]
  simp only [N_row]

theorem dgain_out (c : Dev nD) (z : Fin 1) (k : Fin 1024) :
    res_out4 m c (ix2 z k) = _root_.Ffn.dgain (x m c) (_root_.Ffn.dn (wg m c) (wu m c) (gt m c) (ut m c)) k := by
  refine Eq.trans (b := DGAIN (XH (x m c) (RR (VAR (x m c)))) (N m c) (ix2 z k)) rfl ?_
  rw [DGAIN_row]
  simp only [N_row]

end Cert.FfnReferenceIdeal.Ffn

end
-- ==== Proof.Ffn.Finite.lean ====
/- What the stated precondition says of the arguments: every entry is a finite number. -/
module

public import proofs.«01_k».proof.Defs
public import proofs.«01_k».proof.Proof.Ffn.Math
public import Idealize.ShloMosaic.Lib.ReduceAll

@[expose] public section

set_option maxRecDepth 16384

noncomputable section

namespace Ffn

open Idealize.ShloMosaic Cert.Pre_finite

theorem facts : Cert.Pre_finite.Facts where
  bcast_S_S4096x1024 := by decide
  reducesTo_S4096x1024_S_d0_1 := by decide
  h_S_ := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide

/-- A number whose absolute value is below infinity is finite. -/
theorem real_of_lt (a : EReal) (h : Ideal.cmp .olt (max a (-a)) (Ideal.ofBits .f32 0x7F800000#32) = 1#1) : IsReal a := by
  have htop : Ideal.ofBits .f32 0x7F800000#32 = (⊤ : EReal) := by simp [Ideal.ofBits, Ideal.ieee]
  rw [htop] at h
  have hlt : max a (-a) < ⊤ := by
    by_contra hn
    simp [Ideal.cmp, hn] at h
  induction a with
  | bot => simp at hlt
  | top => simp at hlt
  | coe r => exact ⟨r, rfl⟩

instance : Subsingleton S_.Idx := ⟨fun i j => funext fun a => a.elim0⟩

/-- One argument's part of the precondition. -/
theorem real_of_all {s : Shape} (b : S_.BroadcastsInDim s (![] : Fin 0 → Fin s.rank)) {axes : List (Fin s.rank)} (hr : s.ReducesTo axes S_)
    (hu : 0 < S_.numel) (a : FVec Ideal s .f32) (init : IVec S_ 1)
    (h : ∀ j, Host.reduce IntOp.andi (cmpf .olt (Host.absf a) (broadcastInDim s ![] b (constant S_ .f32 0x7F800000#32))) init hr hu j = 1#1) (i : s.Idx) :
    IsReal (a i) :=
  real_of_lt _ (Host.reduce_andi_all _ init hr hu (fun z => z.elim0) (h _) i)

theorem andi_one {p q : IVec S_ 1} (h : andi p q = fun _ => 1#1) : (∀ j, p j = 1#1) ∧ ∀ j, q j = 1#1 :=
  ⟨fun j => (IntOp.andi_eq_one.1 (congrFun h j)).1, fun j => (IntOp.andi_eq_one.1 (congrFun h j)).2⟩

/-- The precondition: every entry of the six arguments is finite. -/
theorem reals [hf : Cert.Pre_finite.Facts] (a0 a1 : FVec Ideal S4096x1024 .f32) (a2 : FVec Ideal S1x1024 .f32) (a3 a4 : FVec Ideal S1024x2816 .f32) (a5 : FVec Ideal S2816x1024 .f32)
    (h : Cert.Pre_finite.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) ∧ ∀ i, IsReal (a5 i) := by
  obtain ⟨h, h5⟩ := andi_one h
  obtain ⟨h, h4⟩ := andi_one (funext h)
  obtain ⟨h, h3⟩ := andi_one (funext h)
  obtain ⟨h, h2⟩ := andi_one (funext h)
  obtain ⟨h0, h1⟩ := andi_one (funext h)
  exact ⟨real_of_all _ _ _ _ _ h0, real_of_all _ _ _ _ _ h1, real_of_all _ _ _ _ _ h2, real_of_all _ _ _ _ _ h3, real_of_all _ _ _ _ _ h4, real_of_all _ _ _ _ _ h5⟩

end Ffn

end
-- ==== Proof.Ffn.Equal.lean ====
/- The feed-forward block's gradient: on finite arguments kernel and reference end with the same five arrays. -/
module

public import proofs.«01_k».proof.Proof.Ffn.Total
public import proofs.«01_k».proof.Proof.Ffn.Ref
public import proofs.«01_k».proof.Proof.Ffn.Finite

@[expose] public section

set_option maxRecDepth 16384

noncomputable section

namespace Cert.Proof.Ffn

open Idealize.ShloMosaic Idealize.ShloMosaic.TcCoe Idealize.SL.Sem
open _root_.Ffn (Mat IsReal)

section

variable (dout x : Mat 4096 1024) (gain : Mat 1 1024) (wg wu : Mat 1024 2816) (wd : Mat 2816 1024)

/-- Both ways of writing the gradients at the two halves' rows. -/
abbrev dg (r : Fin 4096) (f : Fin 2816) : EReal :=
  _root_.Ffn.gate (_root_.Ffn.dh dout wd r f) (_root_.Ffn.pre x gain wg r f) (_root_.Ffn.pre x gain wu r f)
abbrev dg' (r : Fin 4096) (f : Fin 2816) : EReal :=
  _root_.Ffn.gate' (_root_.Ffn.dh dout wd r f) (_root_.Ffn.pre x gain wg r f) (_root_.Ffn.pre x gain wu r f)
abbrev du (r : Fin 4096) (f : Fin 2816) : EReal := _root_.Ffn.up (_root_.Ffn.dh dout wd r f) (_root_.Ffn.pre x gain wg r f)

variable (h0 : ∀ i, IsReal (dout i)) (h1 : ∀ i, IsReal (x i)) (h2 : ∀ i, IsReal (gain i)) (h3 : ∀ i, IsReal (wg i))
  (h4 : ∀ i, IsReal (wu i)) (h5 : ∀ i, IsReal (wd i))
include h0 h1 h2 h3 h4 h5

theorem dg_eq : dg' dout x gain wg wu wd = dg dout x gain wg wu wd :=
  funext fun r => funext fun f => _root_.Ffn.gate_eq (_root_.Ffn.dh_real h0 h5 r f) (_root_.Ffn.pre_real h1 h2 h3 r f) (_root_.Ffn.pre_real h1 h2 h4 r f)

theorem dn_real (r : Fin 4096) (k : Fin 1024) : IsReal (_root_.Ffn.dn wg wu (dg dout x gain wg wu wd) (du dout x gain wg wd) r k) :=
  _root_.Ffn.dn_real h3 h4
    (fun r f => _root_.Ffn.gate_real (_root_.Ffn.dh_real h0 h5 r f) (_root_.Ffn.pre_real h1 h2 h3 r f) (_root_.Ffn.pre_real h1 h2 h4 r f))
    (fun r f => _root_.Ffn.up_real (_root_.Ffn.dh_real h0 h5 r f) (_root_.Ffn.pre_real h1 h2 h3 r f)) r k

theorem dx_eq (r : Fin 4096) (k : Fin 1024) :
    _root_.Ffn.dx' dout x gain (_root_.Ffn.dn wg wu (dg dout x gain wg wu wd) (du dout x gain wg wd)) r k
      = _root_.Ffn.dx dout x gain (_root_.Ffn.dn wg wu (dg dout x gain wg wu wd) (du dout x gain wg wd)) r k :=
  _root_.Ffn.dx_eq h1 h0 h2 (dn_real dout x gain wg wu wd h0 h1 h2 h3 h4 h5) r k

end

set_option maxHeartbeats 4000000 in
/-- Both programs end with the same gradients. -/
theorem algebraic [hp : Cert.Pre_finite.Facts] : Cert.algebraic_FfnIdeal_FfnReferenceIdeal_pre_finite := by
  intro m g m' g' hpre hagree
  refine ⟨fun c i => FfnIdeal.Ffn.dgv m c (i 0) (i 1), fun c i => FfnIdeal.Ffn.duv m c (i 0) (i 1),
    fun c i => _root_.Ffn.half * FfnIdeal.Ffn.dout m c (ix2 (i 0) (i 1)),
    fun c i => _root_.Ffn.dx (FfnIdeal.Ffn.dout m c) (FfnIdeal.Ffn.x m c) (FfnIdeal.Ffn.gain m c) (FfnIdeal.Ffn.dnv m c) (i 0) (i 1),
    fun c i => _root_.Ffn.dgain (FfnIdeal.Ffn.x m c) (FfnIdeal.Ffn.dnv m c) (i 1), ?_, ?_⟩
  · run_from Cert.FfnIdeal.Gen.run_main m g
    · exact FfnIdeal.Ffn.dg_final m c
    · exact FfnIdeal.Ffn.du_final m c
    · exact FfnIdeal.Ffn.dy_final m c
    · exact FfnIdeal.Ffn.dx_final m c
    · exact FfnIdeal.Ffn.dgain_final m c
  · refine (θ_run _ _ _).mono (fun r h c => ?_) (Cert.FfnReferenceIdeal.Value.run m' g')
    obtain ⟨h0, h1, h2, h3, h4, ha⟩ := h c
    obtain ⟨e0, e1, e2, e3, e4, e5⟩ := hagree c
    obtain ⟨p0, p1, p2, p3, p4, p5⟩ := _root_.Ffn.reals _ _ _ _ _ _ (hpre c)
    have hg := dg_eq _ _ _ _ _ _ p0 p1 p2 p3 p4 p5
    have k0 : FfnReferenceIdeal.Ffn.dout m' c = FfnIdeal.Ffn.dout m c := e0
    have k1 : FfnReferenceIdeal.Ffn.x m' c = FfnIdeal.Ffn.x m c := e1
    have k2 : FfnReferenceIdeal.Ffn.gain m' c = FfnIdeal.Ffn.gain m c := e2
    have k3 : FfnReferenceIdeal.Ffn.wg m' c = FfnIdeal.Ffn.wg m c := e3
    have k4 : FfnReferenceIdeal.Ffn.wu m' c = FfnIdeal.Ffn.wu m c := e4
    have k5 : FfnReferenceIdeal.Ffn.wd m' c = FfnIdeal.Ffn.wd m c := e5
    have kg : FfnReferenceIdeal.Ffn.gt m' c = FfnIdeal.Ffn.dgv m c := by
      unfold FfnReferenceIdeal.Ffn.gt
      rw [k0, k1, k2, k3, k4, k5]
      exact hg
    have ku : FfnReferenceIdeal.Ffn.ut m' c = FfnIdeal.Ffn.duv m c := by
      unfold FfnReferenceIdeal.Ffn.ut
      rw [k0, k1, k2, k3, k5]
      rfl
    refine ⟨h0.trans (funext fun i => ?_), h1.trans (funext fun i => ?_), h2.trans (funext fun i => ?_), h3.trans (funext fun i => ?_),
      h4.trans (funext fun i => ?_), ha⟩
    · idx_vars i
      refine (FfnReferenceIdeal.Ffn.dg_out m' c i0 i1).trans ?_
      rw [kg]
    · idx_vars i
      refine (FfnReferenceIdeal.Ffn.ut_row m' c i0 i1).trans ?_
      rw [ku]
    · idx_vars i
      refine (FfnReferenceIdeal.Ffn.DY_row (FfnReferenceIdeal.Ffn.dout m' c) i0 i1).trans ?_
      rw [k0]
    · idx_vars i
      refine (FfnReferenceIdeal.Ffn.dx_out m' c i0 i1).trans ?_
      rw [kg, ku, k0, k1, k2, k3, k4]
      exact dx_eq _ _ _ _ _ _ p0 p1 p2 p3 p4 p5 i0 i1
    · idx_vars i
      refine (FfnReferenceIdeal.Ffn.dgain_out m' c i0 i1).trans ?_
      rw [kg, ku, k1, k3, k4]

end Cert.Proof.Ffn

end
-- ==== Proof.Dw.Equal.lean ====
/- The gradient of a weight: the kernel's product, block of columns by block of columns, is the reference's. -/
module

public import proofs.«01_k».proof.Defs
public import proofs.«01_k».proof.Proof.Gen.DwIdeal.Value
public import proofs.«01_k».proof.Proof.Gen.DwReferenceIdeal.Run
public import Idealize.ShloMosaic.Lib.Pipeline.ValueKit
public import Idealize.ShloMosaic.Lib.Claim

@[expose] public section

set_option maxRecDepth 16384

noncomputable section

namespace Dw

/-- An array of `a` rows and `b` columns of extended reals. -/
abbrev Mat (a b : ℕ) := (⟨2, ![a, b]⟩ : Idealize.ShloMosaic.Shape).Idx → EReal

/-- The gradient of a weight, transposed: rows of `dg`ᵀ times columns of `xn`. -/
def dw (xn : Mat 4096 1024) (dg : Mat 4096 2816) (f : Fin 2816) (k : Fin 1024) : EReal :=
  ∑ r : Fin 4096, dg (Idealize.ShloMosaic.ix2 r f) * xn (Idealize.ShloMosaic.ix2 r k)

end Dw

namespace Cert.DwIdeal.Weight

open Cert.DwIdeal Cert.DwIdeal.Gen Idealize.ShloMosaic Idealize.ShloMosaic.TcCoe Idealize.SL.Sem
open _root_.Dw (Mat dw)

variable (m : (ℓ : Loc nD τ sig) → Buf (Elt Ideal) ℓ)

/-- The argument arrays. -/
abbrev XN (c : Dev nD) : Mat 4096 1024 := m ((c : Thread nD τ).loc main_arg0)
abbrev DG (c : Dev nD) : Mat 4096 2816 := m ((c : Thread nD τ).loc main_arg1)

/-- The windows' block numbers at every grid point. -/
theorem idx : ∀ t : Fin cfg0.N, win0_0.index t = ![0, t.val] ∧ win0_1.index t = ![0, 0] ∧ win0_2.index t = ![t.val, 0] ∧ t.val < 11 :=
  (by decide +kernel : ∀ t : Fin grid0.N, _)

/-- A block of rows of the result. -/
theorem block (c : Dev nD) (t : Fin cfg0.N) (y : S256x1024.Idx) (f : Fin 2816) (k : Fin 1024)
    (hf : f.val = t.val * 256 + (y 0).val) (hk : k.val = (y 1).val) :
    out0_2 (iblk m c 0 t) (iblk m c 1 t) y = dw (XN m c) (DG m c) f k := by
  unfold dw
  frame_out
  idx_vars y
  pointwise [k0_pay1]
  refine Finset.sum_congr rfl fun r _ => ?_
  congr 1
  · blk_point [iblk, V, idx t, DG]
  · blk_point [iblk, V, idx t, XN]

/-- The result array. -/
theorem final (c : Dev nD) (f : Fin 2816) (k : Fin 1024) :
    (dats m 0 c).arrAt 2 cfg0.N (ix2 f k) = dw (XN m c) (DG m c) f k := by
  have key : (dats m 0 c).arrAt 2 cfg0.N = fun i : S2816x1024.Idx => dw (XN m c) (DG m c) (i 0) (i 1) := by
    refine (dats m 0 c).arrAt_eq_of_covers 2 _ (by decide +kernel) fun t _ y => ?_
    blk_simp
    rw [after0_2]
    exact block m c t y _ _ (by blk_simp [idx t]) (by blk_simp [idx t])
  exact congrFun key _

end Cert.DwIdeal.Weight

namespace Cert.Proof.Dw

open Idealize.ShloMosaic Idealize.ShloMosaic.TcCoe Idealize.SL.Sem

/-- Both programs end with the same product. -/
theorem algebraic : Cert.algebraic_DwIdeal_DwReferenceIdeal := by
  intro m g m' g' _ hagree
  refine ⟨fun c i => _root_.Dw.dw (DwIdeal.Weight.XN m c) (DwIdeal.Weight.DG m c) (i 0) (i 1), ?_, ?_⟩
  · run_from Cert.DwIdeal.Gen.run_main m g
    · exact funext fun i => (congrArg _ (eq_ix2 i)).trans (DwIdeal.Weight.final m c (i 0) (i 1))
  · refine (θ_run _ _ _).mono (fun r h c => ?_) (Cert.DwReferenceIdeal.Value.run m' g')
    obtain ⟨h0, ha⟩ := h c
    obtain ⟨e0, e1⟩ := hagree c
    refine ⟨h0.trans (funext fun i => ?_), ha⟩
    rw [e0, e1]
    unfold _root_.Dw.dw
    idx_vars i
    pointwise

end Cert.Proof.Dw

end
-- ==== Proof.Products.Sums.lean ====
/- The three kinds of matrix product that the step's plain products are, as sums. -/
module

public import Idealize.ShloMosaic.Lib.Pipeline.ValueKit

@[expose] public section

noncomputable section

namespace Products

open Idealize.ShloMosaic

/-- An array of `a` rows and `b` columns of extended reals. -/
abbrev Mat (a b : ℕ) := (⟨2, ![a, b]⟩ : Shape).Idx → EReal

variable {M K N : ℕ}

/-- The left factor transposed: both factors' rows are summed over. -/
def tn (a : Mat K M) (b : Mat K N) (i : Fin M) (j : Fin N) : EReal := ∑ k : Fin K, a (ix2 k i) * b (ix2 k j)

/-- The right factor transposed: both factors' columns are summed over. -/
def nt (a : Mat M K) (b : Mat N K) (i : Fin M) (j : Fin N) : EReal := ∑ k : Fin K, a (ix2 i k) * b (ix2 j k)

/-- Neither transposed. -/
def nn (a : Mat M K) (b : Mat K N) (i : Fin M) (j : Fin N) : EReal := ∑ k : Fin K, a (ix2 i k) * b (ix2 k j)

end Products

end
-- ==== Proof.Products.DwOdd.lean ====
/- The gradient of the weights before the short convolution: the kernel's blocks are the blocks of the reference's product. -/
module

public import proofs.«01_k».proof.Defs
public import proofs.«01_k».proof.Proof.Products.Sums
public import proofs.«01_k».proof.Proof.Gen.DwOddIdeal.Value
public import proofs.«01_k».proof.Proof.Gen.DwOddReferenceIdeal.Run
public import Idealize.ShloMosaic.Lib.Claim

@[expose] public section

set_option maxRecDepth 16384

noncomputable section

namespace Cert.DwOddIdeal.Product

open Cert.DwOddIdeal Cert.DwOddIdeal.Gen Idealize.ShloMosaic Idealize.ShloMosaic.TcCoe Idealize.SL.Sem
open _root_.Products (Mat tn)

variable (m : (ℓ : Loc nD τ sig) → Buf (Elt Ideal) ℓ)

/-- The factors. -/
abbrev A (c : Dev nD) : Mat 4096 3072 := m ((c : Thread nD τ).loc main_arg1)
abbrev B (c : Dev nD) : Mat 4096 1024 := m ((c : Thread nD τ).loc main_arg0)

/-- The windows' block numbers at every grid point. -/
theorem idx : ∀ t : Fin cfg0.N, win0_0.index t = ![0, t.val] ∧ win0_1.index t = ![0, 0] ∧ win0_2.index t = ![t.val, 0] ∧ t.val < 4 :=
  (by decide +kernel : ∀ t : Fin grid0.N, _)

/-- A block of rows of the result. -/
theorem block (c : Dev nD) (t : Fin cfg0.N) (y : S768x1024.Idx) (i : Fin 3072) (j : Fin 1024)
    (hi : i.val = t.val * 768 + (y 0).val) (hj : j.val = (y 1).val) :
    out0_2 (iblk m c 0 t) (iblk m c 1 t) y = tn (A m c) (B m c) i j := by
  unfold tn
  frame_out
  idx_vars y
  pointwise [k0_pay1]
  refine Finset.sum_congr rfl fun r _ => ?_
  congr 1
  · blk_point [iblk, V, idx t, A]
  · blk_point [iblk, V, idx t, B]

/-- The result array. -/
theorem final (c : Dev nD) (i : Fin 3072) (j : Fin 1024) :
    (dats m 0 c).arrAt 2 cfg0.N (ix2 i j) = tn (A m c) (B m c) i j := by
  have key : (dats m 0 c).arrAt 2 cfg0.N = fun i : S3072x1024.Idx => tn (A m c) (B m c) (i 0) (i 1) := by
    refine (dats m 0 c).arrAt_eq_of_covers 2 _ (by decide +kernel) fun t _ y => ?_
    blk_simp
    rw [after0_2]
    exact block m c t y _ _ (by blk_simp [idx t]) (by blk_simp [idx t])
  exact congrFun key _

end Cert.DwOddIdeal.Product

namespace Cert.Proof.DwOdd

open Idealize.ShloMosaic Idealize.ShloMosaic.TcCoe Idealize.SL.Sem

/-- Both programs end with the same product. -/
theorem algebraic : Cert.algebraic_DwOddIdeal_DwOddReferenceIdeal := by
  intro m g m' g' _ hagree
  refine ⟨fun c i => _root_.Products.tn (DwOddIdeal.Product.A m c) (DwOddIdeal.Product.B m c) (i 0) (i 1), ?_, ?_⟩
  · run_from Cert.DwOddIdeal.Gen.run_main m g
    · exact funext fun i => (congrArg _ (eq_ix2 i)).trans (DwOddIdeal.Product.final m c (i 0) (i 1))
  · refine (θ_run _ _ _).mono (fun r h c => ?_) (Cert.DwOddReferenceIdeal.Value.run m' g')
    obtain ⟨h0, ha⟩ := h c
    obtain ⟨e0, e1⟩ := hagree c
    refine ⟨h0.trans (funext fun i => ?_), ha⟩
    rw [e0, e1]
    unfold _root_.Products.tn
    idx_vars i
    pointwise

end Cert.Proof.DwOdd

end
-- ==== Proof.Products.DwEven.lean ====
/- The gradient of the weights before the attention mixer: the kernel's blocks are the blocks of the reference's product. -/
module

public import proofs.«01_k».proof.Defs
public import proofs.«01_k».proof.Proof.Products.Sums
public import proofs.«01_k».proof.Proof.Gen.DwEvenIdeal.Value
public import proofs.«01_k».proof.Proof.Gen.DwEvenReferenceIdeal.Run
public import Idealize.ShloMosaic.Lib.Claim

@[expose] public section

set_option maxRecDepth 16384

noncomputable section

namespace Cert.DwEvenIdeal.Product

open Cert.DwEvenIdeal Cert.DwEvenIdeal.Gen Idealize.ShloMosaic Idealize.ShloMosaic.TcCoe Idealize.SL.Sem
open _root_.Products (Mat tn)

variable (m : (ℓ : Loc nD τ sig) → Buf (Elt Ideal) ℓ)

/-- The factors. -/
abbrev A (c : Dev nD) : Mat 4096 2560 := m ((c : Thread nD τ).loc main_arg1)
abbrev B (c : Dev nD) : Mat 4096 1024 := m ((c : Thread nD τ).loc main_arg0)

/-- The windows' block numbers at every grid point. -/
theorem idx : ∀ t : Fin cfg0.N, win0_0.index t = ![0, t.val] ∧ win0_1.index t = ![0, 0] ∧ win0_2.index t = ![t.val, 0] ∧ t.val < 4 :=
  (by decide +kernel : ∀ t : Fin grid0.N, _)

/-- A block of rows of the result. -/
theorem block (c : Dev nD) (t : Fin cfg0.N) (y : S640x1024.Idx) (i : Fin 2560) (j : Fin 1024)
    (hi : i.val = t.val * 640 + (y 0).val) (hj : j.val = (y 1).val) :
    out0_2 (iblk m c 0 t) (iblk m c 1 t) y = tn (A m c) (B m c) i j := by
  unfold tn
  frame_out
  idx_vars y
  pointwise [k0_pay1]
  refine Finset.sum_congr rfl fun r _ => ?_
  congr 1
  · blk_point [iblk, V, idx t, A]
  · blk_point [iblk, V, idx t, B]

/-- The result array. -/
theorem final (c : Dev nD) (i : Fin 2560) (j : Fin 1024) :
    (dats m 0 c).arrAt 2 cfg0.N (ix2 i j) = tn (A m c) (B m c) i j := by
  have key : (dats m 0 c).arrAt 2 cfg0.N = fun i : S2560x1024.Idx => tn (A m c) (B m c) (i 0) (i 1) := by
    refine (dats m 0 c).arrAt_eq_of_covers 2 _ (by decide +kernel) fun t _ y => ?_
    blk_simp
    rw [after0_2]
    exact block m c t y _ _ (by blk_simp [idx t]) (by blk_simp [idx t])
  exact congrFun key _

end Cert.DwEvenIdeal.Product

namespace Cert.Proof.DwEven

open Idealize.ShloMosaic Idealize.ShloMosaic.TcCoe Idealize.SL.Sem

/-- Both programs end with the same product. -/
theorem algebraic : Cert.algebraic_DwEvenIdeal_DwEvenReferenceIdeal := by
  intro m g m' g' _ hagree
  refine ⟨fun c i => _root_.Products.tn (DwEvenIdeal.Product.A m c) (DwEvenIdeal.Product.B m c) (i 0) (i 1), ?_, ?_⟩
  · run_from Cert.DwEvenIdeal.Gen.run_main m g
    · exact funext fun i => (congrArg _ (eq_ix2 i)).trans (DwEvenIdeal.Product.final m c (i 0) (i 1))
  · refine (θ_run _ _ _).mono (fun r h c => ?_) (Cert.DwEvenReferenceIdeal.Value.run m' g')
    obtain ⟨h0, ha⟩ := h c
    obtain ⟨e0, e1⟩ := hagree c
    refine ⟨h0.trans (funext fun i => ?_), ha⟩
    rw [e0, e1]
    unfold _root_.Products.tn
    idx_vars i
    pointwise

end Cert.Proof.DwEven

end
-- ==== Proof.Products.DwOut.lean ====
/- The gradient of the weights after a mixer: the kernel's blocks are the blocks of the reference's product. -/
module

public import proofs.«01_k».proof.Defs
public import proofs.«01_k».proof.Proof.Products.Sums
public import proofs.«01_k».proof.Proof.Gen.DwOutIdeal.Value
public import proofs.«01_k».proof.Proof.Gen.DwOutReferenceIdeal.Run
public import Idealize.ShloMosaic.Lib.Claim

@[expose] public section

set_option maxRecDepth 16384

noncomputable section

namespace Cert.DwOutIdeal.Product

open Cert.DwOutIdeal Cert.DwOutIdeal.Gen Idealize.ShloMosaic Idealize.ShloMosaic.TcCoe Idealize.SL.Sem
open _root_.Products (Mat tn)

variable (m : (ℓ : Loc nD τ sig) → Buf (Elt Ideal) ℓ)

/-- The factors. -/
abbrev A (c : Dev nD) : Mat 4096 1024 := m ((c : Thread nD τ).loc main_arg0)
abbrev B (c : Dev nD) : Mat 4096 1024 := m ((c : Thread nD τ).loc main_arg1)

/-- The windows' block numbers at every grid point. -/
theorem idx : ∀ t : Fin cfg0.N, win0_0.index t = ![0, t.val] ∧ win0_1.index t = ![0, 0] ∧ win0_2.index t = ![t.val, 0] ∧ t.val < 2 :=
  (by decide +kernel : ∀ t : Fin grid0.N, _)

/-- A block of rows of the result. -/
theorem block (c : Dev nD) (t : Fin cfg0.N) (y : S512x1024.Idx) (i : Fin 1024) (j : Fin 1024)
    (hi : i.val = t.val * 512 + (y 0).val) (hj : j.val = (y 1).val) :
    out0_2 (iblk m c 0 t) (iblk m c 1 t) y = tn (A m c) (B m c) i j := by
  unfold tn
  frame_out
  idx_vars y
  pointwise [k0_pay1]
  refine Finset.sum_congr rfl fun r _ => ?_
  congr 1
  · blk_point [iblk, V, idx t, A]
  · blk_point [iblk, V, idx t, B]

/-- The result array. -/
theorem final (c : Dev nD) (i : Fin 1024) (j : Fin 1024) :
    (dats m 0 c).arrAt 2 cfg0.N (ix2 i j) = tn (A m c) (B m c) i j := by
  have key : (dats m 0 c).arrAt 2 cfg0.N = fun i : S1024x1024.Idx => tn (A m c) (B m c) (i 0) (i 1) := by
    refine (dats m 0 c).arrAt_eq_of_covers 2 _ (by decide +kernel) fun t _ y => ?_
    blk_simp
    rw [after0_2]
    exact block m c t y _ _ (by blk_simp [idx t]) (by blk_simp [idx t])
  exact congrFun key _

end Cert.DwOutIdeal.Product

namespace Cert.Proof.DwOut

open Idealize.ShloMosaic Idealize.ShloMosaic.TcCoe Idealize.SL.Sem

/-- Both programs end with the same product. -/
theorem algebraic : Cert.algebraic_DwOutIdeal_DwOutReferenceIdeal := by
  intro m g m' g' _ hagree
  refine ⟨fun c i => _root_.Products.tn (DwOutIdeal.Product.A m c) (DwOutIdeal.Product.B m c) (i 0) (i 1), ?_, ?_⟩
  · run_from Cert.DwOutIdeal.Gen.run_main m g
    · exact funext fun i => (congrArg _ (eq_ix2 i)).trans (DwOutIdeal.Product.final m c (i 0) (i 1))
  · refine (θ_run _ _ _).mono (fun r h c => ?_) (Cert.DwOutReferenceIdeal.Value.run m' g')
    obtain ⟨h0, ha⟩ := h c
    obtain ⟨e0, e1⟩ := hagree c
    refine ⟨h0.trans (funext fun i => ?_), ha⟩
    rw [e0, e1]
    unfold _root_.Products.tn
    idx_vars i
    pointwise
    exact Finset.sum_congr rfl fun _ _ => mul_comm _ _

end Cert.Proof.DwOut

end
-- ==== Proof.Products.DxOut.lean ====
/- The gradient of the rows before a mixer's last product: the kernel's blocks are the blocks of the reference's product. -/
module

public import proofs.«01_k».proof.Defs
public import proofs.«01_k».proof.Proof.Products.Sums
public import proofs.«01_k».proof.Proof.Gen.DxOutIdeal.Value
public import proofs.«01_k».proof.Proof.Gen.DxOutReferenceIdeal.Run
public import Idealize.ShloMosaic.Lib.Claim

@[expose] public section

set_option maxRecDepth 16384

noncomputable section

namespace Cert.DxOutIdeal.Product

open Cert.DxOutIdeal Cert.DxOutIdeal.Gen Idealize.ShloMosaic Idealize.ShloMosaic.TcCoe Idealize.SL.Sem
open _root_.Products (Mat nt)

variable (m : (ℓ : Loc nD τ sig) → Buf (Elt Ideal) ℓ)

/-- The factors. -/
abbrev A (c : Dev nD) : Mat 4096 1024 := m ((c : Thread nD τ).loc main_arg0)
abbrev B (c : Dev nD) : Mat 1024 1024 := m ((c : Thread nD τ).loc main_arg1)

/-- The windows' block numbers at every grid point. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- A block of rows of the result. -/
theorem block (c : Dev nD) (t : Fin cfg0.N) (y : S512x1024.Idx) (i : Fin 4096) (j : Fin 1024)
    (hi : i.val = t.val * 512 + (y 0).val) (hj : j.val = (y 1).val) :
    out0_2 (iblk m c 0 t) (iblk m c 1 t) y = nt (A m c) (B m c) i j := by
  unfold nt
  frame_out
  idx_vars y
  pointwise [k0_pay1]
  refine Finset.sum_congr rfl fun r _ => ?_
  congr 1
  · blk_point [iblk, V, idx t, A]
  · blk_point [iblk, V, idx t, B]

/-- The result array. -/
theorem final (c : Dev nD) (i : Fin 4096) (j : Fin 1024) :
    (dats m 0 c).arrAt 2 cfg0.N (ix2 i j) = nt (A m c) (B m c) i j := by
  have key : (dats m 0 c).arrAt 2 cfg0.N = fun i : S4096x1024.Idx => nt (A m c) (B m c) (i 0) (i 1) := by
    refine (dats m 0 c).arrAt_eq_of_covers 2 _ (by decide +kernel) fun t _ y => ?_
    blk_simp
    rw [after0_2]
    exact block m c t y _ _ (by blk_simp [idx t]) (by blk_simp [idx t])
  exact congrFun key _

end Cert.DxOutIdeal.Product

namespace Cert.Proof.DxOut

open Idealize.ShloMosaic Idealize.ShloMosaic.TcCoe Idealize.SL.Sem

/-- Both programs end with the same product. -/
theorem algebraic : Cert.algebraic_DxOutIdeal_DxOutReferenceIdeal := by
  intro m g m' g' _ hagree
  refine ⟨fun c i => _root_.Products.nt (DxOutIdeal.Product.A m c) (DxOutIdeal.Product.B m c) (i 0) (i 1), ?_, ?_⟩
  · run_from Cert.DxOutIdeal.Gen.run_main m g
    · exact funext fun i => (congrArg _ (eq_ix2 i)).trans (DxOutIdeal.Product.final m c (i 0) (i 1))
  · refine (θ_run _ _ _).mono (fun r h c => ?_) (Cert.DxOutReferenceIdeal.Value.run m' g')
    obtain ⟨h0, ha⟩ := h c
    obtain ⟨e0, e1⟩ := hagree c
    refine ⟨h0.trans (funext fun i => ?_), ha⟩
    rw [e0, e1]
    unfold _root_.Products.nt
    idx_vars i
    pointwise

end Cert.Proof.DxOut

end
-- ==== Proof.Products.DxEven.lean ====
/- The gradient of the rows before the attention mixer's first product: the kernel's blocks are the blocks of the reference's product. -/
module

public import proofs.«01_k».proof.Defs
public import proofs.«01_k».proof.Proof.Products.Sums
public import proofs.«01_k».proof.Proof.Gen.DxEvenIdeal.Value
public import proofs.«01_k».proof.Proof.Gen.DxEvenReferenceIdeal.Run
public import Idealize.ShloMosaic.Lib.Claim

@[expose] public section

set_option maxRecDepth 16384

noncomputable section

namespace Cert.DxEvenIdeal.Product

open Cert.DxEvenIdeal Cert.DxEvenIdeal.Gen Idealize.ShloMosaic Idealize.ShloMosaic.TcCoe Idealize.SL.Sem
open _root_.Products (Mat nn)

variable (m : (ℓ : Loc nD τ sig) → Buf (Elt Ideal) ℓ)

/-- The factors. -/
abbrev A (c : Dev nD) : Mat 4096 2560 := m ((c : Thread nD τ).loc main_arg0)
abbrev B (c : Dev nD) : Mat 2560 1024 := m ((c : Thread nD τ).loc main_arg1)

/-- The windows' block numbers at every grid point. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- A block of rows of the result. -/
theorem block (c : Dev nD) (t : Fin cfg0.N) (y : S512x1024.Idx) (i : Fin 4096) (j : Fin 1024)
    (hi : i.val = t.val * 512 + (y 0).val) (hj : j.val = (y 1).val) :
    out0_2 (iblk m c 0 t) (iblk m c 1 t) y = nn (A m c) (B m c) i j := by
  unfold nn
  frame_out
  idx_vars y
  pointwise [k0_pay1]
  refine Finset.sum_congr rfl fun r _ => ?_
  congr 1
  · blk_point [iblk, V, idx t, A]
  · blk_point [iblk, V, idx t, B]

/-- The result array. -/
theorem final (c : Dev nD) (i : Fin 4096) (j : Fin 1024) :
    (dats m 0 c).arrAt 2 cfg0.N (ix2 i j) = nn (A m c) (B m c) i j := by
  have key : (dats m 0 c).arrAt 2 cfg0.N = fun i : S4096x1024.Idx => nn (A m c) (B m c) (i 0) (i 1) := by
    refine (dats m 0 c).arrAt_eq_of_covers 2 _ (by decide +kernel) fun t _ y => ?_
    blk_simp
    rw [after0_2]
    exact block m c t y _ _ (by blk_simp [idx t]) (by blk_simp [idx t])
  exact congrFun key _

end Cert.DxEvenIdeal.Product

namespace Cert.Proof.DxEven

open Idealize.ShloMosaic Idealize.ShloMosaic.TcCoe Idealize.SL.Sem

/-- Both programs end with the same product. -/
theorem algebraic : Cert.algebraic_DxEvenIdeal_DxEvenReferenceIdeal := by
  intro m g m' g' _ hagree
  refine ⟨fun c i => _root_.Products.nn (DxEvenIdeal.Product.A m c) (DxEvenIdeal.Product.B m c) (i 0) (i 1), ?_, ?_⟩
  · run_from Cert.DxEvenIdeal.Gen.run_main m g
    · exact funext fun i => (congrArg _ (eq_ix2 i)).trans (DxEvenIdeal.Product.final m c (i 0) (i 1))
  · refine (θ_run _ _ _).mono (fun r h c => ?_) (Cert.DxEvenReferenceIdeal.Value.run m' g')
    obtain ⟨h0, ha⟩ := h c
    obtain ⟨e0, e1⟩ := hagree c
    refine ⟨h0.trans (funext fun i => ?_), ha⟩
    rw [e0, e1]
    unfold _root_.Products.nn
    idx_vars i
    pointwise

end Cert.Proof.DxEven

end
-- ==== Proof.Norm.Blocks.lean ====
/- The gradient of the mixer's norm and first product: the kernel's two result arrays. -/
module

public import proofs.«01_k».proof.Proof.Gen.NormIdeal.Value
public import proofs.«01_k».proof.Proof.Ffn.Math
public import proofs.«01_k».proof.Proof.Products.Sums

@[expose] public section

set_option maxRecDepth 16384

noncomputable section

namespace Cert.NormIdeal.Norm

open Cert.NormIdeal Cert.NormIdeal.Gen Idealize.ShloMosaic Idealize.ShloMosaic.TcCoe Idealize.SL.Sem
open _root_.Ffn (Mat)

variable (m : (ℓ : Loc nD τ sig) → Buf (Elt Ideal) ℓ)

/-- The argument arrays. -/
abbrev dz (c : Dev nD) : Mat 4096 3072 := m ((c : Thread nD τ).loc main_arg0)
abbrev wt (c : Dev nD) : Mat 3072 1024 := m ((c : Thread nD τ).loc main_arg1)
abbrev x (c : Dev nD) : Mat 4096 1024 := m ((c : Thread nD τ).loc main_arg2)
abbrev gain (c : Dev nD) : Mat 1 1024 := m ((c : Thread nD τ).loc main_arg3)
abbrev dout (c : Dev nD) : Mat 4096 1024 := m ((c : Thread nD τ).loc main_arg4)

/-- The gradient at the normalised rows. -/
abbrev dn (c : Dev nD) : Fin 4096 → Fin 1024 → EReal := _root_.Products.nn (dz m c) (wt m c)

/-- The windows' block numbers at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] ∧ t.val < 8 :=
  (by decide +kernel : ∀ t : Fin grid0.N, _)

/-- Row `a` of tile `t`. -/
def row (t : Fin cfg0.N) (a : Fin 512) : Fin 4096 := ⟨t.val * 512 + a.val, by have := idx t; omega⟩

theorem row_eq (t : Fin cfg0.N) (a : Fin 512) (r : Fin 4096) (hr : r.val = t.val * 512 + a.val) : row t a = r := Fin.ext hr.symm

theorem blk_dz (c : Dev nD) (t : Fin cfg0.N) (a : Fin 512) (k : Fin 3072) :
    (iblk m c 0 t : Mat 512 3072) (ix2 a k) = dz m c (ix2 (row t a) k) := by
  unfold row
  blk_point [iblk, V, idx t]

theorem blk_wt (c : Dev nD) (t : Fin cfg0.N) (a : Fin 3072) (k : Fin 1024) :
    (iblk m c 1 t : Mat 3072 1024) (ix2 a k) = wt m c (ix2 a k) := by
  blk_point [iblk, V, idx t]

theorem blk_x (c : Dev nD) (t : Fin cfg0.N) (a : Fin 512) (k : Fin 1024) :
    (iblk m c 2 t : Mat 512 1024) (ix2 a k) = x m c (ix2 (row t a) k) := by
  unfold row
  blk_point [iblk, V, idx t]

theorem blk_gain (c : Dev nD) (t : Fin cfg0.N) (k : Fin 1024) :
    (iblk m c 3 t : Mat 1 1024) (ix2 0 k) = gain m c (ix2 0 k) := by
  blk_point [iblk, V, idx t]

theorem blk_dout (c : Dev nD) (t : Fin cfg0.N) (a : Fin 512) (k : Fin 1024) :
    (iblk m c 4 t : Mat 512 1024) (ix2 a k) = dout m c (ix2 (row t a) k) := by
  unfold row
  blk_point [iblk, V, idx t]

/-- The gradient of `x` at a point. -/
theorem dx_row (c : Dev nD) (t : Fin cfg0.N) (a : Fin 512) (k : Fin 1024) :
    k0_pay1 (F := Ideal) (k0_pay3 (iblk m c 2 t)) (k0_pay4 (iblk m c 2 t)) (k0_pay7 (iblk m c 0 t) (iblk m c 1 t) (iblk m c 3 t)) (iblk m c 4 t)
        (k0_pay8 (iblk m c 0 t) (iblk m c 1 t) (iblk m c 2 t) (iblk m c 3 t)) (ix2 a k)
      = _root_.Ffn.dx (dout m c) (x m c) (gain m c) (dn m c) (row t a) k := by
  unfold _root_.Ffn.dx _root_.Ffn.rr _root_.Ffn.var dn _root_.Products.nn
  simp only [← blk_dout m c t, ← blk_x m c t, ← blk_gain m c t, ← blk_dz m c t, ← blk_wt m c t]
  pointwise [k0_pay1, k0_pay2, k0_pay3, k0_pay4, k0_pay7, k0_pay8]

/-- One more tile of the gain's gradient. -/
theorem dgain_row (c : Dev nD) (t : Fin cfg0.N) (P : FVec Ideal S1x1024 .f32) (k : Fin 1024) :
    k0_pay6 (F := Ideal) (iblk m c 0 t) (iblk m c 1 t) (iblk m c 2 t) P (ix2 0 k)
      = P (ix2 0 k) + ∑ a : Fin 512, dn m c (row t a) k * (x m c (ix2 (row t a) k) * _root_.Ffn.rr (x m c) (row t a)) := by
  unfold _root_.Ffn.rr _root_.Ffn.var dn _root_.Products.nn
  simp only [← blk_x m c t, ← blk_dz m c t, ← blk_wt m c t]
  pointwise [k0_pay6, k0_pay2, k0_pay3, k0_pay4]

theorem dx_point (c : Dev nD) (t : Fin cfg0.N) (y : S512x1024.Idx) (r : Fin 4096) (k : Fin 1024)
    (hr : r.val = t.val * 512 + (y 0).val) (hk : k.val = (y 1).val) :
    (outsAt0 m c t.val t.isLt).1 y = _root_.Ffn.dx (dout m c) (x m c) (gain m c) (dn m c) r k := by
  idx_vars y
  obtain rfl := Fin.ext hk
  rw [← row_eq t y0 r hr]
  by_cases ht : t.val % 8 = 0
  · rw [outsAt0_A m c t ht]
    frame_out
    exact dx_row m c t _ _
  · rw [outsAt0_B m c t ht]
    frame_out
    exact dx_row m c t _ _

/-- What point `t` adds to an entry of the gain's gradient. -/
def gpart (c : Dev nD) (t : Fin cfg0.N) (k : Fin 1024) : EReal :=
  ∑ a : Fin 512, dn m c (row t a) k * (x m c (ix2 (row t a) k) * _root_.Ffn.rr (x m c) (row t a))

theorem dgain_A (c : Dev nD) (t : Fin cfg0.N) (ht : t.val % 8 = 0) (k : Fin 1024) :
    (outsAt0 m c t.val t.isLt).2 (ix2 0 k) = 0 + gpart m c t k := by
  rw [outsAt0_A m c t ht]
  frame_out
  refine (dgain_row m c t _ k).trans (congrArg (· + _) ?_)
  pointwise [k0_pay5]

theorem dgain_B (c : Dev nD) (t : Fin cfg0.N) (ht : ¬ t.val % 8 = 0) (k : Fin 1024) :
    (outsAt0 m c t.val t.isLt).2 (ix2 0 k)
      = (outsAt0 m c (t.val - 1) (Nat.lt_of_le_of_lt (Nat.sub_le _ _) t.isLt)).2 (ix2 0 k) + gpart m c t k := by
  rw [outsAt0_B m c t ht]
  frame_out
  exact dgain_row m c t _ k

/-- The gain's gradient after the last point. -/
theorem dgain_last (c : Dev nD) (k : Fin 1024) :
    (outsAt0 m c t0_7.val t0_7.isLt).2 (ix2 0 k) = _root_.Ffn.dgain (x m c) (dn m c) k := by
  rw [Pipeline.eq_sum_fin_of_reset_step_apply_last (fun n h => (outsAt0 m c n h).2) 8 (fun _ => (0 : EReal)) (fun t y => gpart m c t (y 1))
    (fun t h y => by
      idx_vars y
      obtain rfl : y0 = 0 := Subsingleton.elim _ _
      exact dgain_A m c t h y1)
    (fun t h y => by
      idx_vars y
      obtain rfl : y0 = 0 := Subsingleton.elim _ _
      exact dgain_B m c t h y1)
    (le_of_eq N_0) t0_7 rfl (ix2 0 k)]
  refine (zero_add _).trans ?_
  unfold _root_.Ffn.dgain gpart
  rw [Fin.sum_univ_tiles 8 512 rfl]
  rfl

theorem dx_final (c : Dev nD) : (dats m 0 c).arrAt 5 cfg0.N = fun i : S4096x1024.Idx => _root_.Ffn.dx (dout m c) (x m c) (gain m c) (dn m c) (i 0) (i 1) := by
  refine (dats m 0 c).arrAt_eq_of_covers 5 _ (by decide +kernel) fun t _ y => ?_
  blk_simp
  rw [after0_5]
  exact dx_point m c t y _ _ (by blk_simp [idx t]) (by blk_simp [idx t])

theorem dgain_final (c : Dev nD) : (dats m 0 c).arrAt 6 cfg0.N = fun i : S1x1024.Idx => _root_.Ffn.dgain (x m c) (dn m c) (i 1) := by
  refine (dats m 0 c).arrAt_eq_of_after_last 6 t0_7 (by decide +kernel) _ fun j => ?_
  blk_simp
  rw [after0_6]
  idx_vars j
  obtain rfl : j0 = 0 := Subsingleton.elim _ _
  exact dgain_last m c _

end Cert.NormIdeal.Norm

end
-- ==== Proof.Norm.Ref.lean ====
/- The reference's two results, read at an index. -/
module

public import proofs.«01_k».proof.Proof.Gen.NormReferenceIdeal.Run
public import proofs.«01_k».proof.Proof.Ffn.Math
public import proofs.«01_k».proof.Proof.Products.Sums

@[expose] public section

set_option maxRecDepth 16384

noncomputable section

namespace Cert.NormReferenceIdeal.Norm

open Cert.NormReferenceIdeal Cert.NormReferenceIdeal.Gen Cert.NormReferenceIdeal.Value Idealize.ShloMosaic Idealize.ShloMosaic.TcCoe Idealize.SL.Sem
open _root_.Ffn (Mat)

/-- The mean square of each row and the small summand. -/
def VAR (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

theorem VAR_row (x : FVec Ideal S4096x1024 .f32) (r : Fin 4096) (z : Fin 1) : VAR x (ix2 r z) = _root_.Ffn.var x r := by
  unfold _root_.Ffn.var
  pointwise [VAR]

/-- One over its root. -/
def RR (v : FVec Ideal S4096x1 .f32) : FVec Ideal S4096x1 .f32 := Host.rsqrt v

theorem RR_row (x : FVec Ideal S4096x1024 .f32) (r : Fin 4096) (z : Fin 1) : RR (VAR x) (ix2 r z) = _root_.Ffn.rr x r := by
  unfold _root_.Ffn.rr
  pointwise [RR]
  rw [VAR_row]

/-- The rows over their root mean square. -/
def XH (x : FVec Ideal S4096x1024 .f32) (rr : FVec Ideal S4096x1 .f32) : FVec Ideal S4096x1024 .f32 :=
  mulf x (broadcastInDim S4096x1024 ![0, 1] bcast_S4096x1_S4096x1024_0_1 rr)

theorem XH_row (x : FVec Ideal S4096x1024 .f32) (r : Fin 4096) (k : Fin 1024) :
    XH x (RR (VAR x)) (ix2 r k) = x (ix2 r k) * _root_.Ffn.rr x r := by
  pointwise [XH]
  rw [RR_row]

/-- The gradient at the normalised rows. -/
def DN (dz : FVec Ideal S4096x3072 .bf16) (wt : FVec Ideal S3072x1024 .bf16) : FVec Ideal S4096x1024 .f32 :=
  Host.dotGeneral dot_S4096x3072_S1024x3072_S4096x1024_1_1_0_0_n_n none (extf .f32 dz bitsLt_bf16_f32) (extf .f32 (transpose S1024x3072 [1, 0] wt transposes_S3072x1024_S1024x3072_1_0) bitsLt_bf16_f32)

theorem DN_row (dz : FVec Ideal S4096x3072 .bf16) (wt : FVec Ideal S3072x1024 .bf16) (r : Fin 4096) (k : Fin 1024) :
    DN dz wt (ix2 r k) = _root_.Products.nn dz wt r k := by
  unfold _root_.Products.nn
  pointwise [DN]

/-- The gradient of the gain. -/
def DGAIN (xh d : FVec Ideal S4096x1024 .f32) : FVec Ideal S1x1024 .f32 :=
  shapeCast _ (Host.reduceAdd (mulf xh d) (constant S_ .f32 0x00000000#32) reducesTo_S4096x1024_S1024_d0 h_S_) shapeCasts_S1024_S1x1024

theorem DGAIN_row (x d : FVec Ideal S4096x1024 .f32) (z : Fin 1) (k : Fin 1024) :
    DGAIN (XH x (RR (VAR x))) d (ix2 z k) = _root_.Ffn.dgain x (fun r k => d (ix2 r k)) k := by
  unfold _root_.Ffn.dgain
  pointwise [DGAIN]
  simp only [XH_row]
  exact Finset.sum_congr rfl fun r _ => mul_comm _ _

/-- The part of the gradient of `x` that comes through the root mean square. -/
def CORR (x d : FVec Ideal S4096x1024 .f32) (gain : FVec Ideal S1x1024 .f32) (rr v : FVec Ideal S4096x1 .f32) : FVec Ideal S4096x1024 .f32 :=
  broadcastInDim S4096x1024 ![0] bcast_S4096_S4096x1024_0 (Host.reduceAdd (Host.divf (mulf (shapeCast _ (Host.reduceAdd (mulf x (mulf d (broadcastInDim S4096x1024 ![0, 1] bcast_S1x1024_S4096x1024_0_1 gain))) (constant S_ .f32 0x00000000#32) reducesTo_S4096x1024_S4096_d1 h_S_) shapeCasts_S4096_S4096x1) (mulf (broadcastInDim S4096x1 ![] bcast_S_S4096x1 (constant S_ .f32 0xBF000000#32)) (Host.divf rr v))) (broadcastInDim S4096x1 ![] bcast_S_S4096x1 (constant S_ .f32 0x44800000#32))) (constant S_ .f32 0x00000000#32) reducesTo_S4096x1_S4096_d1 h_S_)

theorem CORR_row (x d : FVec Ideal S4096x1024 .f32) (gain : FVec Ideal S1x1024 .f32) (r : Fin 4096) (k : Fin 1024) :
    CORR x d gain (RR (VAR x)) (VAR x) (ix2 r k) = _root_.Ffn.corr x gain (fun r k => d (ix2 r k)) r := by
  unfold _root_.Ffn.corr
  pointwise [CORR]
  simp only [Finset.univ_unique, Finset.sum_singleton, RR_row, VAR_row]

/-- The gradient of `x`. -/
def DX (dout x d : FVec Ideal S4096x1024 .f32) (gain : FVec Ideal S1x1024 .f32) (rr : FVec Ideal S4096x1 .f32) (corr : FVec Ideal S4096x1024 .f32) : FVec Ideal S4096x1024 .f32 :=
  addf dout (addf (addf (mulf (mulf d (broadcastInDim S4096x1024 ![0, 1] bcast_S1x1024_S4096x1024_0_1 gain)) (broadcastInDim S4096x1024 ![0, 1] bcast_S4096x1_S4096x1024_0_1 rr)) (mulf x corr)) (mulf corr x))

theorem DX_row (dout x d : FVec Ideal S4096x1024 .f32) (gain : FVec Ideal S1x1024 .f32) (r : Fin 4096) (k : Fin 1024) :
    DX dout x d gain (RR (VAR x)) (CORR x d gain (RR (VAR x)) (VAR x)) (ix2 r k)
      = _root_.Ffn.dx' dout x gain (fun r k => d (ix2 r k)) r k := by
  unfold _root_.Ffn.dx'
  pointwise [DX]
  rw [CORR_row, RR_row, mul_comm (x (ix2 r k)) (_root_.Ffn.corr _ _ _ _), ← add_assoc, ← add_assoc]

variable (m : (ℓ : Loc nD τ sig) → Buf (Elt Ideal) ℓ)

/-- The argument arrays. -/
abbrev dz (c : Dev nD) : Mat 4096 3072 := m ((c : Thread nD τ).loc main_arg0)
abbrev wt (c : Dev nD) : Mat 3072 1024 := m ((c : Thread nD τ).loc main_arg1)
abbrev x (c : Dev nD) : Mat 4096 1024 := m ((c : Thread nD τ).loc main_arg2)
abbrev gain (c : Dev nD) : Mat 1 1024 := m ((c : Thread nD τ).loc main_arg3)
abbrev dout (c : Dev nD) : Mat 4096 1024 := m ((c : Thread nD τ).loc main_arg4)

theorem dx_out (c : Dev nD) (r : Fin 4096) (k : Fin 1024) :
    res_out0 m c (ix2 r k) = _root_.Ffn.dx' (dout m c) (x m c) (gain m c) (_root_.Products.nn (dz m c) (wt m c)) r k := by
  refine Eq.trans (b := DX (dout m c) (x m c) (DN (dz m c) (wt m c)) (gain m c) (RR (VAR (x m c))) (CORR (x m c) (DN (dz m c) (wt m c)) (gain m c) (RR (VAR (x m c))) (VAR (x m c))) (ix2 r k)) rfl ?_
  rw [DX_row]
  simp only [DN_row]

theorem dgain_out (c : Dev nD) (z : Fin 1) (k : Fin 1024) :
    DGAIN (XH (x m c) (RR (VAR (x m c)))) (DN (dz m c) (wt m c)) (ix2 z k) = _root_.Ffn.dgain (x m c) (_root_.Products.nn (dz m c) (wt m c)) k := by
  rw [DGAIN_row]
  simp only [DN_row]

end Cert.NormReferenceIdeal.Norm

end
-- ==== Proof.Norm.Chain.lean ====
/- The gradient of a norm: the two ways of writing it agree on all extended reals. -/
module

public import proofs.«01_k».proof.Proof.Ffn.Math
public import Idealize.ShloMosaic.Lib.IdealHost

@[expose] public section

noncomputable section

namespace Norm

open Idealize.ShloMosaic _root_.Ffn

/-- A real that is not negative goes into a sum. -/
theorem coe_mul_sum {n : ℕ} {s : ℝ} (hs : 0 ≤ s) (f : Fin n → EReal) : (s : EReal) * ∑ j, f j = ∑ j, (s : EReal) * f j := by
  have key : ∀ A : Finset (Fin n), (s : EReal) * ∑ j ∈ A, f j = ∑ j ∈ A, (s : EReal) * f j := fun A => by
    induction A using Finset.cons_induction with
    | empty => simp
    | cons a A ha ih =>
      rw [Finset.sum_cons, Finset.sum_cons, EReal.left_distrib_of_nonneg_of_ne_top (by exact_mod_cast hs) (EReal.coe_ne_top s), ih]
  exact key _

/-- A quotient by a real is a product. -/
theorem div_real (q : EReal) {w : ℝ} (hw : w ≠ 0) : Ideal.div q (w : EReal) = ((w⁻¹ : ℝ) : EReal) * q := by
  unfold Ideal.div
  rw [if_neg (by exact_mod_cast hw), ← EReal.coe_inv, mul_comm]

theorem twice (z : EReal) : z + z = ((2 : ℝ) : EReal) * z := by
  have h : ((2 : ℝ) : EReal) = 1 + 1 := by norm_cast
  rw [h, EReal.right_distrib_of_nonneg zero_le_one zero_le_one, one_mul]

section Rows

variable {dout x : Mat 4096 1024} {gain : Mat 1 1024}

/-- The mean square of a row of finite numbers is positive. -/
theorem var_pos_row {r : Fin 4096} (hx : ∀ k, IsReal (x (ix2 r k))) :
    ∃ v : ℝ, 0 < v ∧ var x r = (v : EReal) ∧ rr x r = (((Real.sqrt v)⁻¹ : ℝ) : EReal) := by
  choose f hf using hx
  obtain ⟨v, hv, h, h'⟩ := var_pos (x := fun i => ((f (i 1) : ℝ) : EReal)) (fun i => ⟨_, rfl⟩) r
  have e : var x r = var (fun i => ((f (i 1) : ℝ) : EReal)) r := by
    unfold var
    simp only [hf]
    rfl
  exact ⟨v, hv, e.trans h, by unfold rr at h' ⊢; rw [e, h']⟩

/-- A row with an infinity in it has the inverse root zero. -/
theorem rr_top {r : Fin 4096} {k : Fin 1024} (hk : ¬ IsReal (x (ix2 r k))) : var x r = ⊤ ∧ rr x r = 0 := by
  have hsq : ∀ a : EReal, 0 ≤ a * a := fun a => by
    rcases le_total 0 a with h | h
    · exact mul_nonneg h h
    · exact EReal.mul_nonneg_iff.2 (.inr ⟨h, h⟩)
  have hkk : x (ix2 r k) * x (ix2 r k) = ⊤ := by
    generalize x (ix2 r k) = a at hk
    induction a with
    | bot => exact EReal.bot_mul_bot
    | top => exact EReal.top_mul_top
    | coe b => exact absurd ⟨b, rfl⟩ hk
  have hsum : (∑ j : Fin 1024, x (ix2 r j) * x (ix2 r j)) = ⊤ := by
    refine top_le_iff.1 (le_trans (le_of_eq hkk.symm) ?_)
    exact Finset.single_le_sum (f := fun j => x (ix2 r j) * x (ix2 r j)) (fun j _ => hsq _) (Finset.mem_univ k)
  have hv : var x r = ⊤ := by
    obtain ⟨e, -, he⟩ := eps_pos
    unfold var
    rw [hsum, width_eq, div_real _ (by norm_num), EReal.coe_mul_top_of_pos (by norm_num), he, EReal.top_add_coe]
  refine ⟨hv, ?_⟩
  unfold rr
  rw [hv]
  rfl

/-- The two ways of writing the gradient of `x` agree. -/
theorem dx_eq (d : Fin 4096 → Fin 1024 → EReal) (r : Fin 4096) (k : Fin 1024) :
    dx' dout x gain d r k = dx dout x gain d r k := by
  by_cases hx : ∀ k, IsReal (x (ix2 r k))
  · obtain ⟨v, hv, hvar, hrr⟩ := var_pos_row hx
    choose X hX using hx
    unfold dx dx' corr
    rw [hrr, hvar, div_coe _ _ hv.ne', mhalf_eq, width_eq]
    have hs0 : 0 < Real.sqrt v := Real.sqrt_pos.2 hv
    have hq : Real.sqrt v * Real.sqrt v = v := Real.mul_self_sqrt hv.le
    generalize Real.sqrt v = q at hs0 hq
    have hq0 := hs0.ne'
    have hs : (∑ j : Fin 1024, d r j * gain (ix2 0 j) * (x (ix2 r j) * ((q⁻¹ : ℝ) : EReal)))
        = ((q⁻¹ : ℝ) : EReal) * ∑ j : Fin 1024, x (ix2 r j) * (d r j * gain (ix2 0 j)) := by
      rw [coe_mul_sum (inv_pos.2 hs0).le]
      exact Finset.sum_congr rfl fun j _ => by rw [← mul_assoc, mul_comm, mul_comm (x (ix2 r j))]
    rw [hs, div_real _ (by norm_num), div_real _ (by norm_num), hX k]
    generalize (∑ j : Fin 1024, x (ix2 r j) * (d r j * gain (ix2 0 j))) = T
    generalize d r k * gain (ix2 0 k) = G
    rw [sub_eq_add_neg, EReal.left_distrib_of_nonneg_of_ne_top (by exact_mod_cast (inv_pos.2 hs0).le) (EReal.coe_ne_top _),
      mul_comm G, add_assoc, add_assoc]
    congr 2
    rw [mul_comm ((X k : ℝ) : EReal), twice, ← EReal.coe_mul, ← EReal.coe_mul]
    have hneg : ∀ z : EReal, -z = ((-1 : ℝ) : EReal) * z := fun z => by
      rw [EReal.coe_neg, EReal.coe_one, EReal.neg_mul, one_mul]
    rw [hneg]
    subst hq
    calc _ = ((2 * (1024 : ℝ)⁻¹ * (-(1 / 2) * (q⁻¹ / (q * q))) * X k : ℝ) : EReal) * T := by
          simp only [EReal.coe_mul]; ac_rfl
      _ = ((q⁻¹ * (-1 * (X k * q⁻¹ * ((1024 : ℝ)⁻¹ * q⁻¹))) : ℝ) : EReal) * T := by
          congr 2; field_simp
      _ = _ := by simp only [EReal.coe_mul]; ac_rfl
  · obtain ⟨j, hj⟩ := not_forall.1 hx
    obtain ⟨hv, hr⟩ := rr_top hj
    unfold dx dx' corr
    rw [hr, hv, Ideal.zero_div EReal.top_ne_zero, width_eq]
    simp only [mul_zero, zero_mul, add_zero]
    rw [Ideal.zero_div (by norm_num)]
    simp

end Rows

end Norm

end
-- ==== Proof.Norm.Equal.lean ====
/- The gradient of the mixer's norm and first product: both programs end with the same two arrays. -/
module

public import proofs.«01_k».proof.Defs
public import proofs.«01_k».proof.Proof.Norm.Blocks
public import proofs.«01_k».proof.Proof.Norm.Ref
public import proofs.«01_k».proof.Proof.Norm.Chain
public import Idealize.ShloMosaic.Lib.Claim

@[expose] public section

set_option maxRecDepth 16384

noncomputable section

namespace Cert.Proof.Norm

open Idealize.ShloMosaic Idealize.ShloMosaic.TcCoe Idealize.SL.Sem

/-- Both programs end with the same gradients. -/
theorem algebraic : Cert.algebraic_NormIdeal_NormReferenceIdeal := by
  intro m g m' g' _ hagree
  refine ⟨fun c i => _root_.Ffn.dx (NormIdeal.Norm.dout m c) (NormIdeal.Norm.x m c) (NormIdeal.Norm.gain m c) (NormIdeal.Norm.dn m c) (i 0) (i 1),
    fun c i => _root_.Ffn.dgain (NormIdeal.Norm.x m c) (NormIdeal.Norm.dn m c) (i 1), ?_, ?_⟩
  · run_from Cert.NormIdeal.Gen.run_main m g
    · exact NormIdeal.Norm.dx_final m c
    · exact NormIdeal.Norm.dgain_final m c
  · refine (θ_run _ _ _).mono (fun r h c => ?_) (Cert.NormReferenceIdeal.Value.run m' g')
    obtain ⟨h0, h1, ha⟩ := h c
    obtain ⟨e0, e1, e2, e3, e4⟩ := hagree c
    have k0 : NormReferenceIdeal.Norm.dz m' c = NormIdeal.Norm.dz m c := e0
    have k1 : NormReferenceIdeal.Norm.wt m' c = NormIdeal.Norm.wt m c := e1
    have k2 : NormReferenceIdeal.Norm.x m' c = NormIdeal.Norm.x m c := e2
    have k3 : NormReferenceIdeal.Norm.gain m' c = NormIdeal.Norm.gain m c := e3
    have k4 : NormReferenceIdeal.Norm.dout m' c = NormIdeal.Norm.dout m c := e4
    refine ⟨h0.trans (funext fun i => ?_), h1.trans (funext fun i => ?_), ha⟩
    · idx_vars i
      refine (NormReferenceIdeal.Norm.dx_out m' c i0 i1).trans ?_
      rw [k0, k1, k2, k3, k4]
      exact _root_.Norm.dx_eq _ i0 i1
    · idx_vars i
      refine (NormReferenceIdeal.Norm.dgain_out m' c i0 i1).trans ?_
      rw [k0, k1, k2]

end Cert.Proof.Norm

end
-- ==== Proof.Products.InEven.lean ====
/- The attention mixer's first product: the kernel's blocks are the blocks of the reference's product. -/
module

public import proofs.«01_k».proof.Defs
public import proofs.«01_k».proof.Proof.Products.Sums
public import proofs.«01_k».proof.Proof.Gen.InEvenIdeal.Value
public import proofs.«01_k».proof.Proof.Gen.InEvenReferenceIdeal.Run
public import Idealize.ShloMosaic.Lib.Claim

@[expose] public section

set_option maxRecDepth 16384

noncomputable section

namespace Cert.InEvenIdeal.Product

open Cert.InEvenIdeal Cert.InEvenIdeal.Gen Idealize.ShloMosaic Idealize.ShloMosaic.TcCoe Idealize.SL.Sem
open _root_.Products (Mat nt)

variable (m : (ℓ : Loc nD τ sig) → Buf (Elt Ideal) ℓ)

/-- The factors. -/
abbrev A (c : Dev nD) : Mat 4096 1024 := m ((c : Thread nD τ).loc main_arg0)
abbrev B (c : Dev nD) : Mat 2560 1024 := m ((c : Thread nD τ).loc main_arg1)

/-- The windows' block numbers at every grid point. -/
theorem idx : ∀ t : Fin cfg0.N, win0_0.index t = ![t.val / 2, 0] ∧ win0_1.index t = ![t.val % 2, 0] ∧ win0_2.index t = ![t.val / 2, t.val % 2] ∧ t.val < 16 :=
  (by decide +kernel : ∀ t : Fin grid0.N, _)

/-- A tile of the result. -/
theorem block (c : Dev nD) (t : Fin cfg0.N) (y : S512x1280.Idx) (i : Fin 4096) (j : Fin 2560)
    (hi : i.val = t.val / 2 * 512 + (y 0).val) (hj : j.val = t.val % 2 * 1280 + (y 1).val) :
    out0_2 (iblk m c 0 t) (iblk m c 1 t) y = nt (A m c) (B m c) i j := by
  unfold nt
  frame_out
  idx_vars y
  pointwise [k0_pay1]
  refine Finset.sum_congr rfl fun r _ => ?_
  congr 1
  · blk_point [iblk, V, idx t, A]
  · blk_point [iblk, V, idx t, B]

/-- The result array. -/
theorem final (c : Dev nD) (i : Fin 4096) (j : Fin 2560) :
    (dats m 0 c).arrAt 2 cfg0.N (ix2 i j) = nt (A m c) (B m c) i j := by
  have key : (dats m 0 c).arrAt 2 cfg0.N = fun i : S4096x2560.Idx => nt (A m c) (B m c) (i 0) (i 1) := by
    refine (dats m 0 c).arrAt_eq_of_covers 2 _ (by decide +kernel) fun t _ y => ?_
    blk_simp
    rw [after0_2]
    exact block m c t y _ _ (by blk_simp [idx t]) (by blk_simp [idx t])
  exact congrFun key _

end Cert.InEvenIdeal.Product

namespace Cert.Proof.InEven

open Idealize.ShloMosaic Idealize.ShloMosaic.TcCoe Idealize.SL.Sem

/-- Both programs end with the same product. -/
theorem algebraic : Cert.algebraic_InEvenIdeal_InEvenReferenceIdeal := by
  intro m g m' g' _ hagree
  refine ⟨fun c i => _root_.Products.nt (InEvenIdeal.Product.A m c) (InEvenIdeal.Product.B m c) (i 0) (i 1), ?_, ?_⟩
  · run_from Cert.InEvenIdeal.Gen.run_main m g
    · exact funext fun i => (congrArg _ (eq_ix2 i)).trans (InEvenIdeal.Product.final m c (i 0) (i 1))
  · refine (θ_run _ _ _).mono (fun r h c => ?_) (Cert.InEvenReferenceIdeal.Value.run m' g')
    obtain ⟨h0, ha⟩ := h c
    obtain ⟨e0, e1⟩ := hagree c
    refine ⟨h0.trans (funext fun i => ?_), ha⟩
    rw [e0, e1]
    unfold _root_.Products.nt
    idx_vars i
    pointwise

end Cert.Proof.InEven

end
-- ==== Proof.Products.InOdd.lean ====
/- The short-convolution mixer's first product: the kernel's blocks are the blocks of the reference's product. -/
module

public import proofs.«01_k».proof.Defs
public import proofs.«01_k».proof.Proof.Products.Sums
public import proofs.«01_k».proof.Proof.Gen.InOddIdeal.Value
public import proofs.«01_k».proof.Proof.Gen.InOddReferenceIdeal.Run
public import Idealize.ShloMosaic.Lib.Claim

@[expose] public section

set_option maxRecDepth 16384

noncomputable section

namespace Cert.InOddIdeal.Product

open Cert.InOddIdeal Cert.InOddIdeal.Gen Idealize.ShloMosaic Idealize.ShloMosaic.TcCoe Idealize.SL.Sem
open _root_.Products (Mat nt)

variable (m : (ℓ : Loc nD τ sig) → Buf (Elt Ideal) ℓ)

/-- The factors. -/
abbrev A (c : Dev nD) : Mat 4096 1024 := m ((c : Thread nD τ).loc main_arg0)
abbrev B (c : Dev nD) : Mat 3072 1024 := m ((c : Thread nD τ).loc main_arg1)

/-- The windows' block numbers at every grid point. -/
theorem idx : ∀ t : Fin cfg0.N, win0_0.index t = ![t.val / 2, 0] ∧ win0_1.index t = ![t.val % 2, 0] ∧ win0_2.index t = ![t.val / 2, t.val % 2] ∧ t.val < 16 :=
  (by decide +kernel : ∀ t : Fin grid0.N, _)

/-- A tile of the result. -/
theorem block (c : Dev nD) (t : Fin cfg0.N) (y : S512x1536.Idx) (i : Fin 4096) (j : Fin 3072)
    (hi : i.val = t.val / 2 * 512 + (y 0).val) (hj : j.val = t.val % 2 * 1536 + (y 1).val) :
    out0_2 (iblk m c 0 t) (iblk m c 1 t) y = nt (A m c) (B m c) i j := by
  unfold nt
  frame_out
  idx_vars y
  pointwise [k0_pay1]
  refine Finset.sum_congr rfl fun r _ => ?_
  congr 1
  · blk_point [iblk, V, idx t, A]
  · blk_point [iblk, V, idx t, B]

/-- The result array. -/
theorem final (c : Dev nD) (i : Fin 4096) (j : Fin 3072) :
    (dats m 0 c).arrAt 2 cfg0.N (ix2 i j) = nt (A m c) (B m c) i j := by
  have key : (dats m 0 c).arrAt 2 cfg0.N = fun i : S4096x3072.Idx => nt (A m c) (B m c) (i 0) (i 1) := by
    refine (dats m 0 c).arrAt_eq_of_covers 2 _ (by decide +kernel) fun t _ y => ?_
    blk_simp
    rw [after0_2]
    exact block m c t y _ _ (by blk_simp [idx t]) (by blk_simp [idx t])
  exact congrFun key _

end Cert.InOddIdeal.Product

namespace Cert.Proof.InOdd

open Idealize.ShloMosaic Idealize.ShloMosaic.TcCoe Idealize.SL.Sem

/-- Both programs end with the same product. -/
theorem algebraic : Cert.algebraic_InOddIdeal_InOddReferenceIdeal := by
  intro m g m' g' _ hagree
  refine ⟨fun c i => _root_.Products.nt (InOddIdeal.Product.A m c) (InOddIdeal.Product.B m c) (i 0) (i 1), ?_, ?_⟩
  · run_from Cert.InOddIdeal.Gen.run_main m g
    · exact funext fun i => (congrArg _ (eq_ix2 i)).trans (InOddIdeal.Product.final m c (i 0) (i 1))
  · refine (θ_run _ _ _).mono (fun r h c => ?_) (Cert.InOddReferenceIdeal.Value.run m' g')
    obtain ⟨h0, ha⟩ := h c
    obtain ⟨e0, e1⟩ := hagree c
    refine ⟨h0.trans (funext fun i => ?_), ha⟩
    rw [e0, e1]
    unfold _root_.Products.nt
    idx_vars i
    pointwise

end Cert.Proof.InOdd

end
-- ==== Proof.Products.Out.lean ====
/- A mixer's last product, added to the residual rows: the kernel's blocks are the blocks of the reference's product. -/
module

public import proofs.«01_k».proof.Defs
public import proofs.«01_k».proof.Proof.Products.Sums
public import proofs.«01_k».proof.Proof.Gen.OutIdeal.Value
public import proofs.«01_k».proof.Proof.Gen.OutReferenceIdeal.Run
public import Idealize.ShloMosaic.Lib.Claim

@[expose] public section

set_option maxRecDepth 16384

noncomputable section

namespace Cert.OutIdeal.Product

open Cert.OutIdeal Cert.OutIdeal.Gen Idealize.ShloMosaic Idealize.ShloMosaic.TcCoe Idealize.SL.Sem
open _root_.Products (Mat nn)

variable (m : (ℓ : Loc nD τ sig) → Buf (Elt Ideal) ℓ)

/-- The factors and the rows added. -/
abbrev A (c : Dev nD) : Mat 4096 1024 := m ((c : Thread nD τ).loc main_arg0)
abbrev B (c : Dev nD) : Mat 1024 1024 := m ((c : Thread nD τ).loc main_arg1)
abbrev X (c : Dev nD) : Mat 4096 1024 := m ((c : Thread nD τ).loc main_arg2)

/-- The windows' block numbers at every grid point. -/
theorem idx : ∀ t : Fin cfg0.N, win0_0.index t = ![t.val, 0] ∧ win0_1.index t = ![0, 0] ∧ win0_2.index t = ![t.val, 0] ∧ win0_3.index t = ![t.val, 0] ∧ t.val < 8 :=
  (by decide +kernel : ∀ t : Fin grid0.N, _)

/-- A block of rows of the result. -/
theorem block (c : Dev nD) (t : Fin cfg0.N) (y : S512x1024.Idx) (i : Fin 4096) (j : Fin 1024)
    (hi : i.val = t.val * 512 + (y 0).val) (hj : j.val = (y 1).val) :
    out0_3 (iblk m c 0 t) (iblk m c 1 t) (iblk m c 2 t) y = nn (A m c) (B m c) i j + X m c (ix2 i j) := by
  unfold nn
  frame_out
  idx_vars y
  pointwise [k0_pay1]
  congr 1
  · refine Finset.sum_congr rfl fun r _ => ?_
    congr 1
    · blk_point [iblk, V, idx t, A]
    · blk_point [iblk, V, idx t, B]
  · blk_point [iblk, V, idx t, X]

/-- The result array. -/
theorem final (c : Dev nD) (i : Fin 4096) (j : Fin 1024) :
    (dats m 0 c).arrAt 3 cfg0.N (ix2 i j) = nn (A m c) (B m c) i j + X m c (ix2 i j) := by
  have key : (dats m 0 c).arrAt 3 cfg0.N = fun i : S4096x1024.Idx => nn (A m c) (B m c) (i 0) (i 1) + X m c (ix2 (i 0) (i 1)) := by
    refine (dats m 0 c).arrAt_eq_of_covers 3 _ (by decide +kernel) fun t _ y => ?_
    blk_simp
    rw [after0_3]
    exact block m c t y _ _ (by blk_simp [idx t]) (by blk_simp [idx t])
  exact congrFun key _

end Cert.OutIdeal.Product

namespace Cert.Proof.Out

open Idealize.ShloMosaic Idealize.ShloMosaic.TcCoe Idealize.SL.Sem

/-- Both programs end with the same product. -/
theorem algebraic : Cert.algebraic_OutIdeal_OutReferenceIdeal := by
  intro m g m' g' _ hagree
  refine ⟨fun c i => _root_.Products.nn (OutIdeal.Product.A m c) (OutIdeal.Product.B m c) (i 0) (i 1) + OutIdeal.Product.X m c (ix2 (i 0) (i 1)), ?_, ?_⟩
  · run_from Cert.OutIdeal.Gen.run_main m g
    · exact funext fun i => (congrArg _ (eq_ix2 i)).trans (OutIdeal.Product.final m c (i 0) (i 1))
  · refine (θ_run _ _ _).mono (fun r h c => ?_) (Cert.OutReferenceIdeal.Value.run m' g')
    obtain ⟨h0, ha⟩ := h c
    obtain ⟨e0, e1, e2⟩ := hagree c
    refine ⟨h0.trans (funext fun i => ?_), ha⟩
    rw [e0, e1, e2]
    unfold _root_.Products.nn
    idx_vars i
    pointwise
    exact add_comm _ _

end Cert.Proof.Out

end
-- ==== Proof.FfnFwd.Runs.lean ====
/- What the two runs of the feed-forward forward call share: the staging of its windows, the branch condition
   over the points, the memrefs, and the frame kit. Follows the generated module of the same name. -/
module

public import proofs.«01_k».proof.Proof.Gen.FfnFwdIdeal.Launch
public import proofs.«01_k».proof.Proof.Gen.FfnFwdIdeal.Skeleton
public import proofs.«01_k».proof.Proof.Gen.FfnFwdIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FfnFwdIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 2, through which its contents are stated (`View.read_writes_of_cover`: the
    choice does not matter). -/
abbrev VO0_2 : View sig .tc .vmem S512x1024 .f32 := (Memref.whole cc0_stg2_0 : Memref sig .tc .vmem S512x1024 .f32).view
/-- One staging buffer of output window 3, through which its contents are stated (`View.read_writes_of_cover`: the
    choice does not matter). -/
abbrev VO0_3 : View sig .tc .vmem S512x1024 .bf16 := (Memref.whole cc0_stg3_0 : Memref sig .tc .vmem S512x1024 .bf16).view
/-- One staging buffer of output window 4, through which its contents are stated (`View.read_writes_of_cover`: the
    choice does not matter). -/
abbrev VO0_4 : View sig .tc .vmem S512x2816 .bf16 := (Memref.whole cc0_stg4_0 : Memref sig .tc .vmem S512x2816 .bf16).view
/-- One staging buffer of output window 5, through which its contents are stated (`View.read_writes_of_cover`: the
    choice does not matter). -/
abbrev VO0_5 : View sig .tc .vmem S512x2816 .bf16 := (Memref.whole cc0_stg5_0 : Memref sig .tc .vmem S512x2816 .bf16).view
/-- One staging buffer of output window 6, through which its contents are stated (`View.read_writes_of_cover`: the
    choice does not matter). -/
abbrev VO0_6 : View sig .tc .vmem S512x2816 .bf16 := (Memref.whole cc0_stg6_0 : Memref sig .tc .vmem S512x2816 .bf16).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2816 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2816 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2816 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2816x1024 .bf16 := Memref.whole cc0_scratch0
abbrev scM0_1 : Memref sig .tc .vmem S2816x1024 .bf16 := Memref.whole cc0_scratch1
abbrev scM0_2 : Memref sig .tc .vmem S2816x1024 .bf16 := Memref.whole cc0_scratch2
/-- The scratch `arg9` the kernel carries between points, as a view: what it holds is stated through it. -/
abbrev VS0_0 : View sig .tc .vmem S2816x1024 .bf16 := scM0_0.view
/-- The scratch `arg10` the kernel carries between points, as a view: what it holds is stated through it. -/
abbrev VS0_1 : View sig .tc .vmem S2816x1024 .bf16 := scM0_1.view
/-- The scratch `arg11` the kernel carries between points, as a view: what it holds is stated through it. -/
abbrev VS0_2 : View sig .tc .vmem S2816x1024 .bf16 := scM0_2.view
/-- The operands left in HBM that the body copies into scratch itself, whole. -/
abbrev hbM0_0 : Memref sig .tc .hbm S8x1056x1024 .bf16 := Memref.whole main_v6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 24 → SemLoc sig := fun j => (![SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36] : Fin 24 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) := by
  rw [Pipeline.ownSems0_eq_of_list c osem0 [0, 1, 2, 3, 4, 5, 6, 7, 8, 9, 10, 11, 12, 13, 14, 15, 16, 17, 18, 19, 20, 21, 22, 23] (by decide) (by decide)]; rfl
/-- The HBM operands the body moves, as references: unscoped, no window's array (`Pipeline.restRefs`). -/
def H0 : Finset (Ref sig .tc) := {main_v6}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v6)) := by
  rw [BI.bigSep_eq_bigSepL_of_eq [main_v6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) ∗ iprop(hbPt0 c hbM0_0 (V m c main_v6))) := by
  rw [Pipeline.ΦD_eq, scopedRest0_eq, ownSems00_eq, hbmPts0_eq]; simp only [scM0_0, scM0_1, scM0_2, owns_whole]; try rfl

end Cert.FfnFwdIdeal.Gen

end
-- ==== Proof.FfnFwd.RunA.lean ====
/- The run of the body at the first grid point, where the 24 weight blocks are copied in. Eight copies are in flight
   into each scratch at once, so each copy lends only its own rows of the scratch (`sl_exec.dmaWindow`,
   `sl_exec.dmaWindowSet`). Otherwise as generated. -/
module

public import proofs.«01_k».proof.Proof.FfnFwd.Runs

@[expose] public section

-- membership in a rectangle of production extents (`View.cover_of_tiled`): the elaborator's structural look
-- recurses once per coordinate of the long axes
set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option sl_exec.dmaWindow true in
set_option sl_exec.dmaWindowSet true in
set_option maxHeartbeats 3840000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) :
    Σ' (L2 : List (View.Piece (Elt F) S512x1024 .f32)), Σ' (L3 : List (View.Piece (Elt F) S512x1024 .bf16)), Σ' (L4 : List (View.Piece (Elt F) S512x2816 .bf16)), Σ' (L5 : List (View.Piece (Elt F) S512x2816 .bf16)), Σ' (L6 : List (View.Piece (Elt F) S512x2816 .bf16)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ hbPt0 c hbM0_0 fh0 ∗ (∃ W', owes (c : Thread nD τ) 0 W')) -∗ K ⟨⟩))
          ⊢ wp frame (wpE (defs₀ (F := F)) Variants.none c none) Set.univ (cc0_l1_ffn2_fwd i arg1 harg1 arg2 harg2 (Memref.whole main_v6) (Memref.isWhole_whole _) arg4 harg4 arg5 harg5 arg6 harg6 arg7 harg7 arg8 harg8 arg9 harg9 arg10 harg10 arg11 harg11 cc0_scratch3) K } := by
  refine ⟨?_, ?_, ?_, ?_, ?_, ?_, ?_, ?_, fun W K => ?run⟩
  case run =>
    simp only [cc0_l1_ffn2_fwd_eq_skeleton]; unfold cc0_l1_ffn2_fwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.FfnFwdIdeal.Gen

end
-- ==== Proof.FfnFwd.RunB.lean ====
/- The run of the body at every later grid point: the three weight scratches are read as the first point left them. -/
module

public import proofs.«01_k».proof.Proof.FfnFwd.RunA

@[expose] public section

-- membership in a rectangle of production extents (`View.cover_of_tiled`): the elaborator's structural look
-- recurses once per coordinate of the long axes
set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken: points 1, 2, … 7: 7 of 8), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) :
    Σ' (L2 : List (View.Piece (Elt F) S512x1024 .f32)), Σ' (L3 : List (View.Piece (Elt F) S512x1024 .bf16)), Σ' (L4 : List (View.Piece (Elt F) S512x2816 .bf16)), Σ' (L5 : List (View.Piece (Elt F) S512x2816 .bf16)), Σ' (L6 : List (View.Piece (Elt F) S512x2816 .bf16)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ owns (c : Thread nD τ) arg10 fullShare xs1 ∗ owns (c : Thread nD τ) arg11 fullShare xs2 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ hbPt0 c hbM0_0 fh0 ∗ (∃ W', owes (c : Thread nD τ) 0 W')) -∗ K ⟨⟩))
          ⊢ wp frame (wpE (defs₀ (F := F)) Variants.none c none) Set.univ (cc0_l1_ffn2_fwd i arg1 harg1 arg2 harg2 (Memref.whole main_v6) (Memref.isWhole_whole _) arg4 harg4 arg5 harg5 arg6 harg6 arg7 harg7 arg8 harg8 arg9 harg9 arg10 harg10 arg11 harg11 cc0_scratch3) K } := by
  refine ⟨?_, ?_, ?_, ?_, ?_, [], [], [], fun W K => ?run⟩
  case run =>
    simp only [cc0_l1_ffn2_fwd_eq_skeleton]; unfold cc0_l1_ffn2_fwd_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg9.eq_unread hfs0; obtain rfl := harg10.eq_unread hfs1; obtain rfl := harg11.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.FfnFwdIdeal.Gen

end
-- ==== Proof.FfnFwd.Frame.lean ====
/- What the outputs and the scratches hold after each grid point, the body obligation, the run and the frame of
   the feed-forward forward call, from the two runs. -/
module

public import proofs.«01_k».proof.Proof.FfnFwd.RunB
public import Idealize.ShloMosaic.Lib.Claim

@[expose] public section

-- membership in a rectangle of production extents (`View.cover_of_tiled`): the elaborator's structural look
-- recurses once per coordinate of the long axes
set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 2 tile its block (1 store of `S512x1024`, checked by the kernel's evaluation: Lib/Ring.lean `Piece.tiledL`, linear in the pieces, through a loop's `@[irreducible]` trip theorem too), so they cover it. -/
theorem cover0_A_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) (y : S512x1024.Idx) :
    ∃ pc ∈ (kernelRun0_A c i arg1 harg1 arg2 harg2 arg4 harg4 arg5 harg5 arg6 harg6 arg7 harg7 arg8 harg8 arg9 harg9 arg10 harg10 arg11 harg11 hc0 x0 x1 fh0).1, y ∈ pc.1.set :=
  View.cover_of_tiledL (kernelRun0_A c i arg1 harg1 arg2 harg2 arg4 harg4 arg5 harg5 arg6 harg6 arg7 harg7 arg8 harg8 arg9 harg9 arg10 harg10 arg11 harg11 hc0 x0 x1 fh0).1 S512x1024.size (by sl_kernel_rfl) y

/-- What case A leaves in output 2's staging buffer: its pieces read back over junk. -/
def out0_A_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) : Vec F S512x1024 .f32 :=
  VO0_2.read (Elt F) (VO0_2.writes (Elt F) VO0_2.junk (kernelRun0_A c i arg1 harg1 arg2 harg2 arg4 harg4 arg5 harg5 arg6 harg6 arg7 harg7 arg8 harg8 arg9 harg9 arg10 harg10 arg11 harg11 hc0 x0 x1 fh0).1)

/-- Case A's pieces for output 3 tile its block (1 store of `S512x1024`, checked by the kernel's evaluation: Lib/Ring.lean `Piece.tiledL`, linear in the pieces, through a loop's `@[irreducible]` trip theorem too), so they cover it. -/
theorem cover0_A_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) (y : S512x1024.Idx) :
    ∃ pc ∈ (kernelRun0_A c i arg1 harg1 arg2 harg2 arg4 harg4 arg5 harg5 arg6 harg6 arg7 harg7 arg8 harg8 arg9 harg9 arg10 harg10 arg11 harg11 hc0 x0 x1 fh0).2.1, y ∈ pc.1.set :=
  View.cover_of_tiledL (kernelRun0_A c i arg1 harg1 arg2 harg2 arg4 harg4 arg5 harg5 arg6 harg6 arg7 harg7 arg8 harg8 arg9 harg9 arg10 harg10 arg11 harg11 hc0 x0 x1 fh0).2.1 S512x1024.size (by sl_kernel_rfl) y

/-- What case A leaves in output 3's staging buffer: its pieces read back over junk. -/
def out0_A_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) : Vec F S512x1024 .bf16 :=
  VO0_3.read (Elt F) (VO0_3.writes (Elt F) VO0_3.junk (kernelRun0_A c i arg1 harg1 arg2 harg2 arg4 harg4 arg5 harg5 arg6 harg6 arg7 harg7 arg8 harg8 arg9 harg9 arg10 harg10 arg11 harg11 hc0 x0 x1 fh0).2.1)

/-- Case A's pieces for output 4 tile its block (11 stores of `S512x256`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) (y : S512x2816.Idx) :
    ∃ pc ∈ (kernelRun0_A c i arg1 harg1 arg2 harg2 arg4 harg4 arg5 harg5 arg6 harg6 arg7 harg7 arg8 harg8 arg9 harg9 arg10 harg10 arg11 harg11 hc0 x0 x1 fh0).2.2.1, y ∈ pc.1.set :=
  View.cover_of_tiledL (kernelRun0_A c i arg1 harg1 arg2 harg2 arg4 harg4 arg5 harg5 arg6 harg6 arg7 harg7 arg8 harg8 arg9 harg9 arg10 harg10 arg11 harg11 hc0 x0 x1 fh0).2.2.1 S512x256.size (by sl_kernel_rfl) y

/-- What case A leaves in output 4's staging buffer: its pieces read back over junk. -/
def out0_A_4 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) : Vec F S512x2816 .bf16 :=
  VO0_4.read (Elt F) (VO0_4.writes (Elt F) VO0_4.junk (kernelRun0_A c i arg1 harg1 arg2 harg2 arg4 harg4 arg5 harg5 arg6 harg6 arg7 harg7 arg8 harg8 arg9 harg9 arg10 harg10 arg11 harg11 hc0 x0 x1 fh0).2.2.1)

/-- Case A's pieces for output 5 tile its block (11 stores of `S512x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) (y : S512x2816.Idx) :
    ∃ pc ∈ (kernelRun0_A c i arg1 harg1 arg2 harg2 arg4 harg4 arg5 harg5 arg6 harg6 arg7 harg7 arg8 harg8 arg9 harg9 arg10 harg10 arg11 harg11 hc0 x0 x1 fh0).2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 hc0 x0 x1 fh0).2.2.2.1 S512x256.size (by sl_kernel_rfl) y

/-- What case A leaves in output 5's staging buffer: its pieces read back over junk. -/
def out0_A_5 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) : Vec F S512x2816 .bf16 :=
  VO0_5.read (Elt F) (VO0_5.writes (Elt F) VO0_5.junk (kernelRun0_A c i arg1 harg1 arg2 harg2 arg4 harg4 arg5 harg5 arg6 harg6 arg7 harg7 arg8 harg8 arg9 harg9 arg10 harg10 arg11 harg11 hc0 x0 x1 fh0).2.2.2.1)

/-- Case A's pieces for output 6 tile its block (11 stores of `S512x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) (y : S512x2816.Idx) :
    ∃ pc ∈ (kernelRun0_A c i arg1 harg1 arg2 harg2 arg4 harg4 arg5 harg5 arg6 harg6 arg7 harg7 arg8 harg8 arg9 harg9 arg10 harg10 arg11 harg11 hc0 x0 x1 fh0).2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 hc0 x0 x1 fh0).2.2.2.2.1 S512x256.size (by sl_kernel_rfl) y

/-- What case A leaves in output 6's staging buffer: its pieces read back over junk. -/
def out0_A_6 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) : Vec F S512x2816 .bf16 :=
  VO0_6.read (Elt F) (VO0_6.writes (Elt F) VO0_6.junk (kernelRun0_A c i arg1 harg1 arg2 harg2 arg4 harg4 arg5 harg5 arg6 harg6 arg7 harg7 arg8 harg8 arg9 harg9 arg10 harg10 arg11 harg11 hc0 x0 x1 fh0).2.2.2.2.1)

/-- Case A's pieces for scratch `arg9`, which the kernel carries between points, cover it: 8 pieces of `S352x1024` tiling it (Lib/Ring.lean `Piece.tiledL`). -/
theorem scover0_A_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) (y : S2816x1024.Idx) :
    ∃ pc ∈ (kernelRun0_A c i arg1 harg1 arg2 harg2 arg4 harg4 arg5 harg5 arg6 harg6 arg7 harg7 arg8 harg8 arg9 harg9 arg10 harg10 arg11 harg11 hc0 x0 x1 fh0).2.2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 hc0 x0 x1 fh0).2.2.2.2.2.1 S352x1024.size (by sl_kernel_rfl) y

/-- What case A leaves in scratch `arg9`: its pieces read back over junk. -/
def sout0_A_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) : Vec F S2816x1024 .bf16 :=
  VS0_0.read (Elt F) (VS0_0.writes (Elt F) VS0_0.junk (kernelRun0_A c i arg1 harg1 arg2 harg2 arg4 harg4 arg5 harg5 arg6 harg6 arg7 harg7 arg8 harg8 arg9 harg9 arg10 harg10 arg11 harg11 hc0 x0 x1 fh0).2.2.2.2.2.1)

/-- Case A's pieces for scratch `arg10`, which the kernel carries between points, cover it: 8 pieces of `S352x1024` tiling it (Lib/Ring.lean `Piece.tiledL`). -/
theorem scover0_A_1 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) (y : S2816x1024.Idx) :
    ∃ pc ∈ (kernelRun0_A c i arg1 harg1 arg2 harg2 arg4 harg4 arg5 harg5 arg6 harg6 arg7 harg7 arg8 harg8 arg9 harg9 arg10 harg10 arg11 harg11 hc0 x0 x1 fh0).2.2.2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 hc0 x0 x1 fh0).2.2.2.2.2.2.1 S352x1024.size (by sl_kernel_rfl) y

/-- What case A leaves in scratch `arg10`: its pieces read back over junk. -/
def sout0_A_1 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) : Vec F S2816x1024 .bf16 :=
  VS0_1.read (Elt F) (VS0_1.writes (Elt F) VS0_1.junk (kernelRun0_A c i arg1 harg1 arg2 harg2 arg4 harg4 arg5 harg5 arg6 harg6 arg7 harg7 arg8 harg8 arg9 harg9 arg10 harg10 arg11 harg11 hc0 x0 x1 fh0).2.2.2.2.2.2.1)

/-- Case A's pieces for scratch `arg11`, which the kernel carries between points, cover it: 8 pieces of `S352x1024` tiling it (Lib/Ring.lean `Piece.tiledL`). -/
theorem scover0_A_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) (y : S2816x1024.Idx) :
    ∃ pc ∈ (kernelRun0_A c i arg1 harg1 arg2 harg2 arg4 harg4 arg5 harg5 arg6 harg6 arg7 harg7 arg8 harg8 arg9 harg9 arg10 harg10 arg11 harg11 hc0 x0 x1 fh0).2.2.2.2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 hc0 x0 x1 fh0).2.2.2.2.2.2.2.1 S352x1024.size (by sl_kernel_rfl) y

/-- What case A leaves in scratch `arg11`: its pieces read back over junk. -/
def sout0_A_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : cond0_0 i)
    (x0 : Vec F S512x1024 .f32) (x1 : Vec F S1x1024 .f32) (fh0 : HbBuf0 (F := F) c hbM0_0) : Vec F S2816x1024 .bf16 :=
  VS0_2.read (Elt F) (VS0_2.writes (Elt F) VS0_2.junk (kernelRun0_A c i arg1 harg1 arg2 harg2 arg4 harg4 arg5 harg5 arg6 harg6 arg7 harg7 arg8 harg8 arg9 harg9 arg10 harg10 arg11 harg11 hc0 x0 x1 fh0).2.2.2.2.2.2.2.1)

/-- Case B's pieces for output 2 tile its block (1 store of `S512x1024`, checked by the kernel's evaluation: Lib/Ring.lean `Piece.tiledL`, linear in the pieces, through a loop's `@[irreducible]` trip theorem too), so they cover it. -/
theorem cover0_B_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (y : S512x1024.Idx) :
    ∃ pc ∈ (kernelRun0_B c i arg1 harg1 arg2 harg2 arg4 harg4 arg5 harg5 arg6 harg6 arg7 harg7 arg8 harg8 arg9 harg9 arg10 harg10 arg11 harg11 hc0 x0 x1 xs0 xs1 xs2 fh0).1, y ∈ pc.1.set :=
  View.cover_of_tiledL (kernelRun0_B c i arg1 harg1 arg2 harg2 arg4 harg4 arg5 harg5 arg6 harg6 arg7 harg7 arg8 harg8 arg9 harg9 arg10 harg10 arg11 harg11 hc0 x0 x1 xs0 xs1 xs2 fh0).1 S512x1024.size (by sl_kernel_rfl) y

/-- What case B leaves in output 2's staging buffer: its pieces read back over junk. -/
def out0_B_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S512x1024 .f32 :=
  VO0_2.read (Elt F) (VO0_2.writes (Elt F) VO0_2.junk (kernelRun0_B c i arg1 harg1 arg2 harg2 arg4 harg4 arg5 harg5 arg6 harg6 arg7 harg7 arg8 harg8 arg9 harg9 arg10 harg10 arg11 harg11 hc0 x0 x1 xs0 xs1 xs2 fh0).1)

/-- Case B's pieces for output 3 tile its block (1 store of `S512x1024`, checked by the kernel's evaluation: Lib/Ring.lean `Piece.tiledL`, linear in the pieces, through a loop's `@[irreducible]` trip theorem too), so they cover it. -/
theorem cover0_B_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (y : S512x1024.Idx) :
    ∃ pc ∈ (kernelRun0_B c i arg1 harg1 arg2 harg2 arg4 harg4 arg5 harg5 arg6 harg6 arg7 harg7 arg8 harg8 arg9 harg9 arg10 harg10 arg11 harg11 hc0 x0 x1 xs0 xs1 xs2 fh0).2.1, y ∈ pc.1.set :=
  View.cover_of_tiledL (kernelRun0_B c i arg1 harg1 arg2 harg2 arg4 harg4 arg5 harg5 arg6 harg6 arg7 harg7 arg8 harg8 arg9 harg9 arg10 harg10 arg11 harg11 hc0 x0 x1 xs0 xs1 xs2 fh0).2.1 S512x1024.size (by sl_kernel_rfl) y

/-- What case B leaves in output 3's staging buffer: its pieces read back over junk. -/
def out0_B_3 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S512x1024 .bf16 :=
  VO0_3.read (Elt F) (VO0_3.writes (Elt F) VO0_3.junk (kernelRun0_B c i arg1 harg1 arg2 harg2 arg4 harg4 arg5 harg5 arg6 harg6 arg7 harg7 arg8 harg8 arg9 harg9 arg10 harg10 arg11 harg11 hc0 x0 x1 xs0 xs1 xs2 fh0).2.1)

/-- Case B's pieces for output 4 tile its block (11 stores of `S512x256`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (y : S512x2816.Idx) :
    ∃ pc ∈ (kernelRun0_B c i arg1 harg1 arg2 harg2 arg4 harg4 arg5 harg5 arg6 harg6 arg7 harg7 arg8 harg8 arg9 harg9 arg10 harg10 arg11 harg11 hc0 x0 x1 xs0 xs1 xs2 fh0).2.2.1, y ∈ pc.1.set :=
  View.cover_of_tiledL (kernelRun0_B c i arg1 harg1 arg2 harg2 arg4 harg4 arg5 harg5 arg6 harg6 arg7 harg7 arg8 harg8 arg9 harg9 arg10 harg10 arg11 harg11 hc0 x0 x1 xs0 xs1 xs2 fh0).2.2.1 S512x256.size (by sl_kernel_rfl) y

/-- What case B leaves in output 4's staging buffer: its pieces read back over junk. -/
def out0_B_4 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S512x2816 .bf16 :=
  VO0_4.read (Elt F) (VO0_4.writes (Elt F) VO0_4.junk (kernelRun0_B c i arg1 harg1 arg2 harg2 arg4 harg4 arg5 harg5 arg6 harg6 arg7 harg7 arg8 harg8 arg9 harg9 arg10 harg10 arg11 harg11 hc0 x0 x1 xs0 xs1 xs2 fh0).2.2.1)

/-- Case B's pieces for output 5 tile its block (11 stores of `S512x256`, checked by the kernel's evaluation: Lib/Ring.lean `Piece.tiledL`, linear in the pieces, through a loop's `@[irreducible]` trip theorem too), so they cover it. -/
theorem cover0_B_5 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (y : S512x2816.Idx) :
    ∃ pc ∈ (kernelRun0_B c i arg1 harg1 arg2 harg2 arg4 harg4 arg5 harg5 arg6 harg6 arg7 harg7 arg8 harg8 arg9 harg9 arg10 harg10 arg11 harg11 hc0 x0 x1 xs0 xs1 xs2 fh0).2.2.2.1, y ∈ pc.1.set :=
  View.cover_of_tiledL (kernelRun0_B c i arg1 harg1 arg2 harg2 arg4 harg4 arg5 harg5 arg6 harg6 arg7 harg7 arg8 harg8 arg9 harg9 arg10 harg10 arg11 harg11 hc0 x0 x1 xs0 xs1 xs2 fh0).2.2.2.1 S512x256.size (by sl_kernel_rfl) y

/-- What case B leaves in output 5's staging buffer: its pieces read back over junk. -/
def out0_B_5 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S512x2816 .bf16 :=
  VO0_5.read (Elt F) (VO0_5.writes (Elt F) VO0_5.junk (kernelRun0_B c i arg1 harg1 arg2 harg2 arg4 harg4 arg5 harg5 arg6 harg6 arg7 harg7 arg8 harg8 arg9 harg9 arg10 harg10 arg11 harg11 hc0 x0 x1 xs0 xs1 xs2 fh0).2.2.2.1)

/-- Case B's pieces for output 6 tile its block (11 stores of `S512x256`, checked by the kernel's evaluation: Lib/Ring.lean `Piece.tiledL`, linear in the pieces, through a loop's `@[irreducible]` trip theorem too), so they cover it. -/
theorem cover0_B_6 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (y : S512x2816.Idx) :
    ∃ pc ∈ (kernelRun0_B c i arg1 harg1 arg2 harg2 arg4 harg4 arg5 harg5 arg6 harg6 arg7 harg7 arg8 harg8 arg9 harg9 arg10 harg10 arg11 harg11 hc0 x0 x1 xs0 xs1 xs2 fh0).2.2.2.2.1, y ∈ pc.1.set :=
  View.cover_of_tiledL (kernelRun0_B c i arg1 harg1 arg2 harg2 arg4 harg4 arg5 harg5 arg6 harg6 arg7 harg7 arg8 harg8 arg9 harg9 arg10 harg10 arg11 harg11 hc0 x0 x1 xs0 xs1 xs2 fh0).2.2.2.2.1 S512x256.size (by sl_kernel_rfl) y

/-- What case B leaves in output 6's staging buffer: its pieces read back over junk. -/
def out0_B_6 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S512x2816 .bf16 :=
  VO0_6.read (Elt F) (VO0_6.writes (Elt F) VO0_6.junk (kernelRun0_B c i arg1 harg1 arg2 harg2 arg4 harg4 arg5 harg5 arg6 harg6 arg7 harg7 arg8 harg8 arg9 harg9 arg10 harg10 arg11 harg11 hc0 x0 x1 xs0 xs1 xs2 fh0).2.2.2.2.1)

/-- Case B stores nothing into scratch `arg9`: it holds what the point before left. -/
def sout0_B_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S2816x1024 .bf16 := xs0

/-- Case B stores nothing into scratch `arg10`: it holds what the point before left. -/
def sout0_B_1 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S2816x1024 .bf16 := xs1

/-- Case B stores nothing into scratch `arg11`: it holds what the point before left. -/
def sout0_B_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x1024 .bf16) (harg5 : arg5.IsWhole) (arg6 : Memref sig .tc .vmem S512x2816 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S2816x1024 .bf16) (harg9 : arg9.IsWhole) (arg10 : Memref sig .tc .vmem S2816x1024 .bf16) (harg10 : arg10.IsWhole) (arg11 : Memref sig .tc .vmem S2816x1024 .bf16) (harg11 : arg11.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) : Vec F S2816x1024 .bf16 := xs2

/-! ## What the outputs hold after each point -/

/-- What the outputs' staging buffers and the scratch hold after the body at a point of case A. -/
def caseA (c : Dev nD) (t : Fin cfg0.N) (h0 : t.val % 8 = 0) : Vec F S512x1024 .f32 × Vec F S512x1024 .bf16 × Vec F S512x2816 .bf16 × Vec F S512x2816 .bf16 × Vec F S512x2816 .bf16 × Vec F S2816x1024 .bf16 × Vec F S2816x1024 .bf16 × Vec F S2816x1024 .bf16 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (V m c main_v6), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (V m c main_v6), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (V m c main_v6), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (V m c main_v6), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (V m c main_v6), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (V m c main_v6), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (V m c main_v6), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (V m c main_v6))

/-- The same at a point of case B, over what the point before left, `p`. -/
def caseB (c : Dev nD) (t : Fin cfg0.N) (h0 : ¬t.val % 8 = 0) (p : Vec F S512x1024 .f32 × Vec F S512x1024 .bf16 × Vec F S512x2816 .bf16 × Vec F S512x2816 .bf16 × Vec F S512x2816 .bf16 × Vec F S2816x1024 .bf16 × Vec F S2816x1024 .bf16 × Vec F S2816x1024 .bf16) : Vec F S512x1024 .f32 × Vec F S512x1024 .bf16 × Vec F S512x2816 .bf16 × Vec F S512x2816 .bf16 × Vec F S512x2816 .bf16 × Vec F S2816x1024 .bf16 × Vec F S2816x1024 .bf16 × Vec F S2816x1024 .bf16 :=
  (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) p.2.2.2.2.2.1 p.2.2.2.2.2.2.1 p.2.2.2.2.2.2.2 (V m c main_v6), out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) p.2.2.2.2.2.1 p.2.2.2.2.2.2.1 p.2.2.2.2.2.2.2 (V m c main_v6), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) p.2.2.2.2.2.1 p.2.2.2.2.2.2.1 p.2.2.2.2.2.2.2 (V m c main_v6), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) p.2.2.2.2.2.1 p.2.2.2.2.2.2.1 p.2.2.2.2.2.2.2 (V m c main_v6), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) p.2.2.2.2.2.1 p.2.2.2.2.2.2.1 p.2.2.2.2.2.2.2 (V m c main_v6), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) p.2.2.2.2.2.1 p.2.2.2.2.2.2.1 p.2.2.2.2.2.2.2 (V m c main_v6), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) p.2.2.2.2.2.1 p.2.2.2.2.2.2.1 p.2.2.2.2.2.2.2 (V m c main_v6), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) p.2.2.2.2.2.1 p.2.2.2.2.2.2.1 p.2.2.2.2.2.2.2 (V m c main_v6))

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S512x1024 .bf16 × Vec F S512x2816 .bf16 × Vec F S512x2816 .bf16 × Vec F S512x2816 .bf16 × Vec F S2816x1024 .bf16 × Vec F S2816x1024 .bf16 × Vec F S2816x1024 .bf16
  | 0, hn => caseA m c ⟨0, hn⟩ (Nat.zero_mod _)
  | n + 1, hn =>
    if h0 : (n + 1) % 8 = 0 then caseA m c ⟨n + 1, hn⟩ h0
    else caseB m c ⟨n + 1, hn⟩ h0 (outsAt0 c n (Nat.lt_of_succ_lt hn))

/-- `outsAt0` at a point of case A: that case's contents. -/
theorem outsAt0_A (c : Dev nD) (t : Fin cfg0.N) (h0 : t.val % 8 = 0) : outsAt0 m c t.val t.isLt = caseA m c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = caseB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.1) ∗ owns (c : Thread nD τ) scM0_1 fullShare ((outsAt0 m c n hn).2.2.2.2.2.2.1) ∗ owns (c : Thread nD τ) scM0_2 fullShare ((outsAt0 m c n hn).2.2.2.2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) ∗ iprop(hbPt0 c hbM0_0 (V m c main_v6)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2.1) ∗ owns (c : Thread nD τ) scM0_2 fullShare ((outsAt0 m c n hn).2.2.2.2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) ∗ iprop(hbPt0 c hbM0_0 (V m c main_v6))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2.1) ∗ owns (c : Thread nD τ) scM0_2 fullShare ((outsAt0 m c (n - 1) (by omega)).2.2.2.2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0) ∗ iprop(hbPt0 c hbM0_0 (V m c main_v6))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
    | ⟨6, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]
theorem after0_6 (c : Dev nD) (t : Fin cfg0.N) : (dats m 0 c).after 6 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2, after0_3, after0_4, after0_5, after0_6]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · by_cases hz : t.val = 0
    · rw [PhiS_castSucc m c t, PhiS_zero m c _ _ hz, PhiD0_eq]
      rw [outsAt0_A m c t h0, caseA]
      unfold out0_A_2 out0_A_3 out0_A_4 out0_A_5 out0_A_6 sout0_A_0 sout0_A_1 sout0_A_2; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ ((hcond0_0 t).mpr h0) (iblk m c 0 t) (iblk m c 1 t) (V m c main_v6)).2.2.2.2.2.2.2.2 W _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hh0]; · iexact Hh0
      isplitl [HW]; · iexact HW
      iintro ⟨H0, H1, ⟨%e2, H2⟩, ⟨%e3, H3⟩, ⟨%e4, H4⟩, ⟨%e5, H5⟩, ⟨%e6, H6⟩, ⟨%es0, HS0⟩, ⟨%es1, HS1⟩, ⟨%es2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
      isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _)
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          iexact Hq23
        iexact Hh0
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0, caseB]
      unfold out0_B_2 out0_B_3 out0_B_4 out0_B_5 out0_B_6 sout0_B_0 sout0_B_1 sout0_B_2; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ (fun h => h0 ((hcond0_0 t).mp h)) (iblk m c 0 t) (iblk m c 1 t) _ _ _ (V m c main_v6)).2.2.2.2.2.2.2.2 W _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hh0]; · iexact Hh0
      isplitl [HW]; · iexact HW
      iintro ⟨H0, H1, ⟨%e2, H2⟩, ⟨%e3, H3⟩, ⟨%e4, H4⟩, ⟨%e5, H5⟩, ⟨%e6, H6⟩, HS0, HS1, HS2, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
      isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
      · isplitl [HS0 HS1 HS2]
        · isplitl [HS0]; · iexact HS0
          isplitl [HS1]; · iexact HS1
          iexact HS2
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          iexact Hq23
        iexact Hh0
      isplitl [HW']
      · iexists W'; isplitr; · ipureintro; exact fun _ _ => Or.inl trivial
        iexact HW'
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    iexact Hq23
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 8 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame at any `F`: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnFwdIdeal.Gen

end
-- ==== Proof.FfnFwd.Bits.lean ====
/- The program on machine floats runs as the idealized one: both are the same text, so one run serves both. -/
module

public import proofs.«01_k».proof.Proof.FfnFwd.Frame
public import proofs.«01_k».proof.Proof.Gen.FfnFwd
public import proofs.«01_k».proof.Defs

@[expose] public section

set_option maxRecDepth 16384

noncomputable section

namespace Cert.Proof.FfnFwd

open Idealize.ShloMosaic Idealize.ShloMosaic.TcCoe Idealize.SL.Sem

local instance : Cert.FfnFwd.Facts := Cert.FfnFwd.Gen.facts

/-- The two body tables are one. -/
theorem defs₀_eq : (Cert.FfnFwd.defs₀ (F := Bits) : Defs Cert.FfnFwdIdeal.nD Cert.FfnFwdIdeal.τ Cert.FfnFwdIdeal.sig (Elt Bits) Cert.FfnFwdIdeal.Λ₀) = Cert.FfnFwdIdeal.defs₀ (F := Bits) := by
  unfold Cert.FfnFwd.defs₀ Cert.FfnFwdIdeal.defs₀
  refine congrArg Defs.onTc (funext fun l => funext fun a => ?_)
  match l, a with
  | ⟨0, _⟩, (t, s) => rfl

/-- The two tables of bodies and regions are one. -/
theorem defs_eq : (Cert.FfnFwd.defs (F := Bits) : Defs Cert.FfnFwdIdeal.nD Cert.FfnFwdIdeal.τ Cert.FfnFwdIdeal.sig (Elt Bits) (Pipeline.Sig Cert.FfnFwdIdeal.Λ₀ (Fin 1) fun p => (Cert.FfnFwdIdeal.pcfgs (F := Bits) p).Adm)) = Cert.FfnFwdIdeal.defs (F := Bits) := by
  unfold Cert.FfnFwd.defs Cert.FfnFwdIdeal.defs
  exact congrArg (Pipeline.defs (Cert.FfnFwdIdeal.pcfgs (F := Bits))) defs₀_eq

/-- The frame of the program on machine floats. -/
theorem frame_bits : (@Cert.quiescent_FfnFwd Cert.FfnFwd.Gen.facts) := by
  unfold Cert.quiescent_FfnFwd
  intro m ρ _
  have h := Cert.FfnFwdIdeal.Gen.frame (F := Bits) m ρ
  rw [← defs_eq] at h
  exact h

end Cert.Proof.FfnFwd

end
-- ==== Proof.FfnFwd.Slab.lean ====
/- The weights as the kernel's three scratch arrays hold them: brought in from one array, in which the three weights lie
   side by side, in eight slabs of 352 rows. -/
module

public import proofs.«01_k».proof.Proof.FfnFwd.Frame
public import proofs.«01_k».proof.Proof.Ffn.Math
public import Idealize.ShloMosaic.Lib.WritesUnit

@[expose] public section

set_option maxRecDepth 16384

noncomputable section

namespace Cert.FfnFwdIdeal.Fwd

open Cert.FfnFwdIdeal Cert.FfnFwdIdeal.Gen Idealize.ShloMosaic Idealize.ShloMosaic.TcCoe Idealize.SL.Sem
open Idealize.ShloMosaic.Pipeline (Dat)
open _root_.Ffn (Mat)

variable (m : (ℓ : Loc nD τ sig) → Buf (Elt Ideal) ℓ)

/-- The argument arrays. -/
abbrev x (c : Dev nD) : Mat 4096 1024 := m ((c : Thread nD τ).loc main_arg0)
abbrev gain (c : Dev nD) : Mat 1 1024 := m ((c : Thread nD τ).loc main_arg1)
abbrev wg (c : Dev nD) : Mat 1024 2816 := m ((c : Thread nD τ).loc main_arg2)
abbrev wu (c : Dev nD) : Mat 1024 2816 := m ((c : Thread nD τ).loc main_arg3)
abbrev wd (c : Dev nD) : Mat 2816 1024 := m ((c : Thread nD τ).loc main_arg4)

/-- The windows' block numbers at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ t.val < 8 :=
  (by decide +kernel : ∀ t : Fin grid0.N, _)

/-- A slab of one weight, read through the slice that is copied. -/
theorem slab_read (W : S8x1056x1024.Idx → EReal) (k off : ℕ) (hk : k < 8) (ho : off + 352 ≤ 1056)
    (hb : ∀ a, (![k, off, 0] : Fin 3 → ℕ) a + (![1, 352, 1024] : Fin 3 → ℕ) a ≤ S8x1056x1024.size a)
    (hr : S352x1024.numel = (⟨3, ![1, 352, 1024]⟩ : Shape).numel) (a : Fin 352) (b : Fin 1024) :
    View.read (Elt Ideal) (((View.whole main_v6 : View sig .tc _ S8x1056x1024 _).slice (Rect.unit ![k, off, 0] ![1, 352, 1024] hb)).reshape S352x1024 hr) W (ix2 a b)
      = W (ix3 ⟨k, hk⟩ ⟨off + a.val, by omega⟩ b) := by
  have e : Shape.reshapeEquiv hr (ix2 a b) = (ix3 0 a b : (⟨3, ![1, 352, 1024]⟩ : Shape).Idx) :=
    Shape.reshapeEquiv_eq_of_vals hr _ _ (a.val * 1024 + b.val) (a.val * 1024 + b.val)
      ((rowMajor_val3 _ 360448 1024 rfl rfl).trans (by simp)) ((rowMajor_val2 _ 1024 rfl).trans (by simp)) rfl
  show W _ = W _
  congr 1
  rw [View.emb_reshape]
  refine (congrArg ((View.whole main_v6 : View sig .tc _ S8x1056x1024 _).slice (Rect.unit ![k, off, 0] ![1, 352, 1024] hb)).emb e).trans ?_
  funext z
  fin_cases z <;> apply Fin.ext <;> simp

/-- Three arrays of eight slabs, side by side. -/
def beside (a b d : FVec Ideal S8x352x1024 .f32) : FVec Ideal S8x1056x1024 .bf16 :=
  truncf .bf16 (concatenate S8x1056x1024 1 [⟨S8x352x1024, a⟩, ⟨S8x352x1024, b⟩, ⟨S8x352x1024, d⟩] concatenates_S8x352x1024_S8x352x1024_S8x352x1024_S8x1056x1024_d1 : FVec Ideal S8x1056x1024 .f32) bitsLt_bf16_f32

/-- Three weights, cut in slabs and side by side. -/
def side (a b d : FVec Ideal S2816x1024 .f32) : FVec Ideal S8x1056x1024 .bf16 :=
  beside (shapeCast _ a shapeCasts_S2816x1024_S8x352x1024) (shapeCast _ b shapeCasts_S2816x1024_S8x352x1024) (shapeCast _ d shapeCasts_S2816x1024_S8x352x1024)

theorem side_row (a b d : FVec Ideal S2816x1024 .f32) (s : Fin 8) (r : Fin 1056) (q : Fin 1024) :
    side a b d (ix3 s r q) = if h : r.val < 352 then a (ix2 ⟨s.val * 352 + r.val, by omega⟩ q)
      else if h' : r.val - 352 < 352 then b (ix2 ⟨s.val * 352 + (r.val - 352), by omega⟩ q)
      else d (ix2 ⟨s.val * 352 + (r.val - 352 - 352), by omega⟩ q) := by
  pointwise [side, beside]

set_option maxHeartbeats 2000000 in
theorem wall_eq (c : Dev nD) : Gen.V m c main_v6 = side (transpose S2816x1024 [1, 0] (wg m c : FVec Ideal S1024x2816 .f32) transposes_S1024x2816_S2816x1024_1_0)
    (transpose S2816x1024 [1, 0] (wu m c : FVec Ideal S1024x2816 .f32) transposes_S1024x2816_S2816x1024_1_0) (wd m c : FVec Ideal S2816x1024 .f32) := by
  refine Eq.trans (b := beside (Gen.V m c main_v1) (Gen.V m c main_v3) (Gen.V m c main_v4)) rfl ?_
  entry_read
  rfl

/-- The slabs of the weight of the gate. -/
theorem slab_wg (c : Dev nD) (k : ℕ) (hk : k < 8)
    (hb : ∀ a, (![k, 0, 0] : Fin 3 → ℕ) a + (![1, 352, 1024] : Fin 3 → ℕ) a ≤ S8x1056x1024.size a)
    (hr : S352x1024.numel = (⟨3, ![1, 352, 1024]⟩ : Shape).numel) (a : Fin 352) (b : Fin 1024) :
    View.read (Elt Ideal) (((View.whole main_v6 : View sig .tc _ S8x1056x1024 _).slice (Rect.unit ![k, 0, 0] ![1, 352, 1024] hb)).reshape S352x1024 hr) (Gen.V m c main_v6) (ix2 a b)
      = wg m c (ix2 b ⟨k * 352 + a.val, by omega⟩) := by
  rw [slab_read _ k 0 hk (by decide) hb hr a b, wall_eq, side_row]
  dsimp only
  rw [dif_pos (by omega)]
  simp only [Nat.zero_add, Nat.add_sub_cancel_left, Nat.add_sub_add_left, show 704 + a.val - 352 - 352 = a.val by omega]
  pointwise

/-- The slabs of the weight of the other half. -/
theorem slab_wu (c : Dev nD) (k : ℕ) (hk : k < 8)
    (hb : ∀ a, (![k, 352, 0] : Fin 3 → ℕ) a + (![1, 352, 1024] : Fin 3 → ℕ) a ≤ S8x1056x1024.size a)
    (hr : S352x1024.numel = (⟨3, ![1, 352, 1024]⟩ : Shape).numel) (a : Fin 352) (b : Fin 1024) :
    View.read (Elt Ideal) (((View.whole main_v6 : View sig .tc _ S8x1056x1024 _).slice (Rect.unit ![k, 352, 0] ![1, 352, 1024] hb)).reshape S352x1024 hr) (Gen.V m c main_v6) (ix2 a b)
      = wu m c (ix2 b ⟨k * 352 + a.val, by omega⟩) := by
  rw [slab_read _ k 352 hk (by decide) hb hr a b, wall_eq, side_row]
  dsimp only
  rw [dif_neg (by omega), dif_pos (by omega)]
  simp only [Nat.zero_add, Nat.add_sub_cancel_left, Nat.add_sub_add_left, show 704 + a.val - 352 - 352 = a.val by omega]
  pointwise

/-- The slabs of the weight of the way down. -/
theorem slab_wd (c : Dev nD) (k : ℕ) (hk : k < 8)
    (hb : ∀ a, (![k, 704, 0] : Fin 3 → ℕ) a + (![1, 352, 1024] : Fin 3 → ℕ) a ≤ S8x1056x1024.size a)
    (hr : S352x1024.numel = (⟨3, ![1, 352, 1024]⟩ : Shape).numel) (a : Fin 352) (b : Fin 1024) :
    View.read (Elt Ideal) (((View.whole main_v6 : View sig .tc _ S8x1056x1024 _).slice (Rect.unit ![k, 704, 0] ![1, 352, 1024] hb)).reshape S352x1024 hr) (Gen.V m c main_v6) (ix2 a b)
      = wd m c (ix2 ⟨k * 352 + a.val, by omega⟩ b) := by
  rw [slab_read _ k 704 hk (by decide) hb hr a b, wall_eq, side_row]
  dsimp only
  rw [dif_neg (by omega), dif_neg (by omega)]
  simp only [Nat.zero_add, Nat.add_sub_cancel_left, Nat.add_sub_add_left, show 704 + a.val - 352 - 352 = a.val by omega]

/-- Scratch 0, filled slab by slab, read through any rectangle. -/
theorem scr0_read (p0 p1 p2 p3 p4 p5 p6 p7 : Mat 352 1024) (T : Mat 2816 1024)
    (hp : ∀ (a : Fin 352) (b : Fin 1024), p0 (ix2 a b) = T (ix2 ⟨0 * 352 + a.val, by omega⟩ b) ∧ p1 (ix2 a b) = T (ix2 ⟨1 * 352 + a.val, by omega⟩ b)
      ∧ p2 (ix2 a b) = T (ix2 ⟨2 * 352 + a.val, by omega⟩ b) ∧ p3 (ix2 a b) = T (ix2 ⟨3 * 352 + a.val, by omega⟩ b)
      ∧ p4 (ix2 a b) = T (ix2 ⟨4 * 352 + a.val, by omega⟩ b) ∧ p5 (ix2 a b) = T (ix2 ⟨5 * 352 + a.val, by omega⟩ b)
      ∧ p6 (ix2 a b) = T (ix2 ⟨6 * 352 + a.val, by omega⟩ b) ∧ p7 (ix2 a b) = T (ix2 ⟨7 * 352 + a.val, by omega⟩ b))
    (r : Rect S2816x1024) (j : r.toLoadRect.shape.Idx) :
    (View.whole cc0_scratch0 : View sig .tc _ S2816x1024 _).readCov (Val := Elt Ideal)
        [⟨Rect.unit ![2464, 0] ![352, 1024] inb_S2816x1024_S352x1024_2464_0, p7⟩, ⟨Rect.unit ![2112, 0] ![352, 1024] inb_S2816x1024_S352x1024_2112_0, p6⟩, ⟨Rect.unit ![1760, 0] ![352, 1024] inb_S2816x1024_S352x1024_1760_0, p5⟩, ⟨Rect.unit ![1408, 0] ![352, 1024] inb_S2816x1024_S352x1024_1408_0, p4⟩, ⟨Rect.unit ![1056, 0] ![352, 1024] inb_S2816x1024_S352x1024_1056_0, p3⟩, ⟨Rect.unit ![704, 0] ![352, 1024] inb_S2816x1024_S352x1024_704_0, p2⟩, ⟨Rect.unit ![352, 0] ![352, 1024] inb_S2816x1024_S352x1024_352_0, p1⟩, ⟨Rect.unit ![0, 0] ![352, 1024] inb_S2816x1024_S352x1024_0_0, p0⟩] r.toLoadRect j = T (r.toLoadRect.idx j) := by
  rw [View.readCov_eq_canon']
  dsimp only
  generalize r.toLoadRect.idx j = y
  canon_tiles x h
  · idx_vars x
    refine (hp x0 x1).2.2.2.2.2.2.2.trans (congrArg T ?_)
    blk_ext
  · idx_vars x
    refine (hp x0 x1).2.2.2.2.2.2.1.trans (congrArg T ?_)
    blk_ext
  · idx_vars x
    refine (hp x0 x1).2.2.2.2.2.1.trans (congrArg T ?_)
    blk_ext
  · idx_vars x
    refine (hp x0 x1).2.2.2.2.1.trans (congrArg T ?_)
    blk_ext
  · idx_vars x
    refine (hp x0 x1).2.2.2.1.trans (congrArg T ?_)
    blk_ext
  · idx_vars x
    refine (hp x0 x1).2.2.1.trans (congrArg T ?_)
    blk_ext
  · idx_vars x
    refine (hp x0 x1).2.1.trans (congrArg T ?_)
    blk_ext
  · idx_vars x
    refine (hp x0 x1).1.trans (congrArg T ?_)
    blk_ext

/-- Scratch 1, filled slab by slab, read through any rectangle. -/
theorem scr1_read (p0 p1 p2 p3 p4 p5 p6 p7 : Mat 352 1024) (T : Mat 2816 1024)
    (hp : ∀ (a : Fin 352) (b : Fin 1024), p0 (ix2 a b) = T (ix2 ⟨0 * 352 + a.val, by omega⟩ b) ∧ p1 (ix2 a b) = T (ix2 ⟨1 * 352 + a.val, by omega⟩ b)
      ∧ p2 (ix2 a b) = T (ix2 ⟨2 * 352 + a.val, by omega⟩ b) ∧ p3 (ix2 a b) = T (ix2 ⟨3 * 352 + a.val, by omega⟩ b)
      ∧ p4 (ix2 a b) = T (ix2 ⟨4 * 352 + a.val, by omega⟩ b) ∧ p5 (ix2 a b) = T (ix2 ⟨5 * 352 + a.val, by omega⟩ b)
      ∧ p6 (ix2 a b) = T (ix2 ⟨6 * 352 + a.val, by omega⟩ b) ∧ p7 (ix2 a b) = T (ix2 ⟨7 * 352 + a.val, by omega⟩ b))
    (r : Rect S2816x1024) (j : r.toLoadRect.shape.Idx) :
    (View.whole cc0_scratch1 : View sig .tc _ S2816x1024 _).readCov (Val := Elt Ideal)
        [⟨Rect.unit ![2464, 0] ![352, 1024] inb_S2816x1024_S352x1024_2464_0, p7⟩, ⟨Rect.unit ![2112, 0] ![352, 1024] inb_S2816x1024_S352x1024_2112_0, p6⟩, ⟨Rect.unit ![1760, 0] ![352, 1024] inb_S2816x1024_S352x1024_1760_0, p5⟩, ⟨Rect.unit ![1408, 0] ![352, 1024] inb_S2816x1024_S352x1024_1408_0, p4⟩, ⟨Rect.unit ![1056, 0] ![352, 1024] inb_S2816x1024_S352x1024_1056_0, p3⟩, ⟨Rect.unit ![704, 0] ![352, 1024] inb_S2816x1024_S352x1024_704_0, p2⟩, ⟨Rect.unit ![352, 0] ![352, 1024] inb_S2816x1024_S352x1024_352_0, p1⟩, ⟨Rect.unit ![0, 0] ![352, 1024] inb_S2816x1024_S352x1024_0_0, p0⟩] r.toLoadRect j = T (r.toLoadRect.idx j) := by
  rw [View.readCov_eq_canon']
  dsimp only
  generalize r.toLoadRect.idx j = y
  canon_tiles x h
  · idx_vars x
    refine (hp x0 x1).2.2.2.2.2.2.2.trans (congrArg T ?_)
    blk_ext
  · idx_vars x
    refine (hp x0 x1).2.2.2.2.2.2.1.trans (congrArg T ?_)
    blk_ext
  · idx_vars x
    refine (hp x0 x1).2.2.2.2.2.1.trans (congrArg T ?_)
    blk_ext
  · idx_vars x
    refine (hp x0 x1).2.2.2.2.1.trans (congrArg T ?_)
    blk_ext
  · idx_vars x
    refine (hp x0 x1).2.2.2.1.trans (congrArg T ?_)
    blk_ext
  · idx_vars x
    refine (hp x0 x1).2.2.1.trans (congrArg T ?_)
    blk_ext
  · idx_vars x
    refine (hp x0 x1).2.1.trans (congrArg T ?_)
    blk_ext
  · idx_vars x
    refine (hp x0 x1).1.trans (congrArg T ?_)
    blk_ext

/-- Scratch 2, filled slab by slab, read through any rectangle. -/
theorem scr2_read (p0 p1 p2 p3 p4 p5 p6 p7 : Mat 352 1024) (T : Mat 2816 1024)
    (hp : ∀ (a : Fin 352) (b : Fin 1024), p0 (ix2 a b) = T (ix2 ⟨0 * 352 + a.val, by omega⟩ b) ∧ p1 (ix2 a b) = T (ix2 ⟨1 * 352 + a.val, by omega⟩ b)
      ∧ p2 (ix2 a b) = T (ix2 ⟨2 * 352 + a.val, by omega⟩ b) ∧ p3 (ix2 a b) = T (ix2 ⟨3 * 352 + a.val, by omega⟩ b)
      ∧ p4 (ix2 a b) = T (ix2 ⟨4 * 352 + a.val, by omega⟩ b) ∧ p5 (ix2 a b) = T (ix2 ⟨5 * 352 + a.val, by omega⟩ b)
      ∧ p6 (ix2 a b) = T (ix2 ⟨6 * 352 + a.val, by omega⟩ b) ∧ p7 (ix2 a b) = T (ix2 ⟨7 * 352 + a.val, by omega⟩ b))
    (r : Rect S2816x1024) (j : r.toLoadRect.shape.Idx) :
    (View.whole cc0_scratch2 : View sig .tc _ S2816x1024 _).readCov (Val := Elt Ideal)
        [⟨Rect.unit ![2464, 0] ![352, 1024] inb_S2816x1024_S352x1024_2464_0, p7⟩, ⟨Rect.unit ![2112, 0] ![352, 1024] inb_S2816x1024_S352x1024_2112_0, p6⟩, ⟨Rect.unit ![1760, 0] ![352, 1024] inb_S2816x1024_S352x1024_1760_0, p5⟩, ⟨Rect.unit ![1408, 0] ![352, 1024] inb_S2816x1024_S352x1024_1408_0, p4⟩, ⟨Rect.unit ![1056, 0] ![352, 1024] inb_S2816x1024_S352x1024_1056_0, p3⟩, ⟨Rect.unit ![704, 0] ![352, 1024] inb_S2816x1024_S352x1024_704_0, p2⟩, ⟨Rect.unit ![352, 0] ![352, 1024] inb_S2816x1024_S352x1024_352_0, p1⟩, ⟨Rect.unit ![0, 0] ![352, 1024] inb_S2816x1024_S352x1024_0_0, p0⟩] r.toLoadRect j = T (r.toLoadRect.idx j) := by
  rw [View.readCov_eq_canon']
  dsimp only
  generalize r.toLoadRect.idx j = y
  canon_tiles x h
  · idx_vars x
    refine (hp x0 x1).2.2.2.2.2.2.2.trans (congrArg T ?_)
    blk_ext
  · idx_vars x
    refine (hp x0 x1).2.2.2.2.2.2.1.trans (congrArg T ?_)
    blk_ext
  · idx_vars x
    refine (hp x0 x1).2.2.2.2.2.1.trans (congrArg T ?_)
    blk_ext
  · idx_vars x
    refine (hp x0 x1).2.2.2.2.1.trans (congrArg T ?_)
    blk_ext
  · idx_vars x
    refine (hp x0 x1).2.2.2.1.trans (congrArg T ?_)
    blk_ext
  · idx_vars x
    refine (hp x0 x1).2.2.1.trans (congrArg T ?_)
    blk_ext
  · idx_vars x
    refine (hp x0 x1).2.1.trans (congrArg T ?_)
    blk_ext
  · idx_vars x
    refine (hp x0 x1).1.trans (congrArg T ?_)
    blk_ext

end Cert.FfnFwdIdeal.Fwd

end
-- ==== Proof.FfnFwd.Words.lean ====
/- The half-step feed-forward block  x + ½ (silu(n wg) * (n wu)) wd,  n = x / rms(x) * gain,  in plain words. -/
module

public import proofs.«01_k».proof.Proof.Ffn.Math

@[expose] public section

noncomputable section

namespace Ffn

open Idealize.ShloMosaic

/-- The normalised rows. -/
def nrm (x : Mat 4096 1024) (gain : Mat 1 1024) (r : Fin 4096) (k : Fin 1024) : EReal := x (ix2 r k) * rr x r * gain (ix2 0 k)

/-- The gate's function of `g` times `u`. -/
def half_silu (g u : EReal) : EReal := g * sg g * u

/-- The product of the two halves. -/
def hid (x : Mat 4096 1024) (gain : Mat 1 1024) (wg wu : Mat 1024 2816) (r : Fin 4096) (f : Fin 2816) : EReal :=
  half_silu (pre x gain wg r f) (pre x gain wu r f)

/-- The block's result, from the product of the two halves. -/
def step (x : Mat 4096 1024) (wd : Mat 2816 1024) (h : Fin 4096 → Fin 2816 → EReal) (r : Fin 4096) (k : Fin 1024) : EReal :=
  x (ix2 r k) + half * ∑ f : Fin 2816, h r f * wd (ix2 f k)

/-- The sum of a row of 2816 over its first `n` chunks of 256. -/
def first (f : Fin 2816 → EReal) (n : ℕ) (hn : n ≤ 11) : EReal := ∑ j : Fin n, ∑ b : Fin 256, f ⟨j.val * 256 + b.val, by omega⟩

theorem first_zero (f : Fin 2816 → EReal) (h : 0 ≤ 11) : first f 0 h = 0 := rfl

theorem first_succ (f : Fin 2816 → EReal) (n : ℕ) (h : n + 1 ≤ 11) :
    first f (n + 1) h = first f n (by omega) + ∑ b : Fin 256, f ⟨n * 256 + b.val, by omega⟩ :=
  Fin.sum_univ_castSucc (fun j : Fin (n + 1) => ∑ b : Fin 256, f ⟨j.val * 256 + b.val, by omega⟩)

/-- All eleven chunks are the whole row. -/
theorem first_all (f : Fin 2816 → EReal) : first f 11 le_rfl = ∑ k, f k := (Fin.sum_univ_tiles 11 256 rfl f).symm

end Ffn

end
-- ==== Proof.FfnFwd.Chunk.lean ====
/- The forward call's arithmetic on one chunk of 256 columns, in plain arrays: the eleven chunks are the same functions of
   their own loads, and the product with the way down is summed chunk by chunk. -/
module

public import proofs.«01_k».proof.Proof.FfnFwd.Slab
public import proofs.«01_k».proof.Proof.FfnFwd.Words

@[expose] public section

set_option maxRecDepth 16384

noncomputable section

namespace Cert.FfnFwdIdeal.Fwd

open Cert.FfnFwdIdeal Cert.FfnFwdIdeal.Gen Idealize.ShloMosaic Idealize.ShloMosaic.TcCoe Idealize.SL.Sem
open _root_.Ffn (Mat)

/-! ### The functions of one chunk -/

def PREC (P : FVec Ideal S512x1024 .bf16) (W : FVec Ideal S256x1024 .bf16) : FVec Ideal S512x256 .bf16 :=
  truncf .bf16 (matmul dot_S512x1024_S256x1024_S512x256_1_1_0_0_n_n none P W (constant S512x256 .f32 0x00000000#32)) bitsLt_bf16_f32

def HID (G U : FVec Ideal S512x256 .bf16) : FVec Ideal S512x256 .bf16 :=
  truncf .bf16 (mulf (mulf (extf .f32 G bitsLt_bf16_f32) (divf (broadcast S512x256 (Scalar.ofBits .f32 0x3F800000#32))
    (addf (broadcast S512x256 (Scalar.ofBits .f32 0x3F800000#32))
      (exp (subf (broadcast S512x256 (Scalar.ofBits .f32 0x00000000#32)) (extf .f32 G bitsLt_bf16_f32))))))
    (extf .f32 U bitsLt_bf16_f32)) bitsLt_bf16_f32

def STO (v : FVec Ideal S512x256 .bf16) : FVec Ideal S512x256 .bf16 := shapeCast S512x256 v shapeCasts_S512x256_S512x256

def ACC (A : FVec Ideal S512x1024 .f32) (h : FVec Ideal S512x256 .bf16) (W : FVec Ideal S256x1024 .bf16) : FVec Ideal S512x1024 .f32 :=
  addf A (matmul dot_S512x256_S256x1024_S512x1024_1_0_0_1_n_n none h W (constant S512x1024 .f32 0x00000000#32))

def OUT (X A : FVec Ideal S512x1024 .f32) : FVec Ideal S512x1024 .f32 :=
  shapeCast S512x1024 (addf X (mulf (broadcast S512x1024 (Scalar.ofBits .f32 0x3F000000#32)) A)) shapeCasts_S512x1024_S512x1024

/-! ### Their entries -/

theorem PREC_row (P : FVec Ideal S512x1024 .bf16) (W : FVec Ideal S256x1024 .bf16) (a : Fin 512) (b : Fin 256) :
    PREC P W (ix2 a b) = ∑ k : Fin 1024, P (ix2 a k) * W (ix2 b k) := by
  pointwise [PREC]

theorem HID_row (G U : FVec Ideal S512x256 .bf16) (a : Fin 512) (b : Fin 256) :
    HID G U (ix2 a b) = _root_.Ffn.half_silu (G (ix2 a b)) (U (ix2 a b)) := by
  unfold _root_.Ffn.half_silu _root_.Ffn.sg
  pointwise [HID]
  simp only [zero_sub]

theorem STO_row (v : FVec Ideal S512x256 .bf16) (a : Fin 512) (b : Fin 256) : STO v (ix2 a b) = v (ix2 a b) := by
  pointwise [STO]

theorem ACC_row (A : FVec Ideal S512x1024 .f32) (h : FVec Ideal S512x256 .bf16) (W : FVec Ideal S256x1024 .bf16) (a : Fin 512) (k : Fin 1024) :
    ACC A h W (ix2 a k) = A (ix2 a k) + ∑ b : Fin 256, h (ix2 a b) * W (ix2 b k) := by
  pointwise [ACC]

theorem OUT_row (X A : FVec Ideal S512x1024 .f32) (a : Fin 512) (k : Fin 1024) :
    OUT X A (ix2 a k) = X (ix2 a k) + _root_.Ffn.half * A (ix2 a k) := by
  pointwise [OUT]

/-! ### One chunk at a grid point -/

variable (m : (ℓ : Loc nD τ sig) → Buf (Elt Ideal) ℓ)

/-- Row `a` of grid point `t`'s tile. -/
def row (t : Fin cfg0.N) (a : Fin 512) : Fin 4096 := ⟨t.val * 512 + a.val, by have := (idx t).2.2.2.2.2.2.2; omega⟩

/-- Column `b` of chunk `n`. -/
abbrev col (n : ℕ) (hn : n < 11) (b : Fin 256) : Fin 2816 := ⟨n * 256 + b.val, by omega⟩

/-- The gate's rows, the other half's rows and their product. -/
def gv (c : Dev nD) : Fin 4096 → Fin 2816 → EReal := _root_.Ffn.pre (x m c) (gain m c) (wg m c)
def uv (c : Dev nD) : Fin 4096 → Fin 2816 → EReal := _root_.Ffn.pre (x m c) (gain m c) (wu m c)
def hv (c : Dev nD) : Fin 4096 → Fin 2816 → EReal := _root_.Ffn.hid (x m c) (gain m c) (wg m c) (wu m c)

theorem blk_x (c : Dev nD) (t : Fin cfg0.N) (a : Fin 512) (k : Fin 1024) :
    (iblk m c 0 t : Mat 512 1024) (ix2 a k) = x m c (ix2 (row t a) k) := by
  unfold row
  blk_point [iblk, V, idx t]

theorem blk_gain (c : Dev nD) (t : Fin cfg0.N) (k : Fin 1024) :
    (iblk m c 1 t : Mat 1 1024) (ix2 0 k) = gain m c (ix2 0 k) := by
  blk_point [iblk, V, idx t]

/-- The normalised rows of a point. -/
abbrev XN (c : Dev nD) (t : Fin cfg0.N) : FVec Ideal S512x1024 .bf16 := k0_pay2 (F := Ideal) (iblk m c 0 t) (iblk m c 1 t)

theorem XN_row (c : Dev nD) (t : Fin cfg0.N) (a : Fin 512) (k : Fin 1024) :
    XN m c t (ix2 a k) = _root_.Ffn.nrm (x m c) (gain m c) (row t a) k := by
  unfold _root_.Ffn.nrm _root_.Ffn.rr _root_.Ffn.var
  simp only [← blk_x m c t, ← blk_gain m c t]
  pointwise [XN, k0_pay2]

/-- A chunk of the rows of either half. -/
theorem pre_chunk (c : Dev nD) (t : Fin cfg0.N) (n : ℕ) (hn : n < 11) (w : Mat 1024 2816) (W : FVec Ideal S256x1024 .bf16)
    (hW : ∀ (a : Fin 256) (k : Fin 1024), W (ix2 a k) = w (ix2 k (col n hn a))) (a : Fin 512) (b : Fin 256) :
    PREC (XN m c t) W (ix2 a b) = _root_.Ffn.pre (x m c) (gain m c) w (row t a) (col n hn b) := by
  rw [PREC_row]
  unfold _root_.Ffn.pre
  simp only [XN_row, hW]
  rfl

/-- A chunk of the product of the two halves. -/
theorem hid_chunk (c : Dev nD) (t : Fin cfg0.N) (n : ℕ) (hn : n < 11) (Wg Wu : FVec Ideal S256x1024 .bf16)
    (hWg : ∀ (a : Fin 256) (k : Fin 1024), Wg (ix2 a k) = wg m c (ix2 k (col n hn a)))
    (hWu : ∀ (a : Fin 256) (k : Fin 1024), Wu (ix2 a k) = wu m c (ix2 k (col n hn a))) (a : Fin 512) (b : Fin 256) :
    HID (PREC (XN m c t) Wg) (PREC (XN m c t) Wu) (ix2 a b) = hv m c (row t a) (col n hn b) := by
  rw [HID_row, pre_chunk m c t n hn _ Wg hWg, pre_chunk m c t n hn _ Wu hWu]
  rfl

/-- The product with the way down after `n` chunks. -/
def yp (c : Dev nD) (n : ℕ) (hn : n ≤ 11) (r : Fin 4096) (k : Fin 1024) : EReal :=
  _root_.Ffn.first (fun f => hv m c r f * wd m c (ix2 f k)) n hn

theorem acc_chunk (c : Dev nD) (t : Fin cfg0.N) (n : ℕ) (hn : n < 11) (A : FVec Ideal S512x1024 .f32) (Wg Wu Wd : FVec Ideal S256x1024 .bf16)
    (hWg : ∀ (a : Fin 256) (k : Fin 1024), Wg (ix2 a k) = wg m c (ix2 k (col n hn a)))
    (hWu : ∀ (a : Fin 256) (k : Fin 1024), Wu (ix2 a k) = wu m c (ix2 k (col n hn a)))
    (hWd : ∀ (a : Fin 256) (k : Fin 1024), Wd (ix2 a k) = wd m c (ix2 (col n hn a) k))
    (hA : ∀ (a : Fin 512) (k : Fin 1024), A (ix2 a k) = yp m c n (by omega) (row t a) k) (a : Fin 512) (k : Fin 1024) :
    ACC A (HID (PREC (XN m c t) Wg) (PREC (XN m c t) Wu)) Wd (ix2 a k) = yp m c (n + 1) hn (row t a) k := by
  rw [ACC_row, hA]
  unfold yp
  rw [_root_.Ffn.first_succ]
  simp only [hid_chunk m c t n hn Wg Wu hWg hWu, hWd]

end Cert.FfnFwdIdeal.Fwd

end
-- ==== Proof.FfnFwd.Scratch.lean ====
/- What one grid point of the kernel leaves in its windows and scratch arrays. -/
module

public import proofs.«01_k».proof.Proof.FfnFwd.Chunk
public import Idealize.ShloMosaic.Lib.Pipeline.ReadBack

@[expose] public section

set_option maxRecDepth 16384

noncomputable section

namespace Cert.FfnFwdIdeal.Fwd

open Cert.FfnFwdIdeal Cert.FfnFwdIdeal.Gen Idealize.ShloMosaic Idealize.ShloMosaic.TcCoe Idealize.SL.Sem
open _root_.Ffn (Mat)

variable (m : (ℓ : Loc nD τ sig) → Buf (Elt Ideal) ℓ)

/-- A weight transposed. -/
def WT (w : Mat 1024 2816) : Mat 2816 1024 := fun i => w (ix2 (i 1) (i 0))

/-! ### Loads -/

theorem row_idx (T : Mat 2816 1024) (n : ℕ) (hn : n < 11) (inb) (a : Fin 256) (k : Fin 1024) :
    T ((Rect.unit (s := S2816x1024) ![n * 256, 0] ![256, 1024] inb).toLoadRect.idx (ix2 a k)) = T (ix2 (col n hn a) k) := by
  refine congrArg T (funext fun z => Fin.ext ?_)
  fin_cases z
  · exact congrArg (n * 256 + ·) (Nat.one_mul _)
  · exact (Nat.zero_add _).trans (Nat.one_mul _)

/-- Scratch 0 just filled. -/
theorem fill0 (c : Dev nD) (h0 : ∀ a, (![0, 0, 0] : Fin 3 → ℕ) a + (![1, 352, 1024] : Fin 3 → ℕ) a ≤ S8x1056x1024.size a) (h1 : ∀ a, (![1, 0, 0] : Fin 3 → ℕ) a + (![1, 352, 1024] : Fin 3 → ℕ) a ≤ S8x1056x1024.size a) (h2 : ∀ a, (![2, 0, 0] : Fin 3 → ℕ) a + (![1, 352, 1024] : Fin 3 → ℕ) a ≤ S8x1056x1024.size a) (h3 : ∀ a, (![3, 0, 0] : Fin 3 → ℕ) a + (![1, 352, 1024] : Fin 3 → ℕ) a ≤ S8x1056x1024.size a) (h4 : ∀ a, (![4, 0, 0] : Fin 3 → ℕ) a + (![1, 352, 1024] : Fin 3 → ℕ) a ≤ S8x1056x1024.size a) (h5 : ∀ a, (![5, 0, 0] : Fin 3 → ℕ) a + (![1, 352, 1024] : Fin 3 → ℕ) a ≤ S8x1056x1024.size a) (h6 : ∀ a, (![6, 0, 0] : Fin 3 → ℕ) a + (![1, 352, 1024] : Fin 3 → ℕ) a ≤ S8x1056x1024.size a) (h7 : ∀ a, (![7, 0, 0] : Fin 3 → ℕ) a + (![1, 352, 1024] : Fin 3 → ℕ) a ≤ S8x1056x1024.size a)
    (hr : S352x1024.numel = (⟨3, ![1, 352, 1024]⟩ : Shape).numel) (n : ℕ) (hn : n < 11) (inb) (a : Fin 256) (k : Fin 1024) :
    (View.whole cc0_scratch0 : View sig .tc _ S2816x1024 _).readCov (Val := Elt Ideal)
        [⟨Rect.unit ![2464, 0] ![352, 1024] inb_S2816x1024_S352x1024_2464_0,
          ReadAs.same.apply (View.read (Elt Ideal) (((View.whole main_v6 : View sig .tc _ S8x1056x1024 _).slice (Rect.unit ![7, 0, 0] ![1, 352, 1024] h7)).reshape S352x1024 hr) (Gen.V m c main_v6))⟩, ⟨Rect.unit ![2112, 0] ![352, 1024] inb_S2816x1024_S352x1024_2112_0,
          ReadAs.same.apply (View.read (Elt Ideal) (((View.whole main_v6 : View sig .tc _ S8x1056x1024 _).slice (Rect.unit ![6, 0, 0] ![1, 352, 1024] h6)).reshape S352x1024 hr) (Gen.V m c main_v6))⟩, ⟨Rect.unit ![1760, 0] ![352, 1024] inb_S2816x1024_S352x1024_1760_0,
          ReadAs.same.apply (View.read (Elt Ideal) (((View.whole main_v6 : View sig .tc _ S8x1056x1024 _).slice (Rect.unit ![5, 0, 0] ![1, 352, 1024] h5)).reshape S352x1024 hr) (Gen.V m c main_v6))⟩, ⟨Rect.unit ![1408, 0] ![352, 1024] inb_S2816x1024_S352x1024_1408_0,
          ReadAs.same.apply (View.read (Elt Ideal) (((View.whole main_v6 : View sig .tc _ S8x1056x1024 _).slice (Rect.unit ![4, 0, 0] ![1, 352, 1024] h4)).reshape S352x1024 hr) (Gen.V m c main_v6))⟩, ⟨Rect.unit ![1056, 0] ![352, 1024] inb_S2816x1024_S352x1024_1056_0,
          ReadAs.same.apply (View.read (Elt Ideal) (((View.whole main_v6 : View sig .tc _ S8x1056x1024 _).slice (Rect.unit ![3, 0, 0] ![1, 352, 1024] h3)).reshape S352x1024 hr) (Gen.V m c main_v6))⟩, ⟨Rect.unit ![704, 0] ![352, 1024] inb_S2816x1024_S352x1024_704_0,
          ReadAs.same.apply (View.read (Elt Ideal) (((View.whole main_v6 : View sig .tc _ S8x1056x1024 _).slice (Rect.unit ![2, 0, 0] ![1, 352, 1024] h2)).reshape S352x1024 hr) (Gen.V m c main_v6))⟩, ⟨Rect.unit ![352, 0] ![352, 1024] inb_S2816x1024_S352x1024_352_0,
          ReadAs.same.apply (View.read (Elt Ideal) (((View.whole main_v6 : View sig .tc _ S8x1056x1024 _).slice (Rect.unit ![1, 0, 0] ![1, 352, 1024] h1)).reshape S352x1024 hr) (Gen.V m c main_v6))⟩, ⟨Rect.unit ![0, 0] ![352, 1024] inb_S2816x1024_S352x1024_0_0,
          ReadAs.same.apply (View.read (Elt Ideal) (((View.whole main_v6 : View sig .tc _ S8x1056x1024 _).slice (Rect.unit ![0, 0, 0] ![1, 352, 1024] h0)).reshape S352x1024 hr) (Gen.V m c main_v6))⟩] (Rect.unit (s := S2816x1024) ![n * 256, 0] ![256, 1024] inb).toLoadRect (ix2 a k)
      = (WT (wg m c)) (ix2 (col n hn a) k) :=
  (scr0_read _ _ _ _ _ _ _ _ (WT (wg m c)) (fun a b => ⟨slab_wg m c 0 (by decide) h0 hr a b, slab_wg m c 1 (by decide) h1 hr a b, slab_wg m c 2 (by decide) h2 hr a b, slab_wg m c 3 (by decide) h3 hr a b, slab_wg m c 4 (by decide) h4 hr a b, slab_wg m c 5 (by decide) h5 hr a b, slab_wg m c 6 (by decide) h6 hr a b, slab_wg m c 7 (by decide) h7 hr a b⟩) _ _).trans (row_idx _ n hn inb a k)

/-- Scratch 0 carried from the point before. -/
theorem carry0 (P T : Mat 2816 1024) (hP : P = T) (hw : (Memref.whole cc0_scratch0).IsWhole) (n : ℕ) (hn : n < 11) (inb) (a : Fin 256) (k : Fin 1024) :
    View.ld (View.read (Elt Ideal) (View.whole cc0_scratch0) (hw.unread P)) (Rect.unit (s := S2816x1024) ![n * 256, 0] ![256, 1024] inb) (ix2 a k)
      = T (ix2 (col n hn a) k) := by
  rw [read_unread_whole, hP]
  exact row_idx T n hn inb a k

/-- Scratch 1 just filled. -/
theorem fill1 (c : Dev nD) (h0 : ∀ a, (![0, 352, 0] : Fin 3 → ℕ) a + (![1, 352, 1024] : Fin 3 → ℕ) a ≤ S8x1056x1024.size a) (h1 : ∀ a, (![1, 352, 0] : Fin 3 → ℕ) a + (![1, 352, 1024] : Fin 3 → ℕ) a ≤ S8x1056x1024.size a) (h2 : ∀ a, (![2, 352, 0] : Fin 3 → ℕ) a + (![1, 352, 1024] : Fin 3 → ℕ) a ≤ S8x1056x1024.size a) (h3 : ∀ a, (![3, 352, 0] : Fin 3 → ℕ) a + (![1, 352, 1024] : Fin 3 → ℕ) a ≤ S8x1056x1024.size a) (h4 : ∀ a, (![4, 352, 0] : Fin 3 → ℕ) a + (![1, 352, 1024] : Fin 3 → ℕ) a ≤ S8x1056x1024.size a) (h5 : ∀ a, (![5, 352, 0] : Fin 3 → ℕ) a + (![1, 352, 1024] : Fin 3 → ℕ) a ≤ S8x1056x1024.size a) (h6 : ∀ a, (![6, 352, 0] : Fin 3 → ℕ) a + (![1, 352, 1024] : Fin 3 → ℕ) a ≤ S8x1056x1024.size a) (h7 : ∀ a, (![7, 352, 0] : Fin 3 → ℕ) a + (![1, 352, 1024] : Fin 3 → ℕ) a ≤ S8x1056x1024.size a)
    (hr : S352x1024.numel = (⟨3, ![1, 352, 1024]⟩ : Shape).numel) (n : ℕ) (hn : n < 11) (inb) (a : Fin 256) (k : Fin 1024) :
    (View.whole cc0_scratch1 : View sig .tc _ S2816x1024 _).readCov (Val := Elt Ideal)
        [⟨Rect.unit ![2464, 0] ![352, 1024] inb_S2816x1024_S352x1024_2464_0,
          ReadAs.same.apply (View.read (Elt Ideal) (((View.whole main_v6 : View sig .tc _ S8x1056x1024 _).slice (Rect.unit ![7, 352, 0] ![1, 352, 1024] h7)).reshape S352x1024 hr) (Gen.V m c main_v6))⟩, ⟨Rect.unit ![2112, 0] ![352, 1024] inb_S2816x1024_S352x1024_2112_0,
          ReadAs.same.apply (View.read (Elt Ideal) (((View.whole main_v6 : View sig .tc _ S8x1056x1024 _).slice (Rect.unit ![6, 352, 0] ![1, 352, 1024] h6)).reshape S352x1024 hr) (Gen.V m c main_v6))⟩, ⟨Rect.unit ![1760, 0] ![352, 1024] inb_S2816x1024_S352x1024_1760_0,
          ReadAs.same.apply (View.read (Elt Ideal) (((View.whole main_v6 : View sig .tc _ S8x1056x1024 _).slice (Rect.unit ![5, 352, 0] ![1, 352, 1024] h5)).reshape S352x1024 hr) (Gen.V m c main_v6))⟩, ⟨Rect.unit ![1408, 0] ![352, 1024] inb_S2816x1024_S352x1024_1408_0,
          ReadAs.same.apply (View.read (Elt Ideal) (((View.whole main_v6 : View sig .tc _ S8x1056x1024 _).slice (Rect.unit ![4, 352, 0] ![1, 352, 1024] h4)).reshape S352x1024 hr) (Gen.V m c main_v6))⟩, ⟨Rect.unit ![1056, 0] ![352, 1024] inb_S2816x1024_S352x1024_1056_0,
          ReadAs.same.apply (View.read (Elt Ideal) (((View.whole main_v6 : View sig .tc _ S8x1056x1024 _).slice (Rect.unit ![3, 352, 0] ![1, 352, 1024] h3)).reshape S352x1024 hr) (Gen.V m c main_v6))⟩, ⟨Rect.unit ![704, 0] ![352, 1024] inb_S2816x1024_S352x1024_704_0,
          ReadAs.same.apply (View.read (Elt Ideal) (((View.whole main_v6 : View sig .tc _ S8x1056x1024 _).slice (Rect.unit ![2, 352, 0] ![1, 352, 1024] h2)).reshape S352x1024 hr) (Gen.V m c main_v6))⟩, ⟨Rect.unit ![352, 0] ![352, 1024] inb_S2816x1024_S352x1024_352_0,
          ReadAs.same.apply (View.read (Elt Ideal) (((View.whole main_v6 : View sig .tc _ S8x1056x1024 _).slice (Rect.unit ![1, 352, 0] ![1, 352, 1024] h1)).reshape S352x1024 hr) (Gen.V m c main_v6))⟩, ⟨Rect.unit ![0, 0] ![352, 1024] inb_S2816x1024_S352x1024_0_0,
          ReadAs.same.apply (View.read (Elt Ideal) (((View.whole main_v6 : View sig .tc _ S8x1056x1024 _).slice (Rect.unit ![0, 352, 0] ![1, 352, 1024] h0)).reshape S352x1024 hr) (Gen.V m c main_v6))⟩] (Rect.unit (s := S2816x1024) ![n * 256, 0] ![256, 1024] inb).toLoadRect (ix2 a k)
      = (WT (wu m c)) (ix2 (col n hn a) k) :=
  (scr1_read _ _ _ _ _ _ _ _ (WT (wu m c)) (fun a b => ⟨slab_wu m c 0 (by decide) h0 hr a b, slab_wu m c 1 (by decide) h1 hr a b, slab_wu m c 2 (by decide) h2 hr a b, slab_wu m c 3 (by decide) h3 hr a b, slab_wu m c 4 (by decide) h4 hr a b, slab_wu m c 5 (by decide) h5 hr a b, slab_wu m c 6 (by decide) h6 hr a b, slab_wu m c 7 (by decide) h7 hr a b⟩) _ _).trans (row_idx _ n hn inb a k)

/-- Scratch 1 carried from the point before. -/
theorem carry1 (P T : Mat 2816 1024) (hP : P = T) (hw : (Memref.whole cc0_scratch1).IsWhole) (n : ℕ) (hn : n < 11) (inb) (a : Fin 256) (k : Fin 1024) :
    View.ld (View.read (Elt Ideal) (View.whole cc0_scratch1) (hw.unread P)) (Rect.unit (s := S2816x1024) ![n * 256, 0] ![256, 1024] inb) (ix2 a k)
      = T (ix2 (col n hn a) k) := by
  rw [read_unread_whole, hP]
  exact row_idx T n hn inb a k

/-- Scratch 2 just filled. -/
theorem fill2 (c : Dev nD) (h0 : ∀ a, (![0, 704, 0] : Fin 3 → ℕ) a + (![1, 352, 1024] : Fin 3 → ℕ) a ≤ S8x1056x1024.size a) (h1 : ∀ a, (![1, 704, 0] : Fin 3 → ℕ) a + (![1, 352, 1024] : Fin 3 → ℕ) a ≤ S8x1056x1024.size a) (h2 : ∀ a, (![2, 704, 0] : Fin 3 → ℕ) a + (![1, 352, 1024] : Fin 3 → ℕ) a ≤ S8x1056x1024.size a) (h3 : ∀ a, (![3, 704, 0] : Fin 3 → ℕ) a + (![1, 352, 1024] : Fin 3 → ℕ) a ≤ S8x1056x1024.size a) (h4 : ∀ a, (![4, 704, 0] : Fin 3 → ℕ) a + (![1, 352, 1024] : Fin 3 → ℕ) a ≤ S8x1056x1024.size a) (h5 : ∀ a, (![5, 704, 0] : Fin 3 → ℕ) a + (![1, 352, 1024] : Fin 3 → ℕ) a ≤ S8x1056x1024.size a) (h6 : ∀ a, (![6, 704, 0] : Fin 3 → ℕ) a + (![1, 352, 1024] : Fin 3 → ℕ) a ≤ S8x1056x1024.size a) (h7 : ∀ a, (![7, 704, 0] : Fin 3 → ℕ) a + (![1, 352, 1024] : Fin 3 → ℕ) a ≤ S8x1056x1024.size a)
    (hr : S352x1024.numel = (⟨3, ![1, 352, 1024]⟩ : Shape).numel) (n : ℕ) (hn : n < 11) (inb) (a : Fin 256) (k : Fin 1024) :
    (View.whole cc0_scratch2 : View sig .tc _ S2816x1024 _).readCov (Val := Elt Ideal)
        [⟨Rect.unit ![2464, 0] ![352, 1024] inb_S2816x1024_S352x1024_2464_0,
          ReadAs.same.apply (View.read (Elt Ideal) (((View.whole main_v6 : View sig .tc _ S8x1056x1024 _).slice (Rect.unit ![7, 704, 0] ![1, 352, 1024] h7)).reshape S352x1024 hr) (Gen.V m c main_v6))⟩, ⟨Rect.unit ![2112, 0] ![352, 1024] inb_S2816x1024_S352x1024_2112_0,
          ReadAs.same.apply (View.read (Elt Ideal) (((View.whole main_v6 : View sig .tc _ S8x1056x1024 _).slice (Rect.unit ![6, 704, 0] ![1, 352, 1024] h6)).reshape S352x1024 hr) (Gen.V m c main_v6))⟩, ⟨Rect.unit ![1760, 0] ![352, 1024] inb_S2816x1024_S352x1024_1760_0,
          ReadAs.same.apply (View.read (Elt Ideal) (((View.whole main_v6 : View sig .tc _ S8x1056x1024 _).slice (Rect.unit ![5, 704, 0] ![1, 352, 1024] h5)).reshape S352x1024 hr) (Gen.V m c main_v6))⟩, ⟨Rect.unit ![1408, 0] ![352, 1024] inb_S2816x1024_S352x1024_1408_0,
          ReadAs.same.apply (View.read (Elt Ideal) (((View.whole main_v6 : View sig .tc _ S8x1056x1024 _).slice (Rect.unit ![4, 704, 0] ![1, 352, 1024] h4)).reshape S352x1024 hr) (Gen.V m c main_v6))⟩, ⟨Rect.unit ![1056, 0] ![352, 1024] inb_S2816x1024_S352x1024_1056_0,
          ReadAs.same.apply (View.read (Elt Ideal) (((View.whole main_v6 : View sig .tc _ S8x1056x1024 _).slice (Rect.unit ![3, 704, 0] ![1, 352, 1024] h3)).reshape S352x1024 hr) (Gen.V m c main_v6))⟩, ⟨Rect.unit ![704, 0] ![352, 1024] inb_S2816x1024_S352x1024_704_0,
          ReadAs.same.apply (View.read (Elt Ideal) (((View.whole main_v6 : View sig .tc _ S8x1056x1024 _).slice (Rect.unit ![2, 704, 0] ![1, 352, 1024] h2)).reshape S352x1024 hr) (Gen.V m c main_v6))⟩, ⟨Rect.unit ![352, 0] ![352, 1024] inb_S2816x1024_S352x1024_352_0,
          ReadAs.same.apply (View.read (Elt Ideal) (((View.whole main_v6 : View sig .tc _ S8x1056x1024 _).slice (Rect.unit ![1, 704, 0] ![1, 352, 1024] h1)).reshape S352x1024 hr) (Gen.V m c main_v6))⟩, ⟨Rect.unit ![0, 0] ![352, 1024] inb_S2816x1024_S352x1024_0_0,
          ReadAs.same.apply (View.read (Elt Ideal) (((View.whole main_v6 : View sig .tc _ S8x1056x1024 _).slice (Rect.unit ![0, 704, 0] ![1, 352, 1024] h0)).reshape S352x1024 hr) (Gen.V m c main_v6))⟩] (Rect.unit (s := S2816x1024) ![n * 256, 0] ![256, 1024] inb).toLoadRect (ix2 a k)
      = (wd m c) (ix2 (col n hn a) k) :=
  (scr2_read _ _ _ _ _ _ _ _ (wd m c) (fun a b => ⟨slab_wd m c 0 (by decide) h0 hr a b, slab_wd m c 1 (by decide) h1 hr a b, slab_wd m c 2 (by decide) h2 hr a b, slab_wd m c 3 (by decide) h3 hr a b, slab_wd m c 4 (by decide) h4 hr a b, slab_wd m c 5 (by decide) h5 hr a b, slab_wd m c 6 (by decide) h6 hr a b, slab_wd m c 7 (by decide) h7 hr a b⟩) _ _).trans (row_idx _ n hn inb a k)

/-- Scratch 2 carried from the point before. -/
theorem carry2 (P T : Mat 2816 1024) (hP : P = T) (hw : (Memref.whole cc0_scratch2).IsWhole) (n : ℕ) (hn : n < 11) (inb) (a : Fin 256) (k : Fin 1024) :
    View.ld (View.read (Elt Ideal) (View.whole cc0_scratch2) (hw.unread P)) (Rect.unit (s := S2816x1024) ![n * 256, 0] ![256, 1024] inb) (ix2 a k)
      = T (ix2 (col n hn a) k) := by
  rw [read_unread_whole, hP]
  exact row_idx T n hn inb a k

/-! ### The scratch arrays at every point -/

theorem scr0_A (c : Dev nD) (t : Fin cfg0.N) (ht : t.val % 8 = 0) : (outsAt0 m c t.val t.isLt).2.2.2.2.2.1 = WT (wg m c) := by
  funext y
  rw [outsAt0_A m c t ht, caseA]
  frame_out
  canon_tiles x h
  · idx_vars x
    refine (slab_wg m c 7 (by decide) _ _ x0 x1).trans ?_
    unfold WT
    blk_ext
  · idx_vars x
    refine (slab_wg m c 6 (by decide) _ _ x0 x1).trans ?_
    unfold WT
    blk_ext
  · idx_vars x
    refine (slab_wg m c 5 (by decide) _ _ x0 x1).trans ?_
    unfold WT
    blk_ext
  · idx_vars x
    refine (slab_wg m c 4 (by decide) _ _ x0 x1).trans ?_
    unfold WT
    blk_ext
  · idx_vars x
    refine (slab_wg m c 3 (by decide) _ _ x0 x1).trans ?_
    unfold WT
    blk_ext
  · idx_vars x
    refine (slab_wg m c 2 (by decide) _ _ x0 x1).trans ?_
    unfold WT
    blk_ext
  · idx_vars x
    refine (slab_wg m c 1 (by decide) _ _ x0 x1).trans ?_
    unfold WT
    blk_ext
  · idx_vars x
    refine (slab_wg m c 0 (by decide) _ _ x0 x1).trans ?_
    unfold WT
    blk_ext

theorem scr0_all (c : Dev nD) (n : ℕ) (hn : n < cfg0.N) : (outsAt0 m c n hn).2.2.2.2.2.1 = WT (wg m c) := by
  induction n with
  | zero => exact scr0_A m c ⟨0, hn⟩ rfl
  | succ n ih =>
    by_cases ht : (n + 1) % 8 = 0
    · exact scr0_A m c ⟨n + 1, hn⟩ ht
    · refine Eq.trans ?_ (ih (by omega))
      rw [outsAt0_B m c ⟨n + 1, hn⟩ ht, caseB]
      unfold sout0_B_0
      simp only []
      rfl

theorem scr1_A (c : Dev nD) (t : Fin cfg0.N) (ht : t.val % 8 = 0) : (outsAt0 m c t.val t.isLt).2.2.2.2.2.2.1 = WT (wu m c) := by
  funext y
  rw [outsAt0_A m c t ht, caseA]
  frame_out
  canon_tiles x h
  · idx_vars x
    refine (slab_wu m c 7 (by decide) _ _ x0 x1).trans ?_
    unfold WT
    blk_ext
  · idx_vars x
    refine (slab_wu m c 6 (by decide) _ _ x0 x1).trans ?_
    unfold WT
    blk_ext
  · idx_vars x
    refine (slab_wu m c 5 (by decide) _ _ x0 x1).trans ?_
    unfold WT
    blk_ext
  · idx_vars x
    refine (slab_wu m c 4 (by decide) _ _ x0 x1).trans ?_
    unfold WT
    blk_ext
  · idx_vars x
    refine (slab_wu m c 3 (by decide) _ _ x0 x1).trans ?_
    unfold WT
    blk_ext
  · idx_vars x
    refine (slab_wu m c 2 (by decide) _ _ x0 x1).trans ?_
    unfold WT
    blk_ext
  · idx_vars x
    refine (slab_wu m c 1 (by decide) _ _ x0 x1).trans ?_
    unfold WT
    blk_ext
  · idx_vars x
    refine (slab_wu m c 0 (by decide) _ _ x0 x1).trans ?_
    unfold WT
    blk_ext

theorem scr1_all (c : Dev nD) (n : ℕ) (hn : n < cfg0.N) : (outsAt0 m c n hn).2.2.2.2.2.2.1 = WT (wu m c) := by
  induction n with
  | zero => exact scr1_A m c ⟨0, hn⟩ rfl
  | succ n ih =>
    by_cases ht : (n + 1) % 8 = 0
    · exact scr1_A m c ⟨n + 1, hn⟩ ht
    · refine Eq.trans ?_ (ih (by omega))
      rw [outsAt0_B m c ⟨n + 1, hn⟩ ht, caseB]
      unfold sout0_B_1
      simp only []
      rfl

theorem scr2_A (c : Dev nD) (t : Fin cfg0.N) (ht : t.val % 8 = 0) : (outsAt0 m c t.val t.isLt).2.2.2.2.2.2.2 = wd m c := by
  funext y
  rw [outsAt0_A m c t ht, caseA]
  frame_out
  canon_tiles x h
  · idx_vars x
    refine (slab_wd m c 7 (by decide) _ _ x0 x1).trans ?_
    blk_ext
  · idx_vars x
    refine (slab_wd m c 6 (by decide) _ _ x0 x1).trans ?_
    blk_ext
  · idx_vars x
    refine (slab_wd m c 5 (by decide) _ _ x0 x1).trans ?_
    blk_ext
  · idx_vars x
    refine (slab_wd m c 4 (by decide) _ _ x0 x1).trans ?_
    blk_ext
  · idx_vars x
    refine (slab_wd m c 3 (by decide) _ _ x0 x1).trans ?_
    blk_ext
  · idx_vars x
    refine (slab_wd m c 2 (by decide) _ _ x0 x1).trans ?_
    blk_ext
  · idx_vars x
    refine (slab_wd m c 1 (by decide) _ _ x0 x1).trans ?_
    blk_ext
  · idx_vars x
    refine (slab_wd m c 0 (by decide) _ _ x0 x1).trans ?_
    blk_ext

theorem scr2_all (c : Dev nD) (n : ℕ) (hn : n < cfg0.N) : (outsAt0 m c n hn).2.2.2.2.2.2.2 = wd m c := by
  induction n with
  | zero => exact scr2_A m c ⟨0, hn⟩ rfl
  | succ n ih =>
    by_cases ht : (n + 1) % 8 = 0
    · exact scr2_A m c ⟨n + 1, hn⟩ ht
    · refine Eq.trans ?_ (ih (by omega))
      rw [outsAt0_B m c ⟨n + 1, hn⟩ ht, caseB]
      unfold sout0_B_2
      simp only []
      rfl

end Cert.FfnFwdIdeal.Fwd

end
-- ==== Proof.FfnFwd.Gate.lean ====
/- What one grid point of the forward call leaves in the windows of the two halves' rows and of their product. -/
module

public import proofs.«01_k».proof.Proof.FfnFwd.Scratch
public import Idealize.ShloMosaic.Lib.Pipeline.ReadBack

@[expose] public section

set_option maxRecDepth 16384

noncomputable section

namespace Cert.FfnFwdIdeal.Fwd

open Cert.FfnFwdIdeal Cert.FfnFwdIdeal.Gen Idealize.ShloMosaic Idealize.ShloMosaic.TcCoe Idealize.SL.Sem
open _root_.Ffn (Mat)

variable (m : (ℓ : Loc nD τ sig) → Buf (Elt Ideal) ℓ)

theorem g_A (c : Dev nD) (t : Fin cfg0.N) (ht : t.val % 8 = 0) (y : S512x2816.Idx) (r : Fin 4096) (f : Fin 2816)
    (hr : r.val = t.val * 512 + (y 0).val) (hf : f.val = (y 1).val) : (outsAt0 m c t.val t.isLt).2.2.1 y = gv m c r f := by
  rw [outsAt0_A m c t ht, caseA]
  frame_out
  canon_tiles x h
  · idx_vars x
    refine ((STO_row _ x0 x1).trans (pre_chunk m c t 10 (by decide) (wg m c) _ (fill0 m c _ _ _ _ _ _ _ _ _ 10 (by decide) _) x0 x1)).trans
      (congrArg₂ (gv m c) (Fin.ext (by simp only [row]; omega)) (Fin.ext (by simp only [col]; omega)))
  · idx_vars x
    refine ((STO_row _ x0 x1).trans (pre_chunk m c t 9 (by decide) (wg m c) _ (fill0 m c _ _ _ _ _ _ _ _ _ 9 (by decide) _) x0 x1)).trans
      (congrArg₂ (gv m c) (Fin.ext (by simp only [row]; omega)) (Fin.ext (by simp only [col]; omega)))
  · idx_vars x
    refine ((STO_row _ x0 x1).trans (pre_chunk m c t 8 (by decide) (wg m c) _ (fill0 m c _ _ _ _ _ _ _ _ _ 8 (by decide) _) x0 x1)).trans
      (congrArg₂ (gv m c) (Fin.ext (by simp only [row]; omega)) (Fin.ext (by simp only [col]; omega)))
  · idx_vars x
    refine ((STO_row _ x0 x1).trans (pre_chunk m c t 7 (by decide) (wg m c) _ (fill0 m c _ _ _ _ _ _ _ _ _ 7 (by decide) _) x0 x1)).trans
      (congrArg₂ (gv m c) (Fin.ext (by simp only [row]; omega)) (Fin.ext (by simp only [col]; omega)))
  · idx_vars x
    refine ((STO_row _ x0 x1).trans (pre_chunk m c t 6 (by decide) (wg m c) _ (fill0 m c _ _ _ _ _ _ _ _ _ 6 (by decide) _) x0 x1)).trans
      (congrArg₂ (gv m c) (Fin.ext (by simp only [row]; omega)) (Fin.ext (by simp only [col]; omega)))
  · idx_vars x
    refine ((STO_row _ x0 x1).trans (pre_chunk m c t 5 (by decide) (wg m c) _ (fill0 m c _ _ _ _ _ _ _ _ _ 5 (by decide) _) x0 x1)).trans
      (congrArg₂ (gv m c) (Fin.ext (by simp only [row]; omega)) (Fin.ext (by simp only [col]; omega)))
  · idx_vars x
    refine ((STO_row _ x0 x1).trans (pre_chunk m c t 4 (by decide) (wg m c) _ (fill0 m c _ _ _ _ _ _ _ _ _ 4 (by decide) _) x0 x1)).trans
      (congrArg₂ (gv m c) (Fin.ext (by simp only [row]; omega)) (Fin.ext (by simp only [col]; omega)))
  · idx_vars x
    refine ((STO_row _ x0 x1).trans (pre_chunk m c t 3 (by decide) (wg m c) _ (fill0 m c _ _ _ _ _ _ _ _ _ 3 (by decide) _) x0 x1)).trans
      (congrArg₂ (gv m c) (Fin.ext (by simp only [row]; omega)) (Fin.ext (by simp only [col]; omega)))
  · idx_vars x
    refine ((STO_row _ x0 x1).trans (pre_chunk m c t 2 (by decide) (wg m c) _ (fill0 m c _ _ _ _ _ _ _ _ _ 2 (by decide) _) x0 x1)).trans
      (congrArg₂ (gv m c) (Fin.ext (by simp only [row]; omega)) (Fin.ext (by simp only [col]; omega)))
  · idx_vars x
    refine ((STO_row _ x0 x1).trans (pre_chunk m c t 1 (by decide) (wg m c) _ (fill0 m c _ _ _ _ _ _ _ _ _ 1 (by decide) _) x0 x1)).trans
      (congrArg₂ (gv m c) (Fin.ext (by simp only [row]; omega)) (Fin.ext (by simp only [col]; omega)))
  · idx_vars x
    refine ((STO_row _ x0 x1).trans (pre_chunk m c t 0 (by decide) (wg m c) _ (fill0 m c _ _ _ _ _ _ _ _ _ 0 (by decide) _) x0 x1)).trans
      (congrArg₂ (gv m c) (Fin.ext (by simp only [row]; omega)) (Fin.ext (by simp only [col]; omega)))

theorem u_A (c : Dev nD) (t : Fin cfg0.N) (ht : t.val % 8 = 0) (y : S512x2816.Idx) (r : Fin 4096) (f : Fin 2816)
    (hr : r.val = t.val * 512 + (y 0).val) (hf : f.val = (y 1).val) : (outsAt0 m c t.val t.isLt).2.2.2.1 y = uv m c r f := by
  rw [outsAt0_A m c t ht, caseA]
  frame_out
  canon_tiles x h
  · idx_vars x
    refine ((STO_row _ x0 x1).trans (pre_chunk m c t 10 (by decide) (wu m c) _ (fill1 m c _ _ _ _ _ _ _ _ _ 10 (by decide) _) x0 x1)).trans
      (congrArg₂ (uv m c) (Fin.ext (by simp only [row]; omega)) (Fin.ext (by simp only [col]; omega)))
  · idx_vars x
    refine ((STO_row _ x0 x1).trans (pre_chunk m c t 9 (by decide) (wu m c) _ (fill1 m c _ _ _ _ _ _ _ _ _ 9 (by decide) _) x0 x1)).trans
      (congrArg₂ (uv m c) (Fin.ext (by simp only [row]; omega)) (Fin.ext (by simp only [col]; omega)))
  · idx_vars x
    refine ((STO_row _ x0 x1).trans (pre_chunk m c t 8 (by decide) (wu m c) _ (fill1 m c _ _ _ _ _ _ _ _ _ 8 (by decide) _) x0 x1)).trans
      (congrArg₂ (uv m c) (Fin.ext (by simp only [row]; omega)) (Fin.ext (by simp only [col]; omega)))
  · idx_vars x
    refine ((STO_row _ x0 x1).trans (pre_chunk m c t 7 (by decide) (wu m c) _ (fill1 m c _ _ _ _ _ _ _ _ _ 7 (by decide) _) x0 x1)).trans
      (congrArg₂ (uv m c) (Fin.ext (by simp only [row]; omega)) (Fin.ext (by simp only [col]; omega)))
  · idx_vars x
    refine ((STO_row _ x0 x1).trans (pre_chunk m c t 6 (by decide) (wu m c) _ (fill1 m c _ _ _ _ _ _ _ _ _ 6 (by decide) _) x0 x1)).trans
      (congrArg₂ (uv m c) (Fin.ext (by simp only [row]; omega)) (Fin.ext (by simp only [col]; omega)))
  · idx_vars x
    refine ((STO_row _ x0 x1).trans (pre_chunk m c t 5 (by decide) (wu m c) _ (fill1 m c _ _ _ _ _ _ _ _ _ 5 (by decide) _) x0 x1)).trans
      (congrArg₂ (uv m c) (Fin.ext (by simp only [row]; omega)) (Fin.ext (by simp only [col]; omega)))
  · idx_vars x
    refine ((STO_row _ x0 x1).trans (pre_chunk m c t 4 (by decide) (wu m c) _ (fill1 m c _ _ _ _ _ _ _ _ _ 4 (by decide) _) x0 x1)).trans
      (congrArg₂ (uv m c) (Fin.ext (by simp only [row]; omega)) (Fin.ext (by simp only [col]; omega)))
  · idx_vars x
    refine ((STO_row _ x0 x1).trans (pre_chunk m c t 3 (by decide) (wu m c) _ (fill1 m c _ _ _ _ _ _ _ _ _ 3 (by decide) _) x0 x1)).trans
      (congrArg₂ (uv m c) (Fin.ext (by simp only [row]; omega)) (Fin.ext (by simp only [col]; omega)))
  · idx_vars x
    refine ((STO_row _ x0 x1).trans (pre_chunk m c t 2 (by decide) (wu m c) _ (fill1 m c _ _ _ _ _ _ _ _ _ 2 (by decide) _) x0 x1)).trans
      (congrArg₂ (uv m c) (Fin.ext (by simp only [row]; omega)) (Fin.ext (by simp only [col]; omega)))
  · idx_vars x
    refine ((STO_row _ x0 x1).trans (pre_chunk m c t 1 (by decide) (wu m c) _ (fill1 m c _ _ _ _ _ _ _ _ _ 1 (by decide) _) x0 x1)).trans
      (congrArg₂ (uv m c) (Fin.ext (by simp only [row]; omega)) (Fin.ext (by simp only [col]; omega)))
  · idx_vars x
    refine ((STO_row _ x0 x1).trans (pre_chunk m c t 0 (by decide) (wu m c) _ (fill1 m c _ _ _ _ _ _ _ _ _ 0 (by decide) _) x0 x1)).trans
      (congrArg₂ (uv m c) (Fin.ext (by simp only [row]; omega)) (Fin.ext (by simp only [col]; omega)))

theorem h_A (c : Dev nD) (t : Fin cfg0.N) (ht : t.val % 8 = 0) (y : S512x2816.Idx) (r : Fin 4096) (f : Fin 2816)
    (hr : r.val = t.val * 512 + (y 0).val) (hf : f.val = (y 1).val) : (outsAt0 m c t.val t.isLt).2.2.2.2.1 y = hv m c r f := by
  rw [outsAt0_A m c t ht, caseA]
  frame_out
  canon_tiles x h
  · idx_vars x
    refine ((STO_row _ x0 x1).trans (hid_chunk m c t 10 (by decide) _ _ (fill0 m c _ _ _ _ _ _ _ _ _ 10 (by decide) _) (fill1 m c _ _ _ _ _ _ _ _ _ 10 (by decide) _) x0 x1)).trans
      (congrArg₂ (hv m c) (Fin.ext (by simp only [row]; omega)) (Fin.ext (by simp only [col]; omega)))
  · idx_vars x
    refine ((STO_row _ x0 x1).trans (hid_chunk m c t 9 (by decide) _ _ (fill0 m c _ _ _ _ _ _ _ _ _ 9 (by decide) _) (fill1 m c _ _ _ _ _ _ _ _ _ 9 (by decide) _) x0 x1)).trans
      (congrArg₂ (hv m c) (Fin.ext (by simp only [row]; omega)) (Fin.ext (by simp only [col]; omega)))
  · idx_vars x
    refine ((STO_row _ x0 x1).trans (hid_chunk m c t 8 (by decide) _ _ (fill0 m c _ _ _ _ _ _ _ _ _ 8 (by decide) _) (fill1 m c _ _ _ _ _ _ _ _ _ 8 (by decide) _) x0 x1)).trans
      (congrArg₂ (hv m c) (Fin.ext (by simp only [row]; omega)) (Fin.ext (by simp only [col]; omega)))
  · idx_vars x
    refine ((STO_row _ x0 x1).trans (hid_chunk m c t 7 (by decide) _ _ (fill0 m c _ _ _ _ _ _ _ _ _ 7 (by decide) _) (fill1 m c _ _ _ _ _ _ _ _ _ 7 (by decide) _) x0 x1)).trans
      (congrArg₂ (hv m c) (Fin.ext (by simp only [row]; omega)) (Fin.ext (by simp only [col]; omega)))
  · idx_vars x
    refine ((STO_row _ x0 x1).trans (hid_chunk m c t 6 (by decide) _ _ (fill0 m c _ _ _ _ _ _ _ _ _ 6 (by decide) _) (fill1 m c _ _ _ _ _ _ _ _ _ 6 (by decide) _) x0 x1)).trans
      (congrArg₂ (hv m c) (Fin.ext (by simp only [row]; omega)) (Fin.ext (by simp only [col]; omega)))
  · idx_vars x
    refine ((STO_row _ x0 x1).trans (hid_chunk m c t 5 (by decide) _ _ (fill0 m c _ _ _ _ _ _ _ _ _ 5 (by decide) _) (fill1 m c _ _ _ _ _ _ _ _ _ 5 (by decide) _) x0 x1)).trans
      (congrArg₂ (hv m c) (Fin.ext (by simp only [row]; omega)) (Fin.ext (by simp only [col]; omega)))
  · idx_vars x
    refine ((STO_row _ x0 x1).trans (hid_chunk m c t 4 (by decide) _ _ (fill0 m c _ _ _ _ _ _ _ _ _ 4 (by decide) _) (fill1 m c _ _ _ _ _ _ _ _ _ 4 (by decide) _) x0 x1)).trans
      (congrArg₂ (hv m c) (Fin.ext (by simp only [row]; omega)) (Fin.ext (by simp only [col]; omega)))
  · idx_vars x
    refine ((STO_row _ x0 x1).trans (hid_chunk m c t 3 (by decide) _ _ (fill0 m c _ _ _ _ _ _ _ _ _ 3 (by decide) _) (fill1 m c _ _ _ _ _ _ _ _ _ 3 (by decide) _) x0 x1)).trans
      (congrArg₂ (hv m c) (Fin.ext (by simp only [row]; omega)) (Fin.ext (by simp only [col]; omega)))
  · idx_vars x
    refine ((STO_row _ x0 x1).trans (hid_chunk m c t 2 (by decide) _ _ (fill0 m c _ _ _ _ _ _ _ _ _ 2 (by decide) _) (fill1 m c _ _ _ _ _ _ _ _ _ 2 (by decide) _) x0 x1)).trans
      (congrArg₂ (hv m c) (Fin.ext (by simp only [row]; omega)) (Fin.ext (by simp only [col]; omega)))
  · idx_vars x
    refine ((STO_row _ x0 x1).trans (hid_chunk m c t 1 (by decide) _ _ (fill0 m c _ _ _ _ _ _ _ _ _ 1 (by decide) _) (fill1 m c _ _ _ _ _ _ _ _ _ 1 (by decide) _) x0 x1)).trans
      (congrArg₂ (hv m c) (Fin.ext (by simp only [row]; omega)) (Fin.ext (by simp only [col]; omega)))
  · idx_vars x
    refine ((STO_row _ x0 x1).trans (hid_chunk m c t 0 (by decide) _ _ (fill0 m c _ _ _ _ _ _ _ _ _ 0 (by decide) _) (fill1 m c _ _ _ _ _ _ _ _ _ 0 (by decide) _) x0 x1)).trans
      (congrArg₂ (hv m c) (Fin.ext (by simp only [row]; omega)) (Fin.ext (by simp only [col]; omega)))

theorem g_B (c : Dev nD) (t : Fin cfg0.N) (ht : ¬ t.val % 8 = 0) (y : S512x2816.Idx) (r : Fin 4096) (f : Fin 2816)
    (hr : r.val = t.val * 512 + (y 0).val) (hf : f.val = (y 1).val) : (outsAt0 m c t.val t.isLt).2.2.1 y = gv m c r f := by
  rw [outsAt0_B m c t ht, caseB]
  frame_out
  canon_tiles x h
  · idx_vars x
    refine ((STO_row _ x0 x1).trans (pre_chunk m c t 10 (by decide) (wg m c) _ (carry0 _ _ (scr0_all m c _ _) _ 10 (by decide) _) x0 x1)).trans
      (congrArg₂ (gv m c) (Fin.ext (by simp only [row]; omega)) (Fin.ext (by simp only [col]; omega)))
  · idx_vars x
    refine ((STO_row _ x0 x1).trans (pre_chunk m c t 9 (by decide) (wg m c) _ (carry0 _ _ (scr0_all m c _ _) _ 9 (by decide) _) x0 x1)).trans
      (congrArg₂ (gv m c) (Fin.ext (by simp only [row]; omega)) (Fin.ext (by simp only [col]; omega)))
  · idx_vars x
    refine ((STO_row _ x0 x1).trans (pre_chunk m c t 8 (by decide) (wg m c) _ (carry0 _ _ (scr0_all m c _ _) _ 8 (by decide) _) x0 x1)).trans
      (congrArg₂ (gv m c) (Fin.ext (by simp only [row]; omega)) (Fin.ext (by simp only [col]; omega)))
  · idx_vars x
    refine ((STO_row _ x0 x1).trans (pre_chunk m c t 7 (by decide) (wg m c) _ (carry0 _ _ (scr0_all m c _ _) _ 7 (by decide) _) x0 x1)).trans
      (congrArg₂ (gv m c) (Fin.ext (by simp only [row]; omega)) (Fin.ext (by simp only [col]; omega)))
  · idx_vars x
    refine ((STO_row _ x0 x1).trans (pre_chunk m c t 6 (by decide) (wg m c) _ (carry0 _ _ (scr0_all m c _ _) _ 6 (by decide) _) x0 x1)).trans
      (congrArg₂ (gv m c) (Fin.ext (by simp only [row]; omega)) (Fin.ext (by simp only [col]; omega)))
  · idx_vars x
    refine ((STO_row _ x0 x1).trans (pre_chunk m c t 5 (by decide) (wg m c) _ (carry0 _ _ (scr0_all m c _ _) _ 5 (by decide) _) x0 x1)).trans
      (congrArg₂ (gv m c) (Fin.ext (by simp only [row]; omega)) (Fin.ext (by simp only [col]; omega)))
  · idx_vars x
    refine ((STO_row _ x0 x1).trans (pre_chunk m c t 4 (by decide) (wg m c) _ (carry0 _ _ (scr0_all m c _ _) _ 4 (by decide) _) x0 x1)).trans
      (congrArg₂ (gv m c) (Fin.ext (by simp only [row]; omega)) (Fin.ext (by simp only [col]; omega)))
  · idx_vars x
    refine ((STO_row _ x0 x1).trans (pre_chunk m c t 3 (by decide) (wg m c) _ (carry0 _ _ (scr0_all m c _ _) _ 3 (by decide) _) x0 x1)).trans
      (congrArg₂ (gv m c) (Fin.ext (by simp only [row]; omega)) (Fin.ext (by simp only [col]; omega)))
  · idx_vars x
    refine ((STO_row _ x0 x1).trans (pre_chunk m c t 2 (by decide) (wg m c) _ (carry0 _ _ (scr0_all m c _ _) _ 2 (by decide) _) x0 x1)).trans
      (congrArg₂ (gv m c) (Fin.ext (by simp only [row]; omega)) (Fin.ext (by simp only [col]; omega)))
  · idx_vars x
    refine ((STO_row _ x0 x1).trans (pre_chunk m c t 1 (by decide) (wg m c) _ (carry0 _ _ (scr0_all m c _ _) _ 1 (by decide) _) x0 x1)).trans
      (congrArg₂ (gv m c) (Fin.ext (by simp only [row]; omega)) (Fin.ext (by simp only [col]; omega)))
  · idx_vars x
    refine ((STO_row _ x0 x1).trans (pre_chunk m c t 0 (by decide) (wg m c) _ (carry0 _ _ (scr0_all m c _ _) _ 0 (by decide) _) x0 x1)).trans
      (congrArg₂ (gv m c) (Fin.ext (by simp only [row]; omega)) (Fin.ext (by simp only [col]; omega)))

theorem u_B (c : Dev nD) (t : Fin cfg0.N) (ht : ¬ t.val % 8 = 0) (y : S512x2816.Idx) (r : Fin 4096) (f : Fin 2816)
    (hr : r.val = t.val * 512 + (y 0).val) (hf : f.val = (y 1).val) : (outsAt0 m c t.val t.isLt).2.2.2.1 y = uv m c r f := by
  rw [outsAt0_B m c t ht, caseB]
  frame_out
  canon_tiles x h
  · idx_vars x
    refine ((STO_row _ x0 x1).trans (pre_chunk m c t 10 (by decide) (wu m c) _ (carry1 _ _ (scr1_all m c _ _) _ 10 (by decide) _) x0 x1)).trans
      (congrArg₂ (uv m c) (Fin.ext (by simp only [row]; omega)) (Fin.ext (by simp only [col]; omega)))
  · idx_vars x
    refine ((STO_row _ x0 x1).trans (pre_chunk m c t 9 (by decide) (wu m c) _ (carry1 _ _ (scr1_all m c _ _) _ 9 (by decide) _) x0 x1)).trans
      (congrArg₂ (uv m c) (Fin.ext (by simp only [row]; omega)) (Fin.ext (by simp only [col]; omega)))
  · idx_vars x
    refine ((STO_row _ x0 x1).trans (pre_chunk m c t 8 (by decide) (wu m c) _ (carry1 _ _ (scr1_all m c _ _) _ 8 (by decide) _) x0 x1)).trans
      (congrArg₂ (uv m c) (Fin.ext (by simp only [row]; omega)) (Fin.ext (by simp only [col]; omega)))
  · idx_vars x
    refine ((STO_row _ x0 x1).trans (pre_chunk m c t 7 (by decide) (wu m c) _ (carry1 _ _ (scr1_all m c _ _) _ 7 (by decide) _) x0 x1)).trans
      (congrArg₂ (uv m c) (Fin.ext (by simp only [row]; omega)) (Fin.ext (by simp only [col]; omega)))
  · idx_vars x
    refine ((STO_row _ x0 x1).trans (pre_chunk m c t 6 (by decide) (wu m c) _ (carry1 _ _ (scr1_all m c _ _) _ 6 (by decide) _) x0 x1)).trans
      (congrArg₂ (uv m c) (Fin.ext (by simp only [row]; omega)) (Fin.ext (by simp only [col]; omega)))
  · idx_vars x
    refine ((STO_row _ x0 x1).trans (pre_chunk m c t 5 (by decide) (wu m c) _ (carry1 _ _ (scr1_all m c _ _) _ 5 (by decide) _) x0 x1)).trans
      (congrArg₂ (uv m c) (Fin.ext (by simp only [row]; omega)) (Fin.ext (by simp only [col]; omega)))
  · idx_vars x
    refine ((STO_row _ x0 x1).trans (pre_chunk m c t 4 (by decide) (wu m c) _ (carry1 _ _ (scr1_all m c _ _) _ 4 (by decide) _) x0 x1)).trans
      (congrArg₂ (uv m c) (Fin.ext (by simp only [row]; omega)) (Fin.ext (by simp only [col]; omega)))
  · idx_vars x
    refine ((STO_row _ x0 x1).trans (pre_chunk m c t 3 (by decide) (wu m c) _ (carry1 _ _ (scr1_all m c _ _) _ 3 (by decide) _) x0 x1)).trans
      (congrArg₂ (uv m c) (Fin.ext (by simp only [row]; omega)) (Fin.ext (by simp only [col]; omega)))
  · idx_vars x
    refine ((STO_row _ x0 x1).trans (pre_chunk m c t 2 (by decide) (wu m c) _ (carry1 _ _ (scr1_all m c _ _) _ 2 (by decide) _) x0 x1)).trans
      (congrArg₂ (uv m c) (Fin.ext (by simp only [row]; omega)) (Fin.ext (by simp only [col]; omega)))
  · idx_vars x
    refine ((STO_row _ x0 x1).trans (pre_chunk m c t 1 (by decide) (wu m c) _ (carry1 _ _ (scr1_all m c _ _) _ 1 (by decide) _) x0 x1)).trans
      (congrArg₂ (uv m c) (Fin.ext (by simp only [row]; omega)) (Fin.ext (by simp only [col]; omega)))
  · idx_vars x
    refine ((STO_row _ x0 x1).trans (pre_chunk m c t 0 (by decide) (wu m c) _ (carry1 _ _ (scr1_all m c _ _) _ 0 (by decide) _) x0 x1)).trans
      (congrArg₂ (uv m c) (Fin.ext (by simp only [row]; omega)) (Fin.ext (by simp only [col]; omega)))

theorem h_B (c : Dev nD) (t : Fin cfg0.N) (ht : ¬ t.val % 8 = 0) (y : S512x2816.Idx) (r : Fin 4096) (f : Fin 2816)
    (hr : r.val = t.val * 512 + (y 0).val) (hf : f.val = (y 1).val) : (outsAt0 m c t.val t.isLt).2.2.2.2.1 y = hv m c r f := by
  rw [outsAt0_B m c t ht, caseB]
  frame_out
  canon_tiles x h
  · idx_vars x
    refine ((STO_row _ x0 x1).trans (hid_chunk m c t 10 (by decide) _ _ (carry0 _ _ (scr0_all m c _ _) _ 10 (by decide) _) (carry1 _ _ (scr1_all m c _ _) _ 10 (by decide) _) x0 x1)).trans
      (congrArg₂ (hv m c) (Fin.ext (by simp only [row]; omega)) (Fin.ext (by simp only [col]; omega)))
  · idx_vars x
    refine ((STO_row _ x0 x1).trans (hid_chunk m c t 9 (by decide) _ _ (carry0 _ _ (scr0_all m c _ _) _ 9 (by decide) _) (carry1 _ _ (scr1_all m c _ _) _ 9 (by decide) _) x0 x1)).trans
      (congrArg₂ (hv m c) (Fin.ext (by simp only [row]; omega)) (Fin.ext (by simp only [col]; omega)))
  · idx_vars x
    refine ((STO_row _ x0 x1).trans (hid_chunk m c t 8 (by decide) _ _ (carry0 _ _ (scr0_all m c _ _) _ 8 (by decide) _) (carry1 _ _ (scr1_all m c _ _) _ 8 (by decide) _) x0 x1)).trans
      (congrArg₂ (hv m c) (Fin.ext (by simp only [row]; omega)) (Fin.ext (by simp only [col]; omega)))
  · idx_vars x
    refine ((STO_row _ x0 x1).trans (hid_chunk m c t 7 (by decide) _ _ (carry0 _ _ (scr0_all m c _ _) _ 7 (by decide) _) (carry1 _ _ (scr1_all m c _ _) _ 7 (by decide) _) x0 x1)).trans
      (congrArg₂ (hv m c) (Fin.ext (by simp only [row]; omega)) (Fin.ext (by simp only [col]; omega)))
  · idx_vars x
    refine ((STO_row _ x0 x1).trans (hid_chunk m c t 6 (by decide) _ _ (carry0 _ _ (scr0_all m c _ _) _ 6 (by decide) _) (carry1 _ _ (scr1_all m c _ _) _ 6 (by decide) _) x0 x1)).trans
      (congrArg₂ (hv m c) (Fin.ext (by simp only [row]; omega)) (Fin.ext (by simp only [col]; omega)))
  · idx_vars x
    refine ((STO_row _ x0 x1).trans (hid_chunk m c t 5 (by decide) _ _ (carry0 _ _ (scr0_all m c _ _) _ 5 (by decide) _) (carry1 _ _ (scr1_all m c _ _) _ 5 (by decide) _) x0 x1)).trans
      (congrArg₂ (hv m c) (Fin.ext (by simp only [row]; omega)) (Fin.ext (by simp only [col]; omega)))
  · idx_vars x
    refine ((STO_row _ x0 x1).trans (hid_chunk m c t 4 (by decide) _ _ (carry0 _ _ (scr0_all m c _ _) _ 4 (by decide) _) (carry1 _ _ (scr1_all m c _ _) _ 4 (by decide) _) x0 x1)).trans
      (congrArg₂ (hv m c) (Fin.ext (by simp only [row]; omega)) (Fin.ext (by simp only [col]; omega)))
  · idx_vars x
    refine ((STO_row _ x0 x1).trans (hid_chunk m c t 3 (by decide) _ _ (carry0 _ _ (scr0_all m c _ _) _ 3 (by decide) _) (carry1 _ _ (scr1_all m c _ _) _ 3 (by decide) _) x0 x1)).trans
      (congrArg₂ (hv m c) (Fin.ext (by simp only [row]; omega)) (Fin.ext (by simp only [col]; omega)))
  · idx_vars x
    refine ((STO_row _ x0 x1).trans (hid_chunk m c t 2 (by decide) _ _ (carry0 _ _ (scr0_all m c _ _) _ 2 (by decide) _) (carry1 _ _ (scr1_all m c _ _) _ 2 (by decide) _) x0 x1)).trans
      (congrArg₂ (hv m c) (Fin.ext (by simp only [row]; omega)) (Fin.ext (by simp only [col]; omega)))
  · idx_vars x
    refine ((STO_row _ x0 x1).trans (hid_chunk m c t 1 (by decide) _ _ (carry0 _ _ (scr0_all m c _ _) _ 1 (by decide) _) (carry1 _ _ (scr1_all m c _ _) _ 1 (by decide) _) x0 x1)).trans
      (congrArg₂ (hv m c) (Fin.ext (by simp only [row]; omega)) (Fin.ext (by simp only [col]; omega)))
  · idx_vars x
    refine ((STO_row _ x0 x1).trans (hid_chunk m c t 0 (by decide) _ _ (carry0 _ _ (scr0_all m c _ _) _ 0 (by decide) _) (carry1 _ _ (scr1_all m c _ _) _ 0 (by decide) _) x0 x1)).trans
      (congrArg₂ (hv m c) (Fin.ext (by simp only [row]; omega)) (Fin.ext (by simp only [col]; omega)))

end Cert.FfnFwdIdeal.Fwd

end
-- ==== Proof.FfnFwd.Tile.lean ====
/- What one grid point of the forward call leaves in the windows of the result and of the normalised rows. -/
module

public import proofs.«01_k».proof.Proof.FfnFwd.Scratch
public import Idealize.ShloMosaic.Lib.Pipeline.ReadBack

@[expose] public section

set_option maxRecDepth 16384

noncomputable section

namespace Cert.FfnFwdIdeal.Fwd

open Cert.FfnFwdIdeal Cert.FfnFwdIdeal.Gen Idealize.ShloMosaic Idealize.ShloMosaic.TcCoe Idealize.SL.Sem
open _root_.Ffn (Mat)

variable (m : (ℓ : Loc nD τ sig) → Buf (Elt Ideal) ℓ)

theorem xn_A (c : Dev nD) (t : Fin cfg0.N) (ht : t.val % 8 = 0) (a : Fin 512) (k : Fin 1024) :
    (outsAt0 m c t.val t.isLt).2.1 (ix2 a k) = _root_.Ffn.nrm (x m c) (gain m c) (row t a) k := by
  rw [outsAt0_A m c t ht, caseA, ← XN_row]
  frame_out
  pointwise [XN, k0_pay3, k0_pay2]

theorem out_A (c : Dev nD) (t : Fin cfg0.N) (ht : t.val % 8 = 0) (a : Fin 512) (k : Fin 1024) :
    (outsAt0 m c t.val t.isLt).1 (ix2 a k) = x m c (ix2 (row t a) k) + _root_.Ffn.half * yp m c 11 le_rfl (row t a) k := by
  rw [outsAt0_A m c t ht, caseA]
  frame_out
  refine (OUT_row _ _ a k).trans (congrArg₂ (· + _root_.Ffn.half * ·) (blk_x m c t a k) ?_)
  exact acc_chunk m c t 10 (by decide) _ _ _ _ (fill0 m c _ _ _ _ _ _ _ _ _ 10 (by decide) _) (fill1 m c _ _ _ _ _ _ _ _ _ 10 (by decide) _) (fill2 m c _ _ _ _ _ _ _ _ _ 10 (by decide) _)
    (acc_chunk m c t 9 (by decide) _ _ _ _ (fill0 m c _ _ _ _ _ _ _ _ _ 9 (by decide) _) (fill1 m c _ _ _ _ _ _ _ _ _ 9 (by decide) _) (fill2 m c _ _ _ _ _ _ _ _ _ 9 (by decide) _)
    (acc_chunk m c t 8 (by decide) _ _ _ _ (fill0 m c _ _ _ _ _ _ _ _ _ 8 (by decide) _) (fill1 m c _ _ _ _ _ _ _ _ _ 8 (by decide) _) (fill2 m c _ _ _ _ _ _ _ _ _ 8 (by decide) _)
    (acc_chunk m c t 7 (by decide) _ _ _ _ (fill0 m c _ _ _ _ _ _ _ _ _ 7 (by decide) _) (fill1 m c _ _ _ _ _ _ _ _ _ 7 (by decide) _) (fill2 m c _ _ _ _ _ _ _ _ _ 7 (by decide) _)
    (acc_chunk m c t 6 (by decide) _ _ _ _ (fill0 m c _ _ _ _ _ _ _ _ _ 6 (by decide) _) (fill1 m c _ _ _ _ _ _ _ _ _ 6 (by decide) _) (fill2 m c _ _ _ _ _ _ _ _ _ 6 (by decide) _)
    (acc_chunk m c t 5 (by decide) _ _ _ _ (fill0 m c _ _ _ _ _ _ _ _ _ 5 (by decide) _) (fill1 m c _ _ _ _ _ _ _ _ _ 5 (by decide) _) (fill2 m c _ _ _ _ _ _ _ _ _ 5 (by decide) _)
    (acc_chunk m c t 4 (by decide) _ _ _ _ (fill0 m c _ _ _ _ _ _ _ _ _ 4 (by decide) _) (fill1 m c _ _ _ _ _ _ _ _ _ 4 (by decide) _) (fill2 m c _ _ _ _ _ _ _ _ _ 4 (by decide) _)
    (acc_chunk m c t 3 (by decide) _ _ _ _ (fill0 m c _ _ _ _ _ _ _ _ _ 3 (by decide) _) (fill1 m c _ _ _ _ _ _ _ _ _ 3 (by decide) _) (fill2 m c _ _ _ _ _ _ _ _ _ 3 (by decide) _)
    (acc_chunk m c t 2 (by decide) _ _ _ _ (fill0 m c _ _ _ _ _ _ _ _ _ 2 (by decide) _) (fill1 m c _ _ _ _ _ _ _ _ _ 2 (by decide) _) (fill2 m c _ _ _ _ _ _ _ _ _ 2 (by decide) _)
    (acc_chunk m c t 1 (by decide) _ _ _ _ (fill0 m c _ _ _ _ _ _ _ _ _ 1 (by decide) _) (fill1 m c _ _ _ _ _ _ _ _ _ 1 (by decide) _) (fill2 m c _ _ _ _ _ _ _ _ _ 1 (by decide) _)
    (acc_chunk m c t 0 (by decide) _ _ _ _ (fill0 m c _ _ _ _ _ _ _ _ _ 0 (by decide) _) (fill1 m c _ _ _ _ _ _ _ _ _ 0 (by decide) _) (fill2 m c _ _ _ _ _ _ _ _ _ 0 (by decide) _)
    (fun a k => by pointwise [k0_pay4]; rfl))))))))))) a k

theorem xn_B (c : Dev nD) (t : Fin cfg0.N) (ht : ¬ t.val % 8 = 0) (a : Fin 512) (k : Fin 1024) :
    (outsAt0 m c t.val t.isLt).2.1 (ix2 a k) = _root_.Ffn.nrm (x m c) (gain m c) (row t a) k := by
  rw [outsAt0_B m c t ht, caseB, ← XN_row]
  frame_out
  pointwise [XN, k0_pay3, k0_pay2]

theorem out_B (c : Dev nD) (t : Fin cfg0.N) (ht : ¬ t.val % 8 = 0) (a : Fin 512) (k : Fin 1024) :
    (outsAt0 m c t.val t.isLt).1 (ix2 a k) = x m c (ix2 (row t a) k) + _root_.Ffn.half * yp m c 11 le_rfl (row t a) k := by
  rw [outsAt0_B m c t ht, caseB]
  frame_out
  refine (OUT_row _ _ a k).trans (congrArg₂ (· + _root_.Ffn.half * ·) (blk_x m c t a k) ?_)
  exact acc_chunk m c t 10 (by decide) _ _ _ _ (carry0 _ _ (scr0_all m c _ _) _ 10 (by decide) _) (carry1 _ _ (scr1_all m c _ _) _ 10 (by decide) _) (carry2 _ _ (scr2_all m c _ _) _ 10 (by decide) _)
    (acc_chunk m c t 9 (by decide) _ _ _ _ (carry0 _ _ (scr0_all m c _ _) _ 9 (by decide) _) (carry1 _ _ (scr1_all m c _ _) _ 9 (by decide) _) (carry2 _ _ (scr2_all m c _ _) _ 9 (by decide) _)
    (acc_chunk m c t 8 (by decide) _ _ _ _ (carry0 _ _ (scr0_all m c _ _) _ 8 (by decide) _) (carry1 _ _ (scr1_all m c _ _) _ 8 (by decide) _) (carry2 _ _ (scr2_all m c _ _) _ 8 (by decide) _)
    (acc_chunk m c t 7 (by decide) _ _ _ _ (carry0 _ _ (scr0_all m c _ _) _ 7 (by decide) _) (carry1 _ _ (scr1_all m c _ _) _ 7 (by decide) _) (carry2 _ _ (scr2_all m c _ _) _ 7 (by decide) _)
    (acc_chunk m c t 6 (by decide) _ _ _ _ (carry0 _ _ (scr0_all m c _ _) _ 6 (by decide) _) (carry1 _ _ (scr1_all m c _ _) _ 6 (by decide) _) (carry2 _ _ (scr2_all m c _ _) _ 6 (by decide) _)
    (acc_chunk m c t 5 (by decide) _ _ _ _ (carry0 _ _ (scr0_all m c _ _) _ 5 (by decide) _) (carry1 _ _ (scr1_all m c _ _) _ 5 (by decide) _) (carry2 _ _ (scr2_all m c _ _) _ 5 (by decide) _)
    (acc_chunk m c t 4 (by decide) _ _ _ _ (carry0 _ _ (scr0_all m c _ _) _ 4 (by decide) _) (carry1 _ _ (scr1_all m c _ _) _ 4 (by decide) _) (carry2 _ _ (scr2_all m c _ _) _ 4 (by decide) _)
    (acc_chunk m c t 3 (by decide) _ _ _ _ (carry0 _ _ (scr0_all m c _ _) _ 3 (by decide) _) (carry1 _ _ (scr1_all m c _ _) _ 3 (by decide) _) (carry2 _ _ (scr2_all m c _ _) _ 3 (by decide) _)
    (acc_chunk m c t 2 (by decide) _ _ _ _ (carry0 _ _ (scr0_all m c _ _) _ 2 (by decide) _) (carry1 _ _ (scr1_all m c _ _) _ 2 (by decide) _) (carry2 _ _ (scr2_all m c _ _) _ 2 (by decide) _)
    (acc_chunk m c t 1 (by decide) _ _ _ _ (carry0 _ _ (scr0_all m c _ _) _ 1 (by decide) _) (carry1 _ _ (scr1_all m c _ _) _ 1 (by decide) _) (carry2 _ _ (scr2_all m c _ _) _ 1 (by decide) _)
    (acc_chunk m c t 0 (by decide) _ _ _ _ (carry0 _ _ (scr0_all m c _ _) _ 0 (by decide) _) (carry1 _ _ (scr1_all m c _ _) _ 0 (by decide) _) (carry2 _ _ (scr2_all m c _ _) _ 0 (by decide) _)
    (fun a k => by pointwise [k0_pay4]; rfl))))))))))) a k

end Cert.FfnFwdIdeal.Fwd

end
-- ==== Proof.FfnFwd.Total.lean ====
/- The forward call's five result arrays after the run. -/
module

public import proofs.«01_k».proof.Proof.FfnFwd.Gate
public import proofs.«01_k».proof.Proof.FfnFwd.Tile

@[expose] public section

set_option maxRecDepth 16384

noncomputable section

namespace Cert.FfnFwdIdeal.Fwd

open Cert.FfnFwdIdeal Cert.FfnFwdIdeal.Gen Idealize.ShloMosaic Idealize.ShloMosaic.TcCoe Idealize.SL.Sem
open Idealize.ShloMosaic.Pipeline (Dat)
open _root_.Ffn (Mat)

variable (m : (ℓ : Loc nD τ sig) → Buf (Elt Ideal) ℓ)

/-- The block's result. -/
def ov (c : Dev nD) : Fin 4096 → Fin 1024 → EReal := _root_.Ffn.step (x m c) (wd m c) (hv m c)

theorem ov_eq (c : Dev nD) (r : Fin 4096) (k : Fin 1024) : x m c (ix2 r k) + _root_.Ffn.half * yp m c 11 le_rfl r k = ov m c r k := by
  unfold yp ov _root_.Ffn.step
  rw [_root_.Ffn.first_all]

theorem row_eq (t : Fin cfg0.N) (a : Fin 512) (r : Fin 4096) (hr : r.val = t.val * 512 + a.val) : row t a = r := Fin.ext hr.symm

theorem g_point (c : Dev nD) (t : Fin cfg0.N) (y : S512x2816.Idx) (r : Fin 4096) (f : Fin 2816)
    (hr : r.val = t.val * 512 + (y 0).val) (hf : f.val = (y 1).val) : (outsAt0 m c t.val t.isLt).2.2.1 y = gv m c r f := by
  by_cases ht : t.val % 8 = 0
  · exact g_A m c t ht y r f hr hf
  · exact g_B m c t ht y r f hr hf

theorem u_point (c : Dev nD) (t : Fin cfg0.N) (y : S512x2816.Idx) (r : Fin 4096) (f : Fin 2816)
    (hr : r.val = t.val * 512 + (y 0).val) (hf : f.val = (y 1).val) : (outsAt0 m c t.val t.isLt).2.2.2.1 y = uv m c r f := by
  by_cases ht : t.val % 8 = 0
  · exact u_A m c t ht y r f hr hf
  · exact u_B m c t ht y r f hr hf

theorem h_point (c : Dev nD) (t : Fin cfg0.N) (y : S512x2816.Idx) (r : Fin 4096) (f : Fin 2816)
    (hr : r.val = t.val * 512 + (y 0).val) (hf : f.val = (y 1).val) : (outsAt0 m c t.val t.isLt).2.2.2.2.1 y = hv m c r f := by
  by_cases ht : t.val % 8 = 0
  · exact h_A m c t ht y r f hr hf
  · exact h_B m c t ht y r f hr hf

theorem xn_point (c : Dev nD) (t : Fin cfg0.N) (y : S512x1024.Idx) (r : Fin 4096) (k : Fin 1024)
    (hr : r.val = t.val * 512 + (y 0).val) (hk : k.val = (y 1).val) :
    (outsAt0 m c t.val t.isLt).2.1 y = _root_.Ffn.nrm (x m c) (gain m c) r k := by
  idx_vars y
  obtain rfl := Fin.ext hk
  rw [← row_eq t y0 r hr]
  by_cases ht : t.val % 8 = 0
  · exact xn_A m c t ht _ _
  · exact xn_B m c t ht _ _

theorem out_point (c : Dev nD) (t : Fin cfg0.N) (y : S512x1024.Idx) (r : Fin 4096) (k : Fin 1024)
    (hr : r.val = t.val * 512 + (y 0).val) (hk : k.val = (y 1).val) : (outsAt0 m c t.val t.isLt).1 y = ov m c r k := by
  idx_vars y
  obtain rfl := Fin.ext hk
  rw [← row_eq t y0 r hr, ← ov_eq]
  by_cases ht : t.val % 8 = 0
  · exact out_A m c t ht _ _
  · exact out_B m c t ht _ _

theorem out_final (c : Dev nD) : (dats m 0 c).arrAt 2 cfg0.N = fun i : S4096x1024.Idx => ov m c (i 0) (i 1) := by
  refine (dats m 0 c).arrAt_eq_of_covers 2 _ (by decide +kernel) fun t _ y => ?_
  blk_simp
  rw [after0_2]
  exact out_point m c t y _ _ (by blk_simp [idx t]) (by blk_simp [idx t])

theorem xn_final (c : Dev nD) : (dats m 0 c).arrAt 3 cfg0.N = fun i : S4096x1024.Idx => _root_.Ffn.nrm (x m c) (gain m c) (i 0) (i 1) := by
  refine (dats m 0 c).arrAt_eq_of_covers 3 _ (by decide +kernel) fun t _ y => ?_
  blk_simp
  rw [after0_3]
  exact xn_point m c t y _ _ (by blk_simp [idx t]) (by blk_simp [idx t])

theorem g_final (c : Dev nD) : (dats m 0 c).arrAt 4 cfg0.N = fun i : S4096x2816.Idx => gv m c (i 0) (i 1) := by
  refine (dats m 0 c).arrAt_eq_of_covers 4 _ (by decide +kernel) fun t _ y => ?_
  blk_simp
  rw [after0_4]
  exact g_point m c t y _ _ (by blk_simp [idx t]) (by blk_simp [idx t])

theorem u_final (c : Dev nD) : (dats m 0 c).arrAt 5 cfg0.N = fun i : S4096x2816.Idx => uv m c (i 0) (i 1) := by
  refine (dats m 0 c).arrAt_eq_of_covers 5 _ (by decide +kernel) fun t _ y => ?_
  blk_simp
  rw [after0_5]
  exact u_point m c t y _ _ (by blk_simp [idx t]) (by blk_simp [idx t])

theorem h_final (c : Dev nD) : (dats m 0 c).arrAt 6 cfg0.N = fun i : S4096x2816.Idx => hv m c (i 0) (i 1) := by
  refine (dats m 0 c).arrAt_eq_of_covers 6 _ (by decide +kernel) fun t _ y => ?_
  blk_simp
  rw [after0_6]
  exact h_point m c t y _ _ (by blk_simp [idx t]) (by blk_simp [idx t])

end Cert.FfnFwdIdeal.Fwd

end
-- ==== Proof.FfnFwd.Ref.lean ====
/- The forward reference's five results, read at an index. -/
module

public import proofs.«01_k».proof.Proof.Gen.FfnFwdReferenceIdeal.Run
public import proofs.«01_k».proof.Proof.FfnFwd.Words

@[expose] public section

set_option maxRecDepth 16384

noncomputable section

namespace Cert.FfnFwdReferenceIdeal.Fwd

open Cert.FfnFwdReferenceIdeal Cert.FfnFwdReferenceIdeal.Gen Cert.FfnFwdReferenceIdeal.Value Idealize.ShloMosaic Idealize.ShloMosaic.TcCoe Idealize.SL.Sem
open _root_.Ffn (Mat)

/-- The normalised rows. -/
def XN (x : FVec Ideal S4096x1024 .f32) (gain : FVec Ideal S1x1024 .f32) : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 gain)

theorem XN_row (x : FVec Ideal S4096x1024 .f32) (gain : FVec Ideal S1x1024 .f32) (r : Fin 4096) (k : Fin 1024) :
    XN x gain (ix2 r k) = _root_.Ffn.nrm x gain r k := by
  unfold _root_.Ffn.nrm _root_.Ffn.rr _root_.Ffn.var
  pointwise [XN]

/-- The rows of either half. -/
def PRE (n : FVec Ideal S4096x1024 .f32) (w : FVec Ideal S1024x2816 .f32) : FVec Ideal S4096x2816 .f32 :=
  Host.dotGeneral dot_S4096x1024_S1024x2816_S4096x2816_1_0_0_1_n_n none n w

theorem PRE_row (x : FVec Ideal S4096x1024 .f32) (gain : FVec Ideal S1x1024 .f32) (w : FVec Ideal S1024x2816 .f32) (r : Fin 4096) (f : Fin 2816) :
    PRE (XN x gain) w (ix2 r f) = _root_.Ffn.pre x gain w r f := by
  unfold _root_.Ffn.pre
  pointwise [PRE]
  simp only [XN_row]
  rfl

/-- The product of the two halves. -/
def HID (g u : FVec Ideal S4096x2816 .f32) : FVec Ideal S4096x2816 .f32 :=
  mulf (mulf g (Host.divf (broadcastInDim S4096x2816 ![] bcast_S_S4096x2816 (constant S_ .f32 0x3F800000#32)) (addf (broadcastInDim S4096x2816 ![] bcast_S_S4096x2816 (constant S_ .f32 0x3F800000#32)) (Host.exp (Host.negf g))))) u

theorem HID_row (g u : FVec Ideal S4096x2816 .f32) (r : Fin 4096) (f : Fin 2816) :
    HID g u (ix2 r f) = _root_.Ffn.half_silu (g (ix2 r f)) (u (ix2 r f)) := by
  unfold _root_.Ffn.half_silu _root_.Ffn.sg
  pointwise [HID]

/-- The block's result. -/
def STEP (x : FVec Ideal S4096x1024 .f32) (h : FVec Ideal S4096x2816 .f32) (wd : FVec Ideal S2816x1024 .f32) : FVec Ideal S4096x1024 .f32 :=
  addf x (mulf (broadcastInDim S4096x1024 ![] bcast_S_S4096x1024 (constant S_ .f32 0x3F000000#32)) (Host.dotGeneral dot_S4096x2816_S2816x1024_S4096x1024_1_0_0_1_n_n none h wd))

theorem STEP_row (x : FVec Ideal S4096x1024 .f32) (h : FVec Ideal S4096x2816 .f32) (wd : FVec Ideal S2816x1024 .f32) (r : Fin 4096) (k : Fin 1024) :
    STEP x h wd (ix2 r k) = _root_.Ffn.step x wd (fun r f => h (ix2 r f)) r k := by
  unfold _root_.Ffn.step
  pointwise [STEP]

section

variable (x : FVec Ideal S4096x1024 .f32) (gain : FVec Ideal S1x1024 .f32) (wg wu : FVec Ideal S1024x2816 .f32) (wd : FVec Ideal S2816x1024 .f32)

/-- The product of the two halves of the arguments. -/
abbrev H : FVec Ideal S4096x2816 .f32 := HID (PRE (XN x gain) wg) (PRE (XN x gain) wu)

theorem H_row (r : Fin 4096) (f : Fin 2816) : H x gain wg wu (ix2 r f) = _root_.Ffn.hid x gain wg wu r f := by
  rw [H, HID_row, PRE_row, PRE_row]
  rfl

theorem out_row (r : Fin 4096) (k : Fin 1024) :
    STEP x (H x gain wg wu) wd (ix2 r k) = _root_.Ffn.step x wd (_root_.Ffn.hid x gain wg wu) r k := by
  rw [STEP_row]
  exact congrArg (fun h => _root_.Ffn.step x wd h r k) (funext fun r => funext fun f => H_row x gain wg wu r f)

end

end Cert.FfnFwdReferenceIdeal.Fwd

end
-- ==== Proof.FfnFwd.Equal.lean ====
/- The feed-forward block's forward call: kernel and reference end with the same five arrays, on all arguments. -/
module

public import proofs.«01_k».proof.Proof.FfnFwd.Total
public import proofs.«01_k».proof.Proof.FfnFwd.Ref
public import proofs.«01_k».proof.Defs

@[expose] public section

set_option maxRecDepth 16384

noncomputable section

namespace Cert.Proof.FfnFwd

open Idealize.ShloMosaic Idealize.ShloMosaic.TcCoe Idealize.SL.Sem

set_option maxHeartbeats 4000000 in
/-- Both programs end with the same block, normalised rows, halves and product. -/
theorem algebraic : Cert.algebraic_FfnFwdIdeal_FfnFwdReferenceIdeal := by
  intro m g m' g' _ hagree
  refine ⟨fun c i => FfnFwdIdeal.Fwd.ov m c (i 0) (i 1),
    fun c i => _root_.Ffn.nrm (FfnFwdIdeal.Fwd.x m c) (FfnFwdIdeal.Fwd.gain m c) (i 0) (i 1),
    fun c i => FfnFwdIdeal.Fwd.gv m c (i 0) (i 1), fun c i => FfnFwdIdeal.Fwd.uv m c (i 0) (i 1),
    fun c i => FfnFwdIdeal.Fwd.hv m c (i 0) (i 1), ?_, ?_⟩
  · run_from Cert.FfnFwdIdeal.Gen.run_main m g
    · exact FfnFwdIdeal.Fwd.out_final m c
    · exact FfnFwdIdeal.Fwd.xn_final m c
    · exact FfnFwdIdeal.Fwd.g_final m c
    · exact FfnFwdIdeal.Fwd.u_final m c
    · exact FfnFwdIdeal.Fwd.h_final m c
  · refine (θ_run _ _ _).mono (fun r h c => ?_) (Cert.FfnFwdReferenceIdeal.Value.run m' g')
    obtain ⟨h0, h1, h2, h3, h4, ha⟩ := h c
    obtain ⟨e0, e1, e2, e3, e4⟩ := hagree c
    rw [e0, e1, e2, e3, e4] at h0
    rw [e0, e1] at h1
    rw [e0, e1, e2] at h2
    rw [e0, e1, e3] at h3
    rw [e0, e1, e2, e3] at h4
    refine ⟨h0.trans (funext fun i => ?_), h1.trans (funext fun i => ?_), h2.trans (funext fun i => ?_), h3.trans (funext fun i => ?_),
      h4.trans (funext fun i => ?_), ha⟩
    · idx_vars i
      exact FfnFwdReferenceIdeal.Fwd.out_row _ _ _ _ _ i0 i1
    · idx_vars i
      exact FfnFwdReferenceIdeal.Fwd.XN_row _ _ i0 i1
    · idx_vars i
      exact FfnFwdReferenceIdeal.Fwd.PRE_row _ _ _ i0 i1
    · idx_vars i
      exact FfnFwdReferenceIdeal.Fwd.PRE_row _ _ _ i0 i1
    · idx_vars i
      exact FfnFwdReferenceIdeal.Fwd.H_row _ _ _ _ i0 i1

end Cert.Proof.FfnFwd

end
-- ==== Proof.EvenNorm.Blocks.lean ====
/- The gradient of the attention mixer's norm and gate product: the kernel's two result arrays. -/
module

public import proofs.«01_k».proof.Proof.Gen.EvenNormIdeal.Value
public import proofs.«01_k».proof.Proof.Ffn.Math
public import proofs.«01_k».proof.Proof.Products.Sums

@[expose] public section

set_option maxRecDepth 16384

noncomputable section

namespace Cert.EvenNormIdeal.EvenNorm

open Cert.EvenNormIdeal Cert.EvenNormIdeal.Gen Idealize.ShloMosaic Idealize.ShloMosaic.TcCoe Idealize.SL.Sem
open _root_.Ffn (Mat)

variable (m : (ℓ : Loc nD τ sig) → Buf (Elt Ideal) ℓ)

/-- The argument arrays. -/
abbrev dz (c : Dev nD) : Mat 4096 128 := m ((c : Thread nD τ).loc main_arg0)
abbrev wt (c : Dev nD) : Mat 128 1024 := m ((c : Thread nD τ).loc main_arg1)
abbrev x (c : Dev nD) : Mat 4096 1024 := m ((c : Thread nD τ).loc main_arg2)
abbrev gain (c : Dev nD) : Mat 1 1024 := m ((c : Thread nD τ).loc main_arg3)
abbrev dout (c : Dev nD) : Mat 4096 1024 := m ((c : Thread nD τ).loc main_arg4)
abbrev dh (c : Dev nD) : Mat 4096 1024 := m ((c : Thread nD τ).loc main_arg5)

/-- The gradient at the normalised rows, which comes from two places. -/
def dn (c : Dev nD) (r : Fin 4096) (k : Fin 1024) : EReal := _root_.Products.nn (dz m c) (wt m c) r k + dh m c (ix2 r k)

/-- The windows' block numbers at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] ∧ t.val < 8 :=
  (by decide +kernel : ∀ t : Fin grid0.N, _)

/-- Row `a` of tile `t`. -/
def row (t : Fin cfg0.N) (a : Fin 512) : Fin 4096 := ⟨t.val * 512 + a.val, by have := idx t; omega⟩

theorem row_eq (t : Fin cfg0.N) (a : Fin 512) (r : Fin 4096) (hr : r.val = t.val * 512 + a.val) : row t a = r := Fin.ext hr.symm

theorem blk_dz (c : Dev nD) (t : Fin cfg0.N) (a : Fin 512) (k : Fin 128) :
    (iblk m c 0 t : Mat 512 128) (ix2 a k) = dz m c (ix2 (row t a) k) := by
  unfold row
  blk_point [iblk, V, idx t]

theorem blk_wt (c : Dev nD) (t : Fin cfg0.N) (a : Fin 128) (k : Fin 1024) :
    (iblk m c 1 t : Mat 128 1024) (ix2 a k) = wt m c (ix2 a k) := by
  blk_point [iblk, V, idx t]

theorem blk_x (c : Dev nD) (t : Fin cfg0.N) (a : Fin 512) (k : Fin 1024) :
    (iblk m c 2 t : Mat 512 1024) (ix2 a k) = x m c (ix2 (row t a) k) := by
  unfold row
  blk_point [iblk, V, idx t]

theorem blk_gain (c : Dev nD) (t : Fin cfg0.N) (k : Fin 1024) :
    (iblk m c 3 t : Mat 1 1024) (ix2 0 k) = gain m c (ix2 0 k) := by
  blk_point [iblk, V, idx t]

theorem blk_dout (c : Dev nD) (t : Fin cfg0.N) (a : Fin 512) (k : Fin 1024) :
    (iblk m c 4 t : Mat 512 1024) (ix2 a k) = dout m c (ix2 (row t a) k) := by
  unfold row
  blk_point [iblk, V, idx t]

theorem blk_dh (c : Dev nD) (t : Fin cfg0.N) (a : Fin 512) (k : Fin 1024) :
    (iblk m c 5 t : Mat 512 1024) (ix2 a k) = dh m c (ix2 (row t a) k) := by
  unfold row
  blk_point [iblk, V, idx t]

/-- The gradient of `x` at a point. -/
theorem dx_row (c : Dev nD) (t : Fin cfg0.N) (a : Fin 512) (k : Fin 1024) :
    k0_pay1 (F := Ideal) (k0_pay3 (iblk m c 2 t)) (k0_pay4 (iblk m c 2 t)) (k0_pay7 (iblk m c 0 t) (iblk m c 1 t) (iblk m c 5 t) (iblk m c 3 t)) (iblk m c 4 t)
        (k0_pay8 (iblk m c 0 t) (iblk m c 1 t) (iblk m c 5 t) (iblk m c 2 t) (iblk m c 3 t)) (ix2 a k)
      = _root_.Ffn.dx (dout m c) (x m c) (gain m c) (dn m c) (row t a) k := by
  unfold _root_.Ffn.dx _root_.Ffn.rr _root_.Ffn.var dn _root_.Products.nn
  simp only [← blk_dout m c t, ← blk_x m c t, ← blk_gain m c t, ← blk_dz m c t, ← blk_wt m c t, ← blk_dh m c t]
  pointwise [k0_pay1, k0_pay2, k0_pay3, k0_pay4, k0_pay7, k0_pay8]

/-- One more tile of the gain's gradient. -/
theorem dgain_row (c : Dev nD) (t : Fin cfg0.N) (P : FVec Ideal S1x1024 .f32) (k : Fin 1024) :
    k0_pay6 (F := Ideal) (iblk m c 0 t) (iblk m c 1 t) (iblk m c 5 t) (iblk m c 2 t) P (ix2 0 k)
      = P (ix2 0 k) + ∑ a : Fin 512, dn m c (row t a) k * (x m c (ix2 (row t a) k) * _root_.Ffn.rr (x m c) (row t a)) := by
  unfold _root_.Ffn.rr _root_.Ffn.var dn _root_.Products.nn
  simp only [← blk_x m c t, ← blk_dz m c t, ← blk_wt m c t, ← blk_dh m c t]
  pointwise [k0_pay6, k0_pay2, k0_pay3, k0_pay4]

theorem dx_point (c : Dev nD) (t : Fin cfg0.N) (y : S512x1024.Idx) (r : Fin 4096) (k : Fin 1024)
    (hr : r.val = t.val * 512 + (y 0).val) (hk : k.val = (y 1).val) :
    (outsAt0 m c t.val t.isLt).1 y = _root_.Ffn.dx (dout m c) (x m c) (gain m c) (dn m c) r k := by
  idx_vars y
  obtain rfl := Fin.ext hk
  rw [← row_eq t y0 r hr]
  by_cases ht : t.val % 8 = 0
  · rw [outsAt0_A m c t ht]
    frame_out
    exact dx_row m c t _ _
  · rw [outsAt0_B m c t ht]
    frame_out
    exact dx_row m c t _ _

/-- What point `t` adds to an entry of the gain's gradient. -/
def gpart (c : Dev nD) (t : Fin cfg0.N) (k : Fin 1024) : EReal :=
  ∑ a : Fin 512, dn m c (row t a) k * (x m c (ix2 (row t a) k) * _root_.Ffn.rr (x m c) (row t a))

theorem dgain_A (c : Dev nD) (t : Fin cfg0.N) (ht : t.val % 8 = 0) (k : Fin 1024) :
    (outsAt0 m c t.val t.isLt).2 (ix2 0 k) = 0 + gpart m c t k := by
  rw [outsAt0_A m c t ht]
  frame_out
  refine (dgain_row m c t _ k).trans (congrArg (· + _) ?_)
  pointwise [k0_pay5]

theorem dgain_B (c : Dev nD) (t : Fin cfg0.N) (ht : ¬ t.val % 8 = 0) (k : Fin 1024) :
    (outsAt0 m c t.val t.isLt).2 (ix2 0 k)
      = (outsAt0 m c (t.val - 1) (Nat.lt_of_le_of_lt (Nat.sub_le _ _) t.isLt)).2 (ix2 0 k) + gpart m c t k := by
  rw [outsAt0_B m c t ht]
  frame_out
  exact dgain_row m c t _ k

/-- The gain's gradient after the last point. -/
theorem dgain_last (c : Dev nD) (k : Fin 1024) :
    (outsAt0 m c t0_7.val t0_7.isLt).2 (ix2 0 k) = _root_.Ffn.dgain (x m c) (dn m c) k := by
  rw [Pipeline.eq_sum_fin_of_reset_step_apply_last (fun n h => (outsAt0 m c n h).2) 8 (fun _ => (0 : EReal)) (fun t y => gpart m c t (y 1))
    (fun t h y => by
      idx_vars y
      obtain rfl : y0 = 0 := Subsingleton.elim _ _
      exact dgain_A m c t h y1)
    (fun t h y => by
      idx_vars y
      obtain rfl : y0 = 0 := Subsingleton.elim _ _
      exact dgain_B m c t h y1)
    (le_of_eq N_0) t0_7 rfl (ix2 0 k)]
  refine (zero_add _).trans ?_
  unfold _root_.Ffn.dgain gpart
  rw [Fin.sum_univ_tiles 8 512 rfl]
  rfl

theorem dx_final (c : Dev nD) : (dats m 0 c).arrAt 6 cfg0.N = fun i : S4096x1024.Idx => _root_.Ffn.dx (dout m c) (x m c) (gain m c) (dn m c) (i 0) (i 1) := by
  refine (dats m 0 c).arrAt_eq_of_covers 6 _ (by decide +kernel) fun t _ y => ?_
  blk_simp
  rw [after0_6]
  exact dx_point m c t y _ _ (by blk_simp [idx t]) (by blk_simp [idx t])

theorem dgain_final (c : Dev nD) : (dats m 0 c).arrAt 7 cfg0.N = fun i : S1x1024.Idx => _root_.Ffn.dgain (x m c) (dn m c) (i 1) := by
  refine (dats m 0 c).arrAt_eq_of_after_last 7 t0_7 (by decide +kernel) _ fun j => ?_
  blk_simp
  rw [after0_7]
  idx_vars j
  obtain rfl : j0 = 0 := Subsingleton.elim _ _
  exact dgain_last m c _

end Cert.EvenNormIdeal.EvenNorm

end
-- ==== Proof.EvenNorm.Ref.lean ====
/- The gradient of the attention mixer's norm and gate product: the reference's two results, read at an index. The
   norm's part is that of the other mixer's. -/
module

public import proofs.«01_k».proof.Proof.Gen.EvenNormReferenceIdeal.Run
public import proofs.«01_k».proof.Proof.Norm.Ref

@[expose] public section

set_option maxRecDepth 16384

noncomputable section

namespace Cert.EvenNormReferenceIdeal.EvenNorm

open Cert.EvenNormReferenceIdeal Cert.EvenNormReferenceIdeal.Gen Cert.EvenNormReferenceIdeal.Value Idealize.ShloMosaic Idealize.ShloMosaic.TcCoe Idealize.SL.Sem
open _root_.Ffn (Mat)
open Cert.NormReferenceIdeal.Norm (VAR RR XH DGAIN CORR DX DX_row DGAIN_row)

/-- The gradient at the normalised rows. -/
def DN (dz : FVec Ideal S4096x128 .bf16) (wt : FVec Ideal S128x1024 .bf16) (dh : FVec Ideal S4096x1024 .f32) : FVec Ideal S4096x1024 .f32 :=
  addf dh (Host.dotGeneral dot_S4096x128_S1024x128_S4096x1024_1_1_0_0_n_n none (extf .f32 dz bitsLt_bf16_f32) (extf .f32 (transpose S1024x128 [1, 0] wt transposes_S128x1024_S1024x128_1_0) bitsLt_bf16_f32))

theorem DN_row (dz : FVec Ideal S4096x128 .bf16) (wt : FVec Ideal S128x1024 .bf16) (dh : FVec Ideal S4096x1024 .f32) (r : Fin 4096) (k : Fin 1024) :
    DN dz wt dh (ix2 r k) = _root_.Products.nn dz wt r k + dh (ix2 r k) := by
  unfold _root_.Products.nn
  rw [add_comm]
  pointwise [DN]

variable (m : (ℓ : Loc nD τ sig) → Buf (Elt Ideal) ℓ)

/-- The argument arrays. -/
abbrev dz (c : Dev nD) : Mat 4096 128 := m ((c : Thread nD τ).loc main_arg0)
abbrev wt (c : Dev nD) : Mat 128 1024 := m ((c : Thread nD τ).loc main_arg1)
abbrev x (c : Dev nD) : Mat 4096 1024 := m ((c : Thread nD τ).loc main_arg2)
abbrev gain (c : Dev nD) : Mat 1 1024 := m ((c : Thread nD τ).loc main_arg3)
abbrev dout (c : Dev nD) : Mat 4096 1024 := m ((c : Thread nD τ).loc main_arg4)
abbrev dh (c : Dev nD) : Mat 4096 1024 := m ((c : Thread nD τ).loc main_arg5)

theorem dx_out (c : Dev nD) (r : Fin 4096) (k : Fin 1024) :
    res_out0 m c (ix2 r k)
      = _root_.Ffn.dx' (dout m c) (x m c) (gain m c) (fun r k => _root_.Products.nn (dz m c) (wt m c) r k + dh m c (ix2 r k)) r k := by
  refine Eq.trans (b := DX (dout m c) (x m c) (DN (dz m c) (wt m c) (dh m c)) (gain m c) (RR (VAR (x m c)))
    (CORR (x m c) (DN (dz m c) (wt m c) (dh m c)) (gain m c) (RR (VAR (x m c))) (VAR (x m c))) (ix2 r k)) rfl ?_
  rw [DX_row]
  simp only [DN_row]

theorem dgain_out (c : Dev nD) (z : Fin 1) (k : Fin 1024) :
    DGAIN (XH (x m c) (RR (VAR (x m c)))) (DN (dz m c) (wt m c) (dh m c)) (ix2 z k)
      = _root_.Ffn.dgain (x m c) (fun r k => _root_.Products.nn (dz m c) (wt m c) r k + dh m c (ix2 r k)) k := by
  rw [DGAIN_row]
  simp only [DN_row]

end Cert.EvenNormReferenceIdeal.EvenNorm

end
-- ==== Proof.EvenNorm.Equal.lean ====
/- The gradient of the attention mixer's norm and gate product: both programs end with the same two arrays. -/
module

public import proofs.«01_k».proof.Defs
public import proofs.«01_k».proof.Proof.EvenNorm.Blocks
public import proofs.«01_k».proof.Proof.EvenNorm.Ref
public import proofs.«01_k».proof.Proof.Norm.Chain
public import Idealize.ShloMosaic.Lib.Claim

@[expose] public section

set_option maxRecDepth 16384

noncomputable section

namespace Cert.Proof.EvenNorm

open Idealize.ShloMosaic Idealize.ShloMosaic.TcCoe Idealize.SL.Sem

/-- Both programs end with the same gradients. -/
theorem algebraic : Cert.algebraic_EvenNormIdeal_EvenNormReferenceIdeal := by
  intro m g m' g' _ hagree
  refine ⟨fun c i => _root_.Ffn.dx (EvenNormIdeal.EvenNorm.dout m c) (EvenNormIdeal.EvenNorm.x m c) (EvenNormIdeal.EvenNorm.gain m c) (EvenNormIdeal.EvenNorm.dn m c) (i 0) (i 1),
    fun c i => _root_.Ffn.dgain (EvenNormIdeal.EvenNorm.x m c) (EvenNormIdeal.EvenNorm.dn m c) (i 1), ?_, ?_⟩
  · run_from Cert.EvenNormIdeal.Gen.run_main m g
    · exact EvenNormIdeal.EvenNorm.dx_final m c
    · exact EvenNormIdeal.EvenNorm.dgain_final m c
  · refine (θ_run _ _ _).mono (fun r h c => ?_) (Cert.EvenNormReferenceIdeal.Value.run m' g')
    obtain ⟨h0, h1, ha⟩ := h c
    obtain ⟨e0, e1, e2, e3, e4, e5⟩ := hagree c
    have k0 : EvenNormReferenceIdeal.EvenNorm.dz m' c = EvenNormIdeal.EvenNorm.dz m c := e0
    have k1 : EvenNormReferenceIdeal.EvenNorm.wt m' c = EvenNormIdeal.EvenNorm.wt m c := e1
    have k2 : EvenNormReferenceIdeal.EvenNorm.x m' c = EvenNormIdeal.EvenNorm.x m c := e2
    have k3 : EvenNormReferenceIdeal.EvenNorm.gain m' c = EvenNormIdeal.EvenNorm.gain m c := e3
    have k4 : EvenNormReferenceIdeal.EvenNorm.dout m' c = EvenNormIdeal.EvenNorm.dout m c := e4
    have k5 : EvenNormReferenceIdeal.EvenNorm.dh m' c = EvenNormIdeal.EvenNorm.dh m c := e5
    refine ⟨h0.trans (funext fun i => ?_), h1.trans (funext fun i => ?_), ha⟩
    · idx_vars i
      refine (EvenNormReferenceIdeal.EvenNorm.dx_out m' c i0 i1).trans ?_
      rw [k0, k1, k2, k3, k4, k5]
      exact _root_.Norm.dx_eq _ i0 i1
    · idx_vars i
      refine (EvenNormReferenceIdeal.EvenNorm.dgain_out m' c i0 i1).trans ?_
      rw [k0, k1, k2, k5]
      rfl

end Cert.Proof.EvenNorm

end
-- ==== Proof.Loss.Equal.lean ====
/- The loss and its gradient: the kernel adds up the loss tile by tile, the reference at once. -/
module

public import proofs.«01_k».proof.Defs
public import proofs.«01_k».proof.Proof.Norm.Chain
public import proofs.«01_k».proof.Proof.Gen.LossIdeal.Value
public import proofs.«01_k».proof.Proof.Gen.LossReferenceIdeal.Run
public import Idealize.ShloMosaic.Lib.Claim

@[expose] public section

set_option maxRecDepth 16384

noncomputable section

namespace Loss

open Idealize.ShloMosaic
open _root_.Ffn (Mat half one width)

/-- The mean square of a row of errors. -/
def row (y z : Mat 4096 1024) (r : Fin 4096) : EReal :=
  Ideal.div (∑ k : Fin 1024, (y (ix2 r k) - z (ix2 r k)) * (y (ix2 r k) - z (ix2 r k))) width

/-- The loss. -/
def total (y z : Mat 4096 1024) : EReal := half * ∑ r : Fin 4096, row y z r

/-- The gradient of the loss at an entry. -/
def grad (y z : Mat 4096 1024) (r : Fin 4096) (k : Fin 1024) : EReal := Ideal.div (y (ix2 r k) - z (ix2 r k)) width

abbrev two : EReal := Ideal.ofBits .f32 0x40000000#32

theorem two_eq : two = ((2 : ℝ) : EReal) := by
  simp [Ideal.ofBits, Ideal.ieee]
  rw [← EReal.coe_mul]
  norm_num

/-- The chain rule's product of constants is one over the width. -/
theorem grad_eq (e : EReal) : Ideal.div (half * one) width * (two * e) = Ideal.div e width := by
  rw [_root_.Ffn.half_eq, _root_.Ffn.one_eq, _root_.Ffn.width_eq, two_eq, ← EReal.coe_mul, _root_.Ffn.div_coe _ _ (by norm_num),
    _root_.Norm.div_real e (by norm_num), ← mul_assoc, ← EReal.coe_mul]
  congr 2
  norm_num

/-- The half goes into a sum. -/
theorem half_sum {n : ℕ} (f : Fin n → EReal) : half * ∑ j, f j = ∑ j, half * f j := by
  rw [_root_.Ffn.half_eq]
  exact _root_.Norm.coe_mul_sum (by norm_num) f

end Loss

namespace Cert.LossIdeal.Loss

open Cert.LossIdeal Cert.LossIdeal.Gen Idealize.ShloMosaic Idealize.ShloMosaic.TcCoe Idealize.SL.Sem
open _root_.Ffn (Mat half)

variable (m : (ℓ : Loc nD τ sig) → Buf (Elt Ideal) ℓ)

/-- The trunk's result and the target. -/
abbrev y (c : Dev nD) : Mat 4096 1024 := m ((c : Thread nD τ).loc main_arg0)
abbrev z (c : Dev nD) : Mat 4096 1024 := m ((c : Thread nD τ).loc main_arg1)

/-- The windows' block numbers at every grid point. -/
theorem idx : ∀ t : Fin cfg0.N, win0_0.index t = ![t.val, 0] ∧ win0_1.index t = ![t.val, 0] ∧ win0_2.index t = ![0, 0]
    ∧ win0_3.index t = ![t.val, 0] ∧ t.val < 8 :=
  (by decide +kernel : ∀ t : Fin grid0.N, _)

/-- Row `a` of tile `t`. -/
def row (t : Fin cfg0.N) (a : Fin 512) : Fin 4096 := ⟨t.val * 512 + a.val, by have := idx t; omega⟩

theorem row_eq (t : Fin cfg0.N) (a : Fin 512) (r : Fin 4096) (hr : r.val = t.val * 512 + a.val) : row t a = r := Fin.ext hr.symm

theorem blk_y (c : Dev nD) (t : Fin cfg0.N) (a : Fin 512) (k : Fin 1024) :
    (iblk m c 0 t : Mat 512 1024) (ix2 a k) = y m c (ix2 (row t a) k) := by
  unfold row
  blk_point [iblk, V, idx t]

theorem blk_z (c : Dev nD) (t : Fin cfg0.N) (a : Fin 512) (k : Fin 1024) :
    (iblk m c 1 t : Mat 512 1024) (ix2 a k) = z m c (ix2 (row t a) k) := by
  unfold row
  blk_point [iblk, V, idx t]

/-- The gradient at a point. -/
theorem grad_row (c : Dev nD) (t : Fin cfg0.N) (a : Fin 512) (k : Fin 1024) :
    k0_pay4 (F := Ideal) (iblk m c 0 t) (iblk m c 1 t) (ix2 a k) = _root_.Loss.grad (y m c) (z m c) (row t a) k := by
  unfold _root_.Loss.grad
  rw [← blk_y m c t, ← blk_z m c t]
  pointwise [k0_pay4, k0_pay1]

/-- What point `t` adds to the loss. -/
def part (c : Dev nD) (t : Fin cfg0.N) : EReal := half * ∑ a : Fin 512, _root_.Loss.row (y m c) (z m c) (row t a)

/-- One more tile of the loss. -/
theorem loss_row (c : Dev nD) (t : Fin cfg0.N) (P : FVec Ideal S8x128 .f32) (i : Fin 8) (j : Fin 128) :
    k0_pay3 (F := Ideal) (iblk m c 0 t) (iblk m c 1 t) P (ix2 i j) = P (ix2 i j) + part m c t := by
  unfold part _root_.Loss.row
  simp only [← blk_y m c t, ← blk_z m c t]
  pointwise [k0_pay3, k0_pay1]
  exact congrArg (fun s => P (ix2 i j) + half * s) (Finset.sum_congr rfl fun _ _ => Fin.sum_univ_one _)

theorem grad_point (c : Dev nD) (t : Fin cfg0.N) (x : S512x1024.Idx) (r : Fin 4096) (k : Fin 1024)
    (hr : r.val = t.val * 512 + (x 0).val) (hk : k.val = (x 1).val) :
    (outsAt0 m c t.val t.isLt).2 x = _root_.Loss.grad (y m c) (z m c) r k := by
  idx_vars x
  obtain rfl := Fin.ext hk
  rw [← row_eq t x0 r hr]
  by_cases ht : t.val % 8 = 0
  · rw [outsAt0_A m c t ht]
    frame_out
    exact grad_row m c t _ _
  · rw [outsAt0_B m c t ht]
    frame_out
    exact grad_row m c t _ _

theorem loss_A (c : Dev nD) (t : Fin cfg0.N) (ht : t.val % 8 = 0) (i : Fin 8) (j : Fin 128) :
    (outsAt0 m c t.val t.isLt).1 (ix2 i j) = 0 + part m c t := by
  rw [outsAt0_A m c t ht]
  frame_out
  refine (loss_row m c t _ i j).trans (congrArg (· + _) ?_)
  pointwise [k0_pay2]

theorem loss_B (c : Dev nD) (t : Fin cfg0.N) (ht : ¬ t.val % 8 = 0) (i : Fin 8) (j : Fin 128) :
    (outsAt0 m c t.val t.isLt).1 (ix2 i j)
      = (outsAt0 m c (t.val - 1) (Nat.lt_of_le_of_lt (Nat.sub_le _ _) t.isLt)).1 (ix2 i j) + part m c t := by
  rw [outsAt0_B m c t ht]
  frame_out
  exact loss_row m c t _ i j

/-- The loss after the last point. -/
theorem loss_last (c : Dev nD) (i : Fin 8) (j : Fin 128) :
    (outsAt0 m c t0_7.val t0_7.isLt).1 (ix2 i j) = _root_.Loss.total (y m c) (z m c) := by
  rw [Pipeline.eq_sum_fin_of_reset_step_apply_last (fun n h => (outsAt0 m c n h).1) 8 (fun _ => (0 : EReal)) (fun t _ => part m c t)
    (fun t h x => by
      idx_vars x
      exact loss_A m c t h x0 x1)
    (fun t h x => by
      idx_vars x
      exact loss_B m c t h x0 x1)
    (le_of_eq N_0) t0_7 rfl (ix2 i j)]
  refine (zero_add _).trans ?_
  unfold _root_.Loss.total part
  rw [Fin.sum_univ_tiles 8 512 rfl, _root_.Loss.half_sum]
  rfl

theorem loss_final (c : Dev nD) : (dats m 0 c).arrAt 2 cfg0.N = fun _ : S8x128.Idx => _root_.Loss.total (y m c) (z m c) := by
  refine (dats m 0 c).arrAt_eq_of_after_last 2 t0_7 (by decide +kernel) _ fun j => ?_
  blk_simp
  rw [after0_2]
  idx_vars j
  exact loss_last m c _ _

theorem grad_final (c : Dev nD) : (dats m 0 c).arrAt 3 cfg0.N = fun i : S4096x1024.Idx => _root_.Loss.grad (y m c) (z m c) (i 0) (i 1) := by
  refine (dats m 0 c).arrAt_eq_of_covers 3 _ (by decide +kernel) fun t _ x => ?_
  blk_simp
  rw [after0_3]
  exact grad_point m c t x _ _ (by blk_simp [idx t]) (by blk_simp [idx t])

end Cert.LossIdeal.Loss

namespace Cert.Proof.Loss

open Idealize.ShloMosaic Idealize.ShloMosaic.TcCoe Idealize.SL.Sem

/-- Both programs end with the same loss and gradient. -/
theorem algebraic : Cert.algebraic_LossIdeal_LossReferenceIdeal := by
  intro m g m' g' _ hagree
  refine ⟨fun c _ => _root_.Loss.total (LossIdeal.Loss.y m c) (LossIdeal.Loss.z m c),
    fun c i => _root_.Loss.grad (LossIdeal.Loss.y m c) (LossIdeal.Loss.z m c) (i 0) (i 1), ?_, ?_⟩
  · run_from Cert.LossIdeal.Gen.run_main m g
    · exact LossIdeal.Loss.loss_final m c
    · exact LossIdeal.Loss.grad_final m c
  · refine (θ_run _ _ _).mono (fun r h c => ?_) (Cert.LossReferenceIdeal.Value.run m' g')
    obtain ⟨h0, h1, ha⟩ := h c
    obtain ⟨e0, e1⟩ := hagree c
    refine ⟨h0.trans (funext fun i => ?_), h1.trans (funext fun i => ?_), ha⟩
    · rw [e0, e1]
      unfold _root_.Loss.total _root_.Loss.row
      idx_vars i
      pointwise
    · rw [e0, e1]
      idx_vars i
      refine Eq.trans ?_ (_root_.Loss.grad_eq _)
      pointwise

end Cert.Proof.Loss

end
-- ==== Proof.Adam.Equal.lean ====
/- The optimiser's step: the kernel's blocks of rows are the rows of the reference's three arrays. -/
module

public import proofs.«01_k».proof.Defs
public import proofs.«01_k».proof.Proof.Products.Sums
public import proofs.«01_k».proof.Proof.Gen.AdamIdeal.Value
public import proofs.«01_k».proof.Proof.Gen.AdamReferenceIdeal.Run
public import Idealize.ShloMosaic.Lib.Claim

@[expose] public section

set_option maxRecDepth 16384

noncomputable section

namespace Adam

open Idealize.ShloMosaic
open _root_.Products (Mat)

/-- The moving means of the gradient and of its square. -/
def mean (g v : EReal) : EReal := Ideal.ofBits .f32 0x3F666666#32 * v + Ideal.ofBits .f32 0x3DCCCCCD#32 * g
def square (g v : EReal) : EReal := Ideal.ofBits .f32 0x3F7FBE77#32 * v + Ideal.ofBits .f32 0x3A83126F#32 * (g * g)

/-- The weight's change. -/
def delta (w g a b : EReal) : EReal :=
  Ideal.ofBits .f32 0xBA83126F#32
    * (Ideal.div (Ideal.div (mean g a) (Ideal.ofBits .f32 0x3F26BD02#32))
          (Ideal.sqrt (Ideal.div (square g b) (Ideal.ofBits .f32 0x3C231ACC#32)) + Ideal.ofBits .f32 0x322BCC77#32)
      + Ideal.ofBits .f32 0x3C23D70A#32 * w)

end Adam

namespace Cert.AdamIdeal.Adam

open Cert.AdamIdeal Cert.AdamIdeal.Gen Idealize.ShloMosaic Idealize.ShloMosaic.TcCoe Idealize.SL.Sem
open _root_.Products (Mat)

variable (m : (ℓ : Loc nD τ sig) → Buf (Elt Ideal) ℓ)

/-- The weights, their gradient and its two moving means. -/
abbrev w (c : Dev nD) : Mat 2048 352 := m ((c : Thread nD τ).loc main_arg0)
abbrev g (c : Dev nD) : Mat 2048 352 := m ((c : Thread nD τ).loc main_arg1)
abbrev a (c : Dev nD) : Mat 2048 352 := m ((c : Thread nD τ).loc main_arg2)
abbrev b (c : Dev nD) : Mat 2048 352 := m ((c : Thread nD τ).loc main_arg3)

/-- The windows' block numbers at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ t.val < 4 :=
  (by decide +kernel : ∀ t : Fin grid0.N, _)

section Block

variable (c : Dev nD) (t : Fin cfg0.N) (y0 : Fin 512) (y1 : Fin 352) (i : Fin 2048) (j : Fin 352)
  (hi : i.val = t.val * 512 + y0.val) (hj : j.val = y1.val)
include hi hj

theorem blk_w : (iblk m c 0 t : Mat 512 352) (ix2 y0 y1) = w m c (ix2 i j) := by
  blk_point [iblk, V, idx t]

theorem blk_g : (iblk m c 1 t : Mat 512 352) (ix2 y0 y1) = g m c (ix2 i j) := by
  blk_point [iblk, V, idx t]

theorem blk_a : (iblk m c 2 t : Mat 512 352) (ix2 y0 y1) = a m c (ix2 i j) := by
  blk_point [iblk, V, idx t]

theorem blk_b : (iblk m c 3 t : Mat 512 352) (ix2 y0 y1) = b m c (ix2 i j) := by
  blk_point [iblk, V, idx t]

theorem delta_block : out0_4 (iblk m c 0 t) (iblk m c 1 t) (iblk m c 2 t) (iblk m c 3 t) (ix2 y0 y1)
    = _root_.Adam.delta (w m c (ix2 i j)) (g m c (ix2 i j)) (a m c (ix2 i j)) (b m c (ix2 i j)) := by
  rw [← blk_w m c t y0 y1 i j hi hj, ← blk_g m c t y0 y1 i j hi hj, ← blk_a m c t y0 y1 i j hi hj, ← blk_b m c t y0 y1 i j hi hj]
  unfold _root_.Adam.delta _root_.Adam.mean _root_.Adam.square
  frame_out
  pointwise [k0_pay4, k0_pay2, k0_pay3]

theorem mean_block : out0_5 (iblk m c 0 t) (iblk m c 1 t) (iblk m c 2 t) (iblk m c 3 t) (ix2 y0 y1)
    = _root_.Adam.mean (g m c (ix2 i j)) (a m c (ix2 i j)) := by
  rw [← blk_g m c t y0 y1 i j hi hj, ← blk_a m c t y0 y1 i j hi hj]
  unfold _root_.Adam.mean
  frame_out
  pointwise [k0_pay5, k0_pay2]

theorem square_block : out0_6 (iblk m c 0 t) (iblk m c 1 t) (iblk m c 2 t) (iblk m c 3 t) (ix2 y0 y1)
    = _root_.Adam.square (g m c (ix2 i j)) (b m c (ix2 i j)) := by
  rw [← blk_g m c t y0 y1 i j hi hj, ← blk_b m c t y0 y1 i j hi hj]
  unfold _root_.Adam.square
  frame_out
  pointwise [k0_pay1, k0_pay3]

end Block

theorem delta_final (c : Dev nD) : (dats m 0 c).arrAt 4 cfg0.N = fun i : S2048x352.Idx =>
    _root_.Adam.delta (w m c (ix2 (i 0) (i 1))) (g m c (ix2 (i 0) (i 1))) (a m c (ix2 (i 0) (i 1))) (b m c (ix2 (i 0) (i 1))) := by
  refine (dats m 0 c).arrAt_eq_of_covers 4 _ (by decide +kernel) fun t _ y => ?_
  blk_simp
  rw [after0_4]
  idx_vars y
  exact delta_block m c t y0 y1 _ _ (by blk_simp [idx t]) (by blk_simp [idx t])

theorem mean_final (c : Dev nD) : (dats m 0 c).arrAt 5 cfg0.N = fun i : S2048x352.Idx =>
    _root_.Adam.mean (g m c (ix2 (i 0) (i 1))) (a m c (ix2 (i 0) (i 1))) := by
  refine (dats m 0 c).arrAt_eq_of_covers 5 _ (by decide +kernel) fun t _ y => ?_
  blk_simp
  rw [after0_5]
  idx_vars y
  exact mean_block m c t y0 y1 _ _ (by blk_simp [idx t]) (by blk_simp [idx t])

theorem square_final (c : Dev nD) : (dats m 0 c).arrAt 6 cfg0.N = fun i : S2048x352.Idx =>
    _root_.Adam.square (g m c (ix2 (i 0) (i 1))) (b m c (ix2 (i 0) (i 1))) := by
  refine (dats m 0 c).arrAt_eq_of_covers 6 _ (by decide +kernel) fun t _ y => ?_
  blk_simp
  rw [after0_6]
  idx_vars y
  exact square_block m c t y0 y1 _ _ (by blk_simp [idx t]) (by blk_simp [idx t])

end Cert.AdamIdeal.Adam

namespace Cert.Proof.Adam

open Idealize.ShloMosaic Idealize.ShloMosaic.TcCoe Idealize.SL.Sem
open AdamIdeal.Adam (w g a b)

/-- Both programs end with the same change of the weights and the same moving means. -/
theorem algebraic : Cert.algebraic_AdamIdeal_AdamReferenceIdeal := by
  intro m r m' r' _ hagree
  refine ⟨fun c i => _root_.Adam.delta (w m c (ix2 (i 0) (i 1))) (g m c (ix2 (i 0) (i 1))) (a m c (ix2 (i 0) (i 1))) (b m c (ix2 (i 0) (i 1))),
    fun c i => _root_.Adam.mean (g m c (ix2 (i 0) (i 1))) (a m c (ix2 (i 0) (i 1))),
    fun c i => _root_.Adam.square (g m c (ix2 (i 0) (i 1))) (b m c (ix2 (i 0) (i 1))), ?_, ?_⟩
  · run_from Cert.AdamIdeal.Gen.run_main m r
    · exact AdamIdeal.Adam.delta_final m c
    · exact AdamIdeal.Adam.mean_final m c
    · exact AdamIdeal.Adam.square_final m c
  · refine (θ_run _ _ _).mono (fun r h c => ?_) (Cert.AdamReferenceIdeal.Value.run m' r')
    obtain ⟨h0, h1, h2, ha⟩ := h c
    obtain ⟨e0, e1, e2, e3⟩ := hagree c
    refine ⟨h0.trans (funext fun i => ?_), h1.trans (funext fun i => ?_), h2.trans (funext fun i => ?_), ha⟩
    · rw [e0, e1, e2, e3]
      unfold _root_.Adam.delta _root_.Adam.mean _root_.Adam.square
      idx_vars i
      pointwise
    · rw [e1, e2]
      unfold _root_.Adam.mean
      idx_vars i
      pointwise
    · rw [e1, e3]
      unfold _root_.Adam.square
      idx_vars i
      pointwise

end Cert.Proof.Adam

end
-- ==== Proof.NormFwd.Equal.lean ====
/- The mixers' norm: the kernel's blocks of rows are the rows of the reference. -/
module

public import proofs.«01_k».proof.Defs
public import proofs.«01_k».proof.Proof.FfnFwd.Words
public import proofs.«01_k».proof.Proof.Gen.NormFwdIdeal.Value
public import proofs.«01_k».proof.Proof.Gen.NormFwdReferenceIdeal.Run
public import Idealize.ShloMosaic.Lib.Claim

@[expose] public section

set_option maxRecDepth 16384

noncomputable section

namespace Cert.NormFwdIdeal.NormFwd

open Cert.NormFwdIdeal Cert.NormFwdIdeal.Gen Idealize.ShloMosaic Idealize.ShloMosaic.TcCoe Idealize.SL.Sem
open _root_.Ffn (Mat nrm)

variable (m : (ℓ : Loc nD τ sig) → Buf (Elt Ideal) ℓ)

/-- The rows and the gain. -/
abbrev x (c : Dev nD) : Mat 4096 1024 := m ((c : Thread nD τ).loc main_arg0)
abbrev gain (c : Dev nD) : Mat 1 1024 := m ((c : Thread nD τ).loc main_arg1)

/-- The windows' block numbers at every grid point. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

theorem blk_gain (c : Dev nD) (t : Fin cfg0.N) (k : Fin 1024) : (iblk m c 1 t : Mat 1 1024) (ix2 0 k) = gain m c (ix2 0 k) := by
  blk_point [iblk, V, idx t]

section Block

variable (c : Dev nD) (t : Fin cfg0.N) (a : Fin 512) (r : Fin 4096) (hr : r.val = t.val * 512 + a.val)
include hr

theorem blk_x (k : Fin 1024) : (iblk m c 0 t : Mat 512 1024) (ix2 a k) = x m c (ix2 r k) := by
  blk_point [iblk, V, idx t]

theorem block (k : Fin 1024) : out0_2 (iblk m c 0 t) (iblk m c 1 t) (ix2 a k) = nrm (x m c) (gain m c) r k := by
  unfold nrm _root_.Ffn.rr _root_.Ffn.var
  simp only [← blk_x m c t a r hr, ← blk_gain m c t]
  frame_out
  pointwise [k0_pay1]

end Block

theorem final (c : Dev nD) : (dats m 0 c).arrAt 2 cfg0.N = fun i : S4096x1024.Idx => nrm (x m c) (gain m c) (i 0) (i 1) := by
  refine (dats m 0 c).arrAt_eq_of_covers 2 _ (by decide +kernel) fun t _ y => ?_
  blk_simp
  rw [after0_2]
  idx_vars y
  refine (block m c t y0 _ ?_ y1).trans (congrArg _ ?_)
  · blk_simp [idx t]
  · exact Fin.ext (by blk_simp [idx t])

end Cert.NormFwdIdeal.NormFwd

namespace Cert.Proof.NormFwd

open Idealize.ShloMosaic Idealize.ShloMosaic.TcCoe Idealize.SL.Sem
open NormFwdIdeal.NormFwd (x gain)

/-- Both programs end with the same normalised rows. -/
theorem algebraic : Cert.algebraic_NormFwdIdeal_NormFwdReferenceIdeal := by
  intro m g m' g' _ hagree
  refine ⟨fun c i => _root_.Ffn.nrm (x m c) (gain m c) (i 0) (i 1), ?_, ?_⟩
  · run_from Cert.NormFwdIdeal.Gen.run_main m g
    exact NormFwdIdeal.NormFwd.final m c
  · refine (θ_run _ _ _).mono (fun r h c => ?_) (Cert.NormFwdReferenceIdeal.Value.run m' g')
    obtain ⟨h0, ha⟩ := h c
    obtain ⟨e0, e1⟩ := hagree c
    refine ⟨h0.trans (funext fun i => ?_), ha⟩
    rw [e0, e1]
    unfold _root_.Ffn.nrm _root_.Ffn.rr _root_.Ffn.var
    idx_vars i
    pointwise

end Cert.Proof.NormFwd

end
-- ==== Proof.ConvFwd.Equal.lean ====
/- The short gated convolution: each block of the kernel's rows, convolved over its own rows and the two before them. -/
module

public import proofs.«01_k».proof.Defs
public import proofs.«01_k».proof.Proof.ShortConv.Block
public import proofs.«01_k».proof.Proof.Gen.ConvFwdIdeal.Value
public import proofs.«01_k».proof.Proof.Gen.ConvFwdReferenceIdeal.Run
public import Idealize.ShloMosaic.Lib.Claim

@[expose] public section

set_option maxRecDepth 16384

noncomputable section

namespace ConvFwd

open Idealize.ShloMosaic
open _root_.ShortConv (Mat conv)

/-- The gated convolution at an entry. -/
def gated (z : Mat 4096 3072) (w : Mat 8 1024) (r : Fin 4096) (q : Fin 1024) : EReal :=
  z (ix2 r ⟨q.val, by omega⟩) * conv z w r.val q

end ConvFwd

namespace Cert.ConvFwdIdeal.ConvFwd

open Cert.ConvFwdIdeal Cert.ConvFwdIdeal.Gen Idealize.ShloMosaic Idealize.ShloMosaic.TcCoe Idealize.SL.Sem
open _root_.ShortConv (Mat U)
open Cert.KernelIdeal.ShortConv (stack)

variable (m : (ℓ : Loc nD τ sig) → Buf (Elt Ideal) ℓ)

/-- The gates and the signal side by side, and the weights. -/
abbrev Z (c : Dev nD) : Mat 4096 3072 := m ((c : Thread nD τ).loc main_arg0)
abbrev W (c : Dev nD) : Mat 8 1024 := m ((c : Thread nD τ).loc main_arg1)

/-- The windows' block numbers at every grid point. -/
theorem idx : ∀ t : Fin cfg0.N, win0_0.index t = ![t.val, 0] ∧ win0_1.index t = ![t.val, 1] ∧ win0_2.index t = ![t.val, 2]
    ∧ win0_3.index t = ![t.val * 64 - 1, 1] ∧ win0_4.index t = ![t.val * 64 - 1, 2] ∧ win0_5.index t = ![0, 0]
    ∧ win0_6.index t = ![t.val, 0] ∧ (grid0.coords t 0).val = t.val ∧ t.val < 8 :=
  (by decide +kernel : ∀ t : Fin grid0.N, _)

/-- The condition of the body: not the first point. -/
theorem cond : ∀ t : Fin cfg0.N,
    Scalar.cmpi .sgt (BitVec.ofNat 32 (grid0.coords t 0).val) 0#32 = BitVec.ofBool (decide (0 < t.val)) :=
  (by decide +kernel : ∀ t : Fin grid0.N, _)

/-- The scratch, stored as eight rows of halo and then the tile, read through any rectangle. -/
theorem buf_read (bot : Mat 512 1024) (top : Mat 8 1024) (r : Rect S520x1024) (j : r.toLoadRect.shape.Idx) :
    (View.whole cc0_scratch0 : View sig .tc _ S520x1024 _).readCov (Val := Elt Ideal)
        [⟨Rect.unit ![8, 0] ![512, 1024] inb_S520x1024_S512x1024_8_0, bot⟩,
          ⟨Rect.unit ![0, 0] ![8, 1024] inb_S520x1024_S8x1024_0_0, top⟩] r.toLoadRect j
      = stack top bot (r.toLoadRect.idx j 0) (r.toLoadRect.idx j 1) := by
  rw [View.readCov_eq_canon']
  dsimp only
  generalize r.toLoadRect.idx j = y
  have hc : ∃ p ∈ ([⟨Rect.unit ![8, 0] ![512, 1024] inb_S520x1024_S512x1024_8_0, bot⟩,
          ⟨Rect.unit ![0, 0] ![8, 1024] inb_S520x1024_S8x1024_0_0, top⟩] : List (View.Piece (Elt Ideal) S520x1024 .f32)), y ∈ p.fst.set := by
    have h0 : (y 0).val < 520 := (y 0).isLt
    have h1 : (y 1).val < 1024 := (y 1).isLt
    by_cases h : (y 0).val < 8
    · refine ⟨_, List.mem_cons_of_mem _ List.mem_cons_self, ?_⟩
      rw [Rect.mem_set_unit]
      intro a; fin_cases a
      · exact ⟨Nat.zero_le _, by simpa using h⟩
      · exact ⟨Nat.zero_le _, by simpa using h1⟩
    · refine ⟨_, List.mem_cons_self, ?_⟩
      rw [Rect.mem_set_unit]
      intro a; fin_cases a
      · exact ⟨by simpa using h, by simpa using h0⟩
      · exact ⟨Nat.zero_le _, by simpa using h1⟩
  canon_tiles x h using hc
  · unfold stack
    rw [dif_neg (by omega), dif_pos (by omega)]
    blk_ext
  · unfold stack
    rw [dif_pos (by omega)]
    blk_ext

/-- Rows 6…519 of the scratch at point `t` are rows of `U`. -/
theorem buf_row (c : Dev nD) (t : Fin cfg0.N) (r : ℕ) (h6 : 6 ≤ r) (hr : r < 520) (q : Fin 1024) :
    stack (k0_pay2 (F := Ideal) (grid0.coords t) (iblk m c 3 t) (iblk m c 4 t)) (k0_pay3 (F := Ideal) (iblk m c 1 t) (iblk m c 2 t)) r q
      = U (Z m c) (t.val * 512 + (r - 6)) q := by
  have e := idx t
  unfold stack U
  by_cases h8 : r < 8
  · rw [dif_pos h8]
    pointwise [k0_pay2]
    rw [cond t]
    by_cases ht : 0 < t.val
    · rw [dif_pos (by omega), decide_eq_true ht]
      refine Eq.trans (b := (show Mat 8 1024 from iblk m c 3 t) (ix2 ⟨r, h8⟩ q) * (show Mat 8 1024 from iblk m c 4 t) (ix2 ⟨r, h8⟩ q)) rfl ?_
      blk_point [iblk, V, idx t, Z]
    · rw [dif_neg (by omega), decide_eq_false ht]
      rfl
  · rw [dif_neg h8, dif_pos (by omega), dif_pos (by omega)]
    pointwise [k0_pay3]
    blk_point [iblk, V, idx t, Z]

/-- The window of the weights is the whole array. -/
theorem w_block (c : Dev nD) (t : Fin cfg0.N) : (show Mat 8 1024 from iblk m c 5 t) = W m c := by
  blk_ext! [iblk, V, idx t, W]

/-- A row of the block, if the rows of the scratch are rows of `U`. -/
theorem piece (c : Dev nD) (t : Fin cfg0.N) (a : Fin 512) (q : Fin 1024) (r : Fin 4096)
    (hr : r.val = t.val * 512 + a.val) (S : ℕ → Fin 1024 → EReal)
    (hS : ∀ (n : ℕ) (q : Fin 1024), 6 ≤ n → n < 520 → S n q = U (Z m c) (t.val * 512 + (n - 6)) q) :
    (show Mat 512 1024 from iblk m c 0 t) (ix2 a q)
      * (W m c (ix2 0 q) * S (6 + a.val) q + W m c (ix2 1 q) * S (7 + a.val) q + W m c (ix2 2 q) * S (8 + a.val) q)
      = _root_.ConvFwd.gated (Z m c) (W m c) r q := by
  rw [hS _ _ (by omega) (by omega), hS _ _ (by omega) (by omega), hS _ _ (by omega) (by omega)]
  unfold _root_.ConvFwd.gated _root_.ShortConv.conv
  rw [show t.val * 512 + (6 + a.val - 6) = r.val by omega, show t.val * 512 + (7 + a.val - 6) = r.val + 1 by omega,
    show t.val * 512 + (8 + a.val - 6) = r.val + 2 by omega]
  congr 1
  blk_ext [iblk, V, idx t, Z]

theorem block (c : Dev nD) (t : Fin cfg0.N) (y : S512x1024.Idx) (r : Fin 4096) (q : Fin 1024)
    (hr : r.val = t.val * 512 + (y 0).val) (hq : q.val = (y 1).val) :
    outsAt0 m c t y = _root_.ConvFwd.gated (Z m c) (W m c) r q := by
  have hw : iblk m c 5 t = W m c := w_block m c t
  idx_vars y
  obtain rfl := Fin.ext hq
  unfold outsAt0
  frame_out
  simp only [funext (buf_read _ _ _)]
  rw [hw]
  pointwise [k0_pay1, k0_pay4, k0_pay5]
  exact piece m c t _ _ r hr _ (fun n q h6 hn => buf_row m c t n h6 hn q)

theorem final (c : Dev nD) : (dats m 0 c).arrAt 6 cfg0.N = fun i : S4096x1024.Idx => _root_.ConvFwd.gated (Z m c) (W m c) (i 0) (i 1) := by
  refine (dats m 0 c).arrAt_eq_of_covers 6 _ (by decide +kernel) fun t _ y => ?_
  blk_simp
  rw [after0_6]
  exact block m c t y _ _ (by blk_simp [idx t]) (by blk_simp [idx t])

end Cert.ConvFwdIdeal.ConvFwd

namespace Cert.ConvFwdReferenceIdeal.ConvFwd

open Cert.ConvFwdReferenceIdeal Cert.ConvFwdReferenceIdeal.Gen Idealize.ShloMosaic
open _root_.ShortConv (U)

/-- The reference's convolution input with two zero rows above. -/
def padded (z : FVec Ideal S4096x3072 .f32) : FVec Ideal S4098x1024 .f32 :=
  concatenate S4098x1024 0 [⟨S2x1024, (broadcastInDim S2x1024 ![] bcast_S_S2x1024 (constant S_ .f32 0x00000000#32))⟩, ⟨S4096x1024, (mulf (extractStridedSlice S4096x1024 ![0, 1024] z slices_S4096x3072_S4096x1024_0_1024) (extractStridedSlice S4096x1024 ![0, 2048] z slices_S4096x3072_S4096x1024_0_2048))⟩] concatenates_S2x1024_S4096x1024_S4098x1024_d0

/-- It is `U`. -/
theorem padded_row (z : FVec Ideal S4096x3072 .f32) (r : Fin 4098) (q : Fin 1024) : padded z (ix2 r q) = U z r.val q := by
  rw [_root_.ShortConv.U_eq z r.val r.isLt]
  pointwise [padded]

/-- The reference's result, from that input. -/
def result (a : FVec Ideal S4098x1024 .f32) (z : FVec Ideal S4096x3072 .f32) (w : FVec Ideal S8x1024 .f32) : FVec Ideal S4096x1024 .bf16 :=
  truncf .bf16 (mulf (extractStridedSlice S4096x1024 ![0, 0] z slices_S4096x3072_S4096x1024_0_0)
    (addf (addf (addf (broadcastInDim S4096x1024 ![] bcast_S_S4096x1024 (constant S_ .f32 0x00000000#32))
      (mulf (broadcastInDim S4096x1024 ![0, 1] bcast_S1x1024_S4096x1024_0_1 (broadcastInDim S1x1024 ![1] bcast_S1024_S1x1024_1 (shapeCast _ (extractStridedSlice S1x1024 ![0, 0] w slices_S8x1024_S1x1024_0_0) shapeCasts_S1x1024_S1024))) (extractStridedSlice S4096x1024 ![0, 0] a slices_S4098x1024_S4096x1024_0_0)))
      (mulf (broadcastInDim S4096x1024 ![0, 1] bcast_S1x1024_S4096x1024_0_1 (broadcastInDim S1x1024 ![1] bcast_S1024_S1x1024_1 (shapeCast _ (extractStridedSlice S1x1024 ![1, 0] w slices_S8x1024_S1x1024_1_0) shapeCasts_S1x1024_S1024))) (extractStridedSlice S4096x1024 ![1, 0] a slices_S4098x1024_S4096x1024_1_0)))
      (mulf (broadcastInDim S4096x1024 ![0, 1] bcast_S1x1024_S4096x1024_0_1 (broadcastInDim S1x1024 ![1] bcast_S1024_S1x1024_1 (shapeCast _ (extractStridedSlice S1x1024 ![2, 0] w slices_S8x1024_S1x1024_2_0) shapeCasts_S1x1024_S1024))) (extractStridedSlice S4096x1024 ![2, 0] a slices_S4098x1024_S4096x1024_2_0)))) bitsLt_bf16_f32

theorem result_row (z : FVec Ideal S4096x3072 .f32) (w : FVec Ideal S8x1024 .f32) (r : Fin 4096) (q : Fin 1024) :
    result (padded z) z w (ix2 r q) = _root_.ConvFwd.gated z w r q := by
  unfold _root_.ConvFwd.gated _root_.ShortConv.conv
  generalize hp : padded z = a
  pointwise [result]
  subst hp
  simp only [padded_row, Nat.add_comm 2 r.val, Nat.add_comm 1 r.val]

end Cert.ConvFwdReferenceIdeal.ConvFwd

namespace Cert.Proof.ConvFwd

open Idealize.ShloMosaic Idealize.ShloMosaic.TcCoe Idealize.SL.Sem
open ConvFwdIdeal.ConvFwd (Z W)

/-- Both programs end with the same gated convolution. -/
theorem algebraic : Cert.algebraic_ConvFwdIdeal_ConvFwdReferenceIdeal := by
  intro m g m' g' _ hagree
  refine ⟨fun c i => _root_.ConvFwd.gated (Z m c) (W m c) (i 0) (i 1), ?_, ?_⟩
  · run_from Cert.ConvFwdIdeal.Gen.run_main m g
    exact ConvFwdIdeal.ConvFwd.final m c
  · refine (θ_run _ _ _).mono (fun r h c => ?_) (Cert.ConvFwdReferenceIdeal.Value.run m' g')
    obtain ⟨h0, ha⟩ := h c
    obtain ⟨e0, e1⟩ := hagree c
    refine ⟨h0.trans (funext fun i => ?_), ha⟩
    rw [e0, e1]
    exact (congrArg _ (eq_ix2 i)).trans (ConvFwdReferenceIdeal.ConvFwd.result_row (Z m c) (W m c) (i 0) (i 1))

end Cert.Proof.ConvFwd

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.DwReferenceIdeal.Run
public import proofs.«01_k».proof.Proof.Gen.DwReferenceIdeal
public import proofs.«01_k».proof.Proof.Gen.DwIdeal.Value
public import proofs.«01_k».proof.Proof.Gen.DwIdeal.Frame
public import proofs.«01_k».proof.Proof.Gen.DwIdeal.Points
public import proofs.«01_k».proof.Proof.Gen.DwIdeal.Launch
public import proofs.«01_k».proof.Proof.Gen.DwIdeal.Skeleton
public import proofs.«01_k».proof.Proof.Gen.DwIdeal
public import proofs.«01_k».proof.Proof.Gen.Dw.Frame
public import proofs.«01_k».proof.Proof.Gen.Dw.Points
public import proofs.«01_k».proof.Proof.Gen.Dw.Launch
public import proofs.«01_k».proof.Proof.Gen.Dw.Skeleton
public import proofs.«01_k».proof.Proof.Gen.Dw
public import proofs.«01_k».proof.Proof.Gen.FfnReferenceIdeal.Run
public import proofs.«01_k».proof.Proof.Gen.FfnReferenceIdeal
public import proofs.«01_k».proof.Proof.Gen.FfnIdeal.Points
public import proofs.«01_k».proof.Proof.Gen.FfnIdeal.Launch
public import proofs.«01_k».proof.Proof.Gen.FfnIdeal.Skeleton
public import proofs.«01_k».proof.Proof.Gen.FfnIdeal
public import proofs.«01_k».proof.Proof.Gen.Ffn.Points
public import proofs.«01_k».proof.Proof.Gen.Ffn.Launch
public import proofs.«01_k».proof.Proof.Gen.Ffn.Skeleton
public import proofs.«01_k».proof.Proof.Gen.Ffn
public import proofs.«01_k».proof.Proof.ShortConv.Equal
public import proofs.«01_k».proof.Proof.Ffn.Bits
public import proofs.«01_k».proof.Proof.Ffn.Equal
public import proofs.«01_k».proof.Proof.Dw.Equal
public import proofs.«01_k».proof.Proof.Gen.DwOdd
public import proofs.«01_k».proof.Proof.Gen.DwOdd.Skeleton
public import proofs.«01_k».proof.Proof.Gen.DwOdd.Launch
public import proofs.«01_k».proof.Proof.Gen.DwOdd.Points
public import proofs.«01_k».proof.Proof.Gen.DwOdd.Frame
public import proofs.«01_k».proof.Proof.Gen.DwOddIdeal
public import proofs.«01_k».proof.Proof.Gen.DwOddIdeal.Skeleton
public import proofs.«01_k».proof.Proof.Gen.DwOddIdeal.Launch
public import proofs.«01_k».proof.Proof.Gen.DwOddIdeal.Points
public import proofs.«01_k».proof.Proof.Gen.DwOddIdeal.Frame
public import proofs.«01_k».proof.Proof.Gen.DwOddIdeal.Value
public import proofs.«01_k».proof.Proof.Gen.DwOddReferenceIdeal
public import proofs.«01_k».proof.Proof.Gen.DwOddReferenceIdeal.Run
public import proofs.«01_k».proof.Proof.Gen.DwEven
public import proofs.«01_k».proof.Proof.Gen.DwEven.Skeleton
public import proofs.«01_k».proof.Proof.Gen.DwEven.Launch
public import proofs.«01_k».proof.Proof.Gen.DwEven.Points
public import proofs.«01_k».proof.Proof.Gen.DwEven.Frame
public import proofs.«01_k».proof.Proof.Gen.DwEvenIdeal
public import proofs.«01_k».proof.Proof.Gen.DwEvenIdeal.Skeleton
public import proofs.«01_k».proof.Proof.Gen.DwEvenIdeal.Launch
public import proofs.«01_k».proof.Proof.Gen.DwEvenIdeal.Points
public import proofs.«01_k».proof.Proof.Gen.DwEvenIdeal.Frame
public import proofs.«01_k».proof.Proof.Gen.DwEvenIdeal.Value
public import proofs.«01_k».proof.Proof.Gen.DwEvenReferenceIdeal
public import proofs.«01_k».proof.Proof.Gen.DwEvenReferenceIdeal.Run
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutReferenceIdeal
public import proofs.«01_k».proof.Proof.Gen.DwOutReferenceIdeal.Run
public import proofs.«01_k».proof.Proof.Gen.DxOut
public import proofs.«01_k».proof.Proof.Gen.DxOut.Skeleton
public import proofs.«01_k».proof.Proof.Gen.DxOut.Launch
public import proofs.«01_k».proof.Proof.Gen.DxOut.Points
public import proofs.«01_k».proof.Proof.Gen.DxOut.Frame
public import proofs.«01_k».proof.Proof.Gen.DxOutIdeal
public import proofs.«01_k».proof.Proof.Gen.DxOutIdeal.Skeleton
public import proofs.«01_k».proof.Proof.Gen.DxOutIdeal.Launch
public import proofs.«01_k».proof.Proof.Gen.DxOutIdeal.Points
public import proofs.«01_k».proof.Proof.Gen.DxOutIdeal.Frame
public import proofs.«01_k».proof.Proof.Gen.DxOutIdeal.Value
public import proofs.«01_k».proof.Proof.Gen.DxOutReferenceIdeal
public import proofs.«01_k».proof.Proof.Gen.DxOutReferenceIdeal.Run
public import proofs.«01_k».proof.Proof.Gen.DxEven
public import proofs.«01_k».proof.Proof.Gen.DxEven.Skeleton
public import proofs.«01_k».proof.Proof.Gen.DxEven.Launch
public import proofs.«01_k».proof.Proof.Gen.DxEven.Points
public import proofs.«01_k».proof.Proof.Gen.DxEven.Frame
public import proofs.«01_k».proof.Proof.Gen.DxEvenIdeal
public import proofs.«01_k».proof.Proof.Gen.DxEvenIdeal.Skeleton
public import proofs.«01_k».proof.Proof.Gen.DxEvenIdeal.Launch
public import proofs.«01_k».proof.Proof.Gen.DxEvenIdeal.Points
public import proofs.«01_k».proof.Proof.Gen.DxEvenIdeal.Frame
public import proofs.«01_k».proof.Proof.Gen.DxEvenIdeal.Value
public import proofs.«01_k».proof.Proof.Gen.DxEvenReferenceIdeal
public import proofs.«01_k».proof.Proof.Gen.DxEvenReferenceIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenIdeal.Value
public import proofs.«01_k».proof.Proof.Gen.InEvenReferenceIdeal
public import proofs.«01_k».proof.Proof.Gen.InEvenReferenceIdeal.Run
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddIdeal.Value
public import proofs.«01_k».proof.Proof.Gen.InOddReferenceIdeal
public import proofs.«01_k».proof.Proof.Gen.InOddReferenceIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdReferenceIdeal
public import proofs.«01_k».proof.Proof.Gen.FfnFwdReferenceIdeal.Run
public import proofs.«01_k».proof.Proof.Gen.EvenNorm
public import proofs.«01_k».proof.Proof.Gen.EvenNorm.Skeleton
public import proofs.«01_k».proof.Proof.Gen.EvenNorm.Launch
public import proofs.«01_k».proof.Proof.Gen.EvenNorm.Points
public import proofs.«01_k».proof.Proof.Gen.EvenNorm.Frame
public import proofs.«01_k».proof.Proof.Gen.EvenNormIdeal
public import proofs.«01_k».proof.Proof.Gen.EvenNormIdeal.Skeleton
public import proofs.«01_k».proof.Proof.Gen.EvenNormIdeal.Launch
public import proofs.«01_k».proof.Proof.Gen.EvenNormIdeal.Points
public import proofs.«01_k».proof.Proof.Gen.EvenNormIdeal.Frame
public import proofs.«01_k».proof.Proof.Gen.EvenNormIdeal.Value
public import proofs.«01_k».proof.Proof.Gen.EvenNormReferenceIdeal
public import proofs.«01_k».proof.Proof.Gen.EvenNormReferenceIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamReferenceIdeal
public import proofs.«01_k».proof.Proof.Gen.AdamReferenceIdeal.Run
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdReferenceIdeal
public import proofs.«01_k».proof.Proof.Gen.NormFwdReferenceIdeal.Run
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdReferenceIdeal
public import proofs.«01_k».proof.Proof.Gen.ConvFwdReferenceIdeal.Run
public import proofs.«01_k».proof.Proof.Products.DwOdd
public import proofs.«01_k».proof.Proof.Products.DwEven
public import proofs.«01_k».proof.Proof.Products.DwOut
public import proofs.«01_k».proof.Proof.Products.DxOut
public import proofs.«01_k».proof.Proof.Products.DxEven
public import proofs.«01_k».proof.Proof.Norm.Equal
public import proofs.«01_k».proof.Proof.Products.InEven
public import proofs.«01_k».proof.Proof.Products.InOdd
public import proofs.«01_k».proof.Proof.Products.Out
public import proofs.«01_k».proof.Proof.FfnFwd.Bits
public import proofs.«01_k».proof.Proof.FfnFwd.Equal
public import proofs.«01_k».proof.Proof.EvenNorm.Equal
public import proofs.«01_k».proof.Proof.Loss.Equal
public import proofs.«01_k».proof.Proof.Adam.Equal
public import proofs.«01_k».proof.Proof.NormFwd.Equal
public import proofs.«01_k».proof.Proof.ConvFwd.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Dw.Gen.facts, Cert.DwIdeal.Gen.facts, Cert.DwReferenceIdeal.Gen.facts,
  Cert.DwOdd.Gen.facts, Cert.DwOddIdeal.Gen.facts, Cert.DwOddReferenceIdeal.Gen.facts,
  Cert.DwEven.Gen.facts, Cert.DwEvenIdeal.Gen.facts, Cert.DwEvenReferenceIdeal.Gen.facts,
  Cert.DwOut.Gen.facts, Cert.DwOutIdeal.Gen.facts, Cert.DwOutReferenceIdeal.Gen.facts,
  Cert.DxOut.Gen.facts, Cert.DxOutIdeal.Gen.facts, Cert.DxOutReferenceIdeal.Gen.facts,
  Cert.DxEven.Gen.facts, Cert.DxEvenIdeal.Gen.facts, Cert.DxEvenReferenceIdeal.Gen.facts,
  Cert.Norm.Gen.facts, Cert.NormIdeal.Gen.facts, Cert.NormReferenceIdeal.Gen.facts,
  Cert.InEven.Gen.facts, Cert.InEvenIdeal.Gen.facts, Cert.InEvenReferenceIdeal.Gen.facts,
  Cert.InOdd.Gen.facts, Cert.InOddIdeal.Gen.facts, Cert.InOddReferenceIdeal.Gen.facts,
  Cert.Out.Gen.facts, Cert.OutIdeal.Gen.facts, Cert.OutReferenceIdeal.Gen.facts,
  Cert.FfnFwd.Gen.facts, Cert.FfnFwdIdeal.Gen.facts, Cert.FfnFwdReferenceIdeal.Gen.facts,
  Cert.EvenNorm.Gen.facts, Cert.EvenNormIdeal.Gen.facts, Cert.EvenNormReferenceIdeal.Gen.facts,
  Cert.Loss.Gen.facts, Cert.LossIdeal.Gen.facts, Cert.LossReferenceIdeal.Gen.facts,
  Cert.Adam.Gen.facts, Cert.AdamIdeal.Gen.facts, Cert.AdamReferenceIdeal.Gen.facts,
  Cert.NormFwd.Gen.facts, Cert.NormFwdIdeal.Gen.facts, Cert.NormFwdReferenceIdeal.Gen.facts,
  Cert.ConvFwd.Gen.facts, Cert.ConvFwdIdeal.Gen.facts, Cert.ConvFwdReferenceIdeal.Gen.facts,
  _root_.Ffn.facts,
  fun m ρ _ => Cert.Kernel.Gen.frame m ρ,
  fun m ρ _ => Cert.KernelIdeal.Gen.frame m ρ,
  fun m ρ _ => (θ_run Cert.ReferenceIdeal.defs _ _).mono (fun r h => ⟨fun c => (h c).2.2, sem_eq_zero_of_no_sems (by decide) r.2⟩) (Cert.ReferenceIdeal.Value.run (F := Ideal) m ρ),
  Ffn.frame_bits,
  fun m ρ _ => Cert.FfnIdeal.Gen.frame m ρ,
  fun m ρ _ => Cert.FfnIdeal.Gen.frame m ρ,
  fun m ρ _ => (θ_run Cert.FfnReferenceIdeal.defs _ _).mono (fun r h => ⟨fun c => (h c).2.2.2.2.2, sem_eq_zero_of_no_sems (by decide) r.2⟩) (Cert.FfnReferenceIdeal.Value.run (F := Ideal) m ρ),
  fun m ρ _ => (θ_run Cert.FfnReferenceIdeal.defs _ _).mono (fun r h => ⟨fun c => (h c).2.2.2.2.2, sem_eq_zero_of_no_sems (by decide) r.2⟩) (Cert.FfnReferenceIdeal.Value.run (F := Ideal) m ρ),
  fun m ρ _ => Cert.Dw.Gen.frame m ρ,
  fun m ρ _ => Cert.DwIdeal.Gen.frame m ρ,
  fun m ρ _ => (θ_run Cert.DwReferenceIdeal.defs _ _).mono (fun r h => ⟨fun c => (h c).2, sem_eq_zero_of_no_sems (by decide) r.2⟩) (Cert.DwReferenceIdeal.Value.run (F := Ideal) m ρ),
  fun m ρ _ => Cert.DwOdd.Gen.frame m ρ,
  fun m ρ _ => Cert.DwOddIdeal.Gen.frame m ρ,
  fun m ρ _ => (θ_run Cert.DwOddReferenceIdeal.defs _ _).mono (fun r h => ⟨fun c => (h c).2, sem_eq_zero_of_no_sems (by decide) r.2⟩) (Cert.DwOddReferenceIdeal.Value.run (F := Ideal) m ρ),
  fun m ρ _ => Cert.DwEven.Gen.frame m ρ,
  fun m ρ _ => Cert.DwEvenIdeal.Gen.frame m ρ,
  fun m ρ _ => (θ_run Cert.DwEvenReferenceIdeal.defs _ _).mono (fun r h => ⟨fun c => (h c).2, sem_eq_zero_of_no_sems (by decide) r.2⟩) (Cert.DwEvenReferenceIdeal.Value.run (F := Ideal) m ρ),
  fun m ρ _ => Cert.DwOut.Gen.frame m ρ,
  fun m ρ _ => Cert.DwOutIdeal.Gen.frame m ρ,
  fun m ρ _ => (θ_run Cert.DwOutReferenceIdeal.defs _ _).mono (fun r h => ⟨fun c => (h c).2, sem_eq_zero_of_no_sems (by decide) r.2⟩) (Cert.DwOutReferenceIdeal.Value.run (F := Ideal) m ρ),
  fun m ρ _ => Cert.DxOut.Gen.frame m ρ,
  fun m ρ _ => Cert.DxOutIdeal.Gen.frame m ρ,
  fun m ρ _ => (θ_run Cert.DxOutReferenceIdeal.defs _ _).mono (fun r h => ⟨fun c => (h c).2, sem_eq_zero_of_no_sems (by decide) r.2⟩) (Cert.DxOutReferenceIdeal.Value.run (F := Ideal) m ρ),
  fun m ρ _ => Cert.DxEven.Gen.frame m ρ,
  fun m ρ _ => Cert.DxEvenIdeal.Gen.frame m ρ,
  fun m ρ _ => (θ_run Cert.DxEvenReferenceIdeal.defs _ _).mono (fun r h => ⟨fun c => (h c).2, sem_eq_zero_of_no_sems (by decide) r.2⟩) (Cert.DxEvenReferenceIdeal.Value.run (F := Ideal) m ρ),
  fun m ρ _ => Cert.Norm.Gen.frame m ρ,
  fun m ρ _ => Cert.NormIdeal.Gen.frame m ρ,
  fun m ρ _ => (θ_run Cert.NormReferenceIdeal.defs _ _).mono (fun r h => ⟨fun c => (h c).2.2, sem_eq_zero_of_no_sems (by decide) r.2⟩) (Cert.NormReferenceIdeal.Value.run (F := Ideal) m ρ),
  fun m ρ _ => Cert.InEven.Gen.frame m ρ,
  fun m ρ _ => Cert.InEvenIdeal.Gen.frame m ρ,
  fun m ρ _ => (θ_run Cert.InEvenReferenceIdeal.defs _ _).mono (fun r h => ⟨fun c => (h c).2, sem_eq_zero_of_no_sems (by decide) r.2⟩) (Cert.InEvenReferenceIdeal.Value.run (F := Ideal) m ρ),
  fun m ρ _ => Cert.InOdd.Gen.frame m ρ,
  fun m ρ _ => Cert.InOddIdeal.Gen.frame m ρ,
  fun m ρ _ => (θ_run Cert.InOddReferenceIdeal.defs _ _).mono (fun r h => ⟨fun c => (h c).2, sem_eq_zero_of_no_sems (by decide) r.2⟩) (Cert.InOddReferenceIdeal.Value.run (F := Ideal) m ρ),
  fun m ρ _ => Cert.Out.Gen.frame m ρ,
  fun m ρ _ => Cert.OutIdeal.Gen.frame m ρ,
  fun m ρ _ => (θ_run Cert.OutReferenceIdeal.defs _ _).mono (fun r h => ⟨fun c => (h c).2, sem_eq_zero_of_no_sems (by decide) r.2⟩) (Cert.OutReferenceIdeal.Value.run (F := Ideal) m ρ),
  FfnFwd.frame_bits,
  fun m ρ _ => Cert.FfnFwdIdeal.Gen.frame m ρ,
  fun m ρ _ => (θ_run Cert.FfnFwdReferenceIdeal.defs _ _).mono (fun r h => ⟨fun c => (h c).2.2.2.2.2, sem_eq_zero_of_no_sems (by decide) r.2⟩) (Cert.FfnFwdReferenceIdeal.Value.run (F := Ideal) m ρ),
  fun m ρ _ => Cert.EvenNorm.Gen.frame m ρ,
  fun m ρ _ => Cert.EvenNormIdeal.Gen.frame m ρ,
  fun m ρ _ => (θ_run Cert.EvenNormReferenceIdeal.defs _ _).mono (fun r h => ⟨fun c => (h c).2.2, sem_eq_zero_of_no_sems (by decide) r.2⟩) (Cert.EvenNormReferenceIdeal.Value.run (F := Ideal) m ρ),
  fun m ρ _ => Cert.Loss.Gen.frame m ρ,
  fun m ρ _ => Cert.LossIdeal.Gen.frame m ρ,
  fun m ρ _ => (θ_run Cert.LossReferenceIdeal.defs _ _).mono (fun r h => ⟨fun c => (h c).2.2, sem_eq_zero_of_no_sems (by decide) r.2⟩) (Cert.LossReferenceIdeal.Value.run (F := Ideal) m ρ),
  fun m ρ _ => Cert.Adam.Gen.frame m ρ,
  fun m ρ _ => Cert.AdamIdeal.Gen.frame m ρ,
  fun m ρ _ => (θ_run Cert.AdamReferenceIdeal.defs _ _).mono (fun r h => ⟨fun c => (h c).2.2.2, sem_eq_zero_of_no_sems (by decide) r.2⟩) (Cert.AdamReferenceIdeal.Value.run (F := Ideal) m ρ),
  fun m ρ _ => Cert.NormFwd.Gen.frame m ρ,
  fun m ρ _ => Cert.NormFwdIdeal.Gen.frame m ρ,
  fun m ρ _ => (θ_run Cert.NormFwdReferenceIdeal.defs _ _).mono (fun r h => ⟨fun c => (h c).2, sem_eq_zero_of_no_sems (by decide) r.2⟩) (Cert.NormFwdReferenceIdeal.Value.run (F := Ideal) m ρ),
  fun m ρ _ => Cert.ConvFwd.Gen.frame m ρ,
  fun m ρ _ => Cert.ConvFwdIdeal.Gen.frame m ρ,
  fun m ρ _ => (θ_run Cert.ConvFwdReferenceIdeal.defs _ _).mono (fun r h => ⟨fun c => (h c).2, sem_eq_zero_of_no_sems (by decide) r.2⟩) (Cert.ConvFwdReferenceIdeal.Value.run (F := Ideal) m ρ),
  trivial,
  ShortConv.algebraic,
  trivial,
  Ffn.algebraic (hp := _root_.Ffn.facts),
  trivial,
  Dw.algebraic,
  trivial,
  DwOdd.algebraic,
  trivial,
  DwEven.algebraic,
  trivial,
  DwOut.algebraic,
  trivial,
  DxOut.algebraic,
  trivial,
  DxEven.algebraic,
  trivial,
  Norm.algebraic,
  trivial,
  InEven.algebraic,
  trivial,
  InOdd.algebraic,
  trivial,
  Out.algebraic,
  trivial,
  FfnFwd.algebraic,
  trivial,
  EvenNorm.algebraic,
  trivial,
  Loss.algebraic,
  trivial,
  Adam.algebraic,
  trivial,
  NormFwd.algebraic,
  trivial,
  ConvFwd.algebraic⟩

end Cert.Proof

end
